-- ==== Defs.lean ====
def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)) (v3 : (c : Dev Cert.Kernel4Ideal.nD) → Buf (Elt Ideal) ((c.tc : Thread Cert.Kernel4Ideal.nD Cert.Kernel4Ideal.τ).loc Cert.Kernel4Ideal.main_v8_3)) (v4 : (c : Dev Cert.Kernel4Ideal.nD) → Buf (Elt Ideal) ((c.tc : Thread Cert.Kernel4Ideal.nD Cert.Kernel4Ideal.τ).loc Cert.Kernel4Ideal.main_v8_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_v8_3) = v3 c
          ∧ r.2.mem ((c.tc : Thread Cert.Kernel4Ideal.nD Cert.Kernel4Ideal.τ).loc Cert.Kernel4Ideal.main_v8_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v24) = v2 c
          ∧ r.2.mem ((c.tc : Thread Cert.Reference4Ideal.nD Cert.Reference4Ideal.τ).loc Cert.Reference4Ideal.main_v29) = v3 c
          ∧ r.2.mem ((c.tc : Thread Cert.Reference4Ideal.nD Cert.Reference4Ideal.τ).loc Cert.Reference4Ideal.main_v30) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)) →
    ∃ (v0 : (c : Dev Cert.Kernel5Ideal.nD) → Buf (Elt Ideal) ((c.tc : Thread Cert.Kernel5Ideal.nD Cert.Kernel5Ideal.τ).loc Cert.Kernel5Ideal.main_v15_0)) (v1 : (c : Dev Cert.Kernel5Ideal.nD) → Buf (Elt Ideal) ((c.tc : Thread Cert.Kernel5Ideal.nD Cert.Kernel5Ideal.τ).loc Cert.Kernel5Ideal.main_v15_1)) (v2 : (c : Dev Cert.Kernel5Ideal.nD) → Buf (Elt Ideal) ((c.tc : Thread Cert.Kernel5Ideal.nD Cert.Kernel5Ideal.τ).loc Cert.Kernel5Ideal.main_v15_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15_0) = v0 c
          ∧ r.2.mem ((c.tc : Thread Cert.Kernel5Ideal.nD Cert.Kernel5Ideal.τ).loc Cert.Kernel5Ideal.main_v15_1) = v1 c
          ∧ r.2.mem ((c.tc : Thread Cert.Kernel5Ideal.nD Cert.Kernel5Ideal.τ).loc Cert.Kernel5Ideal.main_v15_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_v62) = v1 c
          ∧ r.2.mem ((c.tc : Thread Cert.Reference5Ideal.nD Cert.Reference5Ideal.τ).loc Cert.Reference5Ideal.main_v63) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v26) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v48) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v256) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v11_0)) (v1 : (c : Dev Cert.Kernel10Ideal.nD) → Buf (Elt Ideal) ((c.tc : Thread Cert.Kernel10Ideal.nD Cert.Kernel10Ideal.τ).loc Cert.Kernel10Ideal.main_v11_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v11_0) = v0 c
          ∧ r.2.mem ((c.tc : Thread Cert.Kernel10Ideal.nD Cert.Kernel10Ideal.τ).loc Cert.Kernel10Ideal.main_v11_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v48) = v0 c
          ∧ r.2.mem ((c.tc : Thread Cert.Reference10Ideal.nD Cert.Reference10Ideal.τ).loc Cert.Reference10Ideal.main_v305) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def Claim : Prop :=
  ∃ (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite5 : Cert.Pre_finite5.Facts) (hPre_finite6 : Cert.Pre_finite6.Facts) (hPre_finite8 : Cert.Pre_finite8.Facts),
    quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite5.lean ====
abbrev S2x8192x256 : Shape := ⟨3, ![2, 8192, 256]⟩
abbrev S2x8192x4096 : Shape := ⟨3, ![2, 8192, 4096]⟩
abbrev S256x1024 : Shape := ⟨2, ![256, 1024]⟩
abbrev S1024x1024 : Shape := ⟨2, ![1024, 1024]⟩
abbrev S2x8192x1024 : Shape := ⟨3, ![2, 8192, 1024]⟩
abbrev S2x1x1024 : Shape := ⟨3, ![2, 1, 1024]⟩
abbrev S1024 : Shape := ⟨1, ![1024]⟩
abbrev S1024x16 : Shape := ⟨2, ![1024, 16]⟩
abbrev S_ : Shape := ⟨0, ![]⟩

class Facts : Prop where
  bitsLt_bf16_f32 : FTy.bits .bf16 < FTy.bits .f32
  bcast_S_S2x8192x256 : S_.BroadcastsInDim S2x8192x256 (![] : Fin 0 → Fin S2x8192x256.rank)
  reducesTo_S2x8192x256_S_d0_1_2 : S2x8192x256.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S2x1x1024 : S_.BroadcastsInDim S2x1x1024 (![] : Fin 0 → Fin S2x1x1024.rank)
  reducesTo_S2x1x1024_S_d0_1_2 : S2x1x1024.ReducesTo [0, 1, 2] S_
  bcast_S_S1024x16 : S_.BroadcastsInDim S1024x16 (![] : Fin 0 → Fin S1024x16.rank)
  reducesTo_S1024x16_S_d0_1 : S1024x16.ReducesTo [0, 1] S_

variable [Facts]

def fn_part3 {F : FTy → Type} [FloatOps F] (main_arg14 : FVec F S2x1x1024 .f32) (main_arg15 : FVec F S1024x16 .f32) (main_v47 : IVec S_ 1) (main_v50 : IVec S2x1x1024 1) (main_c_18 : IVec S_ 1) : IVec S_ 1 :=
  let main_v51 : IVec S_ 1 := (fun x v => Host.reduce IntOp.andi x v reducesTo_S2x1x1024_S_d0_1_2 h_S_) main_v50 main_c_18
  let main_v52 : IVec S_ 1 := andi main_v47 main_v51
  let main_v53 : FVec F S2x1x1024 .f32 := Host.absf main_arg14
  let main_cst_19 : FVec F S_ .f32 := constant S_ .f32 0x7F800000#32
  let main_v54 : FVec F S2x1x1024 .f32 := broadcastInDim S2x1x1024 ![] bcast_S_S2x1x1024 main_cst_19
  let main_v55 : IVec S2x1x1024 1 := cmpf .olt main_v53 main_v54
  let main_c_20 : IVec S_ 1 := constantI S_ 1 1#1
  let main_v56 : IVec S_ 1 := (fun x v => Host.reduce IntOp.andi x v reducesTo_S2x1x1024_S_d0_1_2 h_S_) main_v55 main_c_20
  let main_v57 : IVec S_ 1 := andi main_v52 main_v56
  let main_v58 : FVec F S1024x16 .f32 := Host.absf main_arg15
  let main_cst_21 : FVec F S_ .f32 := constant S_ .f32 0x7F800000#32
  let main_v59 : FVec F S1024x16 .f32 := broadcastInDim S1024x16 ![] bcast_S_S1024x16 main_cst_21
  let main_v60 : IVec S1024x16 1 := cmpf .olt main_v58 main_v59
  let main_c_22 : IVec S_ 1 := constantI S_ 1 1#1
  let main_v61 : IVec S_ 1 := (fun x v => Host.reduce IntOp.andi x v reducesTo_S1024x16_S_d0_1 h_S_) main_v60 main_c_22
  let main_v62 : IVec S_ 1 := andi main_v57 main_v61
  main_v62

def fn_part2 {F : FTy → Type} [FloatOps F] (main_arg8 : FVec F S256x1024 .f32) (main_arg12 : FVec F S1024 .f32) (main_arg13 : FVec F S2x1x1024 .f32) (main_arg14 : FVec F S2x1x1024 .f32) (main_arg15 : FVec F S1024x16 .f32) (main_v32 : IVec S_ 1) (main_v33 : FVec F S256x1024 .f32) (main_cst_11 : FVec F S_ .f32) : IVec S_ 1 :=
  let main_v34 : FVec F S256x1024 .f32 := broadcastInDim S256x1024 ![] bcast_S_S256x1024 main_cst_11
  let main_v35 : IVec S256x1024 1 := cmpf .olt main_v33 main_v34
  let main_c_12 : IVec S_ 1 := constantI S_ 1 1#1
  let main_v36 : IVec S_ 1 := (fun x v => Host.reduce IntOp.andi x v reducesTo_S256x1024_S_d0_1 h_S_) main_v35 main_c_12
  let main_v37 : IVec S_ 1 := andi main_v32 main_v36
  let main_v38 : FVec F S256x1024 .f32 := Host.absf main_arg8
  let main_cst_13 : FVec F S_ .f32 := constant S_ .f32 0x7F800000#32
  let main_v39 : FVec F S256x1024 .f32 := broadcastInDim S256x1024 ![] bcast_S_S256x1024 main_cst_13
  let main_v40 : IVec S256x1024 1 := cmpf .olt main_v38 main_v39
  let main_c_14 : IVec S_ 1 := constantI S_ 1 1#1
  let main_v41 : IVec S_ 1 := (fun x v => Host.reduce IntOp.andi x v reducesTo_S256x1024_S_d0_1 h_S_) main_v40 main_c_14
  let main_v42 : IVec S_ 1 := andi main_v37 main_v41
  let main_v43 : FVec F S1024 .f32 := Host.absf main_arg12
  let main_cst_15 : FVec F S_ .f32 := constant S_ .f32 0x7F800000#32
  let main_v44 : FVec F S1024 .f32 := broadcastInDim S1024 ![] bcast_S_S1024 main_cst_15
  let main_v45 : IVec S1024 1 := cmpf .olt main_v43 main_v44
  let main_c_16 : IVec S_ 1 := constantI S_ 1 1#1
  let main_v46 : IVec S_ 1 := (fun x v => Host.reduce IntOp.andi x v reducesTo_S1024_S_d0 h_S_) main_v45 main_c_16
  let main_v47 : IVec S_ 1 := andi main_v42 main_v46
  let main_v48 : FVec F S2x1x1024 .f32 := Host.absf main_arg13
  let main_cst_17 : FVec F S_ .f32 := constant S_ .f32 0x7F800000#32
  let main_v49 : FVec F S2x1x1024 .f32 := broadcastInDim S2x1x1024 ![] bcast_S_S2x1x1024 main_cst_17
  let main_v50 : IVec S2x1x1024 1 := cmpf .olt main_v48 main_v49
  let main_c_18 : IVec S_ 1 := constantI S_ 1 1#1
  fn_part3 (F := F) main_arg14 main_arg15 main_v47 main_v50 main_c_18

def fn_part1 {F : FTy → Type} [FloatOps F] (main_arg3 : FVec F S2x8192x256 .bf16) (main_arg5 : FVec F S256x1024 .f32) (main_arg6 : FVec F S256x1024 .f32) (main_arg7 : FVec F S256x1024 .f32) (main_arg8 : FVec F S256x1024 .f32) (main_arg12 : FVec F S1024 .f32) (main_arg13 : FVec F S2x1x1024 .f32) (main_arg14 : FVec F S2x1x1024 .f32) (main_arg15 : FVec F S1024x16 .f32) (main_v16 : IVec S_ 1) : IVec S_ 1 :=
  let main_v17 : FVec F S2x8192x256 .f32 := (extf .f32 · bitsLt_bf16_f32) main_arg3
  let main_v18 : FVec F S2x8192x256 .f32 := Host.absf main_v17
  let main_cst_5 : FVec F S_ .f32 := constant S_ .f32 0x7F800000#32
  let main_v19 : FVec F S2x8192x256 .f32 := broadcastInDim S2x8192x256 ![] bcast_S_S2x8192x256 main_cst_5
  let main_v20 : IVec S2x8192x256 1 := cmpf .olt main_v18 main_v19
  let main_c_6 : IVec S_ 1 := constantI S_ 1 1#1
  let main_v21 : IVec S_ 1 := (fun x v => Host.reduce IntOp.andi x v reducesTo_S2x8192x256_S_d0_1_2 h_S_) main_v20 main_c_6
  let main_v22 : IVec S_ 1 := andi main_v16 main_v21
  let main_v23 : FVec F S256x1024 .f32 := Host.absf main_arg5
  let main_cst_7 : FVec F S_ .f32 := constant S_ .f32 0x7F800000#32
  let main_v24 : FVec F S256x1024 .f32 := broadcastInDim S256x1024 ![] bcast_S_S256x1024 main_cst_7
  let main_v25 : IVec S256x1024 1 := cmpf .olt main_v23 main_v24
  let main_c_8 : IVec S_ 1 := constantI S_ 1 1#1
  let main_v26 : IVec S_ 1 := (fun x v => Host.reduce IntOp.andi x v reducesTo_S256x1024_S_d0_1 h_S_) main_v25 main_c_8
  let main_v27 : IVec S_ 1 := andi main_v22 main_v26
  let main_v28 : FVec F S256x1024 .f32 := Host.absf main_arg6
  let main_cst_9 : FVec F S_ .f32 := constant S_ .f32 0x7F800000#32
  let main_v29 : FVec F S256x1024 .f32 := broadcastInDim S256x1024 ![] bcast_S_S256x1024 main_cst_9
  let main_v30 : IVec S256x1024 1 := cmpf .olt main_v28 main_v29
  let main_c_10 : IVec S_ 1 := constantI S_ 1 1#1
  let main_v31 : IVec S_ 1 := (fun x v => Host.reduce IntOp.andi x v reducesTo_S256x1024_S_d0_1 h_S_) main_v30 main_c_10
  let main_v32 : IVec S_ 1 := andi main_v27 main_v31
  let main_v33 : FVec F S256x1024 .f32 := Host.absf main_arg7
  let main_cst_11 : FVec F S_ .f32 := constant S_ .f32 0x7F800000#32
  fn_part2 (F := F) main_arg8 main_arg12 main_arg13 main_arg14 main_arg15 main_v32 main_v33 main_cst_11

def fn {F : FTy → Type} [FloatOps F] (main_arg0 : FVec F S2x8192x256 .bf16) (main_arg1 : FVec F S2x8192x256 .f32) (main_arg2 : FVec F S2x8192x256 .bf16) (main_arg3 : FVec F S2x8192x256 .bf16) (main_arg4 : FVec F S2x8192x4096 .bf16) (main_arg5 : FVec F S256x1024 .f32) (main_arg6 : FVec F S256x1024 .f32) (main_arg7 : FVec F S256x1024 .f32) (main_arg8 : FVec F S256x1024 .f32) (main_arg9 : FVec F S1024x1024 .f32) (main_arg10 : FVec F S2x8192x1024 .f32) (main_arg11 : FVec F S2x1x1024 .f32) (main_arg12 : FVec F S1024 .f32) (main_arg13 : FVec F S2x1x1024 .f32) (main_arg14 : FVec F S2x1x1024 .f32) (main_arg15 : FVec F S1024x16 .f32) : IVec S_ 1 :=
  let main_v0 : FVec F S2x8192x256 .f32 := (extf .f32 · bitsLt_bf16_f32) main_arg0
  let main_v1 : FVec F S2x8192x256 .f32 := Host.absf main_v0
  let main_cst : FVec F S_ .f32 := constant S_ .f32 0x7F800000#32
  let main_v2 : FVec F S2x8192x256 .f32 := broadcastInDim S2x8192x256 ![] bcast_S_S2x8192x256 main_cst
  let main_v3 : IVec S2x8192x256 1 := cmpf .olt main_v1 main_v2
  let main_c : IVec S_ 1 := constantI S_ 1 1#1
  let main_v4 : IVec S_ 1 := (fun x v => Host.reduce IntOp.andi x v reducesTo_S2x8192x256_S_d0_1_2 h_S_) main_v3 main_c
  let main_c_0 : IVec S_ 1 := constantI S_ 1 1#1
  let main_v5 : IVec S_ 1 := andi main_c_0 main_v4
  let main_v6 : FVec F S2x8192x256 .f32 := Host.absf main_arg1
  let main_cst_1 : FVec F S_ .f32 := constant S_ .f32 0x7F800000#32
  let main_v7 : FVec F S2x8192x256 .f32 := broadcastInDim S2x8192x256 ![] bcast_S_S2x8192x256 main_cst_1
  let main_v8 : IVec S2x8192x256 1 := cmpf .olt main_v6 main_v7
  let main_c_2 : IVec S_ 1 := constantI S_ 1 1#1
  let main_v9 : IVec S_ 1 := (fun x v => Host.reduce IntOp.andi x v reducesTo_S2x8192x256_S_d0_1_2 h_S_) main_v8 main_c_2
  let main_v10 : IVec S_ 1 := andi main_v5 main_v9
  let main_v11 : FVec F S2x8192x256 .f32 := (extf .f32 · bitsLt_bf16_f32) main_arg2
  let main_v12 : FVec F S2x8192x256 .f32 := Host.absf main_v11
  let main_cst_3 : FVec F S_ .f32 := constant S_ .f32 0x7F800000#32
  let main_v13 : FVec F S2x8192x256 .f32 := broadcastInDim S2x8192x256 ![] bcast_S_S2x8192x256 main_cst_3
  let main_v14 : IVec S2x8192x256 1 := cmpf .olt main_v12 main_v13
  let main_c_4 : IVec S_ 1 := constantI S_ 1 1#1
  let main_v15 : IVec S_ 1 := (fun x v => Host.reduce IntOp.andi x v reducesTo_S2x8192x256_S_d0_1_2 h_S_) main_v14 main_c_4
  let main_v16 : IVec S_ 1 := andi main_v10 main_v15
  fn_part1 (F := F) main_arg3 main_arg5 main_arg6 main_arg7 main_arg8 main_arg12 main_arg13 main_arg14 main_arg15 main_v16
-- ==== Pre_finite6.lean ====
abbrev S2x256x768 : Shape := ⟨3, ![2, 256, 768]⟩
abbrev S2x256x512 : Shape := ⟨3, ![2, 256, 512]⟩
abbrev S_ : Shape := ⟨0, ![]⟩

class Facts : Prop where
  slices_S2x256x768_S2x256x512_0_0_0 : S2x256x768.Slices ![0, 0, 0] S2x256x512
  bitsLt_bf16_f32 : FTy.bits .bf16 < FTy.bits .f32
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel

variable [Facts]

def fn {F : FTy → Type} [FloatOps F] (main_arg0 : FVec F S2x256x768 .bf16) : IVec S_ 1 :=
  let main_v0 : FVec F S2x256x512 .bf16 := (extractStridedSlice S2x256x512 ![0, 0, 0] · slices_S2x256x768_S2x256x512_0_0_0) main_arg0
  let main_v1 : FVec F S2x256x512 .f32 := (extf .f32 · bitsLt_bf16_f32) main_v0
  let main_v2 : FVec F S2x256x512 .f32 := Host.absf main_v1
  let main_cst : FVec F S_ .f32 := constant S_ .f32 0x7F800000#32
  let main_v3 : FVec F S2x256x512 .f32 := broadcastInDim S2x256x512 ![] bcast_S_S2x256x512 main_cst
  let main_v4 : IVec S2x256x512 1 := cmpf .olt main_v2 main_v3
  let main_c : IVec S_ 1 := constantI S_ 1 1#1
  let main_v5 : IVec S_ 1 := (fun x v => Host.reduce IntOp.andi x v reducesTo_S2x256x512_S_d0_1_2 h_S_) main_v4 main_c
  main_v5
-- ==== Pre_finite8.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S2x1024x6144 : S_.BroadcastsInDim S2x1024x6144 (![] : Fin 0 → Fin S2x1024x6144.rank)
  reducesTo_S2x1024x6144_S_d0_1_2 : S2x1024x6144.ReducesTo [0, 1, 2] S_

variable [Facts]

def fn {F : FTy → Type} [FloatOps F] (main_arg0 : FVec F S2x1024 .f32) (main_arg1 : FVec F S1024 .f32) (main_arg2 : FVec F S2x1024x6144 .f32) (main_arg3 : FVec F S2x6144 .f32) : IVec S_ 1 :=
  let main_v0 : FVec F S2x1024 .f32 := Host.absf main_arg0
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_c : IVec S_ 1 := constantI S_ 1 1#1
  let main_v3 : IVec S_ 1 := (fun x v => Host.reduce IntOp.andi x v reducesTo_S2x1024_S_d0_1 h_S_) main_v2 main_c
  let main_c_0 : IVec S_ 1 := constantI S_ 1 1#1
  let main_v4 : IVec S_ 1 := andi main_c_0 main_v3
  let main_v5 : FVec F S1024 .f32 := Host.absf main_arg1
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S2x1024x6144 .f32 := Host.absf main_arg2
  let main_cst_3 : FVec F S_ .f32 := constant S_ .f32 0x7F800000#32
  let main_v11 : FVec F S2x1024x6144 .f32 := broadcastInDim S2x1024x6144 ![] bcast_S_S2x1024x6144 main_cst_3
  let main_v12 : IVec S2x1024x6144 1 := cmpf .olt main_v10 main_v11
  let main_c_4 : IVec S_ 1 := constantI S_ 1 1#1
  let main_v13 : IVec S_ 1 := (fun x v => Host.reduce IntOp.andi x v reducesTo_S2x1024x6144_S_d0_1_2 h_S_) main_v12 main_c_4
  let main_v14 : IVec S_ 1 := andi main_v9 main_v13
  main_v14
-- ==== Kernel3.lean ====
abbrev S2x16x1024x1024 : Shape := ⟨4, ![2, 16, 1024, 1024]⟩
abbrev S2x16x1024x1 : Shape := ⟨4, ![2, 16, 1024, 1]⟩
abbrev S2x1x1024x1024 : Shape := ⟨4, ![2, 1, 1024, 1024]⟩
abbrev S2x1x1024x1 : Shape := ⟨4, ![2, 1, 1024, 1]⟩
abbrev S1x1x1024x512 : Shape := ⟨4, ![1, 1, 1024, 512]⟩
abbrev S1x1x512x1024 : Shape := ⟨4, ![1, 1, 512, 1024]⟩
abbrev S2x1024x1024 : Shape := ⟨3, ![2, 1024, 1024]⟩
abbrev S1024x512 : Shape := ⟨2, ![1024, 512]⟩
abbrev S512x1024 : Shape := ⟨2, ![512, 1024]⟩
abbrev S1x1x1024x1024 : Shape := ⟨4, ![1, 1, 1024, 1024]⟩
abbrev S1024x1024 : Shape := ⟨2, ![1024, 1024]⟩
abbrev S1x1024x1024 : Shape := ⟨3, ![1, 1024, 1024]⟩
abbrev S1x1x1024x1 : Shape := ⟨4, ![1, 1, 1024, 1]⟩
abbrev S1024x1 : Shape := ⟨2, ![1024, 1]⟩

abbrev nBuf : Space → Nat
  | .hbm => 6
  | .vmem => 13
  | .smem => 0
  | _ => 0

abbrev bufTy : (tb : Table) → Fin (tcTables nBuf tb) → BufTy
  | .hbm, ⟨0, _⟩ => ⟨S2x16x1024x1024, .bf16⟩
  | .hbm, ⟨1, _⟩ => ⟨S2x16x1024x1, .f32⟩
  | .hbm, ⟨2, _⟩ => ⟨S2x16x1024x1024, .f32⟩
  | .hbm, ⟨3, _⟩ => ⟨S2x16x1024x1024, .f32⟩
  | .hbm, ⟨4, _⟩ => ⟨S2x16x1024x1024, .f32⟩
  | .hbm, ⟨5, _⟩ => ⟨S2x16x1024x1024, .bf16⟩
  | .local _ .vmem, ⟨0, _⟩ => ⟨S2x1x1024x1024, .bf16⟩
  | .local _ .vmem, ⟨1, _⟩ => ⟨S2x1x1024x1024, .bf16⟩
  | .local _ .vmem, ⟨2, _⟩ => ⟨S2x1x1024x1, .f32⟩
  | .local _ .vmem, ⟨3, _⟩ => ⟨S2x1x1024x1, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x1024x512, .f32⟩
  | .local _ .vmem, ⟨7, _⟩ => ⟨S1x1x1024x512, .f32⟩
  | .local _ .vmem, ⟨8, _⟩ => ⟨S1x1x512x1024, .f32⟩
  | .local _ .vmem, ⟨9, _⟩ => ⟨S1x1x512x1024, .f32⟩
  | .local _ .vmem, ⟨10, _⟩ => ⟨S2x1x1024x1024, .bf16⟩
  | .local _ .vmem, ⟨11, _⟩ => ⟨S2x1x1024x1024, .bf16⟩
  | .local _ .vmem, ⟨12, _⟩ => ⟨S2x1024x1024, .f32⟩
  | _, _ => ⟨S2x16x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2x1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S2x16x1024x1024 : Shape := ⟨4, ![2, 16, 1024, 1024]⟩
abbrev S2x16x1024x1 : Shape := ⟨4, ![2, 16, 1024, 1]⟩
abbrev S1x16x1024x1024 : Shape := ⟨4, ![1, 16, 1024, 1024]⟩
abbrev S16x1024x1024 : Shape := ⟨3, ![16, 1024, 1024]⟩
abbrev S16x1024x2x1024 : Shape := ⟨4, ![16, 1024, 2, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2x16x1024x1024, .bf16⟩
  | .hbm, ⟨1, _⟩ => ⟨S2x16x1024x1, .f32⟩
  | .hbm, ⟨2, _⟩ => ⟨S2x16x1024x1024, .f32⟩
  | .hbm, ⟨3, _⟩ => ⟨S2x16x1024x1024, .f32⟩
  | .hbm, ⟨4, _⟩ => ⟨S2x16x1024x1024, .f32⟩
  | .hbm, ⟨5, _⟩ => ⟨S1x16x1024x1024, .f32⟩
  | .hbm, ⟨6, _⟩ => ⟨S16x1024x1024, .f32⟩
  | .hbm, ⟨7, _⟩ => ⟨S1x16x1024x1024, .f32⟩
  | .hbm, ⟨8, _⟩ => ⟨S16x1024x1024, .f32⟩
  | .hbm, ⟨9, _⟩ => ⟨S1x16x1024x1024, .f32⟩
  | .hbm, ⟨10, _⟩ => ⟨S16x1024x1024, .f32⟩
  | .hbm, ⟨11, _⟩ => ⟨S2x16x1024x1024, .f32⟩
  | .hbm, ⟨12, _⟩ => ⟨S16x1024x2x1024, .f32⟩
  | .hbm, ⟨13, _⟩ => ⟨S2x16x1024x1024, .f32⟩
  | .hbm, ⟨14, _⟩ => ⟨S2x16x1024x1024, .f32⟩
  | .hbm, ⟨15, _⟩ => ⟨S16x1024x2x1024, .f32⟩
  | .hbm, ⟨16, _⟩ => ⟨S2x16x1024x1024, .f32⟩
  | .hbm, ⟨17, _⟩ => ⟨S2x16x1024x1024, .f32⟩
  | .hbm, ⟨18, _⟩ => ⟨S2x16x1024x1024, .f32⟩
  | .hbm, ⟨19, _⟩ => ⟨S_, .f32⟩
  | .hbm, ⟨20, _⟩ => ⟨S2x16x1024x1024, .f32⟩
  | .hbm, ⟨21, _⟩ => ⟨S2x16x1024x1024, .f32⟩
  | .hbm, ⟨22, _⟩ => ⟨S_, .f32⟩
  | .hbm, ⟨23, _⟩ => ⟨S2x16x1024x1024, .f32⟩
  | .hbm, ⟨24, _⟩ => ⟨S2x16x1024x1024, .f32⟩
  | .hbm, ⟨25, _⟩ => ⟨S2x16x1024x1024, .f32⟩
  | .hbm, ⟨26, _⟩ => ⟨S2x16x1024x1024, .f32⟩
  | .hbm, ⟨27, _⟩ => ⟨S16x1024x2x1024, .f32⟩
  | .hbm, ⟨28, _⟩ => ⟨S2x16x1024x1024, .f32⟩
  | .hbm, ⟨29, _⟩ => ⟨S2x16x1024x1024, .f32⟩
  | .hbm, ⟨30, _⟩ => ⟨S2x16x1024x1024, .f32⟩
  | .hbm, ⟨31, _⟩ => ⟨S2x16x1024x1024, .bf16⟩
  | _, _ => ⟨S2x16x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]
-- ==== Kernel4.lean ====
abbrev S2x8192x1024 : Shape := ⟨3, ![2, 8192, 1024]⟩
abbrev S1024 : Shape := ⟨1, ![1024]⟩
abbrev S2x1x1024 : Shape := ⟨3, ![2, 1, 1024]⟩
abbrev S2x1024x6144 : Shape := ⟨3, ![2, 1024, 6144]⟩
abbrev S_ : Shape := ⟨0, ![]⟩
abbrev S2048 : Shape := ⟨1, ![2048]⟩
abbrev S4096 : Shape := ⟨1, ![4096]⟩
abbrev S6144 : Shape := ⟨1, ![6144]⟩
abbrev S1x1x6144 : Shape := ⟨3, ![1, 1, 6144]⟩
abbrev S1x1024 : Shape := ⟨2, ![1, 1024]⟩
abbrev S2x8192x512 : Shape := ⟨3, ![2, 8192, 512]⟩
abbrev S2x8192x256 : Shape := ⟨3, ![2, 8192, 256]⟩
abbrev S2x8192x768 : Shape := ⟨3, ![2, 8192, 768]⟩
abbrev S2x8192x4096 : Shape := ⟨3, ![2, 8192, 4096]⟩
abbrev S1x512x1024 : Shape := ⟨3, ![1, 512, 1024]⟩
abbrev S1x1x1024 : Shape := ⟨3, ![1, 1, 1024]⟩
abbrev S1x1024x6144 : Shape := ⟨3, ![1, 1024, 6144]⟩
abbrev S1x512x512 : Shape := ⟨3, ![1, 512, 512]⟩
abbrev S1x512x256 : Shape := ⟨3, ![1, 512, 256]⟩
abbrev S1x512x768 : Shape := ⟨3, ![1, 512, 768]⟩
abbrev S1x512x4096 : Shape := ⟨3, ![1, 512, 4096]⟩
abbrev S512x1024 : Shape := ⟨2, ![512, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 20
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S2x1024x6144, .f32⟩
  | .hbm, ⟨5, _⟩ => ⟨S_, .f32⟩
  | .hbm, ⟨6, _⟩ => ⟨S2048, .f32⟩
  | .hbm, ⟨7, _⟩ => ⟨S_, .f32⟩
  | .hbm, ⟨8, _⟩ => ⟨S4096, .f32⟩
  | .hbm, ⟨9, _⟩ => ⟨S6144, .f32⟩
  | .hbm, ⟨10, _⟩ => ⟨S1x1x6144, .f32⟩
  | .hbm, ⟨11, _⟩ => ⟨S2x1024x6144, .f32⟩
  | .hbm, ⟨12, _⟩ => ⟨S2x1024x6144, .f32⟩
  | .hbm, ⟨13, _⟩ => ⟨S2x1024x6144, .bf16⟩
  | .hbm, ⟨14, _⟩ => ⟨S1x1024, .f32⟩
  | .hbm, ⟨15, _⟩ => ⟨S2x8192x512, .f32⟩
  | .hbm, ⟨16, _⟩ => ⟨S2x8192x256, .f32⟩
  | .hbm, ⟨17, _⟩ => ⟨S2x8192x512, .f32⟩
  | .hbm, ⟨18, _⟩ => ⟨S2x8192x768, .bf16⟩
  | .hbm, ⟨19, _⟩ => ⟨S2x8192x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x6144, .bf16⟩
  | .local _ .vmem, ⟨8, _⟩ => ⟨S1x512x512, .f32⟩
  | .local _ .vmem, ⟨9, _⟩ => ⟨S1x512x512, .f32⟩
  | .local _ .vmem, ⟨10, _⟩ => ⟨S1x512x256, .f32⟩
  | .local _ .vmem, ⟨11, _⟩ => ⟨S1x512x256, .f32⟩
  | .local _ .vmem, ⟨12, _⟩ => ⟨S1x512x512, .f32⟩
  | .local _ .vmem, ⟨13, _⟩ => ⟨S1x512x512, .f32⟩
  | .local _ .vmem, ⟨14, _⟩ => ⟨S1x512x768, .bf16⟩
  | .local _ .vmem, ⟨15, _⟩ => ⟨S1x512x768, .bf16⟩
  | .local _ .vmem, ⟨16, _⟩ => ⟨S1x512x4096, .bf16⟩
  | .local _ .vmem, ⟨17, _⟩ => ⟨S1x512x4096, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S2x8192x1024 : Shape := ⟨3, ![2, 8192, 1024]⟩
abbrev S1024 : Shape := ⟨1, ![1024]⟩
abbrev S2x1x1024 : Shape := ⟨3, ![2, 1, 1024]⟩
abbrev S2x1024x6144 : Shape := ⟨3, ![2, 1024, 6144]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x6144 : Shape := ⟨3, ![1, 1024, 6144]⟩
abbrev S1024x6144 : Shape := ⟨2, ![1024, 6144]⟩
abbrev S2x8192x6144 : Shape := ⟨3, ![2, 8192, 6144]⟩
abbrev S2x8192x512 : Shape := ⟨3, ![2, 8192, 512]⟩
abbrev S2x8192x256 : Shape := ⟨3, ![2, 8192, 256]⟩
abbrev S2x8192x768 : Shape := ⟨3, ![2, 8192, 768]⟩
abbrev S2x8192x4096 : Shape := ⟨3, ![2, 8192, 4096]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S2x1024x6144, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S1x1024x6144, .f32⟩
  | .hbm, ⟨29, _⟩ => ⟨S1024x6144, .f32⟩
  | .hbm, ⟨30, _⟩ => ⟨S2x8192x6144, .f32⟩
  | .hbm, ⟨31, _⟩ => ⟨S2x8192x512, .f32⟩
  | .hbm, ⟨32, _⟩ => ⟨S2x8192x256, .f32⟩
  | .hbm, ⟨33, _⟩ => ⟨S2x8192x512, .f32⟩
  | .hbm, ⟨34, _⟩ => ⟨S2x8192x768, .f32⟩
  | .hbm, ⟨35, _⟩ => ⟨S2x8192x4096, .f32⟩
  | .hbm, ⟨36, _⟩ => ⟨S_, .f32⟩
  | .hbm, ⟨37, _⟩ => ⟨S2x8192x4096, .f32⟩
  | .hbm, ⟨38, _⟩ => ⟨S2x8192x4096, .f32⟩
  | .hbm, ⟨39, _⟩ => ⟨S2x8192x768, .bf16⟩
  | .hbm, ⟨40, _⟩ => ⟨S2x8192x4096, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel5.lean ====
abbrev S2x8192x256 : Shape := ⟨3, ![2, 8192, 256]⟩
abbrev S2x8192x4096 : Shape := ⟨3, ![2, 8192, 4096]⟩
abbrev S256x1024 : Shape := ⟨2, ![256, 1024]⟩
abbrev S1024x1024 : Shape := ⟨2, ![1024, 1024]⟩
abbrev S2x8192x1024 : Shape := ⟨3, ![2, 8192, 1024]⟩
abbrev S2x1x1024 : Shape := ⟨3, ![2, 1, 1024]⟩
abbrev S1024 : Shape := ⟨1, ![1024]⟩
abbrev S1024x16 : Shape := ⟨2, ![1024, 16]⟩
abbrev S_ : Shape := ⟨0, ![]⟩
abbrev S1x1024 : Shape := ⟨2, ![1, 1024]⟩
abbrev S16x1024 : Shape := ⟨2, ![16, 1024]⟩
abbrev S2x16x8192 : Shape := ⟨3, ![2, 16, 8192]⟩
abbrev S1x512x256 : Shape := ⟨3, ![1, 512, 256]⟩
abbrev S1x512x1024 : Shape := ⟨3, ![1, 512, 1024]⟩
abbrev S1x1x1024 : Shape := ⟨3, ![1, 1, 1024]⟩
abbrev S1x16x512 : Shape := ⟨3, ![1, 16, 512]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S32x1024 : Shape := ⟨2, ![32, 1024]⟩
abbrev S32x512 : Shape := ⟨2, ![32, 512]⟩
abbrev S16x512 : Shape := ⟨2, ![16, 512]⟩
abbrev S1x512 : Shape := ⟨2, ![1, 512]⟩

abbrev nBuf : Space → Nat
  | .hbm => 38
  | .vmem => 37
  | .smem => 0
  | _ => 0

abbrev bufTy : (tb : Table) → Fin (tcTables nBuf tb) → BufTy
  | .hbm, ⟨0, _⟩ => ⟨S2x8192x256, .bf16⟩
  | .hbm, ⟨1, _⟩ => ⟨S2x8192x256, .f32⟩
  | .hbm, ⟨2, _⟩ => ⟨S2x8192x256, .bf16⟩
  | .hbm, ⟨3, _⟩ => ⟨S2x8192x256, .bf16⟩
  | .hbm, ⟨4, _⟩ => ⟨S2x8192x4096, .bf16⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S1024x1024, .f32⟩
  | .hbm, ⟨10, _⟩ => ⟨S2x8192x1024, .f32⟩
  | .hbm, ⟨11, _⟩ => ⟨S2x1x1024, .f32⟩
  | .hbm, ⟨12, _⟩ => ⟨S1024, .f32⟩
  | .hbm, ⟨13, _⟩ => ⟨S2x1x1024, .f32⟩
  | .hbm, ⟨14, _⟩ => ⟨S2x1x1024, .f32⟩
  | .hbm, ⟨15, _⟩ => ⟨S1024x16, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .bf16⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S256x1024, .bf16⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .bf16⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .bf16⟩
  | .hbm, ⟨32, _⟩ => ⟨S1024x1024, .bf16⟩
  | .hbm, ⟨33, _⟩ => ⟨S1x1024, .f32⟩
  | .hbm, ⟨34, _⟩ => ⟨S16x1024, .f32⟩
  | .hbm, ⟨35, _⟩ => ⟨S2x8192x1024, .f32⟩
  | .hbm, ⟨36, _⟩ => ⟨S2x8192x1024, .bf16⟩
  | .hbm, ⟨37, _⟩ => ⟨S2x16x8192, .f32⟩
  | .local _ .vmem, ⟨0, _⟩ => ⟨S1x512x256, .bf16⟩
  | .local _ .vmem, ⟨1, _⟩ => ⟨S1x512x256, .bf16⟩
  | .local _ .vmem, ⟨2, _⟩ => ⟨S1x512x256, .f32⟩
  | .local _ .vmem, ⟨3, _⟩ => ⟨S1x512x256, .f32⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1024x1024, .bf16⟩
  | .local _ .vmem, ⟨21, _⟩ => ⟨S1x512x1024, .f32⟩
  | .local _ .vmem, ⟨22, _⟩ => ⟨S1x512x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1x1x1024, .f32⟩
  | .local _ .vmem, ⟨29, _⟩ => ⟨S1x1x1024, .f32⟩
  | .local _ .vmem, ⟨30, _⟩ => ⟨S16x1024, .f32⟩
  | .local _ .vmem, ⟨31, _⟩ => ⟨S1x512x1024, .f32⟩
  | .local _ .vmem, ⟨32, _⟩ => ⟨S1x512x1024, .f32⟩
  | .local _ .vmem, ⟨33, _⟩ => ⟨S1x512x1024, .bf16⟩
  | .local _ .vmem, ⟨34, _⟩ => ⟨S1x512x1024, .bf16⟩
  | .local _ .vmem, ⟨35, _⟩ => ⟨S1x16x512, .f32⟩
  | .local _ .vmem, ⟨36, _⟩ => ⟨S1x16x512, .f32⟩
  | _, _ => ⟨S2x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15_0 : Ref sig .tc := ⟨.hbm, 35, rfl⟩
abbrev main_v15_1 : Ref sig .tc := ⟨.hbm, 36, rfl⟩
abbrev main_v15_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 1 → Memref sig .tc .vmem S16x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x16x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference5Ideal.lean ====
abbrev S2x8192x256 : Shape := ⟨3, ![2, 8192, 256]⟩
abbrev S2x8192x4096 : Shape := ⟨3, ![2, 8192, 4096]⟩
abbrev S256x1024 : Shape := ⟨2, ![256, 1024]⟩
abbrev S1024x1024 : Shape := ⟨2, ![1024, 1024]⟩
abbrev S2x8192x1024 : Shape := ⟨3, ![2, 8192, 1024]⟩
abbrev S2x1x1024 : Shape := ⟨3, ![2, 1, 1024]⟩
abbrev S1024 : Shape := ⟨1, ![1024]⟩
abbrev S1024x16 : Shape := ⟨2, ![1024, 16]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x16 : Shape := ⟨3, ![2, 8192, 16]⟩
abbrev S2x16x8192 : Shape := ⟨3, ![2, 16, 8192]⟩

abbrev nBuf : Space → Nat
  | .hbm => 90
  | .vmem => 0
  | .smem => 0
  | _ => 0

abbrev bufTy : (tb : Table) → Fin (tcTables nBuf tb) → BufTy
  | .hbm, ⟨0, _⟩ => ⟨S2x8192x256, .bf16⟩
  | .hbm, ⟨1, _⟩ => ⟨S2x8192x256, .f32⟩
  | .hbm, ⟨2, _⟩ => ⟨S2x8192x256, .bf16⟩
  | .hbm, ⟨3, _⟩ => ⟨S2x8192x256, .bf16⟩
  | .hbm, ⟨4, _⟩ => ⟨S2x8192x4096, .bf16⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S1024x1024, .f32⟩
  | .hbm, ⟨10, _⟩ => ⟨S2x8192x1024, .f32⟩
  | .hbm, ⟨11, _⟩ => ⟨S2x1x1024, .f32⟩
  | .hbm, ⟨12, _⟩ => ⟨S1024, .f32⟩
  | .hbm, ⟨13, _⟩ => ⟨S2x1x1024, .f32⟩
  | .hbm, ⟨14, _⟩ => ⟨S2x1x1024, .f32⟩
  | .hbm, ⟨15, _⟩ => ⟨S1024x16, .f32⟩
  | .hbm, ⟨16, _⟩ => ⟨S2x8192x256, .f32⟩
  | .hbm, ⟨17, _⟩ => ⟨S2x8192x256, .f32⟩
  | .hbm, ⟨18, _⟩ => ⟨S2x8192x256, .f32⟩
  | .hbm, ⟨19, _⟩ => ⟨S2x8192x4096, .f32⟩
  | .hbm, ⟨20, _⟩ => ⟨S_, .f32⟩
  | .hbm, ⟨21, _⟩ => ⟨S2x8192x4096, .f32⟩
  | .hbm, ⟨22, _⟩ => ⟨S2x8192x4096, .f32⟩
  | .hbm, ⟨23, _⟩ => ⟨S2x8192x4096, .f32⟩
  | .hbm, ⟨24, _⟩ => ⟨S2x8192x4096, .f32⟩
  | .hbm, ⟨25, _⟩ => ⟨S_, .f32⟩
  | .hbm, ⟨26, _⟩ => ⟨S2x8192x4096, .f32⟩
  | .hbm, ⟨27, _⟩ => ⟨S2x8192x4096, .f32⟩
  | .hbm, ⟨28, _⟩ => ⟨S_, .f32⟩
  | .hbm, ⟨29, _⟩ => ⟨S2x8192x4096, .f32⟩
  | .hbm, ⟨30, _⟩ => ⟨S2x8192x4096, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S_, .f32⟩
  | .hbm, ⟨52, _⟩ => ⟨S2x8192, .f32⟩
  | .hbm, ⟨53, _⟩ => ⟨S2x8192x1, .f32⟩
  | .hbm, ⟨54, _⟩ => ⟨S_, .f32⟩
  | .hbm, ⟨55, _⟩ => ⟨S2x8192x1, .f32⟩
  | .hbm, ⟨56, _⟩ => ⟨S2x8192x1, .f32⟩
  | .hbm, ⟨57, _⟩ => ⟨S_, .f32⟩
  | .hbm, ⟨58, _⟩ => ⟨S2x8192x1, .f32⟩
  | .hbm, ⟨59, _⟩ => ⟨S2x8192x1, .f32⟩
  | .hbm, ⟨60, _⟩ => ⟨S2x8192x1, .f32⟩
  | .hbm, ⟨61, _⟩ => ⟨S2x8192x1024, .f32⟩
  | .hbm, ⟨62, _⟩ => ⟨S2x8192x1024, .f32⟩
  | .hbm, ⟨63, _⟩ => ⟨S1x1x1024, .f32⟩
  | .hbm, ⟨64, _⟩ => ⟨S2x8192x1024, .f32⟩
  | .hbm, ⟨65, _⟩ => ⟨S2x8192x1024, .f32⟩
  | .hbm, ⟨66, _⟩ => ⟨S_, .f32⟩
  | .hbm, ⟨67, _⟩ => ⟨S2x1x1024, .f32⟩
  | .hbm, ⟨68, _⟩ => ⟨S2x1x1024, .f32⟩
  | .hbm, ⟨69, _⟩ => ⟨S2x8192x1024, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S2x8192x16, .f32⟩
  | .hbm, ⟨74, _⟩ => ⟨S_, .f32⟩
  | .hbm, ⟨75, _⟩ => ⟨S2x8192, .f32⟩
  | .hbm, ⟨76, _⟩ => ⟨S_, .f32⟩
  | .hbm, ⟨77, _⟩ => ⟨S2x8192, .f32⟩
  | .hbm, ⟨78, _⟩ => ⟨S2x8192, .f32⟩
  | .hbm, ⟨79, _⟩ => ⟨S2x8192x1, .f32⟩
  | .hbm, ⟨80, _⟩ => ⟨S2x8192x16, .f32⟩
  | .hbm, ⟨81, _⟩ => ⟨S2x8192x16, .f32⟩
  | .hbm, ⟨82, _⟩ => ⟨S2x8192x16, .f32⟩
  | .hbm, ⟨83, _⟩ => ⟨S_, .f32⟩
  | .hbm, ⟨84, _⟩ => ⟨S2x8192, .f32⟩
  | .hbm, ⟨85, _⟩ => ⟨S2x8192x1, .f32⟩
  | .hbm, ⟨86, _⟩ => ⟨S2x8192x16, .f32⟩
  | .hbm, ⟨87, _⟩ => ⟨S2x8192x16, .f32⟩
  | .hbm, ⟨88, _⟩ => ⟨S2x8192x1024, .bf16⟩
  | .hbm, ⟨89, _⟩ => ⟨S2x16x8192, .f32⟩
  | _, _ => ⟨S2x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_cst_7 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_8 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Kernel6.lean ====
abbrev S2x256x768 : Shape := ⟨3, ![2, 256, 768]⟩
abbrev S2x256x256 : Shape := ⟨3, ![2, 256, 256]⟩
abbrev S1x256x256 : Shape := ⟨3, ![1, 256, 256]⟩
abbrev S1x256 : Shape := ⟨2, ![1, 256]⟩
abbrev S256x256 : Shape := ⟨2, ![256, 256]⟩
abbrev S256 : Shape := ⟨1, ![256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S2x256x768, .bf16⟩
  | .hbm, ⟨1, _⟩ => ⟨S2x256x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S2x256x768 : Shape := ⟨3, ![2, 256, 768]⟩
abbrev S2x256x256 : Shape := ⟨3, ![2, 256, 256]⟩
abbrev S2x256x4x64 : Shape := ⟨4, ![2, 256, 4, 64]⟩
abbrev S_ : Shape := ⟨0, ![]⟩
abbrev S2x4x256x256 : Shape := ⟨4, ![2, 4, 256, 256]⟩
abbrev S2x4x256 : Shape := ⟨3, ![2, 4, 256]⟩
abbrev S2x4x256x1 : Shape := ⟨4, ![2, 4, 256, 1]⟩
abbrev S2x4x64x256 : Shape := ⟨4, ![2, 4, 64, 256]⟩

abbrev nBuf : Space → Nat
  | .hbm => 32
  | .vmem => 0
  | .smem => 0
  | _ => 0

abbrev bufTy : (tb : Table) → Fin (tcTables nBuf tb) → BufTy
  | .hbm, ⟨0, _⟩ => ⟨S2x256x768, .bf16⟩
  | .hbm, ⟨1, _⟩ => ⟨S2x256x256, .bf16⟩
  | .hbm, ⟨2, _⟩ => ⟨S2x256x256, .bf16⟩
  | .hbm, ⟨3, _⟩ => ⟨S2x256x256, .bf16⟩
  | .hbm, ⟨4, _⟩ => ⟨S2x256x256, .f32⟩
  | .hbm, ⟨5, _⟩ => ⟨S2x256x4x64, .f32⟩
  | .hbm, ⟨6, _⟩ => ⟨S2x256x256, .f32⟩
  | .hbm, ⟨7, _⟩ => ⟨S2x256x4x64, .f32⟩
  | .hbm, ⟨8, _⟩ => ⟨S2x256x256, .f32⟩
  | .hbm, ⟨9, _⟩ => ⟨S2x256x4x64, .f32⟩
  | .hbm, ⟨10, _⟩ => ⟨S_, .f32⟩
  | .hbm, ⟨11, _⟩ => ⟨S2x256x4x64, .f32⟩
  | .hbm, ⟨12, _⟩ => ⟨S2x256x4x64, .f32⟩
  | .hbm, ⟨13, _⟩ => ⟨S2x4x256x256, .f32⟩
  | .hbm, ⟨14, _⟩ => ⟨S_, .f32⟩
  | .hbm, ⟨15, _⟩ => ⟨S2x4x256, .f32⟩
  | .hbm, ⟨16, _⟩ => ⟨S_, .f32⟩
  | .hbm, ⟨17, _⟩ => ⟨S2x4x256, .f32⟩
  | .hbm, ⟨18, _⟩ => ⟨S2x4x256, .f32⟩
  | .hbm, ⟨19, _⟩ => ⟨S2x4x256x1, .f32⟩
  | .hbm, ⟨20, _⟩ => ⟨S2x4x256x256, .f32⟩
  | .hbm, ⟨21, _⟩ => ⟨S2x4x256x256, .f32⟩
  | .hbm, ⟨22, _⟩ => ⟨S2x4x256x256, .f32⟩
  | .hbm, ⟨23, _⟩ => ⟨S_, .f32⟩
  | .hbm, ⟨24, _⟩ => ⟨S2x4x256, .f32⟩
  | .hbm, ⟨25, _⟩ => ⟨S2x4x256x1, .f32⟩
  | .hbm, ⟨26, _⟩ => ⟨S2x4x256x256, .f32⟩
  | .hbm, ⟨27, _⟩ => ⟨S2x4x256x256, .f32⟩
  | .hbm, ⟨28, _⟩ => ⟨S2x4x64x256, .f32⟩
  | .hbm, ⟨29, _⟩ => ⟨S2x256x4x64, .f32⟩
  | .hbm, ⟨30, _⟩ => ⟨S2x256x256, .f32⟩
  | .hbm, ⟨31, _⟩ => ⟨S2x256x256, .bf16⟩
  | _, _ => ⟨S2x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_2 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== Kernel7.lean ====
abbrev S2x256x512 : Shape := ⟨3, ![2, 256, 512]⟩
abbrev S256 : Shape := ⟨1, ![256]⟩
abbrev S4x128x128 : Shape := ⟨3, ![4, 128, 128]⟩
abbrev S4x128 : Shape := ⟨2, ![4, 128]⟩
abbrev S128x4x128 : Shape := ⟨3, ![128, 4, 128]⟩
abbrev S128x512 : Shape := ⟨2, ![128, 512]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S2x256x256 : Shape := ⟨3, ![2, 256, 256]⟩
abbrev S1x256x512 : Shape := ⟨3, ![1, 256, 512]⟩
abbrev S1x256x256 : Shape := ⟨3, ![1, 256, 256]⟩
abbrev S256x512 : Shape := ⟨2, ![256, 512]⟩
abbrev S256x256 : Shape := ⟨2, ![256, 256]⟩
abbrev S256x1 : Shape := ⟨2, ![256, 1]⟩
abbrev S512x256 : Shape := ⟨2, ![512, 256]⟩
abbrev S1x128x256 : Shape := ⟨3, ![1, 128, 256]⟩

abbrev nBuf : Space → Nat
  | .hbm => 14
  | .vmem => 8
  | .smem => 0
  | _ => 0

abbrev bufTy : (tb : Table) → Fin (tcTables nBuf tb) → BufTy
  | .hbm, ⟨0, _⟩ => ⟨S2x256x512, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S128x4x128, .f32⟩
  | .hbm, ⟨6, _⟩ => ⟨S128x512, .f32⟩
  | .hbm, ⟨7, _⟩ => ⟨S128x512, .bf16⟩
  | .hbm, ⟨8, _⟩ => ⟨S128x4, .f32⟩
  | .hbm, ⟨9, _⟩ => ⟨S128x4x64, .f32⟩
  | .hbm, ⟨10, _⟩ => ⟨S128x256, .f32⟩
  | .hbm, ⟨11, _⟩ => ⟨S1x256, .f32⟩
  | .hbm, ⟨12, _⟩ => ⟨S1x256, .f32⟩
  | .hbm, ⟨13, _⟩ => ⟨S2x256x256, .bf16⟩
  | .local _ .vmem, ⟨0, _⟩ => ⟨S1x256x512, .f32⟩
  | .local _ .vmem, ⟨1, _⟩ => ⟨S1x256x512, .f32⟩
  | .local _ .vmem, ⟨2, _⟩ => ⟨S1x256, .f32⟩
  | .local _ .vmem, ⟨3, _⟩ => ⟨S1x256, .f32⟩
  | .local _ .vmem, ⟨4, _⟩ => ⟨S128x512, .bf16⟩
  | .local _ .vmem, ⟨5, _⟩ => ⟨S128x256, .f32⟩
  | .local _ .vmem, ⟨6, _⟩ => ⟨S1x256x256, .bf16⟩
  | .local _ .vmem, ⟨7, _⟩ => ⟨S1x256x256, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S2x256x512 : Shape := ⟨3, ![2, 256, 512]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S2x256x256 : Shape := ⟨3, ![2, 256, 256]⟩
abbrev S2x256 : Shape := ⟨2, ![2, 256]⟩
abbrev S2x256x1 : Shape := ⟨3, ![2, 256, 1]⟩
abbrev S1x1x256 : Shape := ⟨3, ![1, 1, 256]⟩
abbrev S2x2x128x4x64 : Shape := ⟨5, ![2, 2, 128, 4, 64]⟩
abbrev S4x128x2x2x64 : Shape := ⟨5, ![4, 128, 2, 2, 64]⟩
abbrev S128x4 : Shape := ⟨2, ![128, 4]⟩
abbrev S1x1x128x4x1 : Shape := ⟨5, ![1, 1, 128, 4, 1]⟩

abbrev nBuf : Space → Nat
  | .hbm => 63
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S2x256x512, .f32⟩
  | .hbm, ⟨6, _⟩ => ⟨S2x256x512, .f32⟩
  | .hbm, ⟨7, _⟩ => ⟨S_, .f32⟩
  | .hbm, ⟨8, _⟩ => ⟨S2x256x512, .f32⟩
  | .hbm, ⟨9, _⟩ => ⟨S2x256x512, .f32⟩
  | .hbm, ⟨10, _⟩ => ⟨S2x256x512, .f32⟩
  | .hbm, ⟨11, _⟩ => ⟨S_, .f32⟩
  | .hbm, ⟨12, _⟩ => ⟨S2x256x512, .f32⟩
  | .hbm, ⟨13, _⟩ => ⟨S2x256x512, .f32⟩
  | .hbm, ⟨14, _⟩ => ⟨S2x256x512, .f32⟩
  | .hbm, ⟨15, _⟩ => ⟨S_, .f32⟩
  | .hbm, ⟨16, _⟩ => ⟨S2x256x512, .f32⟩
  | .hbm, ⟨17, _⟩ => ⟨S2x256x512, .f32⟩
  | .hbm, ⟨18, _⟩ => ⟨S_, .f32⟩
  | .hbm, ⟨19, _⟩ => ⟨S2x256x512, .f32⟩
  | .hbm, ⟨20, _⟩ => ⟨S2x256x512, .f32⟩
  | .hbm, ⟨21, _⟩ => ⟨S2x256x512, .f32⟩
  | .hbm, ⟨22, _⟩ => ⟨S2x256x256, .f32⟩
  | .hbm, ⟨23, _⟩ => ⟨S2x256x256, .f32⟩
  | .hbm, ⟨24, _⟩ => ⟨S_, .f32⟩
  | .hbm, ⟨25, _⟩ => ⟨S2x256, .f32⟩
  | .hbm, ⟨26, _⟩ => ⟨S2x256x1, .f32⟩
  | .hbm, ⟨27, _⟩ => ⟨S_, .f32⟩
  | .hbm, ⟨28, _⟩ => ⟨S2x256x1, .f32⟩
  | .hbm, ⟨29, _⟩ => ⟨S2x256x1, .f32⟩
  | .hbm, ⟨30, _⟩ => ⟨S2x256x256, .f32⟩
  | .hbm, ⟨31, _⟩ => ⟨S2x256x256, .f32⟩
  | .hbm, ⟨32, _⟩ => ⟨S2x256x256, .f32⟩
  | .hbm, ⟨33, _⟩ => ⟨S_, .f32⟩
  | .hbm, ⟨34, _⟩ => ⟨S2x256, .f32⟩
  | .hbm, ⟨35, _⟩ => ⟨S2x256x1, .f32⟩
  | .hbm, ⟨36, _⟩ => ⟨S_, .f32⟩
  | .hbm, ⟨37, _⟩ => ⟨S2x256x1, .f32⟩
  | .hbm, ⟨38, _⟩ => ⟨S2x256x1, .f32⟩
  | .hbm, ⟨39, _⟩ => ⟨S2x256x256, .f32⟩
  | .hbm, ⟨40, _⟩ => ⟨S2x256x256, .f32⟩
  | .hbm, ⟨41, _⟩ => ⟨S_, .f32⟩
  | .hbm, ⟨42, _⟩ => ⟨S2x256x1, .f32⟩
  | .hbm, ⟨43, _⟩ => ⟨S2x256x1, .f32⟩
  | .hbm, ⟨44, _⟩ => ⟨S2x256x1, .f32⟩
  | .hbm, ⟨45, _⟩ => ⟨S2x256x256, .f32⟩
  | .hbm, ⟨46, _⟩ => ⟨S2x256x256, .f32⟩
  | .hbm, ⟨47, _⟩ => ⟨S1x1x256, .f32⟩
  | .hbm, ⟨48, _⟩ => ⟨S2x256x256, .f32⟩
  | .hbm, ⟨49, _⟩ => ⟨S2x256x256, .f32⟩
  | .hbm, ⟨50, _⟩ => ⟨S1x1x256, .f32⟩
  | .hbm, ⟨51, _⟩ => ⟨S2x256x256, .f32⟩
  | .hbm, ⟨52, _⟩ => ⟨S2x256x256, .f32⟩
  | .hbm, ⟨53, _⟩ => ⟨S2x2x128x4x64, .f32⟩
  | .hbm, ⟨54, _⟩ => ⟨S4x128x2x2x64, .f32⟩
  | .hbm, ⟨55, _⟩ => ⟨S2x2x128x4x64, .f32⟩
  | .hbm, ⟨56, _⟩ => ⟨S128x4, .f32⟩
  | .hbm, ⟨57, _⟩ => ⟨S1x1x128x4x1, .f32⟩
  | .hbm, ⟨58, _⟩ => ⟨S2x2x128x4x64, .f32⟩
  | .hbm, ⟨59, _⟩ => ⟨S2x2x128x4x64, .f32⟩
  | .hbm, ⟨60, _⟩ => ⟨S2x256x256, .f32⟩
  | .hbm, ⟨61, _⟩ => ⟨S2x256x256, .f32⟩
  | .hbm, ⟨62, _⟩ => ⟨S2x256x256, .bf16⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Kernel8.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 36
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1x1024x6144, .f32⟩
  | .hbm, ⟨18, _⟩ => ⟨S1024x6144, .f32⟩
  | .hbm, ⟨19, _⟩ => ⟨S8x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S8x6144, .f32⟩
  | .hbm, ⟨24, _⟩ => ⟨S8x6144, .f32⟩
  | .hbm, ⟨25, _⟩ => ⟨S1x1024x6144, .f32⟩
  | .hbm, ⟨26, _⟩ => ⟨S1024x6144, .f32⟩
  | .hbm, ⟨27, _⟩ => ⟨S8x6144, .f32⟩
  | .hbm, ⟨28, _⟩ => ⟨S1x6144, .f32⟩
  | .hbm, ⟨29, _⟩ => ⟨S6144, .f32⟩
  | .hbm, ⟨30, _⟩ => ⟨S1x6144, .f32⟩
  | .hbm, ⟨31, _⟩ => ⟨S8x6144, .f32⟩
  | .hbm, ⟨32, _⟩ => ⟨S8x6144, .f32⟩
  | .hbm, ⟨33, _⟩ => ⟨S1x8x6144, .f32⟩
  | .hbm, ⟨34, _⟩ => ⟨S1x8x6144, .f32⟩
  | .hbm, ⟨35, _⟩ => ⟨S2x8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Kernel9.lean ====
abbrev S2x256x512 : Shape := ⟨3, ![2, 256, 512]⟩
abbrev S31x256 : Shape := ⟨2, ![31, 256]⟩
abbrev S256 : Shape := ⟨1, ![256]⟩
abbrev S1x256 : Shape := ⟨2, ![1, 256]⟩
abbrev S2x256x256 : Shape := ⟨3, ![2, 256, 256]⟩
abbrev S1x256x256 : Shape := ⟨3, ![1, 256, 256]⟩
abbrev S1x16x256 : Shape := ⟨3, ![1, 16, 256]⟩
abbrev S288x256 : Shape := ⟨2, ![288, 256]⟩
abbrev S16x256 : Shape := ⟨2, ![16, 256]⟩
abbrev S256x256 : Shape := ⟨2, ![256, 256]⟩
abbrev S160x256 : Shape := ⟨2, ![160, 256]⟩
abbrev S128x256 : Shape := ⟨2, ![128, 256]⟩
abbrev S128 : Shape := ⟨1, ![128]⟩
abbrev S128x1 : Shape := ⟨2, ![128, 1]⟩
abbrev S1x128x256 : Shape := ⟨3, ![1, 128, 256]⟩

abbrev nBuf : Space → Nat
  | .hbm => 9
  | .vmem => 19
  | .smem => 0
  | _ => 0

abbrev bufTy : (tb : Table) → Fin (tcTables nBuf tb) → BufTy
  | .hbm, ⟨0, _⟩ => ⟨S2x256x512, .f32⟩
  | .hbm, ⟨1, _⟩ => ⟨S31x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S2x256x256, .bf16⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x16x256, .f32⟩
  | .local _ .vmem, ⟨5, _⟩ => ⟨S1x16x256, .f32⟩
  | .local _ .vmem, ⟨6, _⟩ => ⟨S1x16x256, .f32⟩
  | .local _ .vmem, ⟨7, _⟩ => ⟨S1x16x256, .f32⟩
  | .local _ .vmem, ⟨8, _⟩ => ⟨S1x16x256, .f32⟩
  | .local _ .vmem, ⟨9, _⟩ => ⟨S1x16x256, .f32⟩
  | .local _ .vmem, ⟨10, _⟩ => ⟨S1x16x256, .f32⟩
  | .local _ .vmem, ⟨11, _⟩ => ⟨S1x16x256, .f32⟩
  | .local _ .vmem, ⟨12, _⟩ => ⟨S31x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256x256, .bf16⟩
  | .local _ .vmem, ⟨17, _⟩ => ⟨S1x256x256, .bf16⟩
  | .local _ .vmem, ⟨18, _⟩ => ⟨S288x256, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c15_i32 : BitVec 32 := 15#32
  let v2 : BitVec 32 := Scalar.minsi v1 c15_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c15_i32 : BitVec 32 := 15#32
  let v2 : BitVec 32 := Scalar.minsi v1 c15_i32
  let c1_i32_0 : BitVec 32 := 1#32
  let c0_i32 : BitVec 32 := 0#32
  ![arg0.toNat, v2.toNat, c1_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference9Ideal.lean ====
abbrev S2x256x512 : Shape := ⟨3, ![2, 256, 512]⟩
abbrev S31x256 : Shape := ⟨2, ![31, 256]⟩
abbrev S256 : Shape := ⟨1, ![256]⟩
abbrev S2x256x256 : Shape := ⟨3, ![2, 256, 256]⟩
abbrev S_ : Shape := ⟨0, ![]⟩
abbrev S2x286x256 : Shape := ⟨3, ![2, 286, 256]⟩
abbrev S1x256 : Shape := ⟨2, ![1, 256]⟩
abbrev S1x1x256 : Shape := ⟨3, ![1, 1, 256]⟩
abbrev S2x256 : Shape := ⟨2, ![2, 256]⟩
abbrev S2x256x1 : Shape := ⟨3, ![2, 256, 1]⟩

abbrev nBuf : Space → Nat
  | .hbm => 280
  | .vmem => 0
  | .smem => 0
  | _ => 0

abbrev hbmTy0_0 (i : Nat) : BufTy := match i % 128 with
  | 0 => ⟨S2x256x512, .f32⟩
  | 1 => ⟨S31x256, .f32⟩
  | 2 => ⟨S256, .f32⟩
  | 3 => ⟨S256, .f32⟩
  | 4 => ⟨S256, .f32⟩
  | 5 => ⟨S2x256x256, .f32⟩
  | 6 => ⟨S2x256x256, .f32⟩
  | 7 => ⟨S2x256x256, .f32⟩
  | 8 => ⟨S2x256x256, .f32⟩
  | 9 => ⟨S_, .f32⟩
  | 10 => ⟨S2x256x256, .f32⟩
  | 11 => ⟨S2x256x256, .f32⟩
  | 12 => ⟨S_, .f32⟩
  | 13 => ⟨S2x256x256, .f32⟩
  | 14 => ⟨S2x256x256, .f32⟩
  | 15 => ⟨S2x256x256, .f32⟩
  | 16 => ⟨S_, .i32⟩
  | 17 => ⟨S_, .f32⟩
  | 18 => ⟨S2x286x256, .f32⟩
  | 19 => ⟨S2x256x256, .f32⟩
  | 20 => ⟨S1x256, .f32⟩
  | 21 => ⟨S256, .f32⟩
  | 22 => ⟨S1x1x256, .f32⟩
  | 23 => ⟨S2x256x256, .f32⟩
  | 24 => ⟨S2x256x256, .f32⟩
  | 25 => ⟨S_, .f32⟩
  | 26 => ⟨S2x256x256, .f32⟩
  | 27 => ⟨S2x256x256, .f32⟩
  | 28 => ⟨S2x256x256, .f32⟩
  | 29 => ⟨S1x256, .f32⟩
  | 30 => ⟨S256, .f32⟩
  | 31 => ⟨S1x1x256, .f32⟩
  | 32 => ⟨S2x256x256, .f32⟩
  | 33 => ⟨S2x256x256, .f32⟩
  | 34 => ⟨S2x256x256, .f32⟩
  | 35 => ⟨S2x256x256, .f32⟩
  | 36 => ⟨S1x256, .f32⟩
  | 37 => ⟨S256, .f32⟩
  | 38 => ⟨S1x1x256, .f32⟩
  | 39 => ⟨S2x256x256, .f32⟩
  | 40 => ⟨S2x256x256, .f32⟩
  | 41 => ⟨S2x256x256, .f32⟩
  | 42 => ⟨S2x256x256, .f32⟩
  | 43 => ⟨S1x256, .f32⟩
  | 44 => ⟨S256, .f32⟩
  | 45 => ⟨S1x1x256, .f32⟩
  | 46 => ⟨S2x256x256, .f32⟩
  | 47 => ⟨S2x256x256, .f32⟩
  | 48 => ⟨S2x256x256, .f32⟩
  | 49 => ⟨S2x256x256, .f32⟩
  | 50 => ⟨S1x256, .f32⟩
  | 51 => ⟨S256, .f32⟩
  | 52 => ⟨S1x1x256, .f32⟩
  | 53 => ⟨S2x256x256, .f32⟩
  | 54 => ⟨S2x256x256, .f32⟩
  | 55 => ⟨S2x256x256, .f32⟩
  | 56 => ⟨S2x256x256, .f32⟩
  | 57 => ⟨S1x256, .f32⟩
  | 58 => ⟨S256, .f32⟩
  | 59 => ⟨S1x1x256, .f32⟩
  | 60 => ⟨S2x256x256, .f32⟩
  | 61 => ⟨S2x256x256, .f32⟩
  | 62 => ⟨S2x256x256, .f32⟩
  | 63 => ⟨S2x256x256, .f32⟩
  | 64 => ⟨S1x256, .f32⟩
  | 65 => ⟨S256, .f32⟩
  | 66 => ⟨S1x1x256, .f32⟩
  | 67 => ⟨S2x256x256, .f32⟩
  | 68 => ⟨S2x256x256, .f32⟩
  | 69 => ⟨S2x256x256, .f32⟩
  | 70 => ⟨S2x256x256, .f32⟩
  | 71 => ⟨S1x256, .f32⟩
  | 72 => ⟨S256, .f32⟩
  | 73 => ⟨S1x1x256, .f32⟩
  | 74 => ⟨S2x256x256, .f32⟩
  | 75 => ⟨S2x256x256, .f32⟩
  | 76 => ⟨S2x256x256, .f32⟩
  | 77 => ⟨S2x256x256, .f32⟩
  | 78 => ⟨S1x256, .f32⟩
  | 79 => ⟨S256, .f32⟩
  | 80 => ⟨S1x1x256, .f32⟩
  | 81 => ⟨S2x256x256, .f32⟩
  | 82 => ⟨S2x256x256, .f32⟩
  | 83 => ⟨S2x256x256, .f32⟩
  | 84 => ⟨S2x256x256, .f32⟩
  | 85 => ⟨S1x256, .f32⟩
  | 86 => ⟨S256, .f32⟩
  | 87 => ⟨S1x1x256, .f32⟩
  | 88 => ⟨S2x256x256, .f32⟩
  | 89 => ⟨S2x256x256, .f32⟩
  | 90 => ⟨S2x256x256, .f32⟩
  | 91 => ⟨S2x256x256, .f32⟩
  | 92 => ⟨S1x256, .f32⟩
  | 93 => ⟨S256, .f32⟩
  | 94 => ⟨S1x1x256, .f32⟩
  | 95 => ⟨S2x256x256, .f32⟩
  | 96 => ⟨S2x256x256, .f32⟩
  | 97 => ⟨S2x256x256, .f32⟩
  | 98 => ⟨S2x256x256, .f32⟩
  | 99 => ⟨S1x256, .f32⟩
  | 100 => ⟨S256, .f32⟩
  | 101 => ⟨S1x1x256, .f32⟩
  | 102 => ⟨S2x256x256, .f32⟩
  | 103 => ⟨S2x256x256, .f32⟩
  | 104 => ⟨S2x256x256, .f32⟩
  | 105 => ⟨S2x256x256, .f32⟩
  | 106 => ⟨S1x256, .f32⟩
  | 107 => ⟨S256, .f32⟩
  | 108 => ⟨S1x1x256, .f32⟩
  | 109 => ⟨S2x256x256, .f32⟩
  | 110 => ⟨S2x256x256, .f32⟩
  | 111 => ⟨S2x256x256, .f32⟩
  | 112 => ⟨S2x256x256, .f32⟩
  | 113 => ⟨S1x256, .f32⟩
  | 114 => ⟨S256, .f32⟩
  | 115 => ⟨S1x1x256, .f32⟩
  | 116 => ⟨S2x256x256, .f32⟩
  | 117 => ⟨S2x256x256, .f32⟩
  | 118 => ⟨S2x256x256, .f32⟩
  | 119 => ⟨S2x256x256, .f32⟩
  | 120 => ⟨S1x256, .f32⟩
  | 121 => ⟨S256, .f32⟩
  | 122 => ⟨S1x1x256, .f32⟩
  | 123 => ⟨S2x256x256, .f32⟩
  | 124 => ⟨S2x256x256, .f32⟩
  | 125 => ⟨S2x256x256, .f32⟩
  | 126 => ⟨S2x256x256, .f32⟩
  | 127 => ⟨S1x256, .f32⟩
  | _ => ⟨S2x256x512, .f32⟩

abbrev hbmTy0_1 (i : Nat) : BufTy := match i % 128 with
  | 0 => ⟨S256, .f32⟩
  | 1 => ⟨S1x1x256, .f32⟩
  | 2 => ⟨S2x256x256, .f32⟩
  | 3 => ⟨S2x256x256, .f32⟩
  | 4 => ⟨S2x256x256, .f32⟩
  | 5 => ⟨S2x256x256, .f32⟩
  | 6 => ⟨S1x256, .f32⟩
  | 7 => ⟨S256, .f32⟩
  | 8 => ⟨S1x1x256, .f32⟩
  | 9 => ⟨S2x256x256, .f32⟩
  | 10 => ⟨S2x256x256, .f32⟩
  | 11 => ⟨S2x256x256, .f32⟩
  | 12 => ⟨S2x256x256, .f32⟩
  | 13 => ⟨S1x256, .f32⟩
  | 14 => ⟨S256, .f32⟩
  | 15 => ⟨S1x1x256, .f32⟩
  | 16 => ⟨S2x256x256, .f32⟩
  | 17 => ⟨S2x256x256, .f32⟩
  | 18 => ⟨S2x256x256, .f32⟩
  | 19 => ⟨S2x256x256, .f32⟩
  | 20 => ⟨S1x256, .f32⟩
  | 21 => ⟨S256, .f32⟩
  | 22 => ⟨S1x1x256, .f32⟩
  | 23 => ⟨S2x256x256, .f32⟩
  | 24 => ⟨S2x256x256, .f32⟩
  | 25 => ⟨S2x256x256, .f32⟩
  | 26 => ⟨S2x256x256, .f32⟩
  | 27 => ⟨S1x256, .f32⟩
  | 28 => ⟨S256, .f32⟩
  | 29 => ⟨S1x1x256, .f32⟩
  | 30 => ⟨S2x256x256, .f32⟩
  | 31 => ⟨S2x256x256, .f32⟩
  | 32 => ⟨S2x256x256, .f32⟩
  | 33 => ⟨S2x256x256, .f32⟩
  | 34 => ⟨S1x256, .f32⟩
  | 35 => ⟨S256, .f32⟩
  | 36 => ⟨S1x1x256, .f32⟩
  | 37 => ⟨S2x256x256, .f32⟩
  | 38 => ⟨S2x256x256, .f32⟩
  | 39 => ⟨S2x256x256, .f32⟩
  | 40 => ⟨S2x256x256, .f32⟩
  | 41 => ⟨S1x256, .f32⟩
  | 42 => ⟨S256, .f32⟩
  | 43 => ⟨S1x1x256, .f32⟩
  | 44 => ⟨S2x256x256, .f32⟩
  | 45 => ⟨S2x256x256, .f32⟩
  | 46 => ⟨S2x256x256, .f32⟩
  | 47 => ⟨S2x256x256, .f32⟩
  | 48 => ⟨S1x256, .f32⟩
  | 49 => ⟨S256, .f32⟩
  | 50 => ⟨S1x1x256, .f32⟩
  | 51 => ⟨S2x256x256, .f32⟩
  | 52 => ⟨S2x256x256, .f32⟩
  | 53 => ⟨S2x256x256, .f32⟩
  | 54 => ⟨S2x256x256, .f32⟩
  | 55 => ⟨S1x256, .f32⟩
  | 56 => ⟨S256, .f32⟩
  | 57 => ⟨S1x1x256, .f32⟩
  | 58 => ⟨S2x256x256, .f32⟩
  | 59 => ⟨S2x256x256, .f32⟩
  | 60 => ⟨S2x256x256, .f32⟩
  | 61 => ⟨S2x256x256, .f32⟩
  | 62 => ⟨S1x256, .f32⟩
  | 63 => ⟨S256, .f32⟩
  | 64 => ⟨S1x1x256, .f32⟩
  | 65 => ⟨S2x256x256, .f32⟩
  | 66 => ⟨S2x256x256, .f32⟩
  | 67 => ⟨S2x256x256, .f32⟩
  | 68 => ⟨S2x256x256, .f32⟩
  | 69 => ⟨S1x256, .f32⟩
  | 70 => ⟨S256, .f32⟩
  | 71 => ⟨S1x1x256, .f32⟩
  | 72 => ⟨S2x256x256, .f32⟩
  | 73 => ⟨S2x256x256, .f32⟩
  | 74 => ⟨S2x256x256, .f32⟩
  | 75 => ⟨S2x256x256, .f32⟩
  | 76 => ⟨S1x256, .f32⟩
  | 77 => ⟨S256, .f32⟩
  | 78 => ⟨S1x1x256, .f32⟩
  | 79 => ⟨S2x256x256, .f32⟩
  | 80 => ⟨S2x256x256, .f32⟩
  | 81 => ⟨S2x256x256, .f32⟩
  | 82 => ⟨S2x256x256, .f32⟩
  | 83 => ⟨S1x256, .f32⟩
  | 84 => ⟨S256, .f32⟩
  | 85 => ⟨S1x1x256, .f32⟩
  | 86 => ⟨S2x256x256, .f32⟩
  | 87 => ⟨S2x256x256, .f32⟩
  | 88 => ⟨S2x256x256, .f32⟩
  | 89 => ⟨S2x256x256, .f32⟩
  | 90 => ⟨S1x256, .f32⟩
  | 91 => ⟨S256, .f32⟩
  | 92 => ⟨S1x1x256, .f32⟩
  | 93 => ⟨S2x256x256, .f32⟩
  | 94 => ⟨S2x256x256, .f32⟩
  | 95 => ⟨S2x256x256, .f32⟩
  | 96 => ⟨S2x256x256, .f32⟩
  | 97 => ⟨S1x256, .f32⟩
  | 98 => ⟨S256, .f32⟩
  | 99 => ⟨S1x1x256, .f32⟩
  | 100 => ⟨S2x256x256, .f32⟩
  | 101 => ⟨S2x256x256, .f32⟩
  | 102 => ⟨S2x256x256, .f32⟩
  | 103 => ⟨S2x256x256, .f32⟩
  | 104 => ⟨S1x256, .f32⟩
  | 105 => ⟨S256, .f32⟩
  | 106 => ⟨S1x1x256, .f32⟩
  | 107 => ⟨S2x256x256, .f32⟩
  | 108 => ⟨S2x256x256, .f32⟩
  | 109 => ⟨S2x256x256, .f32⟩
  | 110 => ⟨S1x1x256, .f32⟩
  | 111 => ⟨S2x256x256, .f32⟩
  | 112 => ⟨S2x256x256, .f32⟩
  | 113 => ⟨S_, .f32⟩
  | 114 => ⟨S2x256, .f32⟩
  | 115 => ⟨S2x256x1, .f32⟩
  | 116 => ⟨S_, .f32⟩
  | 117 => ⟨S2x256x1, .f32⟩
  | 118 => ⟨S2x256x1, .f32⟩
  | 119 => ⟨S2x256x256, .f32⟩
  | 120 => ⟨S2x256x256, .f32⟩
  | 121 => ⟨S2x256x256, .f32⟩
  | 122 => ⟨S_, .f32⟩
  | 123 => ⟨S2x256, .f32⟩
  | 124 => ⟨S2x256x1, .f32⟩
  | 125 => ⟨S_, .f32⟩
  | 126 => ⟨S2x256x1, .f32⟩
  | 127 => ⟨S2x256x1, .f32⟩
  | _ => ⟨S2x256x512, .f32⟩

abbrev hbmTy0_2 (i : Nat) : BufTy := match i % 128 with
  | 0 => ⟨S2x256x256, .f32⟩
  | 1 => ⟨S2x256x256, .f32⟩
  | 2 => ⟨S_, .f32⟩
  | 3 => ⟨S2x256x1, .f32⟩
  | 4 => ⟨S2x256x1, .f32⟩
  | 5 => ⟨S2x256x1, .f32⟩
  | 6 => ⟨S2x256x256, .f32⟩
  | 7 => ⟨S2x256x256, .f32⟩
  | 8 => ⟨S1x1x256, .f32⟩
  | 9 => ⟨S2x256x256, .f32⟩
  | 10 => ⟨S2x256x256, .f32⟩
  | 11 => ⟨S1x1x256, .f32⟩
  | 12 => ⟨S2x256x256, .f32⟩
  | 13 => ⟨S2x256x256, .f32⟩
  | 14 => ⟨S2x256x256, .f32⟩
  | 15 => ⟨S2x256x256, .f32⟩
  | 16 => ⟨S_, .f32⟩
  | 17 => ⟨S2x256x256, .f32⟩
  | 18 => ⟨S2x256x256, .f32⟩
  | 19 => ⟨S_, .f32⟩
  | 20 => ⟨S2x256x256, .f32⟩
  | 21 => ⟨S2x256x256, .f32⟩
  | 22 => ⟨S2x256x256, .f32⟩
  | 23 => ⟨S2x256x256, .bf16⟩
  | _ => ⟨S2x256x512, .f32⟩

abbrev hbmTy (i : Nat) : BufTy := match i / 128 with
  | 0 => hbmTy0_0 i
  | 1 => hbmTy0_1 i
  | 2 => hbmTy0_2 i
  | _ => ⟨S2x256x512, .f32⟩

abbrev bufTy : (tb : Table) → Fin (tcTables nBuf tb) → BufTy
  | .hbm, ⟨i, _⟩ => hbmTy i
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_cst_2 : Ref sig .tc := ⟨.hbm, 241, rfl⟩
abbrev main_v231 : Ref sig .tc := ⟨.hbm, 242, rfl⟩
abbrev main_v232 : Ref sig .tc := ⟨.hbm, 243, rfl⟩
abbrev main_cst_3 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_cst_4 : Ref sig .tc := ⟨.hbm, 250, rfl⟩
abbrev main_v238 : Ref sig .tc := ⟨.hbm, 251, rfl⟩
abbrev main_v239 : Ref sig .tc := ⟨.hbm, 252, rfl⟩
abbrev main_cst_5 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_cst_6 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_call1_v0 : Ref sig .tc := ⟨.hbm, 270, rfl⟩
abbrev main_call1_v1 : Ref sig .tc := ⟨.hbm, 271, rfl⟩
abbrev main_call1_cst : Ref sig .tc := ⟨.hbm, 272, rfl⟩
abbrev main_call1_v2 : Ref sig .tc := ⟨.hbm, 273, rfl⟩
abbrev main_call1_v3 : Ref sig .tc := ⟨.hbm, 274, rfl⟩
abbrev main_call1_cst_0 : Ref sig .tc := ⟨.hbm, 275, rfl⟩
abbrev main_call1_v4 : Ref sig .tc := ⟨.hbm, 276, rfl⟩
abbrev main_call1_v5 : Ref sig .tc := ⟨.hbm, 277, rfl⟩
abbrev main_v255 : Ref sig .tc := ⟨.hbm, 278, rfl⟩
abbrev main_v256 : Ref sig .tc := ⟨.hbm, 279, rfl⟩

abbrev nD : Nat := 1
abbrev τ : Topo := Topo.v7x

variable {F : FTy → Type} [FloatOps F]
-- ==== Kernel10.lean ====
abbrev S2x8192x512 : Shape := ⟨3, ![2, 8192, 512]⟩
abbrev S256 : Shape := ⟨1, ![256]⟩
abbrev S4x128x128 : Shape := ⟨3, ![4, 128, 128]⟩
abbrev S4x128 : Shape := ⟨2, ![4, 128]⟩
abbrev S31x256 : Shape := ⟨2, ![31, 256]⟩
abbrev S128x4x128 : Shape := ⟨3, ![128, 4, 128]⟩
abbrev S128x512 : Shape := ⟨2, ![128, 512]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S2x8192x256 : Shape := ⟨3, ![2, 8192, 256]⟩
abbrev S1x1024x512 : Shape := ⟨3, ![1, 1024, 512]⟩
abbrev S1x1024x256 : Shape := ⟨3, ![1, 1024, 256]⟩
abbrev S1x16x256 : Shape := ⟨3, ![1, 16, 256]⟩
abbrev S1056x256 : Shape := ⟨2, ![1056, 256]⟩
abbrev S1024x512 : Shape := ⟨2, ![1024, 512]⟩
abbrev S1024x256 : Shape := ⟨2, ![1024, 256]⟩
abbrev S1024 : Shape := ⟨1, ![1024]⟩
abbrev S1024x1 : Shape := ⟨2, ![1024, 1]⟩
abbrev S512x256 : Shape := ⟨2, ![512, 256]⟩
abbrev S1x128x256 : Shape := ⟨3, ![1, 128, 256]⟩
abbrev S16x256 : Shape := ⟨2, ![16, 256]⟩
abbrev S160x256 : Shape := ⟨2, ![160, 256]⟩
abbrev S128 : Shape := ⟨1, ![128]⟩
abbrev S128x1 : Shape := ⟨2, ![128, 1]⟩

abbrev nBuf : Space → Nat
  | .hbm => 23
  | .vmem => 27
  | .smem => 0
  | _ => 0

abbrev bufTy : (tb : Table) → Fin (tcTables nBuf tb) → BufTy
  | .hbm, ⟨0, _⟩ => ⟨S2x8192x512, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S2x8192x512, .f32⟩
  | .hbm, ⟨6, _⟩ => ⟨S31x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S128x4x128, .f32⟩
  | .hbm, ⟨11, _⟩ => ⟨S128x512, .f32⟩
  | .hbm, ⟨12, _⟩ => ⟨S128x512, .bf16⟩
  | .hbm, ⟨13, _⟩ => ⟨S128x4, .f32⟩
  | .hbm, ⟨14, _⟩ => ⟨S128x4x64, .f32⟩
  | .hbm, ⟨15, _⟩ => ⟨S128x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S2x8192x256, .bf16⟩
  | .hbm, ⟨22, _⟩ => ⟨S2x8192x256, .bf16⟩
  | .local _ .vmem, ⟨0, _⟩ => ⟨S1x1024x512, .f32⟩
  | .local _ .vmem, ⟨1, _⟩ => ⟨S1x1024x512, .f32⟩
  | .local _ .vmem, ⟨2, _⟩ => ⟨S1x256, .f32⟩
  | .local _ .vmem, ⟨3, _⟩ => ⟨S1x256, .f32⟩
  | .local _ .vmem, ⟨4, _⟩ => ⟨S128x512, .bf16⟩
  | .local _ .vmem, ⟨5, _⟩ => ⟨S128x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S1x16x256, .f32⟩
  | .local _ .vmem, ⟨11, _⟩ => ⟨S1x16x256, .f32⟩
  | .local _ .vmem, ⟨12, _⟩ => ⟨S1x16x256, .f32⟩
  | .local _ .vmem, ⟨13, _⟩ => ⟨S1x16x256, .f32⟩
  | .local _ .vmem, ⟨14, _⟩ => ⟨S1x16x256, .f32⟩
  | .local _ .vmem, ⟨15, _⟩ => ⟨S1x16x256, .f32⟩
  | .local _ .vmem, ⟨16, _⟩ => ⟨S1x16x256, .f32⟩
  | .local _ .vmem, ⟨17, _⟩ => ⟨S1x16x256, .f32⟩
  | .local _ .vmem, ⟨18, _⟩ => ⟨S31x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x1024x256, .bf16⟩
  | .local _ .vmem, ⟨23, _⟩ => ⟨S1x1024x256, .bf16⟩
  | .local _ .vmem, ⟨24, _⟩ => ⟨S1x1024x256, .bf16⟩
  | .local _ .vmem, ⟨25, _⟩ => ⟨S1x1024x256, .bf16⟩
  | .local _ .vmem, ⟨26, _⟩ => ⟨S1056x256, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_7 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c1_i32_0 : BitVec 32 := 1#32
  let c0_i32 : BitVec 32 := 0#32
  ![arg0.toNat, v2.toNat, c1_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S31x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference10Ideal.lean ====
abbrev S2x8192x512 : Shape := ⟨3, ![2, 8192, 512]⟩
abbrev S256 : Shape := ⟨1, ![256]⟩
abbrev S4x128x128 : Shape := ⟨3, ![4, 128, 128]⟩
abbrev S4x128 : Shape := ⟨2, ![4, 128]⟩
abbrev S31x256 : Shape := ⟨2, ![31, 256]⟩
abbrev S_ : Shape := ⟨0, ![]⟩
abbrev S2x8192x256 : Shape := ⟨3, ![2, 8192, 256]⟩
abbrev S2x8192 : Shape := ⟨2, ![2, 8192]⟩
abbrev S2x8192x1 : Shape := ⟨3, ![2, 8192, 1]⟩
abbrev S1x1x256 : Shape := ⟨3, ![1, 1, 256]⟩
abbrev S2x64x128x4x64 : Shape := ⟨5, ![2, 64, 128, 4, 64]⟩
abbrev S4x128x2x64x64 : Shape := ⟨5, ![4, 128, 2, 64, 64]⟩
abbrev S128x4 : Shape := ⟨2, ![128, 4]⟩
abbrev S1x1x128x4x1 : Shape := ⟨5, ![1, 1, 128, 4, 1]⟩
abbrev S2x8222x256 : Shape := ⟨3, ![2, 8222, 256]⟩
abbrev S1x256 : Shape := ⟨2, ![1, 256]⟩

abbrev nBuf : Space → Nat
  | .hbm => 343
  | .vmem => 0
  | .smem => 0
  | _ => 0

abbrev hbmTy0_0 (i : Nat) : BufTy := match i % 128 with
  | 0 => ⟨S2x8192x512, .f32⟩
  | 1 => ⟨S256, .f32⟩
  | 2 => ⟨S256, .f32⟩
  | 3 => ⟨S4x128x128, .f32⟩
  | 4 => ⟨S4x128, .f32⟩
  | 5 => ⟨S2x8192x512, .f32⟩
  | 6 => ⟨S31x256, .f32⟩
  | 7 => ⟨S256, .f32⟩
  | 8 => ⟨S256, .f32⟩
  | 9 => ⟨S256, .f32⟩
  | 10 => ⟨S2x8192x512, .f32⟩
  | 11 => ⟨S2x8192x512, .f32⟩
  | 12 => ⟨S_, .f32⟩
  | 13 => ⟨S2x8192x512, .f32⟩
  | 14 => ⟨S2x8192x512, .f32⟩
  | 15 => ⟨S2x8192x512, .f32⟩
  | 16 => ⟨S_, .f32⟩
  | 17 => ⟨S2x8192x512, .f32⟩
  | 18 => ⟨S2x8192x512, .f32⟩
  | 19 => ⟨S2x8192x512, .f32⟩
  | 20 => ⟨S_, .f32⟩
  | 21 => ⟨S2x8192x512, .f32⟩
  | 22 => ⟨S2x8192x512, .f32⟩
  | 23 => ⟨S_, .f32⟩
  | 24 => ⟨S2x8192x512, .f32⟩
  | 25 => ⟨S2x8192x512, .f32⟩
  | 26 => ⟨S2x8192x512, .f32⟩
  | 27 => ⟨S2x8192x256, .f32⟩
  | 28 => ⟨S2x8192x256, .f32⟩
  | 29 => ⟨S_, .f32⟩
  | 30 => ⟨S2x8192, .f32⟩
  | 31 => ⟨S2x8192x1, .f32⟩
  | 32 => ⟨S_, .f32⟩
  | 33 => ⟨S2x8192x1, .f32⟩
  | 34 => ⟨S2x8192x1, .f32⟩
  | 35 => ⟨S2x8192x256, .f32⟩
  | 36 => ⟨S2x8192x256, .f32⟩
  | 37 => ⟨S2x8192x256, .f32⟩
  | 38 => ⟨S_, .f32⟩
  | 39 => ⟨S2x8192, .f32⟩
  | 40 => ⟨S2x8192x1, .f32⟩
  | 41 => ⟨S_, .f32⟩
  | 42 => ⟨S2x8192x1, .f32⟩
  | 43 => ⟨S2x8192x1, .f32⟩
  | 44 => ⟨S2x8192x256, .f32⟩
  | 45 => ⟨S2x8192x256, .f32⟩
  | 46 => ⟨S_, .f32⟩
  | 47 => ⟨S2x8192x1, .f32⟩
  | 48 => ⟨S2x8192x1, .f32⟩
  | 49 => ⟨S2x8192x1, .f32⟩
  | 50 => ⟨S2x8192x256, .f32⟩
  | 51 => ⟨S2x8192x256, .f32⟩
  | 52 => ⟨S1x1x256, .f32⟩
  | 53 => ⟨S2x8192x256, .f32⟩
  | 54 => ⟨S2x8192x256, .f32⟩
  | 55 => ⟨S1x1x256, .f32⟩
  | 56 => ⟨S2x8192x256, .f32⟩
  | 57 => ⟨S2x8192x256, .f32⟩
  | 58 => ⟨S2x64x128x4x64, .f32⟩
  | 59 => ⟨S4x128x2x64x64, .f32⟩
  | 60 => ⟨S2x64x128x4x64, .f32⟩
  | 61 => ⟨S128x4, .f32⟩
  | 62 => ⟨S1x1x128x4x1, .f32⟩
  | 63 => ⟨S2x64x128x4x64, .f32⟩
  | 64 => ⟨S2x64x128x4x64, .f32⟩
  | 65 => ⟨S2x8192x256, .f32⟩
  | 66 => ⟨S2x8192x256, .f32⟩
  | 67 => ⟨S2x8192x256, .bf16⟩
  | 68 => ⟨S2x8192x256, .f32⟩
  | 69 => ⟨S2x8192x256, .f32⟩
  | 70 => ⟨S2x8192x256, .f32⟩
  | 71 => ⟨S2x8192x256, .f32⟩
  | 72 => ⟨S_, .f32⟩
  | 73 => ⟨S2x8192x256, .f32⟩
  | 74 => ⟨S2x8192x256, .f32⟩
  | 75 => ⟨S_, .f32⟩
  | 76 => ⟨S2x8192x256, .f32⟩
  | 77 => ⟨S2x8192x256, .f32⟩
  | 78 => ⟨S2x8192x256, .f32⟩
  | 79 => ⟨S_, .i32⟩
  | 80 => ⟨S_, .f32⟩
  | 81 => ⟨S2x8222x256, .f32⟩
  | 82 => ⟨S2x8192x256, .f32⟩
  | 83 => ⟨S1x256, .f32⟩
  | 84 => ⟨S256, .f32⟩
  | 85 => ⟨S1x1x256, .f32⟩
  | 86 => ⟨S2x8192x256, .f32⟩
  | 87 => ⟨S2x8192x256, .f32⟩
  | 88 => ⟨S_, .f32⟩
  | 89 => ⟨S2x8192x256, .f32⟩
  | 90 => ⟨S2x8192x256, .f32⟩
  | 91 => ⟨S2x8192x256, .f32⟩
  | 92 => ⟨S1x256, .f32⟩
  | 93 => ⟨S256, .f32⟩
  | 94 => ⟨S1x1x256, .f32⟩
  | 95 => ⟨S2x8192x256, .f32⟩
  | 96 => ⟨S2x8192x256, .f32⟩
  | 97 => ⟨S2x8192x256, .f32⟩
  | 98 => ⟨S2x8192x256, .f32⟩
  | 99 => ⟨S1x256, .f32⟩
  | 100 => ⟨S256, .f32⟩
  | 101 => ⟨S1x1x256, .f32⟩
  | 102 => ⟨S2x8192x256, .f32⟩
  | 103 => ⟨S2x8192x256, .f32⟩
  | 104 => ⟨S2x8192x256, .f32⟩
  | 105 => ⟨S2x8192x256, .f32⟩
  | 106 => ⟨S1x256, .f32⟩
  | 107 => ⟨S256, .f32⟩
  | 108 => ⟨S1x1x256, .f32⟩
  | 109 => ⟨S2x8192x256, .f32⟩
  | 110 => ⟨S2x8192x256, .f32⟩
  | 111 => ⟨S2x8192x256, .f32⟩
  | 112 => ⟨S2x8192x256, .f32⟩
  | 113 => ⟨S1x256, .f32⟩
  | 114 => ⟨S256, .f32⟩
  | 115 => ⟨S1x1x256, .f32⟩
  | 116 => ⟨S2x8192x256, .f32⟩
  | 117 => ⟨S2x8192x256, .f32⟩
  | 118 => ⟨S2x8192x256, .f32⟩
  | 119 => ⟨S2x8192x256, .f32⟩
  | 120 => ⟨S1x256, .f32⟩
  | 121 => ⟨S256, .f32⟩
  | 122 => ⟨S1x1x256, .f32⟩
  | 123 => ⟨S2x8192x256, .f32⟩
  | 124 => ⟨S2x8192x256, .f32⟩
  | 125 => ⟨S2x8192x256, .f32⟩
  | 126 => ⟨S2x8192x256, .f32⟩
  | 127 => ⟨S1x256, .f32⟩
  | _ => ⟨S2x8192x512, .f32⟩

abbrev hbmTy0_1 (i : Nat) : BufTy := match i % 128 with
  | 0 => ⟨S256, .f32⟩
  | 1 => ⟨S1x1x256, .f32⟩
  | 2 => ⟨S2x8192x256, .f32⟩
  | 3 => ⟨S2x8192x256, .f32⟩
  | 4 => ⟨S2x8192x256, .f32⟩
  | 5 => ⟨S2x8192x256, .f32⟩
  | 6 => ⟨S1x256, .f32⟩
  | 7 => ⟨S256, .f32⟩
  | 8 => ⟨S1x1x256, .f32⟩
  | 9 => ⟨S2x8192x256, .f32⟩
  | 10 => ⟨S2x8192x256, .f32⟩
  | 11 => ⟨S2x8192x256, .f32⟩
  | 12 => ⟨S2x8192x256, .f32⟩
  | 13 => ⟨S1x256, .f32⟩
  | 14 => ⟨S256, .f32⟩
  | 15 => ⟨S1x1x256, .f32⟩
  | 16 => ⟨S2x8192x256, .f32⟩
  | 17 => ⟨S2x8192x256, .f32⟩
  | 18 => ⟨S2x8192x256, .f32⟩
  | 19 => ⟨S2x8192x256, .f32⟩
  | 20 => ⟨S1x256, .f32⟩
  | 21 => ⟨S256, .f32⟩
  | 22 => ⟨S1x1x256, .f32⟩
  | 23 => ⟨S2x8192x256, .f32⟩
  | 24 => ⟨S2x8192x256, .f32⟩
  | 25 => ⟨S2x8192x256, .f32⟩
  | 26 => ⟨S2x8192x256, .f32⟩
  | 27 => ⟨S1x256, .f32⟩
  | 28 => ⟨S256, .f32⟩
  | 29 => ⟨S1x1x256, .f32⟩
  | 30 => ⟨S2x8192x256, .f32⟩
  | 31 => ⟨S2x8192x256, .f32⟩
  | 32 => ⟨S2x8192x256, .f32⟩
  | 33 => ⟨S2x8192x256, .f32⟩
  | 34 => ⟨S1x256, .f32⟩
  | 35 => ⟨S256, .f32⟩
  | 36 => ⟨S1x1x256, .f32⟩
  | 37 => ⟨S2x8192x256, .f32⟩
  | 38 => ⟨S2x8192x256, .f32⟩
  | 39 => ⟨S2x8192x256, .f32⟩
  | 40 => ⟨S2x8192x256, .f32⟩
  | 41 => ⟨S1x256, .f32⟩
  | 42 => ⟨S256, .f32⟩
  | 43 => ⟨S1x1x256, .f32⟩
  | 44 => ⟨S2x8192x256, .f32⟩
  | 45 => ⟨S2x8192x256, .f32⟩
  | 46 => ⟨S2x8192x256, .f32⟩
  | 47 => ⟨S2x8192x256, .f32⟩
  | 48 => ⟨S1x256, .f32⟩
  | 49 => ⟨S256, .f32⟩
  | 50 => ⟨S1x1x256, .f32⟩
  | 51 => ⟨S2x8192x256, .f32⟩
  | 52 => ⟨S2x8192x256, .f32⟩
  | 53 => ⟨S2x8192x256, .f32⟩
  | 54 => ⟨S2x8192x256, .f32⟩
  | 55 => ⟨S1x256, .f32⟩
  | 56 => ⟨S256, .f32⟩
  | 57 => ⟨S1x1x256, .f32⟩
  | 58 => ⟨S2x8192x256, .f32⟩
  | 59 => ⟨S2x8192x256, .f32⟩
  | 60 => ⟨S2x8192x256, .f32⟩
  | 61 => ⟨S2x8192x256, .f32⟩
  | 62 => ⟨S1x256, .f32⟩
  | 63 => ⟨S256, .f32⟩
  | 64 => ⟨S1x1x256, .f32⟩
  | 65 => ⟨S2x8192x256, .f32⟩
  | 66 => ⟨S2x8192x256, .f32⟩
  | 67 => ⟨S2x8192x256, .f32⟩
  | 68 => ⟨S2x8192x256, .f32⟩
  | 69 => ⟨S1x256, .f32⟩
  | 70 => ⟨S256, .f32⟩
  | 71 => ⟨S1x1x256, .f32⟩
  | 72 => ⟨S2x8192x256, .f32⟩
  | 73 => ⟨S2x8192x256, .f32⟩
  | 74 => ⟨S2x8192x256, .f32⟩
  | 75 => ⟨S2x8192x256, .f32⟩
  | 76 => ⟨S1x256, .f32⟩
  | 77 => ⟨S256, .f32⟩
  | 78 => ⟨S1x1x256, .f32⟩
  | 79 => ⟨S2x8192x256, .f32⟩
  | 80 => ⟨S2x8192x256, .f32⟩
  | 81 => ⟨S2x8192x256, .f32⟩
  | 82 => ⟨S2x8192x256, .f32⟩
  | 83 => ⟨S1x256, .f32⟩
  | 84 => ⟨S256, .f32⟩
  | 85 => ⟨S1x1x256, .f32⟩
  | 86 => ⟨S2x8192x256, .f32⟩
  | 87 => ⟨S2x8192x256, .f32⟩
  | 88 => ⟨S2x8192x256, .f32⟩
  | 89 => ⟨S2x8192x256, .f32⟩
  | 90 => ⟨S1x256, .f32⟩
  | 91 => ⟨S256, .f32⟩
  | 92 => ⟨S1x1x256, .f32⟩
  | 93 => ⟨S2x8192x256, .f32⟩
  | 94 => ⟨S2x8192x256, .f32⟩
  | 95 => ⟨S2x8192x256, .f32⟩
  | 96 => ⟨S2x8192x256, .f32⟩
  | 97 => ⟨S1x256, .f32⟩
  | 98 => ⟨S256, .f32⟩
  | 99 => ⟨S1x1x256, .f32⟩
  | 100 => ⟨S2x8192x256, .f32⟩
  | 101 => ⟨S2x8192x256, .f32⟩
  | 102 => ⟨S2x8192x256, .f32⟩
  | 103 => ⟨S2x8192x256, .f32⟩
  | 104 => ⟨S1x256, .f32⟩
  | 105 => ⟨S256, .f32⟩
  | 106 => ⟨S1x1x256, .f32⟩
  | 107 => ⟨S2x8192x256, .f32⟩
  | 108 => ⟨S2x8192x256, .f32⟩
  | 109 => ⟨S2x8192x256, .f32⟩
  | 110 => ⟨S2x8192x256, .f32⟩
  | 111 => ⟨S1x256, .f32⟩
  | 112 => ⟨S256, .f32⟩
  | 113 => ⟨S1x1x256, .f32⟩
  | 114 => ⟨S2x8192x256, .f32⟩
  | 115 => ⟨S2x8192x256, .f32⟩
  | 116 => ⟨S2x8192x256, .f32⟩
  | 117 => ⟨S2x8192x256, .f32⟩
  | 118 => ⟨S1x256, .f32⟩
  | 119 => ⟨S256, .f32⟩
  | 120 => ⟨S1x1x256, .f32⟩
  | 121 => ⟨S2x8192x256, .f32⟩
  | 122 => ⟨S2x8192x256, .f32⟩
  | 123 => ⟨S2x8192x256, .f32⟩
  | 124 => ⟨S2x8192x256, .f32⟩
  | 125 => ⟨S1x256, .f32⟩
  | 126 => ⟨S256, .f32⟩
  | 127 => ⟨S1x1x256, .f32⟩
  | _ => ⟨S2x8192x512, .f32⟩

abbrev hbmTy0_2 (i : Nat) : BufTy := match i % 128 with
  | 0 => ⟨S2x8192x256, .f32⟩
  | 1 => ⟨S2x8192x256, .f32⟩
  | 2 => ⟨S2x8192x256, .f32⟩
  | 3 => ⟨S2x8192x256, .f32⟩
  | 4 => ⟨S1x256, .f32⟩
  | 5 => ⟨S256, .f32⟩
  | 6 => ⟨S1x1x256, .f32⟩
  | 7 => ⟨S2x8192x256, .f32⟩
  | 8 => ⟨S2x8192x256, .f32⟩
  | 9 => ⟨S2x8192x256, .f32⟩
  | 10 => ⟨S2x8192x256, .f32⟩
  | 11 => ⟨S1x256, .f32⟩
  | 12 => ⟨S256, .f32⟩
  | 13 => ⟨S1x1x256, .f32⟩
  | 14 => ⟨S2x8192x256, .f32⟩
  | 15 => ⟨S2x8192x256, .f32⟩
  | 16 => ⟨S2x8192x256, .f32⟩
  | 17 => ⟨S2x8192x256, .f32⟩
  | 18 => ⟨S1x256, .f32⟩
  | 19 => ⟨S256, .f32⟩
  | 20 => ⟨S1x1x256, .f32⟩
  | 21 => ⟨S2x8192x256, .f32⟩
  | 22 => ⟨S2x8192x256, .f32⟩
  | 23 => ⟨S2x8192x256, .f32⟩
  | 24 => ⟨S2x8192x256, .f32⟩
  | 25 => ⟨S1x256, .f32⟩
  | 26 => ⟨S256, .f32⟩
  | 27 => ⟨S1x1x256, .f32⟩
  | 28 => ⟨S2x8192x256, .f32⟩
  | 29 => ⟨S2x8192x256, .f32⟩
  | 30 => ⟨S2x8192x256, .f32⟩
  | 31 => ⟨S2x8192x256, .f32⟩
  | 32 => ⟨S1x256, .f32⟩
  | 33 => ⟨S256, .f32⟩
  | 34 => ⟨S1x1x256, .f32⟩
  | 35 => ⟨S2x8192x256, .f32⟩
  | 36 => ⟨S2x8192x256, .f32⟩
  | 37 => ⟨S2x8192x256, .f32⟩
  | 38 => ⟨S2x8192x256, .f32⟩
  | 39 => ⟨S1x256, .f32⟩
  | 40 => ⟨S256, .f32⟩
  | 41 => ⟨S1x1x256, .f32⟩
  | 42 => ⟨S2x8192x256, .f32⟩
  | 43 => ⟨S2x8192x256, .f32⟩
  | 44 => ⟨S2x8192x256, .f32⟩
  | 45 => ⟨S1x1x256, .f32⟩
  | 46 => ⟨S2x8192x256, .f32⟩
  | 47 => ⟨S2x8192x256, .f32⟩
  | 48 => ⟨S_, .f32⟩
  | 49 => ⟨S2x8192, .f32⟩
  | 50 => ⟨S2x8192x1, .f32⟩
  | 51 => ⟨S_, .f32⟩
  | 52 => ⟨S2x8192x1, .f32⟩
  | 53 => ⟨S2x8192x1, .f32⟩
  | 54 => ⟨S2x8192x256, .f32⟩
  | 55 => ⟨S2x8192x256, .f32⟩
  | 56 => ⟨S2x8192x256, .f32⟩
  | 57 => ⟨S_, .f32⟩
  | 58 => ⟨S2x8192, .f32⟩
  | 59 => ⟨S2x8192x1, .f32⟩
  | 60 => ⟨S_, .f32⟩
  | 61 => ⟨S2x8192x1, .f32⟩
  | 62 => ⟨S2x8192x1, .f32⟩
  | 63 => ⟨S2x8192x256, .f32⟩
  | 64 => ⟨S2x8192x256, .f32⟩
  | 65 => ⟨S_, .f32⟩
  | 66 => ⟨S2x8192x1, .f32⟩
  | 67 => ⟨S2x8192x1, .f32⟩
  | 68 => ⟨S2x8192x1, .f32⟩
  | 69 => ⟨S2x8192x256, .f32⟩
  | 70 => ⟨S2x8192x256, .f32⟩
  | 71 => ⟨S1x1x256, .f32⟩
  | 72 => ⟨S2x8192x256, .f32⟩
  | 73 => ⟨S2x8192x256, .f32⟩
  | 74 => ⟨S1x1x256, .f32⟩
  | 75 => ⟨S2x8192x256, .f32⟩
  | 76 => ⟨S2x8192x256, .f32⟩
  | 77 => ⟨S2x8192x256, .f32⟩
  | 78 => ⟨S2x8192x256, .f32⟩
  | 79 => ⟨S_, .f32⟩
  | 80 => ⟨S2x8192x256, .f32⟩
  | 81 => ⟨S2x8192x256, .f32⟩
  | 82 => ⟨S_, .f32⟩
  | 83 => ⟨S2x8192x256, .f32⟩
  | 84 => ⟨S2x8192x256, .f32⟩
  | 85 => ⟨S2x8192x256, .f32⟩
  | 86 => ⟨S2x8192x256, .bf16⟩
  | _ => ⟨S2x8192x512, .f32⟩

abbrev hbmTy (i : Nat) : BufTy := match i / 128 with
  | 0 => hbmTy0_0 i
  | 1 => hbmTy0_1 i
  | 2 => hbmTy0_2 i
  | _ => ⟨S2x8192x512, .f32⟩

abbrev bufTy : (tb : Table) → Fin (tcTables nBuf tb) → BufTy
  | .hbm, ⟨i, _⟩ => hbmTy i
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c : Ref sig .tc := ⟨.hbm, 79, rfl⟩
abbrev main_call0_v0 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_10 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_v279 : Ref sig .tc := ⟨.hbm, 303, rfl⟩
abbrev main_cst_11 : Ref sig .tc := ⟨.hbm, 304, rfl⟩
abbrev main_v280 : Ref sig .tc := ⟨.hbm, 305, rfl⟩
abbrev main_v281 : Ref sig .tc := ⟨.hbm, 306, rfl⟩
abbrev main_cst_12 : Ref sig .tc := ⟨.hbm, 307, rfl⟩
abbrev main_v282 : Ref sig .tc := ⟨.hbm, 308, rfl⟩
abbrev main_v283 : Ref sig .tc := ⟨.hbm, 309, rfl⟩
abbrev main_v284 : Ref sig .tc := ⟨.hbm, 310, rfl⟩
abbrev main_v285 : Ref sig .tc := ⟨.hbm, 311, rfl⟩
abbrev main_v286 : Ref sig .tc := ⟨.hbm, 312, rfl⟩
abbrev main_cst_13 : Ref sig .tc := ⟨.hbm, 313, rfl⟩
abbrev main_v287 : Ref sig .tc := ⟨.hbm, 314, rfl⟩
abbrev main_v288 : Ref sig .tc := ⟨.hbm, 315, rfl⟩
abbrev main_cst_14 : Ref sig .tc := ⟨.hbm, 316, rfl⟩
abbrev main_v289 : Ref sig .tc := ⟨.hbm, 317, rfl⟩
abbrev main_v290 : Ref sig .tc := ⟨.hbm, 318, rfl⟩
abbrev main_v291 : Ref sig .tc := ⟨.hbm, 319, rfl⟩
abbrev main_v292 : Ref sig .tc := ⟨.hbm, 320, rfl⟩
abbrev main_cst_15 : Ref sig .tc := ⟨.hbm, 321, rfl⟩
abbrev main_v293 : Ref sig .tc := ⟨.hbm, 322, rfl⟩
abbrev main_v294 : Ref sig .tc := ⟨.hbm, 323, rfl⟩
abbrev main_v295 : Ref sig .tc := ⟨.hbm, 324, rfl⟩
abbrev main_v296 : Ref sig .tc := ⟨.hbm, 325, rfl⟩
abbrev main_v297 : Ref sig .tc := ⟨.hbm, 326, rfl⟩
abbrev main_v298 : Ref sig .tc := ⟨.hbm, 327, rfl⟩
abbrev main_v299 : Ref sig .tc := ⟨.hbm, 328, rfl⟩
abbrev main_v300 : Ref sig .tc := ⟨.hbm, 329, rfl⟩
abbrev main_v301 : Ref sig .tc := ⟨.hbm, 330, rfl⟩
abbrev main_v302 : Ref sig .tc := ⟨.hbm, 331, rfl⟩
abbrev main_v303 : Ref sig .tc := ⟨.hbm, 332, rfl⟩
abbrev main_call1_v0 : Ref sig .tc := ⟨.hbm, 333, rfl⟩
abbrev main_call1_v1 : Ref sig .tc := ⟨.hbm, 334, rfl⟩
abbrev main_call1_cst : Ref sig .tc := ⟨.hbm, 335, rfl⟩
abbrev main_call1_v2 : Ref sig .tc := ⟨.hbm, 336, rfl⟩
abbrev main_call1_v3 : Ref sig .tc := ⟨.hbm, 337, rfl⟩
abbrev main_call1_cst_0 : Ref sig .tc := ⟨.hbm, 338, rfl⟩
abbrev main_call1_v4 : Ref sig .tc := ⟨.hbm, 339, rfl⟩
abbrev main_call1_v5 : Ref sig .tc := ⟨.hbm, 340, rfl⟩
abbrev main_v304 : Ref sig .tc := ⟨.hbm, 341, rfl⟩
abbrev main_v305 : Ref sig .tc := ⟨.hbm, 342, rfl⟩

abbrev nD : Nat := 1
abbrev τ : Topo := Topo.v7x

variable {F : FTy → Type} [FloatOps F]
-- ==== Proof.Ffn.lean ====
/-
  The experts' feed-forward call: what its body leaves at each grid point, and the array it ends with, as sums over the hidden units.
-/
module

public import proofs.«01_k».proof.Proof.Gen.Kernel3Ideal.Value
public import Idealize.ShloMosaic.Lib.Pointwise

@[expose] public section

set_option maxRecDepth 16384

noncomputable section

namespace Cert.Proof.Ffn

open Idealize.ShloMosaic Idealize.ShloMosaic.Tactic Idealize.SL.Sem Cert.Kernel3Ideal Cert.Kernel3Ideal.Gen Idealize.ShloMosaic.TcCoe

/-- The constant one half, as the kernel spells it. -/
def half : EReal := Ideal.ofBits .f32 0x3F000000#32

/-- The gated unit with the sigmoid written through the hyperbolic tangent. -/
def gated (a u : EReal) : EReal := a * (half * Ideal.tanh (half * a) + half) * u

/-- One block of 512 hidden units' part of the result at slot `t`, feature `d` of batch row `b`. -/
def part (x : Vec Ideal S2x1x1024x1024 .bf16) (wg wu : Vec Ideal S1x1x1024x512 .f32) (wd : Vec Ideal S1x1x512x1024 .f32)
    (b : Fin 2) (t d : Fin 1024) : EReal :=
  ∑ k : Fin 512, gated (∑ q : Fin 1024, x (ix4 b 0 t q) * wg (ix4 0 0 q k)) (∑ q : Fin 1024, x (ix4 b 0 t q) * wu (ix4 0 0 q k))
    * wd (ix4 0 0 k d)

/-- The first block's parts as an accumulator's contents. -/
def parts (x : Vec Ideal S2x1x1024x1024 .bf16) (wg wu : Vec Ideal S1x1x1024x512 .f32) (wd : Vec Ideal S1x1x512x1024 .f32) :
    Vec Ideal S2x1024x1024 .f32 := fun y => part x wg wu wd (y 0) (y 1) (y 2)

/-- The result block: the accumulator plus the second block's part, times the slot's gate. -/
def gatedSum (x : Vec Ideal S2x1x1024x1024 .bf16) (g : Vec Ideal S2x1x1024x1 .f32) (wg wu : Vec Ideal S1x1x1024x512 .f32)
    (wd : Vec Ideal S1x1x512x1024 .f32) (s : Vec Ideal S2x1024x1024 .f32) : Vec Ideal S2x1x1024x1024 .bf16 :=
  fun y => (s (ix3 (y 0) (y 2) (y 3)) + part x wg wu wd (y 0) (y 2) (y 3)) * g (ix4 (y 0) 0 (y 2) 0)

/-- Where a batch row's rectangle of the accumulator puts its points. -/
theorem emb3 (r : Fin 2) (h) (x : S1x1024x1024.Idx) :
    (Rect.unit (s := S2x1024x1024) ![(r : ℕ), 0, 0] ![1, 1024, 1024] h).emb x = ix3 r (x 1) (x 2) := by
  have hx : (x 0).val < 1 := (x 0).isLt
  funext a
  apply Fin.ext
  match a with
  | 0 => show (r : ℕ) + 1 * (x 0).val = r.val; omega
  | 1 => show 0 + 1 * (x 1).val = (x 1).val; omega
  | 2 => show 0 + 1 * (x 2).val = (x 2).val; omega

/-- Where a batch row's rectangle of the result block puts its points. -/
theorem emb4 (r : Fin 2) (h) (x : S1x1x1024x1024.Idx) :
    (Rect.unit (s := S2x1x1024x1024) ![(r : ℕ), 0, 0, 0] ![1, 1, 1024, 1024] h).emb x = ix4 r 0 (x 2) (x 3) := by
  have hx : (x 0).val < 1 := (x 0).isLt
  have hx1 : (x 1).val < 1 := (x 1).isLt
  funext a
  apply Fin.ext
  match a with
  | 0 => show (r : ℕ) + 1 * (x 0).val = r.val; omega
  | 1 => show 0 + 1 * (x 1).val = 0; omega
  | 2 => show 0 + 1 * (x 2).val = (x 2).val; omega
  | 3 => show 0 + 1 * (x 3).val = (x 3).val; omega

section body

variable (c : Dev nD) (i : grid0.Coords) (arg2 : Memref sig .tc .vmem S2x1x1024x1024 .bf16) (harg2 : arg2.IsWhole) (arg3 : Memref sig .tc .vmem S2x1x1024x1 .f32) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S2x1x1024x1024 .bf16) (harg7 : arg7.IsWhole) (arg8 : Memref sig .tc .vmem S2x1024x1024 .f32) (harg8 : arg8.IsWhole)
    (x0 : Vec Ideal S2x1x1024x1024 .bf16) (x1 : Vec Ideal S2x1x1024x1 .f32) (x2 x3 : Vec Ideal S1x1x1024x512 .f32) (x4 : Vec Ideal S1x1x512x1024 .f32)

set_option maxHeartbeats 2000000 in
/-- What the first of a pair of grid points leaves in the accumulator: the first block's part. -/
theorem acc_A (hc0 : cond0_0 i) (hc1 : ¬cond0_1 i) :
    sout0_A_0 c i arg2 harg2 arg3 harg3 arg4 harg4 arg5 harg5 arg6 harg6 arg7 harg7 arg8 harg8 hc0 hc1 x0 x1 x2 x3 x4
      = parts x0 x2 x3 x4 := by
  funext y
  unfold sout0_A_0
  refine View.read_writes_apply_of_pieces _ _ (parts x0 x2 x3 x4) _ ?_ y ?_
  · unfold kernelRun0_A
    dsimp only
    sl_unfold_words
    intro p hp
    simp only [List.mem_cons, List.not_mem_nil, or_false] at hp
    rcases hp with rfl | rfl
    · intro (x : S1x1024x1024.Idx)
      refine Eq.trans ?_ (congrArg (parts x0 x2 x3 x4) (emb3 1 inb_S2x1024x1024_S1x1024x1024_1_0_0 x)).symm
      simp only [View.readAt_eq_ld, harg2.read_unread, harg4.read_unread, harg5.read_unread, harg6.read_unread]
      pointwise [k0_pay1, k0_pay4, k0_pay5, k0_pay6, k0_pay8, parts, part, gated, half, S1x1024x1024]
    · intro (x : S1x1024x1024.Idx)
      refine Eq.trans ?_ (congrArg (parts x0 x2 x3 x4) (emb3 0 inb_S2x1024x1024_S1x1024x1024_0_0_0 x)).symm
      simp only [View.readAt_eq_ld, harg2.read_unread, harg4.read_unread, harg5.read_unread, harg6.read_unread]
      pointwise [k0_pay7, k0_pay4, k0_pay5, k0_pay6, parts, part, gated, half, S1x1024x1024]
  · unfold kernelRun0_A
    dsimp only
    sl_unfold_words
    exact View.cover_of_tiled _ ![1, 1024, 1024] (by rfl) y

set_option maxHeartbeats 2000000 in
/-- What the second of a pair of grid points leaves in the result block. -/
theorem out_B (hc0 : ¬cond0_0 i) (hc1 : cond0_1 i) (s : Vec Ideal S2x1024x1024 .f32) :
    out0_B_5 c i arg2 harg2 arg3 harg3 arg4 harg4 arg5 harg5 arg6 harg6 arg7 harg7 arg8 harg8 hc0 hc1 x0 x1 x2 x3 x4 s
      = gatedSum x0 x1 x2 x3 x4 s := by
  funext y
  unfold out0_B_5
  refine View.read_writes_apply_of_pieces _ _ (gatedSum x0 x1 x2 x3 x4 s) _ ?_ y ?_
  · unfold kernelRun0_B
    dsimp only
    sl_unfold_words
    intro p hp
    simp only [List.mem_cons, List.not_mem_nil, or_false] at hp
    rcases hp with rfl | rfl
    · intro (x : S1x1x1024x1024.Idx)
      refine Eq.trans ?_ (congrArg (gatedSum x0 x1 x2 x3 x4 s) (emb4 1 inb_S2x1x1024x1024_S1x1x1024x1024_1_0_0_0 x)).symm
      simp only [View.readAt_eq_ld, harg2.read_unread, harg3.read_unread, harg4.read_unread, harg5.read_unread, harg6.read_unread, harg8.read_unread]
      pointwise [k0_pay3, k0_pay9, k0_pay10, k0_pay11, gatedSum, part, gated, half, S1x1x1024x1024]
    · intro (x : S1x1x1024x1024.Idx)
      refine Eq.trans ?_ (congrArg (gatedSum x0 x1 x2 x3 x4 s) (emb4 0 inb_S2x1x1024x1024_S1x1x1024x1024_0_0_0_0 x)).symm
      simp only [View.readAt_eq_ld, harg2.read_unread, harg3.read_unread, harg4.read_unread, harg5.read_unread, harg6.read_unread, harg8.read_unread]
      pointwise [k0_pay2, k0_pay12, k0_pay9, k0_pay10, k0_pay11, gatedSum, part, gated, half, S1x1x1024x1024]
  · unfold kernelRun0_B
    dsimp only
    sl_unfold_words
    exact View.cover_of_tiled _ ![1, 1, 1024, 1024] (by rfl) y

end body

variable (m : (ℓ : Loc nD τ sig) → Buf (Elt Ideal) ℓ)

/-- The expert of a grid point. -/
def slot (t : Fin cfg0.N) : Fin 16 := ⟨t.val / 2, by have := lt_of_lt_of_eq t.isLt (show cfg0.N = 32 from N_0); omega⟩

/-- The hidden unit of a grid point's block at place `k`. -/
def unit (t : Fin cfg0.N) (k : Fin 512) : Fin 1024 := ⟨512 * (t.val % 2) + k.val, by have := k.isLt; omega⟩

/-- What a grid point reads of the tokens: its expert's. -/
theorem blk0 (c : Dev nD) (t : Fin cfg0.N) (y : S2x1x1024x1024.Idx) :
    iblk m c 0 t y = m ((c : Thread nD τ).loc main_arg0) (ix4 (y 0) (slot t) (y 2) (y 3)) := by
  have hN : t.val < 32 := lt_of_lt_of_eq t.isLt (show cfg0.N = 32 from N_0)
  have hi := (by decide +kernel : ∀ t : Fin grid0.N, win0_0.index t 0 = 0 ∧ win0_0.index t 1 = t.val / 2 ∧ win0_0.index t 2 = 0 ∧ win0_0.index t 3 = 0) t
  have hy0 : (y 0).val < 2 := (y 0).isLt
  have hy1 : (y 1).val < 1 := (y 1).isLt
  have hy2 : (y 2).val < 1024 := (y 2).isLt
  have hy3 : (y 3).val < 1024 := (y 3).isLt
  unfold iblk
  rw [View.read_apply]
  show V m c main_arg0 _ = m (c.tc.loc main_arg0) _
  unfold V
  congr 1
  funext a
  apply Fin.ext
  match a with
  | ⟨0, _⟩ => show win0_0.index t 0 * 2 + 1 * (y 0).val = (y 0).val; rw [hi.1]; omega
  | ⟨1, _⟩ => show win0_0.index t 1 * 1 + 1 * (y 1).val = t.val / 2; rw [hi.2.1]; omega
  | ⟨2, _⟩ => show win0_0.index t 2 * 1024 + 1 * (y 2).val = (y 2).val; rw [hi.2.2.1]; omega
  | ⟨3, _⟩ => show win0_0.index t 3 * 1024 + 1 * (y 3).val = (y 3).val; rw [hi.2.2.2]; omega

/-- What a grid point reads of the gates: its expert's. -/
theorem blk1 (c : Dev nD) (t : Fin cfg0.N) (y : S2x1x1024x1.Idx) :
    iblk m c 1 t y = m ((c : Thread nD τ).loc main_arg1) (ix4 (y 0) (slot t) (y 2) (y 3)) := by
  have hN : t.val < 32 := lt_of_lt_of_eq t.isLt (show cfg0.N = 32 from N_0)
  have hi := (by decide +kernel : ∀ t : Fin grid0.N, win0_1.index t 0 = 0 ∧ win0_1.index t 1 = t.val / 2 ∧ win0_1.index t 2 = 0 ∧ win0_1.index t 3 = 0) t
  have hy0 : (y 0).val < 2 := (y 0).isLt
  have hy1 : (y 1).val < 1 := (y 1).isLt
  have hy2 : (y 2).val < 1024 := (y 2).isLt
  have hy3 : (y 3).val < 1 := (y 3).isLt
  unfold iblk
  rw [View.read_apply]
  show V m c main_arg1 _ = m (c.tc.loc main_arg1) _
  unfold V
  congr 1
  funext a
  apply Fin.ext
  match a with
  | ⟨0, _⟩ => show win0_1.index t 0 * 2 + 1 * (y 0).val = (y 0).val; rw [hi.1]; omega
  | ⟨1, _⟩ => show win0_1.index t 1 * 1 + 1 * (y 1).val = t.val / 2; rw [hi.2.1]; omega
  | ⟨2, _⟩ => show win0_1.index t 2 * 1024 + 1 * (y 2).val = (y 2).val; rw [hi.2.2.1]; omega
  | ⟨3, _⟩ => show win0_1.index t 3 * 1 + 1 * (y 3).val = (y 3).val; rw [hi.2.2.2]; omega

/-- What a grid point reads of the gate weights: its expert's, its block of hidden units. -/
theorem blk2 (c : Dev nD) (t : Fin cfg0.N) (y : S1x1x1024x512.Idx) :
    iblk m c 2 t y = m ((c : Thread nD τ).loc main_arg2) (ix4 1 (slot t) (y 2) (unit t (y 3))) := by
  have hN : t.val < 32 := lt_of_lt_of_eq t.isLt (show cfg0.N = 32 from N_0)
  have hi := (by decide +kernel : ∀ t : Fin grid0.N, win0_2.index t 0 = 1 ∧ win0_2.index t 1 = t.val / 2 ∧ win0_2.index t 2 = 0 ∧ win0_2.index t 3 = t.val % 2) t
  have hy0 : (y 0).val < 1 := (y 0).isLt
  have hy1 : (y 1).val < 1 := (y 1).isLt
  have hy2 : (y 2).val < 1024 := (y 2).isLt
  have hy3 : (y 3).val < 512 := (y 3).isLt
  unfold iblk
  rw [View.read_apply]
  show V m c main_arg2 _ = m (c.tc.loc main_arg2) _
  unfold V
  congr 1
  funext a
  apply Fin.ext
  match a with
  | ⟨0, _⟩ => show win0_2.index t 0 * 1 + 1 * (y 0).val = 1; rw [hi.1]; omega
  | ⟨1, _⟩ => show win0_2.index t 1 * 1 + 1 * (y 1).val = t.val / 2; rw [hi.2.1]; omega
  | ⟨2, _⟩ => show win0_2.index t 2 * 1024 + 1 * (y 2).val = (y 2).val; rw [hi.2.2.1]; omega
  | ⟨3, _⟩ => show win0_2.index t 3 * 512 + 1 * (y 3).val = 512 * (t.val % 2) + (y 3).val; rw [hi.2.2.2]; omega

/-- What a grid point reads of the up weights: its expert's, its block of hidden units. -/
theorem blk3 (c : Dev nD) (t : Fin cfg0.N) (y : S1x1x1024x512.Idx) :
    iblk m c 3 t y = m ((c : Thread nD τ).loc main_arg3) (ix4 1 (slot t) (y 2) (unit t (y 3))) := by
  have hN : t.val < 32 := lt_of_lt_of_eq t.isLt (show cfg0.N = 32 from N_0)
  have hi := (by decide +kernel : ∀ t : Fin grid0.N, win0_3.index t 0 = 1 ∧ win0_3.index t 1 = t.val / 2 ∧ win0_3.index t 2 = 0 ∧ win0_3.index t 3 = t.val % 2) t
  have hy0 : (y 0).val < 1 := (y 0).isLt
  have hy1 : (y 1).val < 1 := (y 1).isLt
  have hy2 : (y 2).val < 1024 := (y 2).isLt
  have hy3 : (y 3).val < 512 := (y 3).isLt
  unfold iblk
  rw [View.read_apply]
  show V m c main_arg3 _ = m (c.tc.loc main_arg3) _
  unfold V
  congr 1
  funext a
  apply Fin.ext
  match a with
  | ⟨0, _⟩ => show win0_3.index t 0 * 1 + 1 * (y 0).val = 1; rw [hi.1]; omega
  | ⟨1, _⟩ => show win0_3.index t 1 * 1 + 1 * (y 1).val = t.val / 2; rw [hi.2.1]; omega
  | ⟨2, _⟩ => show win0_3.index t 2 * 1024 + 1 * (y 2).val = (y 2).val; rw [hi.2.2.1]; omega
  | ⟨3, _⟩ => show win0_3.index t 3 * 512 + 1 * (y 3).val = 512 * (t.val % 2) + (y 3).val; rw [hi.2.2.2]; omega

/-- What a grid point reads of the down weights: its expert's, its block of hidden units. -/
theorem blk4 (c : Dev nD) (t : Fin cfg0.N) (y : S1x1x512x1024.Idx) :
    iblk m c 4 t y = m ((c : Thread nD τ).loc main_arg4) (ix4 1 (slot t) (unit t (y 2)) (y 3)) := by
  have hN : t.val < 32 := lt_of_lt_of_eq t.isLt (show cfg0.N = 32 from N_0)
  have hi := (by decide +kernel : ∀ t : Fin grid0.N, win0_4.index t 0 = 1 ∧ win0_4.index t 1 = t.val / 2 ∧ win0_4.index t 2 = t.val % 2 ∧ win0_4.index t 3 = 0) t
  have hy0 : (y 0).val < 1 := (y 0).isLt
  have hy1 : (y 1).val < 1 := (y 1).isLt
  have hy2 : (y 2).val < 512 := (y 2).isLt
  have hy3 : (y 3).val < 1024 := (y 3).isLt
  unfold iblk
  rw [View.read_apply]
  show V m c main_arg4 _ = m (c.tc.loc main_arg4) _
  unfold V
  congr 1
  funext a
  apply Fin.ext
  match a with
  | ⟨0, _⟩ => show win0_4.index t 0 * 1 + 1 * (y 0).val = 1; rw [hi.1]; omega
  | ⟨1, _⟩ => show win0_4.index t 1 * 1 + 1 * (y 1).val = t.val / 2; rw [hi.2.1]; omega
  | ⟨2, _⟩ => show win0_4.index t 2 * 512 + 1 * (y 2).val = 512 * (t.val % 2) + (y 2).val; rw [hi.2.2.1]; omega
  | ⟨3, _⟩ => show win0_4.index t 3 * 1024 + 1 * (y 3).val = (y 3).val; rw [hi.2.2.2]; omega

/-- One hidden unit's part of the result, from the whole arrays: batch row `b`, expert `e`, slot `t`, feature `d`, hidden unit `k`. -/
def term (x : Vec Ideal S2x16x1024x1024 .bf16) (wg wu wd : Vec Ideal S2x16x1024x1024 .f32)
    (b : Fin 2) (e : Fin 16) (t d k : Fin 1024) : EReal :=
  gated (∑ q : Fin 1024, x (ix4 b e t q) * wg (ix4 1 e q k)) (∑ q : Fin 1024, x (ix4 b e t q) * wu (ix4 1 e q k)) * wd (ix4 1 e k d)

/-- A grid point's part is its block's sum of the hidden units' parts. -/
theorem part_eq (c : Dev nD) (t : Fin cfg0.N) (b : Fin 2) (r d : Fin 1024) :
    part (iblk m c 0 t) (iblk m c 2 t) (iblk m c 3 t) (iblk m c 4 t) b r d
      = ∑ k : Fin 512, term (m ((c : Thread nD τ).loc main_arg0)) (m ((c : Thread nD τ).loc main_arg2)) (m ((c : Thread nD τ).loc main_arg3))
          (m ((c : Thread nD τ).loc main_arg4)) b (slot t) r d (unit t k) := by
  unfold part term
  simp only [blk0, blk2, blk3, blk4]
  rfl

/-- A sum over the hidden units is the first block's plus the second block's. -/
theorem sum_halves (f : Fin 1024 → EReal) :
    ∑ k : Fin 1024, f k = (∑ k : Fin 512, f ⟨k.val, by omega⟩) + ∑ k : Fin 512, f ⟨512 + k.val, by omega⟩ :=
  (Fin.sum_univ_add (a := 512) (b := 512) f)

/-- The array the call ends with, at batch row `i 0`, expert `i 1`, slot `i 2`, feature `i 3`: all hidden units' parts, times the slot's gate. -/
theorem final (c : Dev nD) (i : S2x16x1024x1024.Idx) :
    Value.G5 m c i = (∑ k : Fin 1024, term (m ((c : Thread nD τ).loc main_arg0)) (m ((c : Thread nD τ).loc main_arg2)) (m ((c : Thread nD τ).loc main_arg3))
          (m ((c : Thread nD τ).loc main_arg4)) (i 0) (i 1) (i 2) (i 3) k) * m ((c : Thread nD τ).loc main_arg1) (ix4 (i 0) (i 1) (i 2) 0) := by
  have h0 : (i 0).val < 2 := (i 0).isLt
  have h1 : (i 1).val < 16 := (i 1).isLt
  have h2 : (i 2).val < 1024 := (i 2).isLt
  have h3 : (i 3).val < 1024 := (i 3).isLt
  have hp : Value.pt5Of i = 2 * (i 1).val + 1 := by
    show 2 * (16 * ((i 0).val / 2 - 0) + 1 * ((i 1).val / 1 - 0) + 1 * ((i 2).val / 1024 - 0) + 1 * ((i 3).val / 1024 - 0)) + 1 = _
    omega
  have hN : cfg0.N = 32 := N_0
  have hlt : Value.pt5Of i < cfg0.N := by rw [hp, hN]; omega
  have hl : Value.loc5Of i = ix4 (i 0) 0 (i 2) (i 3) := by
    funext a; apply Fin.ext
    match a with
    | ⟨0, _⟩ => show (i 0).val % 2 = (i 0).val; omega
    | ⟨1, _⟩ => show (i 1).val % 1 = 0; omega
    | ⟨2, _⟩ => show (i 2).val % 1024 = (i 2).val; omega
    | ⟨3, _⟩ => show (i 3).val % 1024 = (i 3).val; omega
  unfold Value.G5
  rw [dif_pos hlt, ← Value.outsAt0_sweep m c _ hlt, hl]
  obtain ⟨t, ht⟩ : ∃ t : Fin cfg0.N, t.val = Value.pt5Of i := ⟨⟨_, hlt⟩, rfl⟩
  obtain ⟨t', ht'⟩ : ∃ t' : Fin cfg0.N, t'.val = t.val - 1 := ⟨⟨t.val - 1, by have := t.isLt; omega⟩, rfl⟩
  have e : Value.pt5Of i = t.val := ht.symm
  simp only [e]
  rw [outsAt0_B m c t (by rw [ht, hp]; omega) (by rw [ht, hp]; omega)]
  have ha := outsAt0_A m c t' (by rw [ht', ht, hp]; omega) (by rw [ht', ht, hp]; omega)
  simp only [← ht']
  rw [ha]
  dsimp only
  rw [out_B, acc_A]
  have hs : slot t = i 1 := Fin.ext (by show t.val / 2 = _; rw [ht, hp]; omega)
  have hs' : slot t' = i 1 := Fin.ext (by show t'.val / 2 = _; rw [ht', ht, hp]; omega)
  have hu : ∀ k : Fin 512, unit t k = ⟨512 + k.val, by omega⟩ := fun k => Fin.ext (by show 512 * (t.val % 2) + k.val = 512 + k.val; rw [ht, hp]; omega)
  have hu' : ∀ k : Fin 512, unit t' k = ⟨k.val, by omega⟩ := fun k => Fin.ext (by show 512 * (t'.val % 2) + k.val = k.val; rw [ht', ht, hp]; omega)
  refine (congrArg₂ (· * ·) (congrArg₂ (· + ·) (part_eq m c t' _ _ _) (part_eq m c t _ _ _)) (blk1 m c t _)).trans ?_
  rw [hs, hs', sum_halves]
  simp only [hu, hu']
  rfl

/-- The constant is the real one half. -/
theorem half_eq : half = ((1 / 2 : ℝ) : EReal) := by
  unfold half
  simp [Ideal.ofBits, Ideal.ieee, -EReal.coe_mul]; norm_num

/-- The sigmoid at a real, through the hyperbolic tangent and through the exponential. -/
theorem sigmoid_real (r : ℝ) : 1 / 2 * Real.tanh (1 / 2 * r) + 1 / 2 = (1 + Real.exp (-r))⁻¹ := by
  rw [Real.tanh_eq_sinh_div_cosh, Real.sinh_eq, Real.cosh_eq]
  have e1 : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  have p1 : 0 < Real.exp (1 / 2 * r) := Real.exp_pos _
  have p2 : 0 < Real.exp (-(1 / 2 * r)) := Real.exp_pos _
  rw [e1]
  generalize Real.exp (1 / 2 * r) = u at *
  generalize Real.exp (-(1 / 2 * r)) = v at *
  have h1 : u + v ≠ 0 := by positivity
  have h2 : 1 + v * v ≠ 0 := by positivity
  field_simp
  linear_combination (2 * v) * e2

/-- The sigmoid is the same written through the hyperbolic tangent and through the exponential, at the infinities too. -/
theorem sigmoid_eq (a : EReal) : half * Ideal.tanh (half * a) + half = Ideal.div 1 (1 + Ideal.exp (-a)) := by
  rw [half_eq]
  induction a using EReal.rec with
  | bot =>
    have e : ((1 / 2 : ℝ) : EReal) * ⊥ = ⊥ := EReal.coe_mul_bot_of_pos (by norm_num)
    rw [e, Ideal.tanh_bot, EReal.neg_bot]
    show _ = Ideal.div 1 (1 + ⊤)
    rw [EReal.add_top_of_ne_bot (by decide)]
    unfold Ideal.div
    rw [if_neg (by decide), EReal.inv_top, mul_zero]
    show ((1 / 2 : ℝ) : EReal) * ((-1 : ℝ) : EReal) + ((1 / 2 : ℝ) : EReal) = ((0 : ℝ) : EReal)
    norm_cast; norm_num
  | top =>
    have e : ((1 / 2 : ℝ) : EReal) * ⊤ = ⊤ := EReal.coe_mul_top_of_pos (by norm_num)
    rw [e, Ideal.tanh_top, EReal.neg_top]
    show _ = Ideal.div 1 (1 + 0)
    unfold Ideal.div
    rw [add_zero, if_neg one_ne_zero]
    show ((1 / 2 : ℝ) : EReal) * ((1 : ℝ) : EReal) + ((1 / 2 : ℝ) : EReal) = ((1 : ℝ) : EReal) * ((1 : ℝ) : EReal)⁻¹
    rw [← EReal.coe_inv]
    norm_cast; norm_num
  | coe r =>
    have hp : (0 : ℝ) < 1 + Real.exp (-r) := by have := Real.exp_pos (-r); linarith
    have e : (1 : EReal) + Ideal.exp (-(r : EReal)) = ((1 + Real.exp (-r) : ℝ) : EReal) := rfl
    have e2 : ((1 / 2 : ℝ) : EReal) * Ideal.tanh (((1 / 2 : ℝ) : EReal) * r) + ((1 / 2 : ℝ) : EReal) = ((1 / 2 * Real.tanh (1 / 2 * r) + 1 / 2 : ℝ) : EReal) := by
      rw [← EReal.coe_mul, Ideal.tanh_coe]; rfl
    rw [e, e2, sigmoid_real]
    unfold Ideal.div
    rw [if_neg (by exact_mod_cast hp.ne'), one_mul, ← EReal.coe_inv]

end Cert.Proof.Ffn
-- ==== Proof.FfnPlain.lean ====
/-
  The experts' feed-forward call: the plain layer's array, read at an index, as the same sum over the hidden units as the kernel's.
-/
module

public import proofs.«01_k».proof.Proof.Gen.Reference3Ideal.Run
public import proofs.«01_k».proof.Proof.Ffn
public import Idealize.ShloMosaic.Lib.IdealHost

@[expose] public section

set_option maxRecDepth 16384

noncomputable section

namespace Cert.Proof.FfnPlain

open Idealize.ShloMosaic Idealize.ShloMosaic.Tactic Cert.Reference3Ideal Cert.Reference3Ideal.Gen Idealize.ShloMosaic.TcCoe
open Cert.Proof.Ffn (term gated sigmoid_eq)

/-- The plain layer's array at an index: the hidden units' parts, times the slot's gate. -/
theorem plain (x : FVec Ideal S2x16x1024x1024 .bf16) (g : FVec Ideal S2x16x1024x1 .f32) (wg wu wd : FVec Ideal S2x16x1024x1024 .f32) (i : S2x16x1024x1024.Idx) :
    (truncf (F := Ideal) .bf16 (mulf (transpose S2x16x1024x1024 [2, 0, 3, 1] (Host.dotGeneral dot_S16x1024x1024_S2x16x1024x1024_S16x1024x2x1024_1_3_2_02_0_1 none (shapeCast S16x1024x1024 (extractStridedSlice S1x16x1024x1024 ![1, 0, 0, 0] wd slices_S2x16x1024x1024_S1x16x1024x1024_1_0_0_0) shapeCasts_S1x16x1024x1024_S16x1024x1024) (mulf (mulf (transpose S2x16x1024x1024 [2, 0, 3, 1] (Host.dotGeneral dot_S16x1024x1024_S2x16x1024x1024_S16x1024x2x1024_1_3_2_02_0_1 none (shapeCast S16x1024x1024 (extractStridedSlice S1x16x1024x1024 ![1, 0, 0, 0] wg slices_S2x16x1024x1024_S1x16x1024x1024_1_0_0_0) shapeCasts_S1x16x1024x1024_S16x1024x1024) (extf .f32 x bitsLt_bf16_f32)) transposes_S16x1024x2x1024_S2x16x1024x1024_2_0_3_1) (Host.divf (broadcastInDim S2x16x1024x1024 ![] bcast_S_S2x16x1024x1024 (constant S_ .f32 0x3F800000#32)) (addf (broadcastInDim S2x16x1024x1024 ![] bcast_S_S2x16x1024x1024 (constant S_ .f32 0x3F800000#32)) (Host.exp (Host.negf (transpose S2x16x1024x1024 [2, 0, 3, 1] (Host.dotGeneral dot_S16x1024x1024_S2x16x1024x1024_S16x1024x2x1024_1_3_2_02_0_1 none (shapeCast S16x1024x1024 (extractStridedSlice S1x16x1024x1024 ![1, 0, 0, 0] wg slices_S2x16x1024x1024_S1x16x1024x1024_1_0_0_0) shapeCasts_S1x16x1024x1024_S16x1024x1024) (extf .f32 x bitsLt_bf16_f32)) transposes_S16x1024x2x1024_S2x16x1024x1024_2_0_3_1)))))) (transpose S2x16x1024x1024 [2, 0, 3, 1] (Host.dotGeneral dot_S16x1024x1024_S2x16x1024x1024_S16x1024x2x1024_1_3_2_02_0_1 none (shapeCast S16x1024x1024 (extractStridedSlice S1x16x1024x1024 ![1, 0, 0, 0] wu slices_S2x16x1024x1024_S1x16x1024x1024_1_0_0_0) shapeCasts_S1x16x1024x1024_S16x1024x1024) (extf .f32 x bitsLt_bf16_f32)) transposes_S16x1024x2x1024_S2x16x1024x1024_2_0_3_1))) transposes_S16x1024x2x1024_S2x16x1024x1024_2_0_3_1) (broadcastInDim S2x16x1024x1024 ![0, 1, 2, 3] bcast_S2x16x1024x1_S2x16x1024x1024_0_1_2_3 g)) bitsLt_bf16_f32) i
      = (∑ k : Fin 1024, term x wg wu wd (i 0) (i 1) (i 2) (i 3) k) * g (ix4 (i 0) (i 1) (i 2) 0) := by
  pointwise [term, gated]
  simp only [sigmoid_eq, mul_comm (wd _), mul_comm (wg _), mul_comm (wu _)]

end Cert.Proof.FfnPlain
-- ==== Proof.Inproj.lean ====
/-
  The input projection: what its body leaves at each grid point, and the five arrays it ends with, as rows of the normalised input times columns of the weights.
-/
module

public import proofs.«01_k».proof.Proof.Gen.Kernel4Ideal.Value
public import Idealize.ShloMosaic.Lib.Pointwise
public import Idealize.ShloMosaic.Lib.IdealHost

@[expose] public section

set_option maxRecDepth 16384

noncomputable section

namespace Cert.Proof.Inproj

open Idealize.ShloMosaic Idealize.ShloMosaic.Tactic Idealize.SL.Sem Cert.Kernel4Ideal Cert.Kernel4Ideal.Gen Idealize.ShloMosaic.TcCoe

/-- One feature of a normalised, scaled and shifted row. -/
def hid (v : Fin 1024 → EReal) (g sc sh : EReal) (q : Fin 1024) : EReal :=
  v q * Ideal.rsqrt (Ideal.div (∑ p : Fin 1024, v p * v p) (Ideal.ofBits .f32 0x44800000#32) + Ideal.ofBits .f32 0x358637BD#32) * g * (1 + sc) + sh

/-- Row `r` of a block of the input, normalised, times column `n` of the weights. -/
def col (x0 : Vec Ideal S1x512x1024 .f32) (x1 : Vec Ideal S1x1024 .f32) (x2 x3 : Vec Ideal S1x1x1024 .f32) (x4 : Vec Ideal S1x1024x6144 .bf16)
    (r : Fin 512) (n : Fin 6144) : EReal :=
  ∑ q : Fin 1024, hid (fun p => x0 (ix3 0 r p)) (x1 (ix2 0 q)) (x2 (ix3 0 0 q)) (x3 (ix3 0 0 q)) q * x4 (ix3 0 q n)

/-- The columns 0 to 511 of a block of rows. -/
def cols5 (x0 : Vec Ideal S1x512x1024 .f32) (x1 : Vec Ideal S1x1024 .f32) (x2 x3 : Vec Ideal S1x1x1024 .f32) (x4 : Vec Ideal S1x1024x6144 .bf16) :
    Vec Ideal S1x512x512 .f32 := fun y => col x0 x1 x2 x3 x4 (y 1) ⟨0 + (y 2).val, by have h : (y 2).val < 512 := (y 2).isLt; omega⟩

/-- The columns 512 to 767 of a block of rows. -/
def cols6 (x0 : Vec Ideal S1x512x1024 .f32) (x1 : Vec Ideal S1x1024 .f32) (x2 x3 : Vec Ideal S1x1x1024 .f32) (x4 : Vec Ideal S1x1024x6144 .bf16) :
    Vec Ideal S1x512x256 .f32 := fun y => col x0 x1 x2 x3 x4 (y 1) ⟨512 + (y 2).val, by have h : (y 2).val < 256 := (y 2).isLt; omega⟩

/-- The columns 768 to 1279 of a block of rows. -/
def cols7 (x0 : Vec Ideal S1x512x1024 .f32) (x1 : Vec Ideal S1x1024 .f32) (x2 x3 : Vec Ideal S1x1x1024 .f32) (x4 : Vec Ideal S1x1024x6144 .bf16) :
    Vec Ideal S1x512x512 .f32 := fun y => col x0 x1 x2 x3 x4 (y 1) ⟨768 + (y 2).val, by have h : (y 2).val < 512 := (y 2).isLt; omega⟩

/-- The columns 1280 to 2047 of a block of rows. -/
def cols8 (x0 : Vec Ideal S1x512x1024 .f32) (x1 : Vec Ideal S1x1024 .f32) (x2 x3 : Vec Ideal S1x1x1024 .f32) (x4 : Vec Ideal S1x1024x6144 .bf16) :
    Vec Ideal S1x512x768 .bf16 := fun y => col x0 x1 x2 x3 x4 (y 1) ⟨1280 + (y 2).val, by have h : (y 2).val < 768 := (y 2).isLt; omega⟩

/-- The columns 2048 to 6143 of a block of rows. -/
def cols9 (x0 : Vec Ideal S1x512x1024 .f32) (x1 : Vec Ideal S1x1024 .f32) (x2 x3 : Vec Ideal S1x1x1024 .f32) (x4 : Vec Ideal S1x1024x6144 .bf16) :
    Vec Ideal S1x512x4096 .bf16 := fun y => col x0 x1 x2 x3 x4 (y 1) ⟨2048 + (y 2).val, by have h : (y 2).val < 4096 := (y 2).isLt; omega⟩

/-- Where a rectangle of 512 of 512 columns puts its points. -/
theorem emb_512_512 (o : ℕ) (ho : o + 512 ≤ 512) (h) (x : S1x512x512.Idx) :
    (Rect.unit (s := S1x512x512) ![0, 0, o] ![1, 512, 512] h).emb x = ix3 0 (x 1) ⟨o + (x 2).val, by have hx2 : (x 2).val < 512 := (x 2).isLt; omega⟩ := by
  have hx : (x 0).val < 1 := (x 0).isLt
  funext a
  apply Fin.ext
  match a with
  | 0 => show 0 + 1 * (x 0).val = 0; omega
  | 1 => show 0 + 1 * (x 1).val = (x 1).val; omega
  | 2 => show o + 1 * (x 2).val = o + (x 2).val; omega

/-- Where a rectangle of 256 of 256 columns puts its points. -/
theorem emb_256_256 (o : ℕ) (ho : o + 256 ≤ 256) (h) (x : S1x512x256.Idx) :
    (Rect.unit (s := S1x512x256) ![0, 0, o] ![1, 512, 256] h).emb x = ix3 0 (x 1) ⟨o + (x 2).val, by have hx2 : (x 2).val < 256 := (x 2).isLt; omega⟩ := by
  have hx : (x 0).val < 1 := (x 0).isLt
  funext a
  apply Fin.ext
  match a with
  | 0 => show 0 + 1 * (x 0).val = 0; omega
  | 1 => show 0 + 1 * (x 1).val = (x 1).val; omega
  | 2 => show o + 1 * (x 2).val = o + (x 2).val; omega

/-- Where a rectangle of 512 of 768 columns puts its points. -/
theorem emb_768_512 (o : ℕ) (ho : o + 512 ≤ 768) (h) (x : S1x512x512.Idx) :
    (Rect.unit (s := S1x512x768) ![0, 0, o] ![1, 512, 512] h).emb x = ix3 0 (x 1) ⟨o + (x 2).val, by have hx2 : (x 2).val < 512 := (x 2).isLt; omega⟩ := by
  have hx : (x 0).val < 1 := (x 0).isLt
  funext a
  apply Fin.ext
  match a with
  | 0 => show 0 + 1 * (x 0).val = 0; omega
  | 1 => show 0 + 1 * (x 1).val = (x 1).val; omega
  | 2 => show o + 1 * (x 2).val = o + (x 2).val; omega

/-- Where a rectangle of 256 of 768 columns puts its points. -/
theorem emb_768_256 (o : ℕ) (ho : o + 256 ≤ 768) (h) (x : S1x512x256.Idx) :
    (Rect.unit (s := S1x512x768) ![0, 0, o] ![1, 512, 256] h).emb x = ix3 0 (x 1) ⟨o + (x 2).val, by have hx2 : (x 2).val < 256 := (x 2).isLt; omega⟩ := by
  have hx : (x 0).val < 1 := (x 0).isLt
  funext a
  apply Fin.ext
  match a with
  | 0 => show 0 + 1 * (x 0).val = 0; omega
  | 1 => show 0 + 1 * (x 1).val = (x 1).val; omega
  | 2 => show o + 1 * (x 2).val = o + (x 2).val; omega

/-- Where a rectangle of 512 of 4096 columns puts its points. -/
theorem emb_4096_512 (o : ℕ) (ho : o + 512 ≤ 4096) (h) (x : S1x512x512.Idx) :
    (Rect.unit (s := S1x512x4096) ![0, 0, o] ![1, 512, 512] h).emb x = ix3 0 (x 1) ⟨o + (x 2).val, by have hx2 : (x 2).val < 512 := (x 2).isLt; omega⟩ := by
  have hx : (x 0).val < 1 := (x 0).isLt
  funext a
  apply Fin.ext
  match a with
  | 0 => show 0 + 1 * (x 0).val = 0; omega
  | 1 => show 0 + 1 * (x 1).val = (x 1).val; omega
  | 2 => show o + 1 * (x 2).val = o + (x 2).val; omega

section body

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024x6144 .bf16) (harg6 : arg6.IsWhole) (arg7 : Memref sig .tc .vmem S1x512x512 .f32) (harg7 : arg7.IsWhole) (arg8 : Memref sig .tc .vmem S1x512x256 .f32) (harg8 : arg8.IsWhole) (arg9 : Memref sig .tc .vmem S1x512x512 .f32) (harg9 : arg9.IsWhole) (arg10 : Memref sig .tc .vmem S1x512x768 .bf16) (harg10 : arg10.IsWhole) (arg11 : Memref sig .tc .vmem S1x512x4096 .bf16) (harg11 : arg11.IsWhole)
    (x0 : Vec Ideal S1x512x1024 .f32) (x1 : Vec Ideal S1x1024 .f32) (x2 x3 : Vec Ideal S1x1x1024 .f32) (x4 : Vec Ideal S1x1024x6144 .bf16)

set_option maxHeartbeats 4000000 in
/-- What a grid point leaves in output 5's block: its columns. -/
theorem out_5 : out0_A_5 c i arg2 harg2 arg3 harg3 arg4 harg4 arg5 harg5 arg6 harg6 arg7 harg7 arg8 harg8 arg9 harg9 arg10 harg10 arg11 harg11 x0 x1 x2 x3 x4 = cols5 x0 x1 x2 x3 x4 := by
  funext y
  unfold out0_A_5
  refine View.read_writes_apply_of_pieces _ _ (cols5 x0 x1 x2 x3 x4) _ ?_ y (cover0_A_5 c i arg2 harg2 arg3 harg3 arg4 harg4 arg5 harg5 arg6 harg6 arg7 harg7 arg8 harg8 arg9 harg9 arg10 harg10 arg11 harg11 x0 x1 x2 x3 x4 y)
  unfold kernelRun0_A
  dsimp only
  sl_unfold_words
  intro p hp
  simp only [List.mem_cons, List.not_mem_nil, or_false] at hp
  rcases hp with rfl
  intro (x : S1x512x512.Idx)
  refine Eq.trans ?_ (congrArg (cols5 x0 x1 x2 x3 x4) (emb_512_512 0 (by decide) inb_S1x512x512_S1x512x512_0_0_0 x)).symm
  simp only [View.readAt_eq_ld, harg2.read_unread, harg3.read_unread, harg4.read_unread, harg5.read_unread, harg6.read_unread]
  pointwise [k0_pay6, k0_pay5, cols5, col, hid, S1x512x512]
  all_goals simp only [← Nat.add_assoc, Nat.reduceAdd]

set_option maxHeartbeats 4000000 in
/-- What a grid point leaves in output 6's block: its columns. -/
theorem out_6 : out0_A_6 c i arg2 harg2 arg3 harg3 arg4 harg4 arg5 harg5 arg6 harg6 arg7 harg7 arg8 harg8 arg9 harg9 arg10 harg10 arg11 harg11 x0 x1 x2 x3 x4 = cols6 x0 x1 x2 x3 x4 := by
  funext y
  unfold out0_A_6
  refine View.read_writes_apply_of_pieces _ _ (cols6 x0 x1 x2 x3 x4) _ ?_ y (cover0_A_6 c i arg2 harg2 arg3 harg3 arg4 harg4 arg5 harg5 arg6 harg6 arg7 harg7 arg8 harg8 arg9 harg9 arg10 harg10 arg11 harg11 x0 x1 x2 x3 x4 y)
  unfold kernelRun0_A
  dsimp only
  sl_unfold_words
  intro p hp
  simp only [List.mem_cons, List.not_mem_nil, or_false] at hp
  rcases hp with rfl
  intro (x : S1x512x256.Idx)
  refine Eq.trans ?_ (congrArg (cols6 x0 x1 x2 x3 x4) (emb_256_256 0 (by decide) inb_S1x512x256_S1x512x256_0_0_0 x)).symm
  simp only [View.readAt_eq_ld, harg2.read_unread, harg3.read_unread, harg4.read_unread, harg5.read_unread, harg6.read_unread]
  pointwise [k0_pay7, k0_pay5, cols6, col, hid, S1x512x256]
  all_goals simp only [← Nat.add_assoc, Nat.reduceAdd]

set_option maxHeartbeats 4000000 in
/-- What a grid point leaves in output 7's block: its columns. -/
theorem out_7 : out0_A_7 c i arg2 harg2 arg3 harg3 arg4 harg4 arg5 harg5 arg6 harg6 arg7 harg7 arg8 harg8 arg9 harg9 arg10 harg10 arg11 harg11 x0 x1 x2 x3 x4 = cols7 x0 x1 x2 x3 x4 := by
  funext y
  unfold out0_A_7
  refine View.read_writes_apply_of_pieces _ _ (cols7 x0 x1 x2 x3 x4) _ ?_ y (cover0_A_7 c i arg2 harg2 arg3 harg3 arg4 harg4 arg5 harg5 arg6 harg6 arg7 harg7 arg8 harg8 arg9 harg9 arg10 harg10 arg11 harg11 x0 x1 x2 x3 x4 y)
  unfold kernelRun0_A
  dsimp only
  sl_unfold_words
  intro p hp
  simp only [List.mem_cons, List.not_mem_nil, or_false] at hp
  rcases hp with rfl
  intro (x : S1x512x512.Idx)
  refine Eq.trans ?_ (congrArg (cols7 x0 x1 x2 x3 x4) (emb_512_512 0 (by decide) inb_S1x512x512_S1x512x512_0_0_0 x)).symm
  simp only [View.readAt_eq_ld, harg2.read_unread, harg3.read_unread, harg4.read_unread, harg5.read_unread, harg6.read_unread]
  pointwise [k0_pay8, k0_pay5, cols7, col, hid, S1x512x512]
  all_goals simp only [← Nat.add_assoc, Nat.reduceAdd]

set_option maxHeartbeats 4000000 in
/-- What a grid point leaves in output 8's block: its columns. -/
theorem out_8 : out0_A_8 c i arg2 harg2 arg3 harg3 arg4 harg4 arg5 harg5 arg6 harg6 arg7 harg7 arg8 harg8 arg9 harg9 arg10 harg10 arg11 harg11 x0 x1 x2 x3 x4 = cols8 x0 x1 x2 x3 x4 := by
  funext y
  unfold out0_A_8
  refine View.read_writes_apply_of_pieces _ _ (cols8 x0 x1 x2 x3 x4) _ ?_ y (cover0_A_8 c i arg2 harg2 arg3 harg3 arg4 harg4 arg5 harg5 arg6 harg6 arg7 harg7 arg8 harg8 arg9 harg9 arg10 harg10 arg11 harg11 x0 x1 x2 x3 x4 y)
  unfold kernelRun0_A
  dsimp only
  sl_unfold_words
  intro p hp
  simp only [List.mem_cons, List.not_mem_nil, or_false] at hp
  rcases hp with rfl | rfl
  · intro (x : S1x512x256.Idx)
    refine Eq.trans ?_ (congrArg (cols8 x0 x1 x2 x3 x4) (emb_768_256 512 (by decide) inb_S1x512x768_S1x512x256_0_0_512 x)).symm
    simp only [View.readAt_eq_ld, harg2.read_unread, harg3.read_unread, harg4.read_unread, harg5.read_unread, harg6.read_unread]
    pointwise [k0_pay10, k0_pay5, cols8, col, hid, S1x512x256]
    all_goals simp only [← Nat.add_assoc, Nat.reduceAdd]
  · intro (x : S1x512x512.Idx)
    refine Eq.trans ?_ (congrArg (cols8 x0 x1 x2 x3 x4) (emb_768_512 0 (by decide) inb_S1x512x768_S1x512x512_0_0_0 x)).symm
    simp only [View.readAt_eq_ld, harg2.read_unread, harg3.read_unread, harg4.read_unread, harg5.read_unread, harg6.read_unread]
    pointwise [k0_pay9, k0_pay5, cols8, col, hid, S1x512x512]
    all_goals simp only [← Nat.add_assoc, Nat.reduceAdd]

set_option maxHeartbeats 4000000 in
/-- What a grid point leaves in output 9's block: its columns. -/
theorem out_9 : out0_A_9 c i arg2 harg2 arg3 harg3 arg4 harg4 arg5 harg5 arg6 harg6 arg7 harg7 arg8 harg8 arg9 harg9 arg10 harg10 arg11 harg11 x0 x1 x2 x3 x4 = cols9 x0 x1 x2 x3 x4 := by
  funext y
  unfold out0_A_9
  refine View.read_writes_apply_of_pieces _ _ (cols9 x0 x1 x2 x3 x4) _ ?_ y (cover0_A_9 c i arg2 harg2 arg3 harg3 arg4 harg4 arg5 harg5 arg6 harg6 arg7 harg7 arg8 harg8 arg9 harg9 arg10 harg10 arg11 harg11 x0 x1 x2 x3 x4 y)
  unfold kernelRun0_A
  dsimp only
  sl_unfold_words
  intro p hp
  simp only [List.mem_cons, List.not_mem_nil, or_false] at hp
  rcases hp with rfl | rfl | rfl | rfl | rfl | rfl | rfl | rfl
  · intro (x : S1x512x512.Idx)
    refine Eq.trans ?_ (congrArg (cols9 x0 x1 x2 x3 x4) (emb_4096_512 3584 (by decide) inb_S1x512x4096_S1x512x512_0_0_3584 x)).symm
    simp only [View.readAt_eq_ld, harg2.read_unread, harg3.read_unread, harg4.read_unread, harg5.read_unread, harg6.read_unread]
    pointwise [k0_pay4, k0_pay5, cols9, col, hid, S1x512x512]
    all_goals simp only [← Nat.add_assoc, Nat.reduceAdd]
  · intro (x : S1x512x512.Idx)
    refine Eq.trans ?_ (congrArg (cols9 x0 x1 x2 x3 x4) (emb_4096_512 3072 (by decide) inb_S1x512x4096_S1x512x512_0_0_3072 x)).symm
    simp only [View.readAt_eq_ld, harg2.read_unread, harg3.read_unread, harg4.read_unread, harg5.read_unread, harg6.read_unread]
    pointwise [k0_pay3, k0_pay5, cols9, col, hid, S1x512x512]
    all_goals simp only [← Nat.add_assoc, Nat.reduceAdd]
  · intro (x : S1x512x512.Idx)
    refine Eq.trans ?_ (congrArg (cols9 x0 x1 x2 x3 x4) (emb_4096_512 2560 (by decide) inb_S1x512x4096_S1x512x512_0_0_2560 x)).symm
    simp only [View.readAt_eq_ld, harg2.read_unread, harg3.read_unread, harg4.read_unread, harg5.read_unread, harg6.read_unread]
    pointwise [k0_pay2, k0_pay5, cols9, col, hid, S1x512x512]
    all_goals simp only [← Nat.add_assoc, Nat.reduceAdd]
  · intro (x : S1x512x512.Idx)
    refine Eq.trans ?_ (congrArg (cols9 x0 x1 x2 x3 x4) (emb_4096_512 2048 (by decide) inb_S1x512x4096_S1x512x512_0_0_2048 x)).symm
    simp only [View.readAt_eq_ld, harg2.read_unread, harg3.read_unread, harg4.read_unread, harg5.read_unread, harg6.read_unread]
    pointwise [k0_pay1, k0_pay5, cols9, col, hid, S1x512x512]
    all_goals simp only [← Nat.add_assoc, Nat.reduceAdd]
  · intro (x : S1x512x512.Idx)
    refine Eq.trans ?_ (congrArg (cols9 x0 x1 x2 x3 x4) (emb_4096_512 1536 (by decide) inb_S1x512x4096_S1x512x512_0_0_1536 x)).symm
    simp only [View.readAt_eq_ld, harg2.read_unread, harg3.read_unread, harg4.read_unread, harg5.read_unread, harg6.read_unread]
    pointwise [k0_pay14, k0_pay5, cols9, col, hid, S1x512x512]
    all_goals simp only [← Nat.add_assoc, Nat.reduceAdd]
  · intro (x : S1x512x512.Idx)
    refine Eq.trans ?_ (congrArg (cols9 x0 x1 x2 x3 x4) (emb_4096_512 1024 (by decide) inb_S1x512x4096_S1x512x512_0_0_1024 x)).symm
    simp only [View.readAt_eq_ld, harg2.read_unread, harg3.read_unread, harg4.read_unread, harg5.read_unread, harg6.read_unread]
    pointwise [k0_pay13, k0_pay5, cols9, col, hid, S1x512x512]
    all_goals simp only [← Nat.add_assoc, Nat.reduceAdd]
  · intro (x : S1x512x512.Idx)
    refine Eq.trans ?_ (congrArg (cols9 x0 x1 x2 x3 x4) (emb_4096_512 512 (by decide) inb_S1x512x4096_S1x512x512_0_0_512 x)).symm
    simp only [View.readAt_eq_ld, harg2.read_unread, harg3.read_unread, harg4.read_unread, harg5.read_unread, harg6.read_unread]
    pointwise [k0_pay12, k0_pay5, cols9, col, hid, S1x512x512]
    all_goals simp only [← Nat.add_assoc, Nat.reduceAdd]
  · intro (x : S1x512x512.Idx)
    refine Eq.trans ?_ (congrArg (cols9 x0 x1 x2 x3 x4) (emb_4096_512 0 (by decide) inb_S1x512x4096_S1x512x512_0_0_0 x)).symm
    simp only [View.readAt_eq_ld, harg2.read_unread, harg3.read_unread, harg4.read_unread, harg5.read_unread, harg6.read_unread]
    pointwise [k0_pay11, k0_pay5, cols9, col, hid, S1x512x512]
    all_goals simp only [← Nat.add_assoc, Nat.reduceAdd]

end body

variable (m : (ℓ : Loc nD τ sig) → Buf (Elt Ideal) ℓ)

/-- The constant one half, as the kernel spells it. -/
def half : EReal := Ideal.ofBits .f32 0x3F000000#32

/-- The batch row of a grid point. -/
def row (t : Fin cfg0.N) : Fin 2 := ⟨t.val / 16, by have := lt_of_lt_of_eq t.isLt (show cfg0.N = 32 from N_0); omega⟩

/-- The token of a grid point's block at place `r`. -/
def tok (t : Fin cfg0.N) (r : Fin 512) : Fin 8192 := ⟨512 * (t.val % 16) + r.val, by have := r.isLt; omega⟩

/-- What a grid point reads of the input: its 512 tokens. -/
theorem blk0 (c : Dev nD) (t : Fin cfg0.N) (y : S1x512x1024.Idx) :
    iblk m c 0 t y = m ((c : Thread nD τ).loc main_arg0) (ix3 (row t) (tok t (y 1)) (y 2)) := by
  have hN : t.val < 32 := lt_of_lt_of_eq t.isLt (show cfg0.N = 32 from N_0)
  have hi := (by decide +kernel : ∀ t : Fin grid0.N, win0_0.index t 0 = t.val / 16 ∧ win0_0.index t 1 = t.val % 16 ∧ win0_0.index t 2 = 0) t
  have hy0 : (y 0).val < 1 := (y 0).isLt
  unfold iblk
  rw [View.read_apply]
  show V m c main_arg0 _ = _
  rw [V_main_arg0]
  congr 1
  funext a
  apply Fin.ext
  match a with
  | ⟨0, _⟩ => show win0_0.index t 0 * 1 + 1 * (y 0).val = t.val / 16; rw [hi.1]; omega
  | ⟨1, _⟩ => show win0_0.index t 1 * 512 + 1 * (y 1).val = 512 * (t.val % 16) + (y 1).val; rw [hi.2.1]; omega
  | ⟨2, _⟩ => show win0_0.index t 2 * 1024 + 1 * (y 2).val = (y 2).val; rw [hi.2.2]; omega

/-- What a grid point reads of the norm's gains: all of them. -/
theorem blk1 (c : Dev nD) (t : Fin cfg0.N) (y : S1x1024.Idx) :
    iblk m c 1 t y = m ((c : Thread nD τ).loc main_arg1) (ix1 (y 1)) := by
  have hi := (by decide +kernel : ∀ t : Fin grid0.N, win0_1.index t 0 = 0 ∧ win0_1.index t 1 = 0) t
  have hy0 : (y 0).val < 1 := (y 0).isLt
  have e : V m c main_v7 = (broadcastInDim S1x1024 ![1] bcast_S1024_S1x1024_1 (m ((c : Thread nD τ).loc main_arg1) : Vec Ideal S1024 .f32) : Vec Ideal S1x1024 .f32) := by
    show StableHlo.after hostOps0 (fun b => m (c, b)) (Proc.devRef .tc main_v7) = _
    after_results_simp <;> rfl
  unfold iblk
  rw [View.read_apply]
  show V m c main_v7 _ = _
  rw [e]
  show (m ((c : Thread nD τ).loc main_arg1) : Vec Ideal S1024 .f32) _ = _
  congr 1
  funext a
  apply Fin.ext
  match a with
  | ⟨0, _⟩ => show win0_1.index t 1 * 1024 + 1 * (y 1).val = (y 1).val; rw [hi.2]; omega

/-- What a grid point reads of the scales: its batch row's. -/
theorem blk2 (c : Dev nD) (t : Fin cfg0.N) (y : S1x1x1024.Idx) :
    iblk m c 2 t y = m ((c : Thread nD τ).loc main_arg2) (ix3 (row t) 0 (y 2)) := by
  have hi := (by decide +kernel : ∀ t : Fin grid0.N, win0_2.index t 0 = t.val / 16 ∧ win0_2.index t 1 = 0 ∧ win0_2.index t 2 = 0) t
  have hy0 : (y 0).val < 1 := (y 0).isLt
  have hy1 : (y 1).val < 1 := (y 1).isLt
  unfold iblk
  rw [View.read_apply]
  show V m c main_arg2 _ = _
  rw [V_main_arg2]
  congr 1
  funext a
  apply Fin.ext
  match a with
  | ⟨0, _⟩ => show win0_2.index t 0 * 1 + 1 * (y 0).val = t.val / 16; rw [hi.1]; omega
  | ⟨1, _⟩ => show win0_2.index t 1 * 1 + 1 * (y 1).val = 0; rw [hi.2.1]; omega
  | ⟨2, _⟩ => show win0_2.index t 2 * 1024 + 1 * (y 2).val = (y 2).val; rw [hi.2.2]; omega

/-- What a grid point reads of the shifts: its batch row's. -/
theorem blk3 (c : Dev nD) (t : Fin cfg0.N) (y : S1x1x1024.Idx) :
    iblk m c 3 t y = m ((c : Thread nD τ).loc main_arg3) (ix3 (row t) 0 (y 2)) := by
  have hi := (by decide +kernel : ∀ t : Fin grid0.N, win0_3.index t 0 = t.val / 16 ∧ win0_3.index t 1 = 0 ∧ win0_3.index t 2 = 0) t
  have hy0 : (y 0).val < 1 := (y 0).isLt
  have hy1 : (y 1).val < 1 := (y 1).isLt
  unfold iblk
  rw [View.read_apply]
  show V m c main_arg3 _ = _
  rw [V_main_arg3]
  congr 1
  funext a
  apply Fin.ext
  match a with
  | ⟨0, _⟩ => show win0_3.index t 0 * 1 + 1 * (y 0).val = t.val / 16; rw [hi.1]; omega
  | ⟨1, _⟩ => show win0_3.index t 1 * 1 + 1 * (y 1).val = 0; rw [hi.2.1]; omega
  | ⟨2, _⟩ => show win0_3.index t 2 * 1024 + 1 * (y 2).val = (y 2).val; rw [hi.2.2]; omega

/-- The factor the host puts on a column of the weights: one for the first 2048 columns, one half for the rest. -/
def fac (n : Fin 6144) : EReal := if n.val < 2048 then 1 else half

/-- The host's weights at an index. -/
theorem weights (w : FVec Ideal S2x1024x6144 .f32) (i : S2x1024x6144.Idx) :
    (truncf (F := Ideal) .bf16 (mulf w (broadcastInDim S2x1024x6144 ![0, 1, 2] bcast_S1x1x6144_S2x1024x6144_0_1_2 (broadcastInDim S1x1x6144 ![2] bcast_S6144_S1x1x6144_2 (concatenate S6144 0 [⟨S2048, broadcastInDim S2048 ![] bcast_S_S2048 (constant (F := Ideal) S_ .f32 0x3F800000#32)⟩, ⟨S4096, broadcastInDim S4096 ![] bcast_S_S4096 (constant (F := Ideal) S_ .f32 0x3F000000#32)⟩] concatenates_S2048_S4096_S6144_d0)))) bitsLt_bf16_f32) i = w i * fac (i 2) := by
  pointwise [fac, half]
  rfl

/-- A weight of the second layer times its column's factor. -/
def wcol (w : Vec Ideal S2x1024x6144 .f32) (q : Fin 1024) (n : Fin 6144) : EReal := w (ix3 1 q n) * fac n

/-- What a grid point reads of the weights: the second layer's, each column times its factor. -/
theorem blk4 (c : Dev nD) (t : Fin cfg0.N) (y : S1x1024x6144.Idx) :
    iblk m c 4 t y = wcol (m ((c : Thread nD τ).loc main_arg4)) (y 1) (y 2) := by
  have hi := (by decide +kernel : ∀ t : Fin grid0.N, win0_4.index t 0 = 1 ∧ win0_4.index t 1 = 0 ∧ win0_4.index t 2 = 0) t
  have hy0 : (y 0).val < 1 := (y 0).isLt
  have e : V m c main_v6 = truncf (F := Ideal) .bf16 (mulf (m ((c : Thread nD τ).loc main_arg4) : FVec Ideal S2x1024x6144 .f32) (broadcastInDim S2x1024x6144 ![0, 1, 2] bcast_S1x1x6144_S2x1024x6144_0_1_2 (broadcastInDim S1x1x6144 ![2] bcast_S6144_S1x1x6144_2 (concatenate S6144 0 [⟨S2048, broadcastInDim S2048 ![] bcast_S_S2048 (constant (F := Ideal) S_ .f32 0x3F800000#32)⟩, ⟨S4096, broadcastInDim S4096 ![] bcast_S_S4096 (constant (F := Ideal) S_ .f32 0x3F000000#32)⟩] concatenates_S2048_S4096_S6144_d0)))) bitsLt_bf16_f32 := by
    show StableHlo.after hostOps0 (fun b => m (c, b)) (Proc.devRef .tc main_v6) = _
    after_results_simp <;> rfl
  unfold iblk
  rw [View.read_apply]
  show V m c main_v6 _ = _
  rw [e]
  have hx : ((cfg0.win 4).blk t).view.emb y = (ix3 1 (y 1) (y 2) : S2x1024x6144.Idx) := by
    funext a
    apply Fin.ext
    match a with
    | ⟨0, _⟩ => show win0_4.index t 0 * 1 + 1 * (y 0).val = 1; rw [hi.1]; omega
    | ⟨1, _⟩ => show win0_4.index t 1 * 1024 + 1 * (y 1).val = (y 1).val; rw [hi.2.1]; omega
    | ⟨2, _⟩ => show win0_4.index t 2 * 6144 + 1 * (y 2).val = (y 2).val; rw [hi.2.2]; omega
  exact (congrArg _ hx).trans (weights _ _)

/-- Token `t` of batch row `b`, normalised, scaled and shifted, times column `n` of the second layer's weights. -/
def full (x : Vec Ideal S2x8192x1024 .f32) (g : Vec Ideal S1024 .f32) (sc sh : Vec Ideal S2x1x1024 .f32) (w : Vec Ideal S2x1024x6144 .f32)
    (b : Fin 2) (t : Fin 8192) (n : Fin 6144) : EReal :=
  ∑ q : Fin 1024, hid (fun p => x (ix3 b t p)) (g (ix1 q)) (sc (ix3 b 0 q)) (sh (ix3 b 0 q)) q * w (ix3 1 q n)

/-- A grid point's column, from the whole arrays. -/
theorem col_eq (c : Dev nD) (t : Fin cfg0.N) (r : Fin 512) (n : Fin 6144) :
    col (iblk m c 0 t) (iblk m c 1 t) (iblk m c 2 t) (iblk m c 3 t) (iblk m c 4 t) r n
      = ∑ q : Fin 1024, hid (fun p => m ((c : Thread nD τ).loc main_arg0) (ix3 (row t) (tok t r) p)) (m ((c : Thread nD τ).loc main_arg1) (ix1 q))
          (m ((c : Thread nD τ).loc main_arg2) (ix3 (row t) 0 q)) (m ((c : Thread nD τ).loc main_arg3) (ix3 (row t) 0 q)) q
          * wcol (m ((c : Thread nD τ).loc main_arg4)) q n := by
  unfold col
  simp only [blk0, blk1, blk2, blk3, blk4]
  rfl

/-- The constant is the real one half. -/
theorem half_eq : half = ((1 / 2 : ℝ) : EReal) := by
  unfold half
  simp [Ideal.ofBits, Ideal.ieee, -EReal.coe_mul]; norm_num

/-- One half goes into a sum. -/
theorem half_sum {ι : Type} [Fintype ι] (f : ι → EReal) : half * ∑ q, f q = ∑ q, half * f q := by
  classical
  have h0 : (0 : EReal) ≤ half := by rw [half_eq]; exact_mod_cast (by norm_num : (0 : ℝ) ≤ 1 / 2)
  have h1 : half ≠ ⊤ := by rw [half_eq]; exact EReal.coe_ne_top _
  have key : ∀ s : Finset ι, half * ∑ q ∈ s, f q = ∑ q ∈ s, half * f q := by
    intro s
    induction s using Finset.induction_on with
    | empty => simp
    | insert a s ha ih => rw [Finset.sum_insert ha, Finset.sum_insert ha, EReal.left_distrib_of_nonneg_of_ne_top h0 h1, ih]
  exact key _

/-- One of the first 2048 columns is the plain one. -/
theorem col_low (c : Dev nD) (t : Fin cfg0.N) (r : Fin 512) (n : Fin 6144) (hn : n.val < 2048) :
    col (iblk m c 0 t) (iblk m c 1 t) (iblk m c 2 t) (iblk m c 3 t) (iblk m c 4 t) r n
      = full (m ((c : Thread nD τ).loc main_arg0)) (m ((c : Thread nD τ).loc main_arg1)) (m ((c : Thread nD τ).loc main_arg2))
          (m ((c : Thread nD τ).loc main_arg3)) (m ((c : Thread nD τ).loc main_arg4)) (row t) (tok t r) n := by
  rw [col_eq]
  unfold full wcol fac
  simp only [if_pos hn, mul_one]

/-- One of the others is half the plain one. -/
theorem col_high (c : Dev nD) (t : Fin cfg0.N) (r : Fin 512) (n : Fin 6144) (hn : ¬n.val < 2048) :
    col (iblk m c 0 t) (iblk m c 1 t) (iblk m c 2 t) (iblk m c 3 t) (iblk m c 4 t) r n
      = half * full (m ((c : Thread nD τ).loc main_arg0)) (m ((c : Thread nD τ).loc main_arg1)) (m ((c : Thread nD τ).loc main_arg2))
          (m ((c : Thread nD τ).loc main_arg3)) (m ((c : Thread nD τ).loc main_arg4)) (row t) (tok t r) n := by
  rw [col_eq]
  unfold full wcol fac
  rw [half_sum]
  simp only [if_neg hn]
  refine Finset.sum_congr rfl fun q _ => ?_
  rw [← mul_assoc, mul_comm]

/-- Output 5's array at the end: the plain columns from 0 on. -/
theorem final5 (c : Dev nD) (i : S2x8192x512.Idx) :
    (dats m 0 c).arrAt 5 cfg0.N i
      = full (m ((c : Thread nD τ).loc main_arg0)) (m ((c : Thread nD τ).loc main_arg1)) (m ((c : Thread nD τ).loc main_arg2))
          (m ((c : Thread nD τ).loc main_arg3)) (m ((c : Thread nD τ).loc main_arg4)) (i 0) (i 1)
          ⟨0 + (i 2).val, by have h : (i 2).val < 512 := (i 2).isLt; omega⟩ := by
  have h0 : (i 0).val < 2 := (i 0).isLt
  have h1 : (i 1).val < 8192 := (i 1).isLt
  have h2 : (i 2).val < 512 := (i 2).isLt
  have hN : cfg0.N = 32 := N_0
  obtain ⟨t, ht⟩ : ∃ t : Fin cfg0.N, t.val = 16 * (i 0).val + (i 1).val / 512 := ⟨⟨_, by rw [hN]; omega⟩, rfl⟩
  obtain ⟨y, hy⟩ : ∃ y : S1x512x512.Idx, y = ix3 0 ⟨(i 1).val % 512, by omega⟩ (i 2) := ⟨_, rfl⟩
  have hi := (by decide +kernel : ∀ t : Fin grid0.N, win0_5.index t 0 = t.val / 16 ∧ win0_5.index t 1 = t.val % 16 ∧ win0_5.index t 2 = 0) t
  have hfl := (by decide +kernel : ∀ t : Fin grid0.N, (cfg0.win 5).flush t = true) t
  have he : ((cfg0.win 5).blk t).view.emb y = i := by
    subst hy
    funext a
    apply Fin.ext
    match a with
    | ⟨0, _⟩ => show win0_5.index t 0 * 1 + 1 * 0 = (i 0).val; rw [hi.1]; omega
    | ⟨1, _⟩ => show win0_5.index t 1 * 512 + 1 * ((i 1).val % 512) = (i 1).val; rw [hi.2.1]; omega
    | ⟨2, _⟩ => show win0_5.index t 2 * 512 + 1 * (i 2).val = (i 2).val; rw [hi.2.2]; omega
  have hb := congrFun (Value.blocks5 m c t hfl) y
  rw [View.read_apply, Value.flushed5_A, out_5] at hb
  have hr : row t = i 0 := Fin.ext (by show t.val / 16 = _; omega)
  have hk : tok t (y 1) = i 1 := Fin.ext (by subst hy; show 512 * (t.val % 16) + (i 1).val % 512 = _; omega)
  have hc := col_low m c t (y 1) ⟨0 + (y 2).val, by subst hy; show 0 + (i 2).val < 6144; omega⟩ (by subst hy; show 0 + (i 2).val < 2048; omega)
  rw [hr, hk] at hc
  have e : (dats m 0 c).arrAt 5 cfg0.N i = (dats m 0 c).arrAt 5 cfg0.N (((cfg0.win 5).blk t).view.emb y) := congrArg _ he.symm
  refine e.trans (hb.trans (Eq.trans ?_ (hc.trans ?_)))
  · rfl
  · subst hy; rfl

/-- Output 6's array at the end: the plain columns from 512 on. -/
theorem final6 (c : Dev nD) (i : S2x8192x256.Idx) :
    (dats m 0 c).arrAt 6 cfg0.N i
      = full (m ((c : Thread nD τ).loc main_arg0)) (m ((c : Thread nD τ).loc main_arg1)) (m ((c : Thread nD τ).loc main_arg2))
          (m ((c : Thread nD τ).loc main_arg3)) (m ((c : Thread nD τ).loc main_arg4)) (i 0) (i 1)
          ⟨512 + (i 2).val, by have h : (i 2).val < 256 := (i 2).isLt; omega⟩ := by
  have h0 : (i 0).val < 2 := (i 0).isLt
  have h1 : (i 1).val < 8192 := (i 1).isLt
  have h2 : (i 2).val < 256 := (i 2).isLt
  have hN : cfg0.N = 32 := N_0
  obtain ⟨t, ht⟩ : ∃ t : Fin cfg0.N, t.val = 16 * (i 0).val + (i 1).val / 512 := ⟨⟨_, by rw [hN]; omega⟩, rfl⟩
  obtain ⟨y, hy⟩ : ∃ y : S1x512x256.Idx, y = ix3 0 ⟨(i 1).val % 512, by omega⟩ (i 2) := ⟨_, rfl⟩
  have hi := (by decide +kernel : ∀ t : Fin grid0.N, win0_6.index t 0 = t.val / 16 ∧ win0_6.index t 1 = t.val % 16 ∧ win0_6.index t 2 = 0) t
  have hfl := (by decide +kernel : ∀ t : Fin grid0.N, (cfg0.win 6).flush t = true) t
  have he : ((cfg0.win 6).blk t).view.emb y = i := by
    subst hy
    funext a
    apply Fin.ext
    match a with
    | ⟨0, _⟩ => show win0_6.index t 0 * 1 + 1 * 0 = (i 0).val; rw [hi.1]; omega
    | ⟨1, _⟩ => show win0_6.index t 1 * 512 + 1 * ((i 1).val % 512) = (i 1).val; rw [hi.2.1]; omega
    | ⟨2, _⟩ => show win0_6.index t 2 * 256 + 1 * (i 2).val = (i 2).val; rw [hi.2.2]; omega
  have hb := congrFun (Value.blocks6 m c t hfl) y
  rw [View.read_apply, Value.flushed6_A, out_6] at hb
  have hr : row t = i 0 := Fin.ext (by show t.val / 16 = _; omega)
  have hk : tok t (y 1) = i 1 := Fin.ext (by subst hy; show 512 * (t.val % 16) + (i 1).val % 512 = _; omega)
  have hc := col_low m c t (y 1) ⟨512 + (y 2).val, by subst hy; show 512 + (i 2).val < 6144; omega⟩ (by subst hy; show 512 + (i 2).val < 2048; omega)
  rw [hr, hk] at hc
  have e : (dats m 0 c).arrAt 6 cfg0.N i = (dats m 0 c).arrAt 6 cfg0.N (((cfg0.win 6).blk t).view.emb y) := congrArg _ he.symm
  refine e.trans (hb.trans (Eq.trans ?_ (hc.trans ?_)))
  · rfl
  · subst hy; rfl

/-- Output 7's array at the end: the plain columns from 768 on. -/
theorem final7 (c : Dev nD) (i : S2x8192x512.Idx) :
    (dats m 0 c).arrAt 7 cfg0.N i
      = full (m ((c : Thread nD τ).loc main_arg0)) (m ((c : Thread nD τ).loc main_arg1)) (m ((c : Thread nD τ).loc main_arg2))
          (m ((c : Thread nD τ).loc main_arg3)) (m ((c : Thread nD τ).loc main_arg4)) (i 0) (i 1)
          ⟨768 + (i 2).val, by have h : (i 2).val < 512 := (i 2).isLt; omega⟩ := by
  have h0 : (i 0).val < 2 := (i 0).isLt
  have h1 : (i 1).val < 8192 := (i 1).isLt
  have h2 : (i 2).val < 512 := (i 2).isLt
  have hN : cfg0.N = 32 := N_0
  obtain ⟨t, ht⟩ : ∃ t : Fin cfg0.N, t.val = 16 * (i 0).val + (i 1).val / 512 := ⟨⟨_, by rw [hN]; omega⟩, rfl⟩
  obtain ⟨y, hy⟩ : ∃ y : S1x512x512.Idx, y = ix3 0 ⟨(i 1).val % 512, by omega⟩ (i 2) := ⟨_, rfl⟩
  have hi := (by decide +kernel : ∀ t : Fin grid0.N, win0_7.index t 0 = t.val / 16 ∧ win0_7.index t 1 = t.val % 16 ∧ win0_7.index t 2 = 0) t
  have hfl := (by decide +kernel : ∀ t : Fin grid0.N, (cfg0.win 7).flush t = true) t
  have he : ((cfg0.win 7).blk t).view.emb y = i := by
    subst hy
    funext a
    apply Fin.ext
    match a with
    | ⟨0, _⟩ => show win0_7.index t 0 * 1 + 1 * 0 = (i 0).val; rw [hi.1]; omega
    | ⟨1, _⟩ => show win0_7.index t 1 * 512 + 1 * ((i 1).val % 512) = (i 1).val; rw [hi.2.1]; omega
    | ⟨2, _⟩ => show win0_7.index t 2 * 512 + 1 * (i 2).val = (i 2).val; rw [hi.2.2]; omega
  have hb := congrFun (Value.blocks7 m c t hfl) y
  rw [View.read_apply, Value.flushed7_A, out_7] at hb
  have hr : row t = i 0 := Fin.ext (by show t.val / 16 = _; omega)
  have hk : tok t (y 1) = i 1 := Fin.ext (by subst hy; show 512 * (t.val % 16) + (i 1).val % 512 = _; omega)
  have hc := col_low m c t (y 1) ⟨768 + (y 2).val, by subst hy; show 768 + (i 2).val < 6144; omega⟩ (by subst hy; show 768 + (i 2).val < 2048; omega)
  rw [hr, hk] at hc
  have e : (dats m 0 c).arrAt 7 cfg0.N i = (dats m 0 c).arrAt 7 cfg0.N (((cfg0.win 7).blk t).view.emb y) := congrArg _ he.symm
  refine e.trans (hb.trans (Eq.trans ?_ (hc.trans ?_)))
  · rfl
  · subst hy; rfl

/-- Output 8's array at the end: the plain columns from 1280 on. -/
theorem final8 (c : Dev nD) (i : S2x8192x768.Idx) :
    (dats m 0 c).arrAt 8 cfg0.N i
      = full (m ((c : Thread nD τ).loc main_arg0)) (m ((c : Thread nD τ).loc main_arg1)) (m ((c : Thread nD τ).loc main_arg2))
          (m ((c : Thread nD τ).loc main_arg3)) (m ((c : Thread nD τ).loc main_arg4)) (i 0) (i 1)
          ⟨1280 + (i 2).val, by have h : (i 2).val < 768 := (i 2).isLt; omega⟩ := by
  have h0 : (i 0).val < 2 := (i 0).isLt
  have h1 : (i 1).val < 8192 := (i 1).isLt
  have h2 : (i 2).val < 768 := (i 2).isLt
  have hN : cfg0.N = 32 := N_0
  obtain ⟨t, ht⟩ : ∃ t : Fin cfg0.N, t.val = 16 * (i 0).val + (i 1).val / 512 := ⟨⟨_, by rw [hN]; omega⟩, rfl⟩
  obtain ⟨y, hy⟩ : ∃ y : S1x512x768.Idx, y = ix3 0 ⟨(i 1).val % 512, by omega⟩ (i 2) := ⟨_, rfl⟩
  have hi := (by decide +kernel : ∀ t : Fin grid0.N, win0_8.index t 0 = t.val / 16 ∧ win0_8.index t 1 = t.val % 16 ∧ win0_8.index t 2 = 0) t
  have hfl := (by decide +kernel : ∀ t : Fin grid0.N, (cfg0.win 8).flush t = true) t
  have he : ((cfg0.win 8).blk t).view.emb y = i := by
    subst hy
    funext a
    apply Fin.ext
    match a with
    | ⟨0, _⟩ => show win0_8.index t 0 * 1 + 1 * 0 = (i 0).val; rw [hi.1]; omega
    | ⟨1, _⟩ => show win0_8.index t 1 * 512 + 1 * ((i 1).val % 512) = (i 1).val; rw [hi.2.1]; omega
    | ⟨2, _⟩ => show win0_8.index t 2 * 768 + 1 * (i 2).val = (i 2).val; rw [hi.2.2]; omega
  have hb := congrFun (Value.blocks8 m c t hfl) y
  rw [View.read_apply, Value.flushed8_A, out_8] at hb
  have hr : row t = i 0 := Fin.ext (by show t.val / 16 = _; omega)
  have hk : tok t (y 1) = i 1 := Fin.ext (by subst hy; show 512 * (t.val % 16) + (i 1).val % 512 = _; omega)
  have hc := col_low m c t (y 1) ⟨1280 + (y 2).val, by subst hy; show 1280 + (i 2).val < 6144; omega⟩ (by subst hy; show 1280 + (i 2).val < 2048; omega)
  rw [hr, hk] at hc
  have e : (dats m 0 c).arrAt 8 cfg0.N i = (dats m 0 c).arrAt 8 cfg0.N (((cfg0.win 8).blk t).view.emb y) := congrArg _ he.symm
  refine e.trans (hb.trans (Eq.trans ?_ (hc.trans ?_)))
  · rfl
  · subst hy; rfl

/-- Output 9's array at the end: half the plain columns from 2048 on. -/
theorem final9 (c : Dev nD) (i : S2x8192x4096.Idx) :
    (dats m 0 c).arrAt 9 cfg0.N i
      = half * full (m ((c : Thread nD τ).loc main_arg0)) (m ((c : Thread nD τ).loc main_arg1)) (m ((c : Thread nD τ).loc main_arg2))
          (m ((c : Thread nD τ).loc main_arg3)) (m ((c : Thread nD τ).loc main_arg4)) (i 0) (i 1)
          ⟨2048 + (i 2).val, by have h : (i 2).val < 4096 := (i 2).isLt; omega⟩ := by
  have h0 : (i 0).val < 2 := (i 0).isLt
  have h1 : (i 1).val < 8192 := (i 1).isLt
  have h2 : (i 2).val < 4096 := (i 2).isLt
  have hN : cfg0.N = 32 := N_0
  obtain ⟨t, ht⟩ : ∃ t : Fin cfg0.N, t.val = 16 * (i 0).val + (i 1).val / 512 := ⟨⟨_, by rw [hN]; omega⟩, rfl⟩
  obtain ⟨y, hy⟩ : ∃ y : S1x512x4096.Idx, y = ix3 0 ⟨(i 1).val % 512, by omega⟩ (i 2) := ⟨_, rfl⟩
  have hi := (by decide +kernel : ∀ t : Fin grid0.N, win0_9.index t 0 = t.val / 16 ∧ win0_9.index t 1 = t.val % 16 ∧ win0_9.index t 2 = 0) t
  have hfl := (by decide +kernel : ∀ t : Fin grid0.N, (cfg0.win 9).flush t = true) t
  have he : ((cfg0.win 9).blk t).view.emb y = i := by
    subst hy
    funext a
    apply Fin.ext
    match a with
    | ⟨0, _⟩ => show win0_9.index t 0 * 1 + 1 * 0 = (i 0).val; rw [hi.1]; omega
    | ⟨1, _⟩ => show win0_9.index t 1 * 512 + 1 * ((i 1).val % 512) = (i 1).val; rw [hi.2.1]; omega
    | ⟨2, _⟩ => show win0_9.index t 2 * 4096 + 1 * (i 2).val = (i 2).val; rw [hi.2.2]; omega
  have hb := congrFun (Value.blocks9 m c t hfl) y
  rw [View.read_apply, Value.flushed9_A, out_9] at hb
  have hr : row t = i 0 := Fin.ext (by show t.val / 16 = _; omega)
  have hk : tok t (y 1) = i 1 := Fin.ext (by subst hy; show 512 * (t.val % 16) + (i 1).val % 512 = _; omega)
  have hc := col_high m c t (y 1) ⟨2048 + (y 2).val, by subst hy; show 2048 + (i 2).val < 6144; omega⟩ (by subst hy; show ¬2048 + (i 2).val < 2048; omega)
  rw [hr, hk] at hc
  have e : (dats m 0 c).arrAt 9 cfg0.N i = (dats m 0 c).arrAt 9 cfg0.N (((cfg0.win 9).blk t).view.emb y) := congrArg _ he.symm
  refine e.trans (hb.trans (Eq.trans ?_ (hc.trans ?_)))
  · rfl
  · subst hy; rfl

end Cert.Proof.Inproj
-- ==== Proof.InprojPlain.lean ====
/-
  The input projection: the plain layer's five arrays, read at an index, as the same columns as the kernel's.
-/
module

public import proofs.«01_k».proof.Proof.Gen.Reference4Ideal.Run
public import proofs.«01_k».proof.Proof.Inproj
public import Idealize.ShloMosaic.Lib.IdealHost

@[expose] public section

set_option maxRecDepth 16384

noncomputable section

namespace Cert.Proof.InprojPlain

open Idealize.ShloMosaic Idealize.ShloMosaic.Tactic Cert.Reference4Ideal Cert.Reference4Ideal.Gen Idealize.ShloMosaic.TcCoe
open Cert.Proof.Inproj (hid full half)

/-- The plain layer's array for output 5, at an index. -/
theorem plain5 (x : FVec Ideal S2x8192x1024 .f32) (g : FVec Ideal S1024 .f32) (sc sh : FVec Ideal S2x1x1024 .f32) (w : FVec Ideal S2x1024x6144 .f32) (i : S2x8192x512.Idx) :
    (extractStridedSlice S2x8192x512 ![0, 0, 0] (Host.dotGeneral dot_S2x8192x1024_S1024x6144_S2x8192x6144_2_0_01_1_n_n none (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (broadcastInDim S2x1x1024 ![] bcast_S_S2x1x1024 (constant S_ .f32 0x3F800000#32)) sc))) (broadcastInDim S2x8192x1024 ![0, 1, 2] bcast_S2x1x1024_S2x8192x1024_0_1_2 sh)) (shapeCast S1024x6144 (extractStridedSlice S1x1024x6144 ![1, 0, 0] w slices_S2x1024x6144_S1x1024x6144_1_0_0) shapeCasts_S1x1024x6144_S1024x6144)) slices_S2x8192x6144_S2x8192x512_0_0_0 : FVec Ideal S2x8192x512 .f32) i
      = full x g sc sh w (i 0) (i 1) ⟨0 + (i 2).val, by have h : (i 2).val < 512 := (i 2).isLt; omega⟩ := by
  pointwise [full, hid, half]
  all_goals simp only [mul_comm (w _)]

/-- The plain layer's array for output 6, at an index. -/
theorem plain6 (x : FVec Ideal S2x8192x1024 .f32) (g : FVec Ideal S1024 .f32) (sc sh : FVec Ideal S2x1x1024 .f32) (w : FVec Ideal S2x1024x6144 .f32) (i : S2x8192x256.Idx) :
    (extractStridedSlice S2x8192x256 ![0, 0, 512] (Host.dotGeneral dot_S2x8192x1024_S1024x6144_S2x8192x6144_2_0_01_1_n_n none (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (broadcastInDim S2x1x1024 ![] bcast_S_S2x1x1024 (constant S_ .f32 0x3F800000#32)) sc))) (broadcastInDim S2x8192x1024 ![0, 1, 2] bcast_S2x1x1024_S2x8192x1024_0_1_2 sh)) (shapeCast S1024x6144 (extractStridedSlice S1x1024x6144 ![1, 0, 0] w slices_S2x1024x6144_S1x1024x6144_1_0_0) shapeCasts_S1x1024x6144_S1024x6144)) slices_S2x8192x6144_S2x8192x256_0_0_512 : FVec Ideal S2x8192x256 .f32) i
      = full x g sc sh w (i 0) (i 1) ⟨512 + (i 2).val, by have h : (i 2).val < 256 := (i 2).isLt; omega⟩ := by
  pointwise [full, hid, half]
  all_goals simp only [mul_comm (w _)]

/-- The plain layer's array for output 7, at an index. -/
theorem plain7 (x : FVec Ideal S2x8192x1024 .f32) (g : FVec Ideal S1024 .f32) (sc sh : FVec Ideal S2x1x1024 .f32) (w : FVec Ideal S2x1024x6144 .f32) (i : S2x8192x512.Idx) :
    (extractStridedSlice S2x8192x512 ![0, 0, 768] (Host.dotGeneral dot_S2x8192x1024_S1024x6144_S2x8192x6144_2_0_01_1_n_n none (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (broadcastInDim S2x1x1024 ![] bcast_S_S2x1x1024 (constant S_ .f32 0x3F800000#32)) sc))) (broadcastInDim S2x8192x1024 ![0, 1, 2] bcast_S2x1x1024_S2x8192x1024_0_1_2 sh)) (shapeCast S1024x6144 (extractStridedSlice S1x1024x6144 ![1, 0, 0] w slices_S2x1024x6144_S1x1024x6144_1_0_0) shapeCasts_S1x1024x6144_S1024x6144)) slices_S2x8192x6144_S2x8192x512_0_0_768 : FVec Ideal S2x8192x512 .f32) i
      = full x g sc sh w (i 0) (i 1) ⟨768 + (i 2).val, by have h : (i 2).val < 512 := (i 2).isLt; omega⟩ := by
  pointwise [full, hid, half]
  all_goals simp only [mul_comm (w _)]

/-- The plain layer's array for output 8, at an index. -/
theorem plain8 (x : FVec Ideal S2x8192x1024 .f32) (g : FVec Ideal S1024 .f32) (sc sh : FVec Ideal S2x1x1024 .f32) (w : FVec Ideal S2x1024x6144 .f32) (i : S2x8192x768.Idx) :
    (truncf (F := Ideal) .bf16 (extractStridedSlice S2x8192x768 ![0, 0, 1280] (Host.dotGeneral dot_S2x8192x1024_S1024x6144_S2x8192x6144_2_0_01_1_n_n none (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (broadcastInDim S2x1x1024 ![] bcast_S_S2x1x1024 (constant S_ .f32 0x3F800000#32)) sc))) (broadcastInDim S2x8192x1024 ![0, 1, 2] bcast_S2x1x1024_S2x8192x1024_0_1_2 sh)) (shapeCast S1024x6144 (extractStridedSlice S1x1024x6144 ![1, 0, 0] w slices_S2x1024x6144_S1x1024x6144_1_0_0) shapeCasts_S1x1024x6144_S1024x6144)) slices_S2x8192x6144_S2x8192x768_0_0_1280) bitsLt_bf16_f32 : FVec Ideal S2x8192x768 .bf16) i
      = full x g sc sh w (i 0) (i 1) ⟨1280 + (i 2).val, by have h : (i 2).val < 768 := (i 2).isLt; omega⟩ := by
  pointwise [full, hid, half]
  all_goals simp only [mul_comm (w _)]

/-- The plain layer's array for output 9, at an index. -/
theorem plain9 (x : FVec Ideal S2x8192x1024 .f32) (g : FVec Ideal S1024 .f32) (sc sh : FVec Ideal S2x1x1024 .f32) (w : FVec Ideal S2x1024x6144 .f32) (i : S2x8192x4096.Idx) :
    (truncf (F := Ideal) .bf16 (mulf (broadcastInDim S2x8192x4096 ![] bcast_S_S2x8192x4096 (constant S_ .f32 0x3F000000#32)) (extractStridedSlice S2x8192x4096 ![0, 0, 2048] (Host.dotGeneral dot_S2x8192x1024_S1024x6144_S2x8192x6144_2_0_01_1_n_n none (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (broadcastInDim S2x1x1024 ![] bcast_S_S2x1x1024 (constant S_ .f32 0x3F800000#32)) sc))) (broadcastInDim S2x8192x1024 ![0, 1, 2] bcast_S2x1x1024_S2x8192x1024_0_1_2 sh)) (shapeCast S1024x6144 (extractStridedSlice S1x1024x6144 ![1, 0, 0] w slices_S2x1024x6144_S1x1024x6144_1_0_0) shapeCasts_S1x1024x6144_S1024x6144)) slices_S2x8192x6144_S2x8192x4096_0_0_2048)) bitsLt_bf16_f32 : FVec Ideal S2x8192x4096 .bf16) i
      = half * full x g sc sh w (i 0) (i 1) ⟨2048 + (i 2).val, by have h : (i 2).val < 4096 := (i 2).isLt; omega⟩ := by
  pointwise [full, hid, half]
  all_goals simp only [mul_comm (w _)]

end Cert.Proof.InprojPlain
-- ==== Proof.Scalar.lean ====
/-
  The scalar facts that the branches' merge uses: the gate through the hyperbolic tangent and through the exponential, and what stays a real number.
-/
module

public import Idealize.ShloMosaic.PureOps
public import Idealize.ShloMosaic.Lib.Pointwise

@[expose] public section

noncomputable section

namespace Cert.Proof.Scalar

open Idealize.ShloMosaic

/-- The constant one half, as the kernel spells it. -/
def half : EReal := Ideal.ofBits .f32 0x3F000000#32

/-- The constant is the real one half. -/
theorem half_eq : half = ((1 / 2 : ℝ) : EReal) := by
  unfold half
  simp [Ideal.ofBits, Ideal.ieee, -EReal.coe_mul]; norm_num

/-- The sigmoid at a real, through the hyperbolic tangent and through the exponential. -/
theorem sigmoid_real (r : ℝ) : 1 / 2 * Real.tanh (1 / 2 * r) + 1 / 2 = (1 + Real.exp (-r))⁻¹ := by
  rw [Real.tanh_eq_sinh_div_cosh, Real.sinh_eq, Real.cosh_eq]
  have e1 : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  have p1 : 0 < Real.exp (1 / 2 * r) := Real.exp_pos _
  have p2 : 0 < Real.exp (-(1 / 2 * r)) := Real.exp_pos _
  rw [e1]
  generalize Real.exp (1 / 2 * r) = u at *
  generalize Real.exp (-(1 / 2 * r)) = v at *
  have h1 : u + v ≠ 0 := by positivity
  have h2 : 1 + v * v ≠ 0 := by positivity
  field_simp
  linear_combination (2 * v) * e2

/-- The sigmoid is the same written through the hyperbolic tangent and through the exponential, at the infinities too. -/
theorem sigmoid_eq (a : EReal) : half * Ideal.tanh (half * a) + half = Ideal.div 1 (1 + Ideal.exp (-a)) := by
  rw [half_eq]
  induction a using EReal.rec with
  | bot =>
    have e : ((1 / 2 : ℝ) : EReal) * ⊥ = ⊥ := EReal.coe_mul_bot_of_pos (by norm_num)
    rw [e, Ideal.tanh_bot, EReal.neg_bot]
    show _ = Ideal.div 1 (1 + ⊤)
    rw [EReal.add_top_of_ne_bot (by decide)]
    unfold Ideal.div
    rw [if_neg (by decide), EReal.inv_top, mul_zero]
    show ((1 / 2 : ℝ) : EReal) * ((-1 : ℝ) : EReal) + ((1 / 2 : ℝ) : EReal) = ((0 : ℝ) : EReal)
    norm_cast; norm_num
  | top =>
    have e : ((1 / 2 : ℝ) : EReal) * ⊤ = ⊤ := EReal.coe_mul_top_of_pos (by norm_num)
    rw [e, Ideal.tanh_top, EReal.neg_top]
    show _ = Ideal.div 1 (1 + 0)
    unfold Ideal.div
    rw [add_zero, if_neg one_ne_zero]
    show ((1 / 2 : ℝ) : EReal) * ((1 : ℝ) : EReal) + ((1 / 2 : ℝ) : EReal) = ((1 : ℝ) : EReal) * ((1 : ℝ) : EReal)⁻¹
    rw [← EReal.coe_inv]
    norm_cast; norm_num
  | coe r =>
    have hp : (0 : ℝ) < 1 + Real.exp (-r) := by have := Real.exp_pos (-r); linarith
    have e : (1 : EReal) + Ideal.exp (-(r : EReal)) = ((1 + Real.exp (-r) : ℝ) : EReal) := rfl
    have e2 : ((1 / 2 : ℝ) : EReal) * Ideal.tanh (((1 / 2 : ℝ) : EReal) * r) + ((1 / 2 : ℝ) : EReal) = ((1 / 2 * Real.tanh (1 / 2 * r) + 1 / 2 : ℝ) : EReal) := by
      rw [← EReal.coe_mul, Ideal.tanh_coe]; rfl
    rw [e, e2, sigmoid_real]
    unfold Ideal.div
    rw [if_neg (by exact_mod_cast hp.ne'), one_mul, ← EReal.coe_inv]

/-- One half goes into a sum. -/
theorem half_sum {ι : Type} [Fintype ι] (f : ι → EReal) : half * ∑ q, f q = ∑ q, half * f q := by
  classical
  have h0 : (0 : EReal) ≤ half := by rw [half_eq]; exact_mod_cast (by norm_num : (0 : ℝ) ≤ 1 / 2)
  have h1 : half ≠ ⊤ := by rw [half_eq]; exact EReal.coe_ne_top _
  have key : ∀ s : Finset ι, half * ∑ q ∈ s, f q = ∑ q ∈ s, half * f q := by
    intro s
    induction s using Finset.induction_on with
    | empty => simp
    | insert a s ha ih => rw [Finset.sum_insert ha, Finset.sum_insert ha, EReal.left_distrib_of_nonneg_of_ne_top h0 h1, ih]
  exact key _

/-- The value is a real number: neither infinity. -/
def IsReal (v : EReal) : Prop := ∃ r : ℝ, v = (r : EReal)

/-- A value whose magnitude is below the positive infinity is real. -/
theorem isReal_of_abs (v : EReal) (h : max v (-v) < ⊤) : IsReal v := by
  induction v using EReal.rec with
  | bot => simp at h
  | top => simp at h
  | coe r => exact ⟨r, rfl⟩

/-- A sum of two reals is real. -/
theorem IsReal.add {u v : EReal} (hu : IsReal u) (hv : IsReal v) : IsReal (u + v) := by
  obtain ⟨r, rfl⟩ := hu; obtain ⟨s, rfl⟩ := hv; exact ⟨r + s, (EReal.coe_add r s).symm⟩

/-- A product of two reals is real. -/
theorem IsReal.mul {u v : EReal} (hu : IsReal u) (hv : IsReal v) : IsReal (u * v) := by
  obtain ⟨r, rfl⟩ := hu; obtain ⟨s, rfl⟩ := hv; exact ⟨r * s, (EReal.coe_mul r s).symm⟩

/-- A finite sum of reals is real, the sum of the reals. -/
theorem sum_coe {ι : Type} [Fintype ι] (f : ι → ℝ) : (∑ q, (f q : EReal)) = ((∑ q, f q : ℝ) : EReal) := by
  classical
  have key : ∀ s : Finset ι, (∑ q ∈ s, (f q : EReal)) = ((∑ q ∈ s, f q : ℝ) : EReal) := by
    intro s
    induction s using Finset.induction_on with
    | empty => simp
    | insert a s ha ih => rw [Finset.sum_insert ha, Finset.sum_insert ha, ih, EReal.coe_add]
  exact key _

/-- A finite sum of reals is real. -/
theorem IsReal.sum {ι : Type} [Fintype ι] {f : ι → EReal} (h : ∀ q, IsReal (f q)) : IsReal (∑ q, f q) := by
  choose r hr using h
  exact ⟨∑ q, r q, by rw [← sum_coe]; exact Finset.sum_congr rfl fun q _ => hr q⟩

/-- A real minus itself is zero. -/
theorem IsReal.sub_self {v : EReal} (h : IsReal v) : v - v = 0 := by
  obtain ⟨r, rfl⟩ := h
  rw [← EReal.coe_sub]; simp

/-- One is real. -/
theorem isReal_one : IsReal 1 := ⟨1, rfl⟩

/-- The hyperbolic tangent is real everywhere. -/
theorem isReal_tanh (a : EReal) : IsReal (Ideal.tanh a) := by
  induction a using EReal.rec with
  | bot => exact ⟨-1, rfl⟩
  | top => exact ⟨1, rfl⟩
  | coe r => exact ⟨Real.tanh r, rfl⟩

/-- One half is real. -/
theorem isReal_half : IsReal half := ⟨_, half_eq⟩

/-- The constant is the real two. -/
theorem two_eq : Ideal.ofBits .f32 0x40000000#32 = ((2 : ℝ) : EReal) := by
  simp [Ideal.ofBits, Ideal.ieee, -EReal.coe_mul]; norm_num

/-- A branch's part of the merge: half the product, times the tangent, plus itself, is the sigmoid of twice the gate times the product. -/
theorem gate_eq (D z : EReal) (hD : IsReal D) :
    half * D * Ideal.tanh z + half * D = Ideal.div 1 (1 + Ideal.exp (-(Ideal.ofBits .f32 0x40000000#32 * z))) * D := by
  have e : half * (Ideal.ofBits .f32 0x40000000#32 * z) = z := by
    rw [half_eq, two_eq, ← mul_assoc, ← EReal.coe_mul]
    norm_num
  rw [← sigmoid_eq, e, half_eq]
  obtain ⟨r, rfl⟩ := hD
  obtain ⟨t, ht⟩ := isReal_tanh z
  rw [ht]
  norm_cast
  ring

/-- The constant is the real 1024. -/
theorem n_eq : Ideal.ofBits .f32 0x44800000#32 = ((1024 : ℝ) : EReal) := by
  simp [Ideal.ofBits, Ideal.ieee, -EReal.coe_mul]; norm_num

/-- The norm's guard is a positive real. -/
theorem eps_pos : ∃ e : ℝ, 0 < e ∧ Ideal.ofBits .f32 0x358637BD#32 = (e : EReal) := by
  refine ⟨_, ?_, by simp [Ideal.ofBits, Ideal.ieee, -EReal.coe_mul]; rfl⟩
  norm_num

/-- The norm's factor of a row of reals is real. -/
theorem isReal_norm {v : Fin 1024 → EReal} (h : ∀ p, IsReal (v p)) :
    IsReal (Ideal.rsqrt (Ideal.div (∑ p : Fin 1024, v p * v p) (Ideal.ofBits .f32 0x44800000#32) + Ideal.ofBits .f32 0x358637BD#32)) := by
  choose r hr using h
  obtain ⟨e, he, hE⟩ := eps_pos
  have hs : (∑ p : Fin 1024, v p * v p) = ((∑ p, r p * r p : ℝ) : EReal) := by
    rw [← sum_coe]
    exact Finset.sum_congr rfl fun p _ => by rw [hr p, EReal.coe_mul]
  have h0 : 0 ≤ ∑ p, r p * r p := Finset.sum_nonneg fun p _ => mul_self_nonneg _
  rw [hs, n_eq, hE, Ideal.div_coe (by norm_num), ← EReal.coe_mul, ← EReal.coe_add, Ideal.rsqrt_coe]
  have hp : 0 < (∑ p, r p * r p) * (1 / 1024) + e := by positivity
  rw [if_neg hp.le.not_gt, if_neg hp.ne']
  exact ⟨_, rfl⟩

/-- A square is never negative. -/
theorem sq_nonneg (v : EReal) : 0 ≤ v * v := by
  induction v with
  | bot => simp
  | top => simp
  | coe r => rw [← EReal.coe_mul]; exact EReal.coe_nonneg.mpr (mul_self_nonneg r)

/-- A value that is not real squares to the infinity. -/
theorem sq_top {v : EReal} (h : ¬ IsReal v) : v * v = ⊤ := by
  induction v with
  | bot => simp
  | top => simp
  | coe r => exact absurd ⟨r, rfl⟩ h

/-- An entry of a row times the norm's factor of the row is real, whatever the row: where an entry is infinite, the
    factor is zero. -/
theorem isReal_normed (v : Fin 1024 → EReal) (q : Fin 1024) :
    IsReal (v q * Ideal.rsqrt (Ideal.div (∑ p : Fin 1024, v p * v p) (Ideal.ofBits .f32 0x44800000#32) + Ideal.ofBits .f32 0x358637BD#32)) := by
  by_cases h : ∀ p, IsReal (v p)
  · exact (h q).mul (isReal_norm h)
  · obtain ⟨k, hk⟩ := not_forall.mp h
    obtain ⟨e, he, hE⟩ := eps_pos
    have hs : (∑ p : Fin 1024, v p * v p) = ⊤ := by
      refine top_le_iff.mp ?_
      rw [← sq_top hk]
      exact Finset.single_le_sum (f := fun p => v p * v p) (fun p _ => sq_nonneg _) (Finset.mem_univ k)
    rw [hs, n_eq, hE, Ideal.div_coe (by norm_num), EReal.top_mul_coe_of_pos (by norm_num), EReal.top_add_coe]
    exact ⟨0, by show v q * (0 : EReal) = _; simp⟩

/-- The greater of the starting value and a running maximum from it is the running maximum. -/
theorem max_fold (c : EReal) (f : Fin 16 → EReal) : max c (Finset.fold max c f Finset.univ) = Finset.fold max c f Finset.univ :=
  max_eq_right ((Finset.le_fold_max c).2 (Or.inl le_rfl))

end Cert.Proof.Scalar
-- ==== Proof.MergePre.lean ====
module

public import proofs.«01_k».proof.Pre_finite5
public import proofs.«01_k».proof.Proof.Scalar
public import Idealize.ShloMosaic.Lib.ReduceAll
public import Idealize.ShloMosaic.Lib.Pointwise

/-! # What the precondition of the merge says

The precondition bounds the magnitude of the branches, their weights, the gain, the modulation and the router below the
infinity. Read at the extended reals this makes each of them an array of reals. -/

@[expose] public section

set_option maxRecDepth 16384

noncomputable section

namespace Cert.Proof.MergePre

open Idealize.ShloMosaic Idealize.ShloMosaic.Tactic Cert.Pre_finite5 Cert.Proof.Scalar

/-- An and of two bits is one when both are. -/
theorem and_one (x y : BitVec 1) : IntOp.andi x y = 1#1 ↔ x = 1#1 ∧ y = 1#1 := by
  revert x y; decide

/-- An array whose magnitudes are all below the infinity holds reals. -/
theorem all_real {s : Shape} {axes : List (Fin s.rank)} (x : FVec Ideal s .f32) (hb : S_.BroadcastsInDim s (![] : Fin 0 → Fin s.rank)) (hr : s.ReducesTo axes S_) (hu : 0 < S_.numel)
    (j : S_.Idx)
    (h : Host.reduce IntOp.andi (cmpf .olt (Host.absf x) (broadcastInDim s ![] hb (constant S_ .f32 0x7F800000#32))) (constantI S_ 1 1#1) hr hu j = 1#1) (i : s.Idx) : IsReal (x i) := by
  have : Subsingleton S_.Idx := ⟨fun a b => funext fun k => k.elim0⟩
  have e := Host.reduce_andi_all _ _ _ _ j h i
  pointwise at e
  have hi : Ideal.ofBits .f32 0x7F800000#32 = (⊤ : EReal) := by simp [Ideal.ofBits, Ideal.ieee]
  rw [hi] at e
  refine isReal_of_abs _ ?_
  by_contra hc
  have e' : BitVec.ofBool (decide (max (x i) (-(x i)) < (⊤ : EReal))) = 1#1 := e
  rw [decide_eq_false hc] at e'
  exact absurd e' (by decide)

/-- The shape relations the precondition states. -/
theorem facts : Cert.Pre_finite5.Facts := ⟨by decide, by decide, by decide, by decide, by decide, by decide, by decide, by decide, by decide, by decide, by decide, by decide⟩

/-- The precondition says that the branches, their weights, the gain, the modulation and the router hold reals. -/
theorem reals [Cert.Pre_finite5.Facts] (a : FVec Ideal S2x8192x256 .bf16) (b : FVec Ideal S2x8192x256 .f32) (cc : FVec Ideal S2x8192x256 .bf16) (d : FVec Ideal S2x8192x256 .bf16) (zg : FVec Ideal S2x8192x4096 .bf16) (wa : FVec Ideal S256x1024 .f32) (wb : FVec Ideal S256x1024 .f32) (wc : FVec Ideal S256x1024 .f32) (wd : FVec Ideal S256x1024 .f32) (wo : FVec Ideal S1024x1024 .f32) (x : FVec Ideal S2x8192x1024 .f32) (gt : FVec Ideal S2x1x1024 .f32) (g : FVec Ideal S1024 .f32) (sc : FVec Ideal S2x1x1024 .f32) (sh : FVec Ideal S2x1x1024 .f32) (wr : FVec Ideal S1024x16 .f32)
    (h : Cert.Pre_finite5.fn (F := Ideal) a b cc d zg wa wb wc wd wo x gt g sc sh wr = fun _ => 1#1) :
    (∀ i, IsReal (a i)) ∧ (∀ i, IsReal (b i)) ∧ (∀ i, IsReal (cc i)) ∧ (∀ i, IsReal (d i)) ∧ (∀ i, IsReal (wa i)) ∧ (∀ i, IsReal (wb i)) ∧ (∀ i, IsReal (wc i)) ∧ (∀ i, IsReal (wd i)) ∧ (∀ i, IsReal (g i)) ∧ (∀ i, IsReal (sc i)) ∧ (∀ i, IsReal (sh i)) ∧ (∀ i, IsReal (wr i)) := by
  have e := congrFun h (fun k : Fin 0 => k.elim0)
  unfold Cert.Pre_finite5.fn Cert.Pre_finite5.fn_part1 Cert.Pre_finite5.fn_part2 Cert.Pre_finite5.fn_part3 at e
  dsimp only at e
  simp only [andi, and_one, and_assoc] at e
  obtain ⟨-, h0, h1, h2, h3, h5, h6, h7, h8, h12, h13, h14, h15⟩ := e
  exact ⟨fun i => all_real _ _ _ _ _ h0 i, fun i => all_real _ _ _ _ _ h1 i, fun i => all_real _ _ _ _ _ h2 i, fun i => all_real _ _ _ _ _ h3 i,
    all_real _ _ _ _ _ h5, all_real _ _ _ _ _ h6, all_real _ _ _ _ _ h7, all_real _ _ _ _ _ h8,
    all_real _ _ _ _ _ h12, all_real _ _ _ _ _ h13, all_real _ _ _ _ _ h14, all_real _ _ _ _ _ h15⟩

end Cert.Proof.MergePre
-- ==== Proof.Merge.lean ====
/-
  The branches' merge: what its body leaves at each grid point, and the three arrays it ends with, as functions of the whole arrays.
-/
module

public import proofs.«01_k».proof.Proof.Gen.Kernel5Ideal.Value
public import proofs.«01_k».proof.Proof.Scalar
public import Idealize.ShloMosaic.Lib.Pointwise
public import Idealize.ShloMosaic.Lib.IdealHost

@[expose] public section

set_option maxRecDepth 16384

noncomputable section

namespace Cert.Proof.Merge

open Idealize.ShloMosaic Idealize.ShloMosaic.Tactic Idealize.SL.Sem Cert.Kernel5Ideal Cert.Kernel5Ideal.Gen Idealize.ShloMosaic.TcCoe
open Cert.Proof.Scalar (half)

/-- A branch's part of the merge, the gate written through the hyperbolic tangent: `h` is half the branch's product. -/
def gate (h z : EReal) : EReal := h * Ideal.tanh z + h

/-- One feature of a normalised, scaled and shifted row. -/
def hid (v : Fin 1024 → EReal) (g sc sh : EReal) (q : Fin 1024) : EReal :=
  v q * Ideal.rsqrt (Ideal.div (∑ p : Fin 1024, v p * v p) (Ideal.ofBits .f32 0x44800000#32) + Ideal.ofBits .f32 0x358637BD#32) * g * (1 + sc) + sh

/-- The router's logit as the kernel adds it up: the product and the products with both remainders. -/
def logit3 (h r : Fin 1024 → EReal) : EReal :=
  (∑ q : Fin 1024, r q * h q) + (∑ q : Fin 1024, (r q - r q) * h q) + ∑ q : Fin 1024, r q * (h q - h q)

/-- The exponential of a logit less the greatest one. -/
def ex (L : Fin 16 → EReal) (e : Fin 16) : EReal :=
  Ideal.exp (L e - Finset.fold max (Ideal.ofBits .f32 0xFF800000#32) L Finset.univ)

/-- The softmax over the sixteen experts. -/
def soft (L : Fin 16 → EReal) (e : Fin 16) : EReal := Ideal.div (ex L e) (∑ e' : Fin 16, ex L e')

/-- The residual row of a block: the input plus the row's scale times the merged branches' product with the output weights. -/
def blkx (P0 : Vec Ideal S1x512x256 .bf16) (P1 : Vec Ideal S256x1024 .bf16) (P2 : Vec Ideal S1x512x1024 .bf16) (P3 : Vec Ideal S1x512x256 .f32) (P4 : Vec Ideal S256x1024 .bf16) (P5 : Vec Ideal S1x512x1024 .bf16) (P6 : Vec Ideal S1x512x256 .bf16) (P7 : Vec Ideal S256x1024 .bf16) (P8 : Vec Ideal S1x512x1024 .bf16) (P9 : Vec Ideal S1x512x256 .bf16) (P10 : Vec Ideal S256x1024 .bf16) (P11 : Vec Ideal S1x512x1024 .bf16) (P12 : Vec Ideal S1024x1024 .bf16) (P13 : Vec Ideal S1x512x1024 .f32) (P14 : Vec Ideal S1x1x1024 .f32) (r : Fin 512) (n : Fin 1024) : EReal :=
  P13 (ix3 0 r n) + P14 (ix3 0 0 n) * ∑ j : Fin 1024,
    (gate (∑ q : Fin 256, P0 (ix3 0 r q) * P1 (ix2 q j)) (P2 (ix3 0 r j))
      + gate (∑ q : Fin 256, P3 (ix3 0 r q) * P4 (ix2 q j)) (P5 (ix3 0 r j))
      + gate (∑ q : Fin 256, P6 (ix3 0 r q) * P7 (ix2 q j)) (P8 (ix3 0 r j))
      + gate (∑ q : Fin 256, P9 (ix3 0 r q) * P10 (ix2 q j)) (P11 (ix3 0 r j))) * P12 (ix2 j n)

/-- The sixth payload at an index. -/
theorem pay6_apply (P0 : Vec Ideal S1x512x256 .bf16) (P1 : Vec Ideal S256x1024 .bf16) (P2 : Vec Ideal S1x512x1024 .bf16) (P3 : Vec Ideal S1x512x256 .f32) (P4 : Vec Ideal S256x1024 .bf16) (P5 : Vec Ideal S1x512x1024 .bf16) (P6 : Vec Ideal S1x512x256 .bf16) (P7 : Vec Ideal S256x1024 .bf16) (P8 : Vec Ideal S1x512x1024 .bf16) (P9 : Vec Ideal S1x512x256 .bf16) (P10 : Vec Ideal S256x1024 .bf16) (P11 : Vec Ideal S1x512x1024 .bf16) (P12 : Vec Ideal S1024x1024 .bf16) (P13 : Vec Ideal S1x512x1024 .f32) (P14 : Vec Ideal S1x1x1024 .f32) (i : S512x1024.Idx) :
    k0_pay6 (k0_pay3 P0 P1 P2 P3 P4 P5) (k0_pay4 P6 P7) (k0_pay5 P8) P9 P10 P11 P12 P13 P14 i
      = blkx P0 P1 P2 P3 P4 P5 P6 P7 P8 P9 P10 P11 P12 P13 P14 (i 0) (i 1) := by
  pointwise [k0_pay6, k0_pay3, k0_pay4, k0_pay5, gate, blkx]

/-- The mean square of a row. -/
theorem pay8_apply (v23 v28 : FVec Ideal S512x1024 .f32) (v30 : FVec Ideal S512x1024 .bf16) (v36 : Vec Ideal S1x512x256 .bf16) (v38 : Vec Ideal S256x1024 .bf16) (v41 : Vec Ideal S1x512x1024 .bf16) (v49 : Vec Ideal S1024x1024 .bf16) (v52 : Vec Ideal S1x512x1024 .f32) (v54 : Vec Ideal S1x1x1024 .f32) (i : S512x1.Idx) :
    k0_pay8 v23 v28 v30 v36 v38 v41 v49 v52 v54 i
      = Ideal.div (∑ p : Fin 1024, k0_pay6 v23 v28 v30 v36 v38 v41 v49 v52 v54 (ix2 (i 0) p) * k0_pay6 v23 v28 v30 v36 v38 v41 v49 v52 v54 (ix2 (i 0) p)) (Ideal.ofBits .f32 0x44800000#32) := by
  pointwise [k0_pay8]

/-- The normalised row at an index. -/
theorem pay9_apply (v58 : FVec Ideal S512x1024 .f32) (v66 : FVec Ideal S512x1 .f32) (v72 : Vec Ideal S1x1024 .f32) (v76 v82 : Vec Ideal S1x1x1024 .f32) (i : S512x1024.Idx) :
    k0_pay9 v58 v66 v72 v76 v82 i
      = v58 i * Ideal.rsqrt (v66 (ix2 (i 0) 0) + Ideal.ofBits .f32 0x358637BD#32) * v72 (ix2 0 (i 1)) * (1 + v76 (ix3 0 0 (i 1))) + v82 (ix3 0 0 (i 1)) := by
  pointwise [k0_pay9]

/-- The exponentials of the logits at an index. -/
theorem pay11_apply (v58 : FVec Ideal S512x1024 .f32) (v66 : FVec Ideal S512x1 .f32) (v72 : Vec Ideal S1x1024 .f32) (v76 v82 : Vec Ideal S1x1x1024 .f32) (v90 : Vec Ideal S16x1024 .f32) (i : S16x512.Idx) :
    k0_pay11 v58 v66 v72 v76 v82 v90 i
      = ex (fun e => logit3 (fun q => k0_pay9 v58 v66 v72 v76 v82 (ix2 (i 1) q)) (fun q => v90 (ix2 e q))) (i 0) := by
  pointwise [k0_pay11, k0_pay10, ex, logit3]

/-- Their sum at an index. -/
theorem pay12_apply (v58 : FVec Ideal S512x1024 .f32) (v66 : FVec Ideal S512x1 .f32) (v72 : Vec Ideal S1x1024 .f32) (v76 v82 : Vec Ideal S1x1x1024 .f32) (v90 : Vec Ideal S16x1024 .f32) (i : S16x512.Idx) :
    k0_pay12 v58 v66 v72 v76 v82 v90 i = ∑ e : Fin 16, k0_pay11 v58 v66 v72 v76 v82 v90 (ix2 e (i 1)) := by
  pointwise [k0_pay12]

/-- The rectangle of a whole block leaves every index in place. -/
theorem emb_0 (x : S1x512x256.Idx) : r0_0.emb x = x := by
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

/-- A load of a whole block is the block. -/
theorem ld_0 {d : EltTy} (x : Vec Ideal S1x512x256 d) : View.ld x r0_0 = x := funext fun y => congrArg x (emb_0 y)

/-- The rectangle of a whole block leaves every index in place. -/
theorem emb_1 (x : S256x1024.Idx) : r0_1.emb x = x := by
  funext a
  apply Fin.ext
  match a with
  | ⟨0, _⟩ => show 0 + 1 * (x 0).val = (x 0).val; omega
  | ⟨1, _⟩ => show 0 + 1 * (x 1).val = (x 1).val; omega

/-- A load of a whole block is the block. -/
theorem ld_1 {d : EltTy} (x : Vec Ideal S256x1024 d) : View.ld x r0_1 = x := funext fun y => congrArg x (emb_1 y)

/-- The rectangle of a whole block leaves every index in place. -/
theorem emb_2 (x : S1x512x1024.Idx) : r0_2.emb x = x := by
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

/-- A load of a whole block is the block. -/
theorem ld_2 {d : EltTy} (x : Vec Ideal S1x512x1024 d) : View.ld x r0_2 = x := funext fun y => congrArg x (emb_2 y)

/-- The rectangle of a whole block leaves every index in place. -/
theorem emb_3 (x : S1024x1024.Idx) : r0_3.emb x = x := by
  funext a
  apply Fin.ext
  match a with
  | ⟨0, _⟩ => show 0 + 1 * (x 0).val = (x 0).val; omega
  | ⟨1, _⟩ => show 0 + 1 * (x 1).val = (x 1).val; omega

/-- A load of a whole block is the block. -/
theorem ld_3 {d : EltTy} (x : Vec Ideal S1024x1024 d) : View.ld x r0_3 = x := funext fun y => congrArg x (emb_3 y)

/-- The rectangle of a whole block leaves every index in place. -/
theorem emb_4 (x : S1x1x1024.Idx) : r0_4.emb x = x := by
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

/-- A load of a whole block is the block. -/
theorem ld_4 {d : EltTy} (x : Vec Ideal S1x1x1024 d) : View.ld x r0_4 = x := funext fun y => congrArg x (emb_4 y)

/-- The rectangle of a whole block leaves every index in place. -/
theorem emb_5 (x : S1x1024.Idx) : r0_5.emb x = x := by
  funext a
  apply Fin.ext
  match a with
  | ⟨0, _⟩ => show 0 + 1 * (x 0).val = (x 0).val; omega
  | ⟨1, _⟩ => show 0 + 1 * (x 1).val = (x 1).val; omega

/-- A load of a whole block is the block. -/
theorem ld_5 {d : EltTy} (x : Vec Ideal S1x1024 d) : View.ld x r0_5 = x := funext fun y => congrArg x (emb_5 y)

/-- The rectangle of a whole block leaves every index in place. -/
theorem emb_6 (x : S16x1024.Idx) : r0_6.emb x = x := by
  funext a
  apply Fin.ext
  match a with
  | ⟨0, _⟩ => show 0 + 1 * (x 0).val = (x 0).val; omega
  | ⟨1, _⟩ => show 0 + 1 * (x 1).val = (x 1).val; omega

/-- A load of a whole block is the block. -/
theorem ld_6 {d : EltTy} (x : Vec Ideal S16x1024 d) : View.ld x r0_6 = x := funext fun y => congrArg x (emb_6 y)

/-- The rectangle of a whole block leaves every index in place. -/
theorem emb_7 (x : S1x16x512.Idx) : r0_7.emb x = x := by
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

/-- A load of a whole block is the block. -/
theorem ld_7 {d : EltTy} (x : Vec Ideal S1x16x512 d) : View.ld x r0_7 = x := funext fun y => congrArg x (emb_7 y)

section body

variable (x0 : Vec Ideal S1x512x256 .bf16) (x1 : Vec Ideal S1x512x256 .f32) (x2 : Vec Ideal S1x512x256 .bf16) (x3 : Vec Ideal S1x512x256 .bf16) (x4 : Vec Ideal S1x512x1024 .bf16) (x5 : Vec Ideal S1x512x1024 .bf16) (x6 : Vec Ideal S1x512x1024 .bf16) (x7 : Vec Ideal S1x512x1024 .bf16) (x8 : Vec Ideal S256x1024 .bf16) (x9 : Vec Ideal S256x1024 .bf16) (x10 : Vec Ideal S256x1024 .bf16) (x11 : Vec Ideal S256x1024 .bf16) (x12 : Vec Ideal S1024x1024 .bf16) (x13 : Vec Ideal S1x512x1024 .f32) (x14 : Vec Ideal S1x1x1024 .f32) (x15 : Vec Ideal S1x1024 .f32) (x16 : Vec Ideal S1x1x1024 .f32) (x17 : Vec Ideal S1x1x1024 .f32) (x18 : Vec Ideal S16x1024 .f32)

/-- The residual payload of the whole blocks. -/
theorem pay16_apply (i : S512x1024.Idx) : k0_pay16 x0 x1 x2 x3 x4 x5 x6 x7 x8 x9 x10 x11 x12 x13 x14 x15 x16 x17 x18 i = blkx x0 x8 x4 x1 x9 x5 x2 x10 x6 x3 x11 x7 x12 x13 x14 (i 0) (i 1) := by
  unfold k0_pay16 k0_pay13 k0_pay14 k0_pay15
  simp only [ld_0, ld_1, ld_2, ld_3, ld_4]
  exact pay6_apply _ _ _ _ _ _ _ _ _ _ _ _ _ _ _ i

/-- The mean squares of the whole blocks. -/
theorem pay17_apply (i : S512x1.Idx) :
    k0_pay17 x0 x1 x2 x3 x4 x5 x6 x7 x8 x9 x10 x11 x12 x13 x14 x15 x16 x17 x18 i = Ideal.div (∑ p : Fin 1024, blkx x0 x8 x4 x1 x9 x5 x2 x10 x6 x3 x11 x7 x12 x13 x14 (i 0) p * blkx x0 x8 x4 x1 x9 x5 x2 x10 x6 x3 x11 x7 x12 x13 x14 (i 0) p) (Ideal.ofBits .f32 0x44800000#32) := by
  unfold k0_pay17 k0_pay13 k0_pay14 k0_pay15
  simp only [ld_0, ld_1, ld_2, ld_3, ld_4]
  rw [pay8_apply]
  simp only [pay6_apply]
  rfl

/-- The normalised rows of the whole blocks. -/
theorem pay9_whole (i : S512x1024.Idx) :
    k0_pay9 (k0_pay16 x0 x1 x2 x3 x4 x5 x6 x7 x8 x9 x10 x11 x12 x13 x14 x15 x16 x17 x18) (k0_pay17 x0 x1 x2 x3 x4 x5 x6 x7 x8 x9 x10 x11 x12 x13 x14 x15 x16 x17 x18) x15 x16 x17 i
      = hid (fun q => blkx x0 x8 x4 x1 x9 x5 x2 x10 x6 x3 x11 x7 x12 x13 x14 (i 0) q) (x15 (ix2 0 (i 1))) (x16 (ix3 0 0 (i 1))) (x17 (ix3 0 0 (i 1))) (i 1) := by
  rw [pay9_apply, pay16_apply, pay17_apply]
  rfl

/-- What a grid point leaves in the residual's block. -/
theorem out_19 (y : S1x512x1024.Idx) : out0_19 x0 x1 x2 x3 x4 x5 x6 x7 x8 x9 x10 x11 x12 x13 x14 x15 x16 x17 x18 y = blkx x0 x8 x4 x1 x9 x5 x2 x10 x6 x3 x11 x7 x12 x13 x14 (y 1) (y 2) := by
  unfold out0_19
  refine View.canon_apply_of_pieces (Val := Elt Ideal) (fun y : S1x512x1024.Idx => blkx x0 x8 x4 x1 x9 x5 x2 x10 x6 x3 x11 x7 x12 x13 x14 (y 1) (y 2)) _ ?_ y (cover0_19 _ y)
  intro pc hpc
  rcases List.mem_cons.mp hpc with rfl | hpc
  · intro (x : S1x512x1024.Idx)
    refine Eq.trans ?_ (congrArg (fun y : S1x512x1024.Idx => blkx x0 x8 x4 x1 x9 x5 x2 x10 x6 x3 x11 x7 x12 x13 x14 (y 1) (y 2)) (emb_2 x)).symm
    have e : ∀ v23 v28 v30 v36 v38 v41 v49 v52 v54, k0_pay7 (F := Ideal) v23 v28 v30 v36 v38 v41 v49 v52 v54 x = k0_pay6 v23 v28 v30 v36 v38 v41 v49 v52 v54 (ix2 (x 1) (x 2)) := by
      intro v23 v28 v30 v36 v38 v41 v49 v52 v54
      pointwise [k0_pay7]
    refine (e _ _ _ _ _ _ _ _ _).trans ?_
    exact pay16_apply x0 x1 x2 x3 x4 x5 x6 x7 x8 x9 x10 x11 x12 x13 x14 x15 x16 x17 x18 (ix2 (x 1) (x 2))
  nomatch hpc

/-- What a grid point leaves in the normalised rows' block. -/
theorem out_20 (y : S1x512x1024.Idx) : out0_20 x0 x1 x2 x3 x4 x5 x6 x7 x8 x9 x10 x11 x12 x13 x14 x15 x16 x17 x18 y
    = hid (fun q => blkx x0 x8 x4 x1 x9 x5 x2 x10 x6 x3 x11 x7 x12 x13 x14 (y 1) q) (x15 (ix2 0 (y 2))) (x16 (ix3 0 0 (y 2))) (x17 (ix3 0 0 (y 2))) (y 2) := by
  unfold out0_20
  refine View.canon_apply_of_pieces (Val := Elt Ideal) (fun y : S1x512x1024.Idx => hid (fun q => blkx x0 x8 x4 x1 x9 x5 x2 x10 x6 x3 x11 x7 x12 x13 x14 (y 1) q) (x15 (ix2 0 (y 2))) (x16 (ix3 0 0 (y 2))) (x17 (ix3 0 0 (y 2))) (y 2)) _ ?_ y (cover0_20 _ y)
  intro pc hpc
  rcases List.mem_cons.mp hpc with rfl | hpc
  · intro (x : S1x512x1024.Idx)
    refine Eq.trans ?_ (congrArg (fun y : S1x512x1024.Idx => hid (fun q => blkx x0 x8 x4 x1 x9 x5 x2 x10 x6 x3 x11 x7 x12 x13 x14 (y 1) q) (x15 (ix2 0 (y 2))) (x16 (ix3 0 0 (y 2))) (x17 (ix3 0 0 (y 2))) (y 2)) (emb_2 x)).symm
    simp only [ld_4, ld_5]
    have e : ∀ v58 v66 v72 v76 v82, k0_pay2 (k0_pay10 (F := Ideal) v58 v66 v72 v76 v82) x = k0_pay9 v58 v66 v72 v76 v82 (ix2 (x 1) (x 2)) := by
      intro v58 v66 v72 v76 v82
      pointwise [k0_pay2, k0_pay10]
    refine (e _ _ _ _ _).trans ?_
    exact pay9_whole x0 x1 x2 x3 x4 x5 x6 x7 x8 x9 x10 x11 x12 x13 x14 x15 x16 x17 x18 (ix2 (x 1) (x 2))
  nomatch hpc

/-- What a grid point leaves in the routing weights' block. -/
theorem out_21 (y : S1x16x512.Idx) : out0_21 x0 x1 x2 x3 x4 x5 x6 x7 x8 x9 x10 x11 x12 x13 x14 x15 x16 x17 x18 y
    = soft (fun e => logit3 (fun p => hid (fun q => blkx x0 x8 x4 x1 x9 x5 x2 x10 x6 x3 x11 x7 x12 x13 x14 (y 2) q) (x15 (ix2 0 p)) (x16 (ix3 0 0 p)) (x17 (ix3 0 0 p)) p) (fun q => x18 (ix2 e q))) (y 1) := by
  unfold out0_21
  refine View.canon_apply_of_pieces (Val := Elt Ideal) (fun y : S1x16x512.Idx => soft (fun e => logit3 (fun p => hid (fun q => blkx x0 x8 x4 x1 x9 x5 x2 x10 x6 x3 x11 x7 x12 x13 x14 (y 2) q) (x15 (ix2 0 p)) (x16 (ix3 0 0 p)) (x17 (ix3 0 0 p)) p) (fun q => x18 (ix2 e q))) (y 1)) _ ?_ y (cover0_21 _ y)
  intro pc hpc
  rcases List.mem_cons.mp hpc with rfl | hpc
  · intro (x : S1x16x512.Idx)
    refine Eq.trans ?_ (congrArg (fun y : S1x16x512.Idx => soft (fun e => logit3 (fun p => hid (fun q => blkx x0 x8 x4 x1 x9 x5 x2 x10 x6 x3 x11 x7 x12 x13 x14 (y 2) q) (x15 (ix2 0 p)) (x16 (ix3 0 0 p)) (x17 (ix3 0 0 p)) p) (fun q => x18 (ix2 e q))) (y 1)) (emb_7 x)).symm
    simp only [ld_4, ld_5, ld_6]
    have e : ∀ u v, k0_pay1 (F := Ideal) u v x = Ideal.div (u (ix2 (x 1) (x 2))) (v (ix2 (x 1) (x 2))) := by
      intro u v
      pointwise [k0_pay1]
    refine (e _ _).trans ?_
    rw [pay12_apply]
    simp only [pay11_apply, pay9_whole]
    rfl
  nomatch hpc

end body

variable (m : (ℓ : Loc nD τ sig) → Buf (Elt Ideal) ℓ)

/-- The batch row of a grid point. -/
def row (t : Fin cfg0.N) : Fin 2 := ⟨t.val / 16, by have := lt_of_lt_of_eq t.isLt (show cfg0.N = 32 from N_0); omega⟩

/-- The token of a grid point's block at place `r`. -/
def tok (t : Fin cfg0.N) (r : Fin 512) : Fin 8192 := ⟨512 * (t.val % 16) + r.val, by have := r.isLt; omega⟩

/-- A branch's weight times one half. -/
def wh (w : Vec Ideal S256x1024 .f32) (q : Fin 256) (j : Fin 1024) : EReal := w (ix2 q j) * half

/-- The host's half weights at an index. -/
theorem halves (w : FVec Ideal S256x1024 .f32) (i : S256x1024.Idx) :
    (truncf (F := Ideal) .bf16 (mulf w (broadcastInDim S256x1024 ![] bcast_S_S256x1024 (constant S_ .f32 0x3F000000#32))) bitsLt_bf16_f32) i = wh w (i 0) (i 1) := by
  pointwise [wh, half]

/-- The host's row of gains at an index. -/
theorem gains (g : FVec Ideal S1024 .f32) (i : S1x1024.Idx) : (broadcastInDim S1x1024 ![1] bcast_S1024_S1x1024_1 g) i = g (ix1 (i 1)) := by
  pointwise

/-- The host's transposed router at an index. -/
theorem router (w : FVec Ideal S1024x16 .f32) (i : S16x1024.Idx) :
    (transpose S16x1024 [1, 0] w transposes_S1024x16_S16x1024_1_0) i = w (ix2 (i 1) (i 0)) := by
  pointwise

/-- What a grid point reads of branch 0: its 512 tokens. -/
theorem blk0 (c : Dev nD) (t : Fin cfg0.N) (y : S1x512x256.Idx) :
    iblk m c 0 t y = m ((c : Thread nD τ).loc main_arg0) (ix3 (row t) (tok t (y 1)) (y 2)) := by
  have hN : t.val < 32 := lt_of_lt_of_eq t.isLt (show cfg0.N = 32 from N_0)
  have hi := (by decide +kernel : ∀ t : Fin grid0.N, win0_0.index t 0 = t.val / 16 ∧ win0_0.index t 1 = t.val % 16 ∧ win0_0.index t 2 = 0) t
  have hy0 : (y 0).val < 1 := (y 0).isLt
  unfold iblk
  rw [View.read_apply]
  show V m c main_arg0 _ = _
  rw [V_main_arg0]
  congr 1
  funext a
  apply Fin.ext
  match a with
  | ⟨0, _⟩ => show win0_0.index t 0 * 1 + 1 * (y 0).val = t.val / 16; rw [hi.1]; omega
  | ⟨1, _⟩ => show win0_0.index t 1 * 512 + 1 * (y 1).val = 512 * (t.val % 16) + (y 1).val; rw [hi.2.1]; omega
  | ⟨2, _⟩ => show win0_0.index t 2 * 256 + 1 * (y 2).val = (y 2).val; rw [hi.2.2]; omega

/-- What a grid point reads of branch 1: its 512 tokens. -/
theorem blk1 (c : Dev nD) (t : Fin cfg0.N) (y : S1x512x256.Idx) :
    iblk m c 1 t y = m ((c : Thread nD τ).loc main_arg1) (ix3 (row t) (tok t (y 1)) (y 2)) := by
  have hN : t.val < 32 := lt_of_lt_of_eq t.isLt (show cfg0.N = 32 from N_0)
  have hi := (by decide +kernel : ∀ t : Fin grid0.N, win0_1.index t 0 = t.val / 16 ∧ win0_1.index t 1 = t.val % 16 ∧ win0_1.index t 2 = 0) t
  have hy0 : (y 0).val < 1 := (y 0).isLt
  unfold iblk
  rw [View.read_apply]
  show V m c main_arg1 _ = _
  rw [V_main_arg1]
  congr 1
  funext a
  apply Fin.ext
  match a with
  | ⟨0, _⟩ => show win0_1.index t 0 * 1 + 1 * (y 0).val = t.val / 16; rw [hi.1]; omega
  | ⟨1, _⟩ => show win0_1.index t 1 * 512 + 1 * (y 1).val = 512 * (t.val % 16) + (y 1).val; rw [hi.2.1]; omega
  | ⟨2, _⟩ => show win0_1.index t 2 * 256 + 1 * (y 2).val = (y 2).val; rw [hi.2.2]; omega

/-- What a grid point reads of branch 2: its 512 tokens. -/
theorem blk2 (c : Dev nD) (t : Fin cfg0.N) (y : S1x512x256.Idx) :
    iblk m c 2 t y = m ((c : Thread nD τ).loc main_arg2) (ix3 (row t) (tok t (y 1)) (y 2)) := by
  have hN : t.val < 32 := lt_of_lt_of_eq t.isLt (show cfg0.N = 32 from N_0)
  have hi := (by decide +kernel : ∀ t : Fin grid0.N, win0_2.index t 0 = t.val / 16 ∧ win0_2.index t 1 = t.val % 16 ∧ win0_2.index t 2 = 0) t
  have hy0 : (y 0).val < 1 := (y 0).isLt
  unfold iblk
  rw [View.read_apply]
  show V m c main_arg2 _ = _
  rw [V_main_arg2]
  congr 1
  funext a
  apply Fin.ext
  match a with
  | ⟨0, _⟩ => show win0_2.index t 0 * 1 + 1 * (y 0).val = t.val / 16; rw [hi.1]; omega
  | ⟨1, _⟩ => show win0_2.index t 1 * 512 + 1 * (y 1).val = 512 * (t.val % 16) + (y 1).val; rw [hi.2.1]; omega
  | ⟨2, _⟩ => show win0_2.index t 2 * 256 + 1 * (y 2).val = (y 2).val; rw [hi.2.2]; omega

/-- What a grid point reads of branch 3: its 512 tokens. -/
theorem blk3 (c : Dev nD) (t : Fin cfg0.N) (y : S1x512x256.Idx) :
    iblk m c 3 t y = m ((c : Thread nD τ).loc main_arg3) (ix3 (row t) (tok t (y 1)) (y 2)) := by
  have hN : t.val < 32 := lt_of_lt_of_eq t.isLt (show cfg0.N = 32 from N_0)
  have hi := (by decide +kernel : ∀ t : Fin grid0.N, win0_3.index t 0 = t.val / 16 ∧ win0_3.index t 1 = t.val % 16 ∧ win0_3.index t 2 = 0) t
  have hy0 : (y 0).val < 1 := (y 0).isLt
  unfold iblk
  rw [View.read_apply]
  show V m c main_arg3 _ = _
  rw [V_main_arg3]
  congr 1
  funext a
  apply Fin.ext
  match a with
  | ⟨0, _⟩ => show win0_3.index t 0 * 1 + 1 * (y 0).val = t.val / 16; rw [hi.1]; omega
  | ⟨1, _⟩ => show win0_3.index t 1 * 512 + 1 * (y 1).val = 512 * (t.val % 16) + (y 1).val; rw [hi.2.1]; omega
  | ⟨2, _⟩ => show win0_3.index t 2 * 256 + 1 * (y 2).val = (y 2).val; rw [hi.2.2]; omega

/-- What a grid point reads of branch 0's gates: columns 0 to 1023 of its 512 tokens. -/
theorem blk4 (c : Dev nD) (t : Fin cfg0.N) (y : S1x512x1024.Idx) :
    iblk m c 4 t y = m ((c : Thread nD τ).loc main_arg4) (ix3 (row t) (tok t (y 1)) ⟨0 + (y 2).val, by have h : (y 2).val < 1024 := (y 2).isLt; omega⟩) := by
  have hN : t.val < 32 := lt_of_lt_of_eq t.isLt (show cfg0.N = 32 from N_0)
  have hi := (by decide +kernel : ∀ t : Fin grid0.N, win0_4.index t 0 = t.val / 16 ∧ win0_4.index t 1 = t.val % 16 ∧ win0_4.index t 2 = 0) t
  have hy0 : (y 0).val < 1 := (y 0).isLt
  unfold iblk
  rw [View.read_apply]
  show V m c main_arg4 _ = _
  rw [V_main_arg4]
  congr 1
  funext a
  apply Fin.ext
  match a with
  | ⟨0, _⟩ => show win0_4.index t 0 * 1 + 1 * (y 0).val = t.val / 16; rw [hi.1]; omega
  | ⟨1, _⟩ => show win0_4.index t 1 * 512 + 1 * (y 1).val = 512 * (t.val % 16) + (y 1).val; rw [hi.2.1]; omega
  | ⟨2, _⟩ => show win0_4.index t 2 * 1024 + 1 * (y 2).val = 0 + (y 2).val; rw [hi.2.2]; omega

/-- What a grid point reads of branch 1's gates: columns 1024 to 2047 of its 512 tokens. -/
theorem blk5 (c : Dev nD) (t : Fin cfg0.N) (y : S1x512x1024.Idx) :
    iblk m c 5 t y = m ((c : Thread nD τ).loc main_arg4) (ix3 (row t) (tok t (y 1)) ⟨1024 + (y 2).val, by have h : (y 2).val < 1024 := (y 2).isLt; omega⟩) := by
  have hN : t.val < 32 := lt_of_lt_of_eq t.isLt (show cfg0.N = 32 from N_0)
  have hi := (by decide +kernel : ∀ t : Fin grid0.N, win0_5.index t 0 = t.val / 16 ∧ win0_5.index t 1 = t.val % 16 ∧ win0_5.index t 2 = 1) t
  have hy0 : (y 0).val < 1 := (y 0).isLt
  unfold iblk
  rw [View.read_apply]
  show V m c main_arg4 _ = _
  rw [V_main_arg4]
  congr 1
  funext a
  apply Fin.ext
  match a with
  | ⟨0, _⟩ => show win0_5.index t 0 * 1 + 1 * (y 0).val = t.val / 16; rw [hi.1]; omega
  | ⟨1, _⟩ => show win0_5.index t 1 * 512 + 1 * (y 1).val = 512 * (t.val % 16) + (y 1).val; rw [hi.2.1]; omega
  | ⟨2, _⟩ => show win0_5.index t 2 * 1024 + 1 * (y 2).val = 1024 + (y 2).val; rw [hi.2.2]; omega

/-- What a grid point reads of branch 2's gates: columns 2048 to 3071 of its 512 tokens. -/
theorem blk6 (c : Dev nD) (t : Fin cfg0.N) (y : S1x512x1024.Idx) :
    iblk m c 6 t y = m ((c : Thread nD τ).loc main_arg4) (ix3 (row t) (tok t (y 1)) ⟨2048 + (y 2).val, by have h : (y 2).val < 1024 := (y 2).isLt; omega⟩) := by
  have hN : t.val < 32 := lt_of_lt_of_eq t.isLt (show cfg0.N = 32 from N_0)
  have hi := (by decide +kernel : ∀ t : Fin grid0.N, win0_6.index t 0 = t.val / 16 ∧ win0_6.index t 1 = t.val % 16 ∧ win0_6.index t 2 = 2) t
  have hy0 : (y 0).val < 1 := (y 0).isLt
  unfold iblk
  rw [View.read_apply]
  show V m c main_arg4 _ = _
  rw [V_main_arg4]
  congr 1
  funext a
  apply Fin.ext
  match a with
  | ⟨0, _⟩ => show win0_6.index t 0 * 1 + 1 * (y 0).val = t.val / 16; rw [hi.1]; omega
  | ⟨1, _⟩ => show win0_6.index t 1 * 512 + 1 * (y 1).val = 512 * (t.val % 16) + (y 1).val; rw [hi.2.1]; omega
  | ⟨2, _⟩ => show win0_6.index t 2 * 1024 + 1 * (y 2).val = 2048 + (y 2).val; rw [hi.2.2]; omega

/-- What a grid point reads of branch 3's gates: columns 3072 to 4095 of its 512 tokens. -/
theorem blk7 (c : Dev nD) (t : Fin cfg0.N) (y : S1x512x1024.Idx) :
    iblk m c 7 t y = m ((c : Thread nD τ).loc main_arg4) (ix3 (row t) (tok t (y 1)) ⟨3072 + (y 2).val, by have h : (y 2).val < 1024 := (y 2).isLt; omega⟩) := by
  have hN : t.val < 32 := lt_of_lt_of_eq t.isLt (show cfg0.N = 32 from N_0)
  have hi := (by decide +kernel : ∀ t : Fin grid0.N, win0_7.index t 0 = t.val / 16 ∧ win0_7.index t 1 = t.val % 16 ∧ win0_7.index t 2 = 3) t
  have hy0 : (y 0).val < 1 := (y 0).isLt
  unfold iblk
  rw [View.read_apply]
  show V m c main_arg4 _ = _
  rw [V_main_arg4]
  congr 1
  funext a
  apply Fin.ext
  match a with
  | ⟨0, _⟩ => show win0_7.index t 0 * 1 + 1 * (y 0).val = t.val / 16; rw [hi.1]; omega
  | ⟨1, _⟩ => show win0_7.index t 1 * 512 + 1 * (y 1).val = 512 * (t.val % 16) + (y 1).val; rw [hi.2.1]; omega
  | ⟨2, _⟩ => show win0_7.index t 2 * 1024 + 1 * (y 2).val = 3072 + (y 2).val; rw [hi.2.2]; omega

/-- What a grid point reads of branch 0's weights: all, each times one half. -/
theorem blk8 (c : Dev nD) (t : Fin cfg0.N) (y : S256x1024.Idx) :
    iblk m c 8 t y = wh (m ((c : Thread nD τ).loc main_arg5)) (y 0) (y 1) := by
  have hN : t.val < 32 := lt_of_lt_of_eq t.isLt (show cfg0.N = 32 from N_0)
  have hi := (by decide +kernel : ∀ t : Fin grid0.N, win0_8.index t 0 = 0 ∧ win0_8.index t 1 = 0) t
  have e : V m c main_v2 = (truncf (F := Ideal) .bf16 (mulf (m ((c : Thread nD τ).loc main_arg5) : FVec Ideal S256x1024 .f32) (broadcastInDim S256x1024 ![] bcast_S_S256x1024 (constant S_ .f32 0x3F000000#32))) bitsLt_bf16_f32 : Vec Ideal S256x1024 .bf16) := by
    show StableHlo.after hostOps0 (fun b => m (c, b)) (Proc.devRef .tc main_v2) = _
    after_results_simp <;> rfl
  unfold iblk
  rw [View.read_apply]
  show V m c main_v2 _ = _
  rw [e]
  have hx : ((cfg0.win 8).blk t).view.emb y = (y : S256x1024.Idx) := by
    funext a
    apply Fin.ext
    match a with
    | ⟨0, _⟩ => show win0_8.index t 0 * 256 + 1 * (y 0).val = (y 0).val; rw [hi.1]; omega
    | ⟨1, _⟩ => show win0_8.index t 1 * 1024 + 1 * (y 1).val = (y 1).val; rw [hi.2]; omega
  exact (congrArg _ hx).trans (halves _ _)

/-- What a grid point reads of branch 1's weights: all, each times one half. -/
theorem blk9 (c : Dev nD) (t : Fin cfg0.N) (y : S256x1024.Idx) :
    iblk m c 9 t y = wh (m ((c : Thread nD τ).loc main_arg6)) (y 0) (y 1) := by
  have hN : t.val < 32 := lt_of_lt_of_eq t.isLt (show cfg0.N = 32 from N_0)
  have hi := (by decide +kernel : ∀ t : Fin grid0.N, win0_9.index t 0 = 0 ∧ win0_9.index t 1 = 0) t
  have e : V m c main_v5 = (truncf (F := Ideal) .bf16 (mulf (m ((c : Thread nD τ).loc main_arg6) : FVec Ideal S256x1024 .f32) (broadcastInDim S256x1024 ![] bcast_S_S256x1024 (constant S_ .f32 0x3F000000#32))) bitsLt_bf16_f32 : Vec Ideal S256x1024 .bf16) := by
    show StableHlo.after hostOps0 (fun b => m (c, b)) (Proc.devRef .tc main_v5) = _
    after_results_simp <;> rfl
  unfold iblk
  rw [View.read_apply]
  show V m c main_v5 _ = _
  rw [e]
  have hx : ((cfg0.win 9).blk t).view.emb y = (y : S256x1024.Idx) := by
    funext a
    apply Fin.ext
    match a with
    | ⟨0, _⟩ => show win0_9.index t 0 * 256 + 1 * (y 0).val = (y 0).val; rw [hi.1]; omega
    | ⟨1, _⟩ => show win0_9.index t 1 * 1024 + 1 * (y 1).val = (y 1).val; rw [hi.2]; omega
  exact (congrArg _ hx).trans (halves _ _)

/-- What a grid point reads of branch 2's weights: all, each times one half. -/
theorem blk10 (c : Dev nD) (t : Fin cfg0.N) (y : S256x1024.Idx) :
    iblk m c 10 t y = wh (m ((c : Thread nD τ).loc main_arg7)) (y 0) (y 1) := by
  have hN : t.val < 32 := lt_of_lt_of_eq t.isLt (show cfg0.N = 32 from N_0)
  have hi := (by decide +kernel : ∀ t : Fin grid0.N, win0_10.index t 0 = 0 ∧ win0_10.index t 1 = 0) t
  have e : V m c main_v8 = (truncf (F := Ideal) .bf16 (mulf (m ((c : Thread nD τ).loc main_arg7) : FVec Ideal S256x1024 .f32) (broadcastInDim S256x1024 ![] bcast_S_S256x1024 (constant S_ .f32 0x3F000000#32))) bitsLt_bf16_f32 : Vec Ideal S256x1024 .bf16) := by
    show StableHlo.after hostOps0 (fun b => m (c, b)) (Proc.devRef .tc main_v8) = _
    after_results_simp <;> rfl
  unfold iblk
  rw [View.read_apply]
  show V m c main_v8 _ = _
  rw [e]
  have hx : ((cfg0.win 10).blk t).view.emb y = (y : S256x1024.Idx) := by
    funext a
    apply Fin.ext
    match a with
    | ⟨0, _⟩ => show win0_10.index t 0 * 256 + 1 * (y 0).val = (y 0).val; rw [hi.1]; omega
    | ⟨1, _⟩ => show win0_10.index t 1 * 1024 + 1 * (y 1).val = (y 1).val; rw [hi.2]; omega
  exact (congrArg _ hx).trans (halves _ _)

/-- What a grid point reads of branch 3's weights: all, each times one half. -/
theorem blk11 (c : Dev nD) (t : Fin cfg0.N) (y : S256x1024.Idx) :
    iblk m c 11 t y = wh (m ((c : Thread nD τ).loc main_arg8)) (y 0) (y 1) := by
  have hN : t.val < 32 := lt_of_lt_of_eq t.isLt (show cfg0.N = 32 from N_0)
  have hi := (by decide +kernel : ∀ t : Fin grid0.N, win0_11.index t 0 = 0 ∧ win0_11.index t 1 = 0) t
  have e : V m c main_v11 = (truncf (F := Ideal) .bf16 (mulf (m ((c : Thread nD τ).loc main_arg8) : FVec Ideal S256x1024 .f32) (broadcastInDim S256x1024 ![] bcast_S_S256x1024 (constant S_ .f32 0x3F000000#32))) bitsLt_bf16_f32 : Vec Ideal S256x1024 .bf16) := by
    show StableHlo.after hostOps0 (fun b => m (c, b)) (Proc.devRef .tc main_v11) = _
    after_results_simp <;> rfl
  unfold iblk
  rw [View.read_apply]
  show V m c main_v11 _ = _
  rw [e]
  have hx : ((cfg0.win 11).blk t).view.emb y = (y : S256x1024.Idx) := by
    funext a
    apply Fin.ext
    match a with
    | ⟨0, _⟩ => show win0_11.index t 0 * 256 + 1 * (y 0).val = (y 0).val; rw [hi.1]; omega
    | ⟨1, _⟩ => show win0_11.index t 1 * 1024 + 1 * (y 1).val = (y 1).val; rw [hi.2]; omega
  exact (congrArg _ hx).trans (halves _ _)

/-- What a grid point reads of the output weights: all. -/
theorem blk12 (c : Dev nD) (t : Fin cfg0.N) (y : S1024x1024.Idx) :
    iblk m c 12 t y = m ((c : Thread nD τ).loc main_arg9) (ix2 (y 0) (y 1)) := by
  have hN : t.val < 32 := lt_of_lt_of_eq t.isLt (show cfg0.N = 32 from N_0)
  have hi := (by decide +kernel : ∀ t : Fin grid0.N, win0_12.index t 0 = 0 ∧ win0_12.index t 1 = 0) t
  have e : V m c main_v12 = (truncf (F := Ideal) .bf16 (m ((c : Thread nD τ).loc main_arg9) : FVec Ideal S1024x1024 .f32) bitsLt_bf16_f32 : Vec Ideal S1024x1024 .bf16) := by
    show StableHlo.after hostOps0 (fun b => m (c, b)) (Proc.devRef .tc main_v12) = _
    after_results_simp <;> rfl
  unfold iblk
  rw [View.read_apply]
  show V m c main_v12 _ = _
  rw [e]
  have hx : ((cfg0.win 12).blk t).view.emb y = (ix2 (y 0) (y 1) : S1024x1024.Idx) := by
    funext a
    apply Fin.ext
    match a with
    | ⟨0, _⟩ => show win0_12.index t 0 * 1024 + 1 * (y 0).val = (y 0).val; rw [hi.1]; omega
    | ⟨1, _⟩ => show win0_12.index t 1 * 1024 + 1 * (y 1).val = (y 1).val; rw [hi.2]; omega
  exact (congrArg _ hx).trans (rfl)

/-- What a grid point reads of the residual: its 512 tokens. -/
theorem blk13 (c : Dev nD) (t : Fin cfg0.N) (y : S1x512x1024.Idx) :
    iblk m c 13 t y = m ((c : Thread nD τ).loc main_arg10) (ix3 (row t) (tok t (y 1)) (y 2)) := by
  have hN : t.val < 32 := lt_of_lt_of_eq t.isLt (show cfg0.N = 32 from N_0)
  have hi := (by decide +kernel : ∀ t : Fin grid0.N, win0_13.index t 0 = t.val / 16 ∧ win0_13.index t 1 = t.val % 16 ∧ win0_13.index t 2 = 0) t
  have hy0 : (y 0).val < 1 := (y 0).isLt
  unfold iblk
  rw [View.read_apply]
  show V m c main_arg10 _ = _
  rw [V_main_arg10]
  congr 1
  funext a
  apply Fin.ext
  match a with
  | ⟨0, _⟩ => show win0_13.index t 0 * 1 + 1 * (y 0).val = t.val / 16; rw [hi.1]; omega
  | ⟨1, _⟩ => show win0_13.index t 1 * 512 + 1 * (y 1).val = 512 * (t.val % 16) + (y 1).val; rw [hi.2.1]; omega
  | ⟨2, _⟩ => show win0_13.index t 2 * 1024 + 1 * (y 2).val = (y 2).val; rw [hi.2.2]; omega

/-- What a grid point reads of the residual's scales: its batch row's. -/
theorem blk14 (c : Dev nD) (t : Fin cfg0.N) (y : S1x1x1024.Idx) :
    iblk m c 14 t y = m ((c : Thread nD τ).loc main_arg11) (ix3 (row t) 0 (y 2)) := by
  have hN : t.val < 32 := lt_of_lt_of_eq t.isLt (show cfg0.N = 32 from N_0)
  have hi := (by decide +kernel : ∀ t : Fin grid0.N, win0_14.index t 0 = t.val / 16 ∧ win0_14.index t 1 = 0 ∧ win0_14.index t 2 = 0) t
  have hy0 : (y 0).val < 1 := (y 0).isLt
  have hy1 : (y 1).val < 1 := (y 1).isLt
  unfold iblk
  rw [View.read_apply]
  show V m c main_arg11 _ = _
  rw [V_main_arg11]
  congr 1
  funext a
  apply Fin.ext
  match a with
  | ⟨0, _⟩ => show win0_14.index t 0 * 1 + 1 * (y 0).val = t.val / 16; rw [hi.1]; omega
  | ⟨1, _⟩ => show win0_14.index t 1 * 1 + 1 * (y 1).val = 0; rw [hi.2.1]; omega
  | ⟨2, _⟩ => show win0_14.index t 2 * 1024 + 1 * (y 2).val = (y 2).val; rw [hi.2.2]; omega

/-- What a grid point reads of the norm's gains: all. -/
theorem blk15 (c : Dev nD) (t : Fin cfg0.N) (y : S1x1024.Idx) :
    iblk m c 15 t y = m ((c : Thread nD τ).loc main_arg12) (ix1 (y 1)) := by
  have hN : t.val < 32 := lt_of_lt_of_eq t.isLt (show cfg0.N = 32 from N_0)
  have hi := (by decide +kernel : ∀ t : Fin grid0.N, win0_15.index t 0 = 0 ∧ win0_15.index t 1 = 0) t
  have hy0 : (y 0).val < 1 := (y 0).isLt
  have e : V m c main_v13 = (broadcastInDim S1x1024 ![1] bcast_S1024_S1x1024_1 (m ((c : Thread nD τ).loc main_arg12) : Vec Ideal S1024 .f32) : Vec Ideal S1x1024 .f32) := by
    show StableHlo.after hostOps0 (fun b => m (c, b)) (Proc.devRef .tc main_v13) = _
    after_results_simp <;> rfl
  unfold iblk
  rw [View.read_apply]
  show V m c main_v13 _ = _
  rw [e]
  have hx : ((cfg0.win 15).blk t).view.emb y = (ix2 (y 0) (y 1) : S1x1024.Idx) := by
    funext a
    apply Fin.ext
    match a with
    | ⟨0, _⟩ => show win0_15.index t 0 * 1 + 1 * (y 0).val = (y 0).val; rw [hi.1]; omega
    | ⟨1, _⟩ => show win0_15.index t 1 * 1024 + 1 * (y 1).val = (y 1).val; rw [hi.2]; omega
  exact (congrArg _ hx).trans (gains _ _)

/-- What a grid point reads of the scales: its batch row's. -/
theorem blk16 (c : Dev nD) (t : Fin cfg0.N) (y : S1x1x1024.Idx) :
    iblk m c 16 t y = m ((c : Thread nD τ).loc main_arg13) (ix3 (row t) 0 (y 2)) := by
  have hN : t.val < 32 := lt_of_lt_of_eq t.isLt (show cfg0.N = 32 from N_0)
  have hi := (by decide +kernel : ∀ t : Fin grid0.N, win0_16.index t 0 = t.val / 16 ∧ win0_16.index t 1 = 0 ∧ win0_16.index t 2 = 0) t
  have hy0 : (y 0).val < 1 := (y 0).isLt
  have hy1 : (y 1).val < 1 := (y 1).isLt
  unfold iblk
  rw [View.read_apply]
  show V m c main_arg13 _ = _
  rw [V_main_arg13]
  congr 1
  funext a
  apply Fin.ext
  match a with
  | ⟨0, _⟩ => show win0_16.index t 0 * 1 + 1 * (y 0).val = t.val / 16; rw [hi.1]; omega
  | ⟨1, _⟩ => show win0_16.index t 1 * 1 + 1 * (y 1).val = 0; rw [hi.2.1]; omega
  | ⟨2, _⟩ => show win0_16.index t 2 * 1024 + 1 * (y 2).val = (y 2).val; rw [hi.2.2]; omega

/-- What a grid point reads of the shifts: its batch row's. -/
theorem blk17 (c : Dev nD) (t : Fin cfg0.N) (y : S1x1x1024.Idx) :
    iblk m c 17 t y = m ((c : Thread nD τ).loc main_arg14) (ix3 (row t) 0 (y 2)) := by
  have hN : t.val < 32 := lt_of_lt_of_eq t.isLt (show cfg0.N = 32 from N_0)
  have hi := (by decide +kernel : ∀ t : Fin grid0.N, win0_17.index t 0 = t.val / 16 ∧ win0_17.index t 1 = 0 ∧ win0_17.index t 2 = 0) t
  have hy0 : (y 0).val < 1 := (y 0).isLt
  have hy1 : (y 1).val < 1 := (y 1).isLt
  unfold iblk
  rw [View.read_apply]
  show V m c main_arg14 _ = _
  rw [V_main_arg14]
  congr 1
  funext a
  apply Fin.ext
  match a with
  | ⟨0, _⟩ => show win0_17.index t 0 * 1 + 1 * (y 0).val = t.val / 16; rw [hi.1]; omega
  | ⟨1, _⟩ => show win0_17.index t 1 * 1 + 1 * (y 1).val = 0; rw [hi.2.1]; omega
  | ⟨2, _⟩ => show win0_17.index t 2 * 1024 + 1 * (y 2).val = (y 2).val; rw [hi.2.2]; omega

/-- What a grid point reads of the router: all, transposed. -/
theorem blk18 (c : Dev nD) (t : Fin cfg0.N) (y : S16x1024.Idx) :
    iblk m c 18 t y = m ((c : Thread nD τ).loc main_arg15) (ix2 (y 1) (y 0)) := by
  have hN : t.val < 32 := lt_of_lt_of_eq t.isLt (show cfg0.N = 32 from N_0)
  have hi := (by decide +kernel : ∀ t : Fin grid0.N, win0_18.index t 0 = 0 ∧ win0_18.index t 1 = 0) t
  have e : V m c main_v14 = (transpose S16x1024 [1, 0] (m ((c : Thread nD τ).loc main_arg15) : FVec Ideal S1024x16 .f32) transposes_S1024x16_S16x1024_1_0 : Vec Ideal S16x1024 .f32) := by
    show StableHlo.after hostOps0 (fun b => m (c, b)) (Proc.devRef .tc main_v14) = _
    after_results_simp <;> rfl
  unfold iblk
  rw [View.read_apply]
  show V m c main_v14 _ = _
  rw [e]
  have hx : ((cfg0.win 18).blk t).view.emb y = (y : S16x1024.Idx) := by
    funext a
    apply Fin.ext
    match a with
    | ⟨0, _⟩ => show win0_18.index t 0 * 16 + 1 * (y 0).val = (y 0).val; rw [hi.1]; omega
    | ⟨1, _⟩ => show win0_18.index t 1 * 1024 + 1 * (y 1).val = (y 1).val; rw [hi.2]; omega
  exact (congrArg _ hx).trans (router _ _)

end Cert.Proof.Merge
-- ==== Proof.MergeEnd.lean ====
/-
  The branches' merge: the three arrays the call ends with, and that at real arguments they are the plain layer's.
-/
module

public import proofs.«01_k».proof.Proof.Merge

@[expose] public section

set_option maxRecDepth 16384

noncomputable section

namespace Cert.Proof.Merge

open Idealize.ShloMosaic Idealize.ShloMosaic.Tactic Idealize.SL.Sem Cert.Kernel5Ideal Cert.Kernel5Ideal.Gen Idealize.ShloMosaic.TcCoe
open Cert.Proof.Scalar

/-- The residual of batch row `s`, token `t`, feature `n`, as the kernel adds it up. -/
def kx (a : Vec Ideal S2x8192x256 .bf16) (b : Vec Ideal S2x8192x256 .f32) (cc : Vec Ideal S2x8192x256 .bf16) (d : Vec Ideal S2x8192x256 .bf16) (zg : Vec Ideal S2x8192x4096 .bf16) (wa : Vec Ideal S256x1024 .f32) (wb : Vec Ideal S256x1024 .f32) (wc : Vec Ideal S256x1024 .f32) (wd : Vec Ideal S256x1024 .f32) (wo : Vec Ideal S1024x1024 .f32) (x : Vec Ideal S2x8192x1024 .f32) (gt : Vec Ideal S2x1x1024 .f32) (s : Fin 2) (t : Fin 8192) (n : Fin 1024) : EReal :=
  x (ix3 s t n) + gt (ix3 s 0 n) * ∑ j : Fin 1024,
    (gate (∑ q : Fin 256, a (ix3 s t q) * wh wa q j) (zg (ix3 s t ⟨0 + j.val, by omega⟩))
        + gate (∑ q : Fin 256, b (ix3 s t q) * wh wb q j) (zg (ix3 s t ⟨1024 + j.val, by omega⟩))
        + gate (∑ q : Fin 256, cc (ix3 s t q) * wh wc q j) (zg (ix3 s t ⟨2048 + j.val, by omega⟩))
        + gate (∑ q : Fin 256, d (ix3 s t q) * wh wd q j) (zg (ix3 s t ⟨3072 + j.val, by omega⟩))) * wo (ix2 j n)

/-- The plain layer's gate: the sigmoid of twice `z`. -/
def sgm (z : EReal) : EReal := Ideal.div 1 (1 + Ideal.exp (-(Ideal.ofBits .f32 0x40000000#32 * z)))

/-- The residual of batch row `s`, token `t`, feature `n`, as the plain layer adds it up. -/
def px (a : Vec Ideal S2x8192x256 .bf16) (b : Vec Ideal S2x8192x256 .f32) (cc : Vec Ideal S2x8192x256 .bf16) (d : Vec Ideal S2x8192x256 .bf16) (zg : Vec Ideal S2x8192x4096 .bf16) (wa : Vec Ideal S256x1024 .f32) (wb : Vec Ideal S256x1024 .f32) (wc : Vec Ideal S256x1024 .f32) (wd : Vec Ideal S256x1024 .f32) (wo : Vec Ideal S1024x1024 .f32) (x : Vec Ideal S2x8192x1024 .f32) (gt : Vec Ideal S2x1x1024 .f32) (s : Fin 2) (t : Fin 8192) (n : Fin 1024) : EReal :=
  x (ix3 s t n) + gt (ix3 s 0 n) * ∑ j : Fin 1024,
    (sgm (zg (ix3 s t ⟨0 + j.val, by omega⟩)) * (∑ q : Fin 256, a (ix3 s t q) * wa (ix2 q j))
        + sgm (zg (ix3 s t ⟨1024 + j.val, by omega⟩)) * (∑ q : Fin 256, b (ix3 s t q) * wb (ix2 q j))
        + sgm (zg (ix3 s t ⟨2048 + j.val, by omega⟩)) * (∑ q : Fin 256, cc (ix3 s t q) * wc (ix2 q j))
        + sgm (zg (ix3 s t ⟨3072 + j.val, by omega⟩)) * (∑ q : Fin 256, d (ix3 s t q) * wd (ix2 q j))) * wo (ix2 j n)

/-- A product with the half weights is half the product. -/
theorem half_prod (u : Fin 256 → EReal) (w : Vec Ideal S256x1024 .f32) (j : Fin 1024) :
    ∑ q : Fin 256, u q * wh w q j = half * ∑ q : Fin 256, u q * w (ix2 q j) := by
  rw [half_sum]
  exact Finset.sum_congr rfl fun q _ => by unfold wh; rw [← mul_assoc, mul_comm]

/-- A branch's part, both ways. -/
theorem gate_sig (u : Fin 256 → EReal) (w : Vec Ideal S256x1024 .f32) (j : Fin 1024) (z : EReal) (hu : ∀ q, IsReal (u q)) (hw : ∀ i, IsReal (w i)) :
    gate (∑ q : Fin 256, u q * wh w q j) z = sgm z * ∑ q : Fin 256, u q * w (ix2 q j) := by
  rw [half_prod]
  exact gate_eq _ _ (IsReal.sum fun q => (hu q).mul (hw _))

/-- The two residuals agree where branches and branch weights are real. -/
theorem kx_eq (a : Vec Ideal S2x8192x256 .bf16) (b : Vec Ideal S2x8192x256 .f32) (cc : Vec Ideal S2x8192x256 .bf16) (d : Vec Ideal S2x8192x256 .bf16) (zg : Vec Ideal S2x8192x4096 .bf16) (wa : Vec Ideal S256x1024 .f32) (wb : Vec Ideal S256x1024 .f32) (wc : Vec Ideal S256x1024 .f32) (wd : Vec Ideal S256x1024 .f32) (wo : Vec Ideal S1024x1024 .f32) (x : Vec Ideal S2x8192x1024 .f32) (gt : Vec Ideal S2x1x1024 .f32)
    (ha : ∀ i, IsReal (a i)) (hb : ∀ i, IsReal (b i)) (hc : ∀ i, IsReal (cc i)) (hd : ∀ i, IsReal (d i))
    (hwa : ∀ i, IsReal (wa i)) (hwb : ∀ i, IsReal (wb i)) (hwc : ∀ i, IsReal (wc i)) (hwd : ∀ i, IsReal (wd i)) :
    kx a b cc d zg wa wb wc wd wo x gt = px a b cc d zg wa wb wc wd wo x gt := by
  funext s t n
  unfold kx px
  congr 2
  refine Finset.sum_congr rfl fun j _ => ?_
  rw [gate_sig _ wa j _ (fun q => ha _) hwa, gate_sig _ wb j _ (fun q => hb _) hwb, gate_sig _ wc j _ (fun q => hc _) hwc, gate_sig _ wd j _ (fun q => hd _) hwd]

/-- A normalised row is real, whatever the row, where its gain and modulation are. -/
theorem isReal_hid (v : Fin 1024 → EReal) (g sc sh : EReal) (hg : IsReal g) (hsc : IsReal sc) (hsh : IsReal sh) (q : Fin 1024) :
    IsReal (hid v g sc sh q) :=
  (((isReal_normed v q).mul hg).mul (isReal_one.add hsc)).add hsh

/-- The router's logit is the plain product where the row and the router are real: both remainders are zero. -/
theorem logit3_eq (h r : Fin 1024 → EReal) (hh : ∀ q, IsReal (h q)) (hr : ∀ q, IsReal (r q)) : logit3 h r = ∑ q : Fin 1024, h q * r q := by
  unfold logit3
  simp only [(hh _).sub_self, (hr _).sub_self, zero_mul, mul_zero, Finset.sum_const_zero, add_zero]
  exact Finset.sum_congr rfl fun q _ => mul_comm _ _

variable (m : (ℓ : Loc nD τ sig) → Buf (Elt Ideal) ℓ)

/-- The residual from the launch's arguments. -/
def mx (c : Dev nD) : Fin 2 → Fin 8192 → Fin 1024 → EReal := kx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- A grid point's residual, from the whole arrays. -/
theorem blkx_eq (c : Dev nD) (t : Fin cfg0.N) (r : Fin 512) (n : Fin 1024) :
    blkx (iblk m c 0 t) (iblk m c 8 t) (iblk m c 4 t) (iblk m c 1 t) (iblk m c 9 t) (iblk m c 5 t) (iblk m c 2 t) (iblk m c 10 t) (iblk m c 6 t) (iblk m c 3 t) (iblk m c 11 t) (iblk m c 7 t) (iblk m c 12 t) (iblk m c 13 t) (iblk m c 14 t) r n
      = mx m c (row t) (tok t r) n := by
  unfold blkx mx kx
  simp only [blk0, blk1, blk2, blk3, blk4, blk5, blk6, blk7, blk8, blk9, blk10, blk11, blk12, blk13, blk14]
  rfl

/-- A grid point's normalised row, from the whole arrays. -/
theorem hid_eq (c : Dev nD) (t : Fin cfg0.N) (r : Fin 512) (p : Fin 1024) :
    hid (fun q => blkx (iblk m c 0 t) (iblk m c 8 t) (iblk m c 4 t) (iblk m c 1 t) (iblk m c 9 t) (iblk m c 5 t) (iblk m c 2 t) (iblk m c 10 t) (iblk m c 6 t) (iblk m c 3 t) (iblk m c 11 t) (iblk m c 7 t) (iblk m c 12 t) (iblk m c 13 t) (iblk m c 14 t) r q) (iblk m c 15 t (ix2 0 p)) (iblk m c 16 t (ix3 0 0 p)) (iblk m c 17 t (ix3 0 0 p)) p
      = hid (mx m c (row t) (tok t r)) (m ((c : Thread nD τ).loc main_arg12) (ix1 p)) (m ((c : Thread nD τ).loc main_arg13) (ix3 (row t) 0 p)) (m ((c : Thread nD τ).loc main_arg14) (ix3 (row t) 0 p)) p := by
  simp only [blkx_eq, blk15, blk16, blk17]
  rfl

/-- A grid point's routing weights, from the whole arrays. -/
theorem soft_eq (c : Dev nD) (t : Fin cfg0.N) (r : Fin 512) (e : Fin 16) :
    soft (fun e => logit3 (fun p => hid (fun q => blkx (iblk m c 0 t) (iblk m c 8 t) (iblk m c 4 t) (iblk m c 1 t) (iblk m c 9 t) (iblk m c 5 t) (iblk m c 2 t) (iblk m c 10 t) (iblk m c 6 t) (iblk m c 3 t) (iblk m c 11 t) (iblk m c 7 t) (iblk m c 12 t) (iblk m c 13 t) (iblk m c 14 t) r q) (iblk m c 15 t (ix2 0 p)) (iblk m c 16 t (ix3 0 0 p)) (iblk m c 17 t (ix3 0 0 p)) p) (fun q => iblk m c 18 t (ix2 e q))) e
      = soft (fun e => logit3 (fun q => hid (mx m c (row t) (tok t r)) (m ((c : Thread nD τ).loc main_arg12) (ix1 q)) (m ((c : Thread nD τ).loc main_arg13) (ix3 (row t) 0 q)) (m ((c : Thread nD τ).loc main_arg14) (ix3 (row t) 0 q)) q) (fun q => m ((c : Thread nD τ).loc main_arg15) (ix2 q e))) e := by
  simp only [hid_eq, blk18]
  rfl

/-- The array of the residual at the end. -/
theorem final19 (c : Dev nD) (i : S2x8192x1024.Idx) :
    (dats m 0 c).arrAt 19 cfg0.N i = mx m c (i 0) (i 1) (i 2) := by
  have h0 : (i 0).val < 2 := (i 0).isLt
  have h1 : (i 1).val < 8192 := (i 1).isLt
  have h2 : (i 2).val < 1024 := (i 2).isLt
  have hN : cfg0.N = 32 := N_0
  obtain ⟨t, ht⟩ : ∃ t : Fin cfg0.N, t.val = 16 * (i 0).val + (i 1).val / 512 := ⟨⟨_, by rw [hN]; omega⟩, rfl⟩
  obtain ⟨y, hy⟩ : ∃ y : S1x512x1024.Idx, y = ix3 0 ⟨(i 1).val % 512, by omega⟩ (i 2) := ⟨_, rfl⟩
  have hi := (by decide +kernel : ∀ t : Fin grid0.N, win0_19.index t 0 = t.val / 16 ∧ win0_19.index t 1 = t.val % 16 ∧ win0_19.index t 2 = 0) t
  have hfl := (by decide +kernel : ∀ t : Fin grid0.N, (cfg0.win 19).flush t = true) t
  have he : ((cfg0.win 19).blk t).view.emb y = i := by
    subst hy
    funext a
    apply Fin.ext
    match a with
    | ⟨0, _⟩ => show win0_19.index t 0 * 1 + 1 * 0 = (i 0).val; rw [hi.1]; omega
    | ⟨1, _⟩ => show win0_19.index t 1 * 512 + 1 * ((i 1).val % 512) = (i 1).val; rw [hi.2.1]; omega
    | ⟨2, _⟩ => show win0_19.index t 2 * 1024 + 1 * (i 2).val = (i 2).val; rw [hi.2.2]; omega
  have hb := congrFun (Value.blocks19 m c t hfl) y
  rw [View.read_apply, Value.flushed19] at hb
  have hr : row t = i 0 := Fin.ext (by show t.val / 16 = _; omega)
  have hk : tok t ⟨(i 1).val % 512, by omega⟩ = i 1 := Fin.ext (by show 512 * (t.val % 16) + (i 1).val % 512 = _; omega)
  have e : (dats m 0 c).arrAt 19 cfg0.N i = (dats m 0 c).arrAt 19 cfg0.N (((cfg0.win 19).blk t).view.emb y) := congrArg _ he.symm
  refine e.trans (hb.trans ?_)
  subst hy
  refine (out_19 _ _ _ _ _ _ _ _ _ _ _ _ _ _ _ _ _ _ _ _).trans ?_
  refine Eq.trans (blkx_eq m c t ⟨(i 1).val % 512, by omega⟩ (i 2)) ?_
  rw [hr, hk]

/-- The array of the normalised rows at the end. -/
theorem final20 (c : Dev nD) (i : S2x8192x1024.Idx) :
    (dats m 0 c).arrAt 20 cfg0.N i = (hid (mx m c (i 0) (i 1)) (m ((c : Thread nD τ).loc main_arg12) (ix1 (i 2))) (m ((c : Thread nD τ).loc main_arg13) (ix3 (i 0) 0 (i 2))) (m ((c : Thread nD τ).loc main_arg14) (ix3 (i 0) 0 (i 2))) (i 2)) := by
  have h0 : (i 0).val < 2 := (i 0).isLt
  have h1 : (i 1).val < 8192 := (i 1).isLt
  have h2 : (i 2).val < 1024 := (i 2).isLt
  have hN : cfg0.N = 32 := N_0
  obtain ⟨t, ht⟩ : ∃ t : Fin cfg0.N, t.val = 16 * (i 0).val + (i 1).val / 512 := ⟨⟨_, by rw [hN]; omega⟩, rfl⟩
  obtain ⟨y, hy⟩ : ∃ y : S1x512x1024.Idx, y = ix3 0 ⟨(i 1).val % 512, by omega⟩ (i 2) := ⟨_, rfl⟩
  have hi := (by decide +kernel : ∀ t : Fin grid0.N, win0_20.index t 0 = t.val / 16 ∧ win0_20.index t 1 = t.val % 16 ∧ win0_20.index t 2 = 0) t
  have hfl := (by decide +kernel : ∀ t : Fin grid0.N, (cfg0.win 20).flush t = true) t
  have he : ((cfg0.win 20).blk t).view.emb y = i := by
    subst hy
    funext a
    apply Fin.ext
    match a with
    | ⟨0, _⟩ => show win0_20.index t 0 * 1 + 1 * 0 = (i 0).val; rw [hi.1]; omega
    | ⟨1, _⟩ => show win0_20.index t 1 * 512 + 1 * ((i 1).val % 512) = (i 1).val; rw [hi.2.1]; omega
    | ⟨2, _⟩ => show win0_20.index t 2 * 1024 + 1 * (i 2).val = (i 2).val; rw [hi.2.2]; omega
  have hb := congrFun (Value.blocks20 m c t hfl) y
  rw [View.read_apply, Value.flushed20] at hb
  have hr : row t = i 0 := Fin.ext (by show t.val / 16 = _; omega)
  have hk : tok t ⟨(i 1).val % 512, by omega⟩ = i 1 := Fin.ext (by show 512 * (t.val % 16) + (i 1).val % 512 = _; omega)
  have e : (dats m 0 c).arrAt 20 cfg0.N i = (dats m 0 c).arrAt 20 cfg0.N (((cfg0.win 20).blk t).view.emb y) := congrArg _ he.symm
  refine e.trans (hb.trans ?_)
  subst hy
  refine (out_20 _ _ _ _ _ _ _ _ _ _ _ _ _ _ _ _ _ _ _ _).trans ?_
  refine Eq.trans (hid_eq m c t ⟨(i 1).val % 512, by omega⟩ (i 2)) ?_
  rw [hr, hk]

/-- The array of the routing weights at the end. -/
theorem final21 (c : Dev nD) (i : S2x16x8192.Idx) :
    (dats m 0 c).arrAt 21 cfg0.N i = soft (fun e => logit3 (fun q => (hid (mx m c (i 0) (i 2)) (m ((c : Thread nD τ).loc main_arg12) (ix1 q)) (m ((c : Thread nD τ).loc main_arg13) (ix3 (i 0) 0 q)) (m ((c : Thread nD τ).loc main_arg14) (ix3 (i 0) 0 q)) q)) (fun q => m ((c : Thread nD τ).loc main_arg15) (ix2 q e))) (i 1) := by
  have h0 : (i 0).val < 2 := (i 0).isLt
  have h1 : (i 1).val < 16 := (i 1).isLt
  have h2 : (i 2).val < 8192 := (i 2).isLt
  have hN : cfg0.N = 32 := N_0
  obtain ⟨t, ht⟩ : ∃ t : Fin cfg0.N, t.val = 16 * (i 0).val + (i 2).val / 512 := ⟨⟨_, by rw [hN]; omega⟩, rfl⟩
  obtain ⟨y, hy⟩ : ∃ y : S1x16x512.Idx, y = ix3 0 (i 1) ⟨(i 2).val % 512, by omega⟩ := ⟨_, rfl⟩
  have hi := (by decide +kernel : ∀ t : Fin grid0.N, win0_21.index t 0 = t.val / 16 ∧ win0_21.index t 1 = 0 ∧ win0_21.index t 2 = t.val % 16) t
  have hfl := (by decide +kernel : ∀ t : Fin grid0.N, (cfg0.win 21).flush t = true) t
  have he : ((cfg0.win 21).blk t).view.emb y = i := by
    subst hy
    funext a
    apply Fin.ext
    match a with
    | ⟨0, _⟩ => show win0_21.index t 0 * 1 + 1 * 0 = (i 0).val; rw [hi.1]; omega
    | ⟨1, _⟩ => show win0_21.index t 1 * 16 + 1 * (i 1).val = (i 1).val; rw [hi.2.1]; omega
    | ⟨2, _⟩ => show win0_21.index t 2 * 512 + 1 * ((i 2).val % 512) = (i 2).val; rw [hi.2.2]; omega
  have hb := congrFun (Value.blocks21 m c t hfl) y
  rw [View.read_apply, Value.flushed21] at hb
  have hr : row t = i 0 := Fin.ext (by show t.val / 16 = _; omega)
  have hk : tok t ⟨(i 2).val % 512, by omega⟩ = i 2 := Fin.ext (by show 512 * (t.val % 16) + (i 2).val % 512 = _; omega)
  have e : (dats m 0 c).arrAt 21 cfg0.N i = (dats m 0 c).arrAt 21 cfg0.N (((cfg0.win 21).blk t).view.emb y) := congrArg _ he.symm
  refine e.trans (hb.trans ?_)
  subst hy
  refine (out_21 _ _ _ _ _ _ _ _ _ _ _ _ _ _ _ _ _ _ _ _).trans ?_
  refine Eq.trans (soft_eq m c t ⟨(i 2).val % 512, by omega⟩ (i 1)) ?_
  rw [hr, hk]

end Cert.Proof.Merge
-- ==== Proof.MergePlain.lean ====
/-
  The branches' merge: the plain layer's three arrays, read at an index.
-/
module

public import proofs.«01_k».proof.Proof.Gen.Reference5Ideal.Run
public import proofs.«01_k».proof.Proof.MergeEnd
public import Idealize.ShloMosaic.Lib.IdealHost

@[expose] public section

set_option maxRecDepth 16384

noncomputable section

namespace Cert.Proof.MergePlain

open Idealize.ShloMosaic Idealize.ShloMosaic.Tactic Cert.Reference5Ideal Cert.Reference5Ideal.Gen Idealize.ShloMosaic.TcCoe
open Cert.Proof.Merge (px sgm hid ex soft)

/-- The plain layer's residual, as its program writes it. -/
def xT (a : FVec Ideal S2x8192x256 .bf16) (b : FVec Ideal S2x8192x256 .f32) (cc : FVec Ideal S2x8192x256 .bf16) (d : FVec Ideal S2x8192x256 .bf16) (zg : FVec Ideal S2x8192x4096 .bf16) (wa : FVec Ideal S256x1024 .f32) (wb : FVec Ideal S256x1024 .f32) (wc : FVec Ideal S256x1024 .f32) (wd : FVec Ideal S256x1024 .f32) (wo : FVec Ideal S1024x1024 .f32) (x : FVec Ideal S2x8192x1024 .f32) (gt : FVec Ideal S2x1x1024 .f32) : FVec Ideal S2x8192x1024 .f32 :=
  addf x (mulf (broadcastInDim S2x8192x1024 ![0, 1, 2] bcast_S2x1x1024_S2x8192x1024_0_1_2 gt) (Host.dotGeneral dot_S2x8192x1024_S1024x1024_S2x8192x1024_2_0_01_1_n_n none (addf (addf (addf (mulf (extractStridedSlice S2x8192x1024 ![0, 0, 0] (Host.divf (broadcastInDim S2x8192x4096 ![] bcast_S_S2x8192x4096 (constant S_ .f32 0x3F800000#32)) (addf (broadcastInDim S2x8192x4096 ![] bcast_S_S2x8192x4096 (constant S_ .f32 0x3F800000#32)) (Host.exp (Host.negf (mulf (broadcastInDim S2x8192x4096 ![] bcast_S_S2x8192x4096 (constant S_ .f32 0x40000000#32)) (extf .f32 zg bitsLt_bf16_f32)))))) slices_S2x8192x4096_S2x8192x1024_0_0_0) (Host.dotGeneral dot_S2x8192x256_S256x1024_S2x8192x1024_2_0_01_1_n_n none (extf .f32 a bitsLt_bf16_f32) wa)) (mulf (extractStridedSlice S2x8192x1024 ![0, 0, 1024] (Host.divf (broadcastInDim S2x8192x4096 ![] bcast_S_S2x8192x4096 (constant S_ .f32 0x3F800000#32)) (addf (broadcastInDim S2x8192x4096 ![] bcast_S_S2x8192x4096 (constant S_ .f32 0x3F800000#32)) (Host.exp (Host.negf (mulf (broadcastInDim S2x8192x4096 ![] bcast_S_S2x8192x4096 (constant S_ .f32 0x40000000#32)) (extf .f32 zg bitsLt_bf16_f32)))))) slices_S2x8192x4096_S2x8192x1024_0_0_1024) (Host.dotGeneral dot_S2x8192x256_S256x1024_S2x8192x1024_2_0_01_1_n_n none b wb))) (mulf (extractStridedSlice S2x8192x1024 ![0, 0, 2048] (Host.divf (broadcastInDim S2x8192x4096 ![] bcast_S_S2x8192x4096 (constant S_ .f32 0x3F800000#32)) (addf (broadcastInDim S2x8192x4096 ![] bcast_S_S2x8192x4096 (constant S_ .f32 0x3F800000#32)) (Host.exp (Host.negf (mulf (broadcastInDim S2x8192x4096 ![] bcast_S_S2x8192x4096 (constant S_ .f32 0x40000000#32)) (extf .f32 zg bitsLt_bf16_f32)))))) slices_S2x8192x4096_S2x8192x1024_0_0_2048) (Host.dotGeneral dot_S2x8192x256_S256x1024_S2x8192x1024_2_0_01_1_n_n none (extf .f32 cc bitsLt_bf16_f32) wc))) (mulf (extractStridedSlice S2x8192x1024 ![0, 0, 3072] (Host.divf (broadcastInDim S2x8192x4096 ![] bcast_S_S2x8192x4096 (constant S_ .f32 0x3F800000#32)) (addf (broadcastInDim S2x8192x4096 ![] bcast_S_S2x8192x4096 (constant S_ .f32 0x3F800000#32)) (Host.exp (Host.negf (mulf (broadcastInDim S2x8192x4096 ![] bcast_S_S2x8192x4096 (constant S_ .f32 0x40000000#32)) (extf .f32 zg bitsLt_bf16_f32)))))) slices_S2x8192x4096_S2x8192x1024_0_0_3072) (Host.dotGeneral dot_S2x8192x256_S256x1024_S2x8192x1024_2_0_01_1_n_n none (extf .f32 d bitsLt_bf16_f32) wd))) wo))

/-- The plain layer's normalised rows of a residual `xv`. -/
def hT (xv : FVec Ideal S2x8192x1024 .f32) (g : FVec Ideal S1024 .f32) (sc sh : FVec Ideal S2x1x1024 .f32) : FVec Ideal S2x8192x1024 .f32 :=
  addf (mulf (mulf (mulf xv (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf xv xv) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (broadcastInDim S2x1x1024 ![] bcast_S_S2x1x1024 (constant S_ .f32 0x3F800000#32)) sc))) (broadcastInDim S2x8192x1024 ![0, 1, 2] bcast_S2x1x1024_S2x8192x1024_0_1_2 sh)

/-- The exponentials of logits `lv` less the greatest of their row. -/
def eT (lv : FVec Ideal S2x8192x16 .f32) : FVec Ideal S2x8192x16 .f32 :=
  Host.exp (subf lv (broadcastInDim S2x8192x16 ![0, 1, 2] bcast_S2x8192x1_S2x8192x16_0_1_2 (broadcastInDim S2x8192x1 ![0, 1] bcast_S2x8192_S2x8192x1_0_1 (maximumf (broadcastInDim S2x8192 ![] bcast_S_S2x8192 (constant S_ .f32 0xFF800000#32)) (Host.reduce FloatOps.maximumf lv (constant S_ .f32 0xFF800000#32) reducesTo_S2x8192x16_S2x8192_d2 h_S_)))))

/-- The logits of rows `hv`. -/
def lT (hv : FVec Ideal S2x8192x1024 .f32) (wr : FVec Ideal S1024x16 .f32) : FVec Ideal S2x8192x16 .f32 :=
  Host.dotGeneral dot_S2x8192x1024_S1024x16_S2x8192x16_2_0_01_1_n_n none hv wr

/-- The routing weights of exponentials `ev`. -/
def sT (ev : FVec Ideal S2x8192x16 .f32) : FVec Ideal S2x16x8192 .f32 :=
  transpose S2x16x8192 [0, 2, 1] (Host.divf ev (broadcastInDim S2x8192x16 ![0, 1, 2] bcast_S2x8192x1_S2x8192x16_0_1_2 (broadcastInDim S2x8192x1 ![0, 1] bcast_S2x8192_S2x8192x1_0_1 (Host.reduceAdd ev (constant S_ .f32 0x00000000#32) reducesTo_S2x8192x16_S2x8192_d2 h_S_)))) transposes_S2x8192x16_S2x16x8192_0_2_1

/-- The residual at an index. -/
theorem xT_apply (a : FVec Ideal S2x8192x256 .bf16) (b : FVec Ideal S2x8192x256 .f32) (cc : FVec Ideal S2x8192x256 .bf16) (d : FVec Ideal S2x8192x256 .bf16) (zg : FVec Ideal S2x8192x4096 .bf16) (wa : FVec Ideal S256x1024 .f32) (wb : FVec Ideal S256x1024 .f32) (wc : FVec Ideal S256x1024 .f32) (wd : FVec Ideal S256x1024 .f32) (wo : FVec Ideal S1024x1024 .f32) (x : FVec Ideal S2x8192x1024 .f32) (gt : FVec Ideal S2x1x1024 .f32) (i : S2x8192x1024.Idx) : xT a b cc d zg wa wb wc wd wo x gt i = px a b cc d zg wa wb wc wd wo x gt (i 0) (i 1) (i 2) := by
  pointwise [xT, px, sgm]

/-- The normalised rows at an index. -/
theorem hT_apply (xv : FVec Ideal S2x8192x1024 .f32) (g : FVec Ideal S1024 .f32) (sc sh : FVec Ideal S2x1x1024 .f32) (i : S2x8192x1024.Idx) :
    hT xv g sc sh i = hid (fun p => xv (ix3 (i 0) (i 1) p)) (g (ix1 (i 2))) (sc (ix3 (i 0) 0 (i 2))) (sh (ix3 (i 0) 0 (i 2))) (i 2) := by
  pointwise [hT, hid]

/-- The exponentials at an index. -/
theorem eT_apply (lv : FVec Ideal S2x8192x16 .f32) (i : S2x8192x16.Idx) : eT lv i = ex (fun e => lv (ix3 (i 0) (i 1) e)) (i 2) := by
  pointwise [eT, ex]
  rw [Cert.Proof.Scalar.max_fold]

/-- The logits at an index. -/
theorem lT_apply (hv : FVec Ideal S2x8192x1024 .f32) (wr : FVec Ideal S1024x16 .f32) (i : S2x8192x16.Idx) :
    lT hv wr i = ∑ q : Fin 1024, hv (ix3 (i 0) (i 1) q) * wr (ix2 q (i 2)) := by
  pointwise [lT]

/-- The routing weights at an index. -/
theorem sT_apply (ev : FVec Ideal S2x8192x16 .f32) (i : S2x16x8192.Idx) :
    sT ev i = Ideal.div (ev (ix3 (i 0) (i 2) (i 1))) (∑ e : Fin 16, ev (ix3 (i 0) (i 2) e)) := by
  pointwise [sT]

/-- The rounded normalised rows at an index. -/
theorem plain20 (a : FVec Ideal S2x8192x256 .bf16) (b : FVec Ideal S2x8192x256 .f32) (cc : FVec Ideal S2x8192x256 .bf16) (d : FVec Ideal S2x8192x256 .bf16) (zg : FVec Ideal S2x8192x4096 .bf16) (wa : FVec Ideal S256x1024 .f32) (wb : FVec Ideal S256x1024 .f32) (wc : FVec Ideal S256x1024 .f32) (wd : FVec Ideal S256x1024 .f32) (wo : FVec Ideal S1024x1024 .f32) (x : FVec Ideal S2x8192x1024 .f32) (gt : FVec Ideal S2x1x1024 .f32) (g : FVec Ideal S1024 .f32) (sc sh : FVec Ideal S2x1x1024 .f32) (i : S2x8192x1024.Idx) :
    (truncf (F := Ideal) .bf16 (hT (xT a b cc d zg wa wb wc wd wo x gt) g sc sh) bitsLt_bf16_f32) i
      = hid (px a b cc d zg wa wb wc wd wo x gt (i 0) (i 1)) (g (ix1 (i 2))) (sc (ix3 (i 0) 0 (i 2))) (sh (ix3 (i 0) 0 (i 2))) (i 2) := by
  refine (hT_apply (xT a b cc d zg wa wb wc wd wo x gt) g sc sh i).trans ?_
  simp only [xT_apply]
  rfl

/-- The routing weights at an index, from the arguments. -/
theorem plain21 (a : FVec Ideal S2x8192x256 .bf16) (b : FVec Ideal S2x8192x256 .f32) (cc : FVec Ideal S2x8192x256 .bf16) (d : FVec Ideal S2x8192x256 .bf16) (zg : FVec Ideal S2x8192x4096 .bf16) (wa : FVec Ideal S256x1024 .f32) (wb : FVec Ideal S256x1024 .f32) (wc : FVec Ideal S256x1024 .f32) (wd : FVec Ideal S256x1024 .f32) (wo : FVec Ideal S1024x1024 .f32) (x : FVec Ideal S2x8192x1024 .f32) (gt : FVec Ideal S2x1x1024 .f32) (g : FVec Ideal S1024 .f32) (sc sh : FVec Ideal S2x1x1024 .f32) (wr : FVec Ideal S1024x16 .f32) (i : S2x16x8192.Idx) :
    sT (eT (lT (hT (xT a b cc d zg wa wb wc wd wo x gt) g sc sh) wr)) i
      = soft (fun e => ∑ q : Fin 1024, hid (px a b cc d zg wa wb wc wd wo x gt (i 0) (i 2)) (g (ix1 q)) (sc (ix3 (i 0) 0 q)) (sh (ix3 (i 0) 0 q)) q * wr (ix2 q e)) (i 1) := by
  rw [sT_apply]
  simp only [eT_apply, lT_apply, hT_apply, xT_apply]
  rfl

variable (m : (ℓ : Loc nD τ sig) → Buf (Elt Ideal) ℓ)

/-- The program's second array is the rounded normalised rows. -/
theorem res20 (c : Dev nD) : Value.res_main_v62 m c = truncf (F := Ideal) .bf16 (hT (xT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg12)) (m ((c : Thread nD τ).loc main_arg13)) (m ((c : Thread nD τ).loc main_arg14))) bitsLt_bf16_f32 := rfl

/-- The program's third array is the routing weights. -/
theorem res21 (c : Dev nD) : Value.res_main_v63 m c = sT (eT (lT (hT (xT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg12)) (m ((c : Thread nD τ).loc main_arg13)) (m ((c : Thread nD τ).loc main_arg14))) (m ((c : Thread nD τ).loc main_arg15)))) := rfl

end Cert.Proof.MergePlain
-- ==== Proof.MergeTie.lean ====
/-
  The branches' merge: at real arguments the three arrays the call ends with are the plain layer's.
-/
module

public import proofs.«01_k».proof.Proof.MergePlain

@[expose] public section

set_option maxRecDepth 16384

noncomputable section

namespace Cert.Proof.MergeTie

open Idealize.ShloMosaic Cert.Kernel5Ideal Cert.Kernel5Ideal.Gen Idealize.ShloMosaic.TcCoe
open Cert.Proof.Scalar Cert.Proof.Merge Cert.Proof.MergePlain

variable (m : (ℓ : Loc nD τ sig) → Buf (Elt Ideal) ℓ)

/-- The branches, their weights, the gain, the modulation and the router hold reals. -/
def Real (c : Dev nD) : Prop :=
  (∀ i, IsReal (m ((c : Thread nD τ).loc main_arg0) i)) ∧ (∀ i, IsReal (m ((c : Thread nD τ).loc main_arg1) i)) ∧ (∀ i, IsReal (m ((c : Thread nD τ).loc main_arg2) i)) ∧ (∀ i, IsReal (m ((c : Thread nD τ).loc main_arg3) i)) ∧ (∀ i, IsReal (m ((c : Thread nD τ).loc main_arg5) i)) ∧ (∀ i, IsReal (m ((c : Thread nD τ).loc main_arg6) i)) ∧ (∀ i, IsReal (m ((c : Thread nD τ).loc main_arg7) i)) ∧ (∀ i, IsReal (m ((c : Thread nD τ).loc main_arg8) i)) ∧ (∀ i, IsReal (m ((c : Thread nD τ).loc main_arg12) i)) ∧ (∀ i, IsReal (m ((c : Thread nD τ).loc main_arg13) i)) ∧ (∀ i, IsReal (m ((c : Thread nD τ).loc main_arg14) i)) ∧ (∀ i, IsReal (m ((c : Thread nD τ).loc main_arg15) i))

/-- The residual the kernel adds up is the plain layer's. -/
theorem mx_eq (c : Dev nD) (h : Real m c) : mx m c = px (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  obtain ⟨ha, hb, hcc, hd, hwa, hwb, hwc, hwd, hg, hsc, hsh, hwr⟩ := h
  exact kx_eq _ _ _ _ _ _ _ _ _ _ _ _ ha hb hcc hd hwa hwb hwc hwd

/-- The residual: the plain layer's array is the call's. -/
theorem tie19 (c : Dev nD) (h : Real m c) (i : S2x8192x1024.Idx) :
    xT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) i = (dats m 0 c).arrAt 19 cfg0.N i := by
  refine (xT_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) i).trans ?_
  refine Eq.trans ?_ (final19 m c i).symm
  exact (congrFun (congrFun (congrFun (mx_eq m c h) (i 0)) (i 1)) (i 2)).symm

/-- The normalised row: the plain layer's array is the call's. -/
theorem tie20 (c : Dev nD) (h : Real m c) (i : S2x8192x1024.Idx) :
    (truncf (F := Ideal) .bf16 (hT (xT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg12)) (m ((c : Thread nD τ).loc main_arg13)) (m ((c : Thread nD τ).loc main_arg14))) Cert.Reference5Ideal.Gen.bitsLt_bf16_f32) i = (dats m 0 c).arrAt 20 cfg0.N i := by
  refine (plain20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) i).trans ?_
  refine Eq.trans ?_ (final20 m c i).symm
  exact congrArg (fun v => hid v _ _ _ _) (congrFun (congrFun (mx_eq m c h) (i 0)) (i 1)).symm

/-- The router's weights: the plain layer's array is the call's. -/
theorem tie21 (c : Dev nD) (h : Real m c) (i : S2x16x8192.Idx) :
    sT (eT (lT (hT (xT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg12)) (m ((c : Thread nD τ).loc main_arg13)) (m ((c : Thread nD τ).loc main_arg14))) (m ((c : Thread nD τ).loc main_arg15)))) i = (dats m 0 c).arrAt 21 cfg0.N i := by
  refine (plain21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) i).trans ?_
  refine Eq.trans ?_ (final21 m c i).symm
  refine congrArg (fun l => soft l (i 1)) (funext fun e => ?_)
  refine Eq.trans ?_ (logit3_eq _ _ (fun q => ?_) (fun q => ?_)).symm
  · exact Finset.sum_congr rfl fun q _ => congrArg (fun v => hid v _ _ _ q * _) (congrFun (congrFun (mx_eq m c h) (i 0)) (i 2)).symm
  · obtain ⟨ha, hb, hcc, hd, hwa, hwb, hwc, hwd, hg, hsc, hsh, hwr⟩ := h
    exact isReal_hid _ _ _ _ (hg _) (hsc _) (hsh _) q
  · obtain ⟨ha, hb, hcc, hd, hwa, hwb, hwc, hwd, hg, hsc, hsh, hwr⟩ := h
    exact hwr _

end Cert.Proof.MergeTie
-- ==== Proof.CtxPre.lean ====
module

public import proofs.«01_k».proof.Pre_finite6
public import proofs.«01_k».proof.Proof.Scalar
public import Idealize.ShloMosaic.Lib.ReduceAll
public import Idealize.ShloMosaic.Lib.Pointwise

/-! # What the precondition of the context's attention says

The precondition bounds the magnitude of the queries and the keys below the infinity. Read at the extended reals this
makes each of them real. -/

@[expose] public section

set_option maxRecDepth 16384

noncomputable section

namespace Cert.Proof.CtxPre

open Idealize.ShloMosaic Idealize.ShloMosaic.Tactic Cert.Pre_finite6 Cert.Proof.Scalar

/-- The shape relations the precondition states. -/
theorem facts : Cert.Pre_finite6.Facts := ⟨by decide, by decide, by decide, by decide, by decide⟩

/-- The precondition says that the queries and the keys are real. -/
theorem reals [Cert.Pre_finite6.Facts] (z : FVec Ideal S2x256x768 .bf16) (h : Cert.Pre_finite6.fn (F := Ideal) z = fun _ => 1#1)
    (s : Fin 2) (r : Fin 256) (n : Fin 768) (hn : n.val < 512) : IsReal (z (ix3 s r n)) := by
  have : Subsingleton S_.Idx := ⟨fun a b => funext fun k => k.elim0⟩
  have e := congrFun h (fun k : Fin 0 => k.elim0)
  unfold Cert.Pre_finite6.fn at e
  dsimp only at e
  have e := Host.reduce_andi_all _ _ _ _ _ e (ix3 s r ⟨n.val, hn⟩)
  pointwise at e
  have hi : Ideal.ofBits .f32 0x7F800000#32 = (⊤ : EReal) := by simp [Ideal.ofBits, Ideal.ieee]
  rw [hi] at e
  refine isReal_of_abs _ ?_
  by_contra hc
  have e' : BitVec.ofBool (decide (max (z (ix3 s r n)) (-(z (ix3 s r n))) < (⊤ : EReal))) = 1#1 := e
  rw [decide_eq_false hc] at e'
  exact absurd e' (by decide)

end Cert.Proof.CtxPre
-- ==== Proof.Ctx.lean ====
/-
  The context's attention: what its body leaves at each grid point, and the array it ends with, as functions of the whole array.
-/
module

public import proofs.«01_k».proof.Proof.Gen.Kernel6Ideal.Value
public import proofs.«01_k».proof.Proof.Scalar
public import Idealize.ShloMosaic.Lib.Pointwise
public import Idealize.ShloMosaic.Lib.IdealHost

@[expose] public section

set_option maxRecDepth 16384

noncomputable section

namespace Cert.Proof.Ctx

open Idealize.ShloMosaic Idealize.ShloMosaic.Tactic Idealize.SL.Sem Cert.Kernel6Ideal Cert.Kernel6Ideal.Gen Idealize.ShloMosaic.TcCoe

/-- The lane numbers. -/
def lane : IVec S1x256 32 := iota .tc S1x256 32 [1] iota_S1x256_d1_w32

/-- The sign of the lane numbers differs from the sign of the head's width. -/
def sgn : IVec S1x256 1 :=
  cmpi .ne (subi (extui 32 (cmpi .sgt lane (broadcast S1x256 0#32)) natLt_1_32) (extui 32 (cmpi .slt lane (broadcast S1x256 0#32)) natLt_1_32))
    (broadcast S1x256 (Scalar.subi (Scalar.extui (Scalar.cmpi .sgt 64#32 0#32)) (Scalar.extui (Scalar.cmpi .slt 64#32 0#32))))

/-- The lanes of head `h`, by the rounding-down quotient as the kernel works it out. -/
def mask (h : BitVec 32) : IVec S1x256 1 :=
  cmpi .eq
    (select (andi sgn (cmpi .ne (remsi lane (broadcast S1x256 64#32)) (broadcast S1x256 0#32)))
      (subi (divsi lane (broadcast S1x256 64#32)) (broadcast S1x256 1#32)) (divsi lane (broadcast S1x256 64#32)))
    (broadcast S1x256 h)

/-- An array with the lanes of the other heads set to zero. -/
def only (h : BitVec 32) (x : FVec Ideal S256x256 .f32) : FVec Ideal S256x256 .f32 :=
  select (broadcastTo S256x256 (shapeCast S1x256 (mask h) shapeCasts_S1x256_S1x256) broadcasts_S1x256_S256x256) x
    (broadcast S256x256 (Scalar.ofBits (F := Ideal) .f32 0x00000000#32))

/-- The scores of head `h`. -/
def scores (h : BitVec 32) (q : FVec Ideal S256x256 .f32) (k : FVec Ideal S256x256 .bf16) : FVec Ideal S256x256 .f32 :=
  matmul dot_S256x256_S256x256_S256x256_1_1_0_0_n_n none (truncf .bf16 (only h q) bitsLt_bf16_f32) k (constant S256x256 .f32 0x00000000#32)

/-- The exponentials of scores less their row's greatest. -/
def exps (s : FVec Ideal S256x256 .f32) : FVec Ideal S256x256 .f32 :=
  exp (subf s (broadcastTo S256x256 (shapeCast S256x1 (multiReduction .maximumf [1] S256 s 0xFF800000#32 reduces_S256x256_S256 (.inl rfl) rfl) shapeCasts_S256_S256x1) broadcasts_S256x1_S256x256))

/-- The values weighted by exponentials, over the exponentials' sum. -/
def mix (e : FVec Ideal S256x256 .f32) (v : FVec Ideal S256x256 .bf16) : FVec Ideal S256x256 .f32 :=
  mulf (matmul dot_S256x256_S256x256_S256x256_1_0_0_1_n_n none (truncf .bf16 e bitsLt_bf16_f32) v (constant S256x256 .f32 0x00000000#32))
    (broadcastTo S256x256 (divf (broadcast S256x1 (Scalar.ofBits (F := Ideal) .f32 0x3F800000#32))
      (shapeCast S256x1 (multiReduction .add [1] S256 e 0x00000000#32 reduces_S256x256_S256 (.inl rfl) rfl) shapeCasts_S256_S256x1)) broadcasts_S256x1_S256x256)

/-- One head's part of the block: its attention, on its own lanes. -/
def part (h : BitVec 32) (q : FVec Ideal S256x256 .f32) (k v : FVec Ideal S256x256 .bf16) : FVec Ideal S256x256 .f32 :=
  only h (mix (exps (scores h q k)) v)

/-- The body's block is the sum of the heads' parts. -/
theorem body_eq (x0 x1 x2 : Vec Ideal S1x256x256 .bf16) : out0_3 x0 x1 x2 = View.canon [⟨r0_0, k0_pay1 (truncf .bf16
    (addf (addf (addf (part 0#32 (k0_pay2 (View.ld x0 r0_0)) (k0_pay3 (View.ld x1 r0_0)) (k0_pay4 (View.ld x2 r0_0))) (part 1#32 (k0_pay2 (View.ld x0 r0_0)) (k0_pay3 (View.ld x1 r0_0)) (k0_pay4 (View.ld x2 r0_0))))
      (part 2#32 (k0_pay2 (View.ld x0 r0_0)) (k0_pay3 (View.ld x1 r0_0)) (k0_pay4 (View.ld x2 r0_0)))) (part 3#32 (k0_pay2 (View.ld x0 r0_0)) (k0_pay3 (View.ld x1 r0_0)) (k0_pay4 (View.ld x2 r0_0)))) bitsLt_bf16_f32)⟩] := rfl

/-- The mask at a lane: whether the lane is the head's. -/
theorem mask_apply (h : Fin 4) (i : S1x256.Idx) : mask (BitVec.ofNat 32 h.val) i = BitVec.ofBool (decide ((i 1).val / 64 = h.val)) := by
  have e := (by decide +kernel : ∀ (h : Fin 4) (l : Fin 256),
    mask (BitVec.ofNat 32 h.val) (ix2 0 l) = BitVec.ofBool (decide (l.val / 64 = h.val))) h (i 1)
  refine Eq.trans (congrArg _ ?_) e
  funext a
  match a with
  | ⟨0, _⟩ => exact Fin.ext (by have : (i 0).val < 1 := (i 0).isLt; show (i 0).val = 0; omega)
  | ⟨1, _⟩ => rfl

/-- An array kept on one head's lanes, at an index. -/
theorem only_apply (h : Fin 4) (x : FVec Ideal S256x256 .f32) (i : S256x256.Idx) :
    only (BitVec.ofNat 32 h.val) x i = if (i 1).val / 64 = h.val then x i else 0 := by
  have e : only (BitVec.ofNat 32 h.val) x i = Scalar.select (mask (BitVec.ofNat 32 h.val) (ix2 0 (i 1))) (x i) 0 := by
    pointwise [only]
  rw [e, mask_apply]
  show Scalar.select (BitVec.ofBool (decide ((i 1).val / 64 = h.val))) (x i) 0 = _
  by_cases hh : (i 1).val / 64 = h.val
  · rw [if_pos hh, decide_eq_true hh]; rfl
  · rw [if_neg hh, decide_eq_false hh]; rfl

/-- The scores at an index. -/
theorem scores_apply (h : BitVec 32) (q : FVec Ideal S256x256 .f32) (k : FVec Ideal S256x256 .bf16) (i : S256x256.Idx) :
    scores h q k i = ∑ l : Fin 256, only h q (ix2 (i 0) l) * k (ix2 (i 1) l) := by
  pointwise [scores]

/-- The exponentials at an index. -/
theorem exps_apply (s : FVec Ideal S256x256 .f32) (i : S256x256.Idx) :
    exps s i = Ideal.exp (s i - Finset.fold max (Ideal.ofBits .f32 0xFF800000#32) (fun j : Fin 256 => s (ix2 (i 0) j)) Finset.univ) := by
  pointwise [exps]

/-- The weighted values at an index. -/
theorem mix_apply (e : FVec Ideal S256x256 .f32) (v : FVec Ideal S256x256 .bf16) (i : S256x256.Idx) :
    mix e v i = (∑ j : Fin 256, e (ix2 (i 0) j) * v (ix2 j (i 1))) * Ideal.div 1 (∑ j : Fin 256, e (ix2 (i 0) j)) := by
  pointwise [mix]

/-- The scale of the scores, one eighth. -/
def eighth : EReal := Ideal.ofBits .f32 0x3E000000#32

/-- The exponential of score `j` less the row's greatest score. -/
def ex (s : Fin 256 → EReal) (j : Fin 256) : EReal :=
  Ideal.exp (s j - Finset.fold max (Ideal.ofBits .f32 0xFF800000#32) s Finset.univ)

/-- A row of the attention as the kernel forms it: the weighted sum times one over the weights' sum. -/
def krow (s v : Fin 256 → EReal) : EReal := (∑ j : Fin 256, ex s j * v j) * Ideal.div 1 (∑ j : Fin 256, ex s j)

/-- A score of head `h` as the kernel forms it: a product over all lanes, the other heads' lanes set to zero. -/
def ksc (q k : Fin 256 → EReal) (h : ℕ) : EReal := ∑ l : Fin 256, (if l.val / 64 = h then q l * eighth else 0) * k l

/-- The scores of head `h` at an index. -/
theorem scores_row (h : Fin 4) (q : FVec Ideal S256x256 .f32) (k : FVec Ideal S256x256 .bf16) (r j : Fin 256) :
    scores (BitVec.ofNat 32 h.val) q k (ix2 r j) = ∑ l : Fin 256, (if l.val / 64 = h.val then q (ix2 r l) else 0) * k (ix2 j l) := by
  refine (scores_apply _ _ _ _).trans (Finset.sum_congr rfl fun l _ => ?_)
  exact congrArg (· * k (ix2 j l)) (only_apply h q (ix2 r l))

/-- One head's part at an index: a row of its attention on its own lanes, zero on the others. -/
theorem part_apply (h : Fin 4) (q : FVec Ideal S256x256 .f32) (k v : FVec Ideal S256x256 .bf16) (r l : Fin 256) :
    part (BitVec.ofNat 32 h.val) q k v (ix2 r l) = if l.val / 64 = h.val then
      krow (fun j => ∑ l : Fin 256, (if l.val / 64 = h.val then q (ix2 r l) else 0) * k (ix2 j l)) (fun j => v (ix2 j l)) else 0 := by
  have hs : ∀ j, scores (BitVec.ofNat 32 h.val) q k (ix2 r j) = ∑ l : Fin 256, (if l.val / 64 = h.val then q (ix2 r l) else 0) * k (ix2 j l) := scores_row h q k r
  have he : ∀ j, exps (scores (BitVec.ofNat 32 h.val) q k) (ix2 r j)
      = ex (fun j => ∑ l : Fin 256, (if l.val / 64 = h.val then q (ix2 r l) else 0) * k (ix2 j l)) j := by
    intro j
    refine (exps_apply _ _).trans ?_
    exact congrArg (fun s : Fin 256 → EReal => ex s j) (funext hs)
  unfold part
  refine (only_apply h _ _).trans ?_
  refine congrArg (fun v => if l.val / 64 = h.val then v else (0 : EReal)) ?_
  refine (mix_apply _ _ _).trans ?_
  exact congrArg (fun e : Fin 256 → EReal => (∑ j : Fin 256, e j * v (ix2 j l)) * Ideal.div 1 (∑ j : Fin 256, e j)) (funext he)

/-- The four parts together: on each lane its own head's. -/
theorem parts_apply (q : FVec Ideal S256x256 .f32) (k v : FVec Ideal S256x256 .bf16) (r l : Fin 256) :
    part 0#32 q k v (ix2 r l) + part 1#32 q k v (ix2 r l) + part 2#32 q k v (ix2 r l) + part 3#32 q k v (ix2 r l)
      = krow (fun j => ∑ p : Fin 256, (if p.val / 64 = l.val / 64 then q (ix2 r p) else 0) * k (ix2 j p)) (fun j => v (ix2 j l)) := by
  have h0 := part_apply 0 q k v r l
  have h1 := part_apply 1 q k v r l
  have h2 := part_apply 2 q k v r l
  have h3 := part_apply 3 q k v r l
  have e : part 0#32 q k v (ix2 r l) + part 1#32 q k v (ix2 r l) + part 2#32 q k v (ix2 r l) + part 3#32 q k v (ix2 r l) = _ :=
    congrArg₂ (· + ·) (congrArg₂ (· + ·) (congrArg₂ (· + ·) h0 h1) h2) h3
  refine e.trans ?_
  have hl := l.isLt
  obtain hh | hh | hh | hh : l.val / 64 = 0 ∨ l.val / 64 = 1 ∨ l.val / 64 = 2 ∨ l.val / 64 = 3 := by omega
  all_goals simp [hh]

/-- The block's queries, scaled. -/
theorem pay2_apply (x : Vec Ideal S1x256x256 .bf16) (i : S256x256.Idx) : k0_pay2 x i = x (ix3 0 (i 0) (i 1)) * eighth := by
  pointwise [k0_pay2, eighth]

/-- The block's keys. -/
theorem pay3_apply (x : Vec Ideal S1x256x256 .bf16) (i : S256x256.Idx) : k0_pay3 (F := Ideal) x i = x (ix3 0 (i 0) (i 1)) := by
  pointwise [k0_pay3]

/-- The block's values. -/
theorem pay4_apply (x : Vec Ideal S1x256x256 .bf16) (i : S256x256.Idx) : k0_pay4 (F := Ideal) x i = x (ix3 0 (i 0) (i 1)) := by
  pointwise [k0_pay4]

/-- The rectangle of a whole block leaves every index in place. -/
theorem emb_0 (x : S1x256x256.Idx) : r0_0.emb x = x := by
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

/-- A load of a whole block is the block. -/
theorem ld_0 {d : EltTy} (x : Vec Ideal S1x256x256 d) : View.ld x r0_0 = x := funext fun y => congrArg x (emb_0 y)

/-- The attention of a block at row `r`, lane `l`. -/
def blk (x0 x1 x2 : Vec Ideal S1x256x256 .bf16) (r l : Fin 256) : EReal :=
  krow (fun j => ksc (fun p => x0 (ix3 0 r p)) (fun p => x1 (ix3 0 j p)) (l.val / 64)) (fun j => x2 (ix3 0 j l))

/-- What a grid point leaves in its block. -/
theorem out_3 (x0 x1 x2 : Vec Ideal S1x256x256 .bf16) (y : S1x256x256.Idx) : out0_3 x0 x1 x2 y = blk x0 x1 x2 (y 1) (y 2) := by
  rw [body_eq, ld_0, ld_0, ld_0]
  refine View.canon_apply_of_pieces (Val := Elt Ideal) (fun y : S1x256x256.Idx => blk x0 x1 x2 (y 1) (y 2)) _ ?_ y (cover0_3 _ y)
  intro pc hpc
  rcases List.mem_cons.mp hpc with rfl | hpc
  · intro (x : S1x256x256.Idx)
    refine Eq.trans ?_ (congrArg (fun y : S1x256x256.Idx => blk x0 x1 x2 (y 1) (y 2)) (emb_0 x)).symm
    have e : ∀ a b c d : FVec Ideal S256x256 .f32, k0_pay1 (F := Ideal) (truncf .bf16 (addf (addf (addf a b) c) d) bitsLt_bf16_f32) x
        = a (ix2 (x 1) (x 2)) + b (ix2 (x 1) (x 2)) + c (ix2 (x 1) (x 2)) + d (ix2 (x 1) (x 2)) := by
      intro a b c d
      pointwise [k0_pay1]
    refine (e _ _ _ _).trans ((parts_apply _ _ _ _ _).trans ?_)
    unfold blk ksc
    refine congrArg₂ krow (funext fun j => Finset.sum_congr rfl fun p _ => ?_) (funext fun j => pay4_apply x2 _)
    exact congrArg₂ (fun u w : EReal => (if p.val / 64 = (x 2).val / 64 then u else 0) * w) (pay2_apply x0 _) (pay3_apply x1 _)
  nomatch hpc

variable (m : (ℓ : Loc nD τ sig) → Buf (Elt Ideal) ℓ)

/-- The batch row of a grid point. -/
def row (t : Fin cfg0.N) : Fin 2 := ⟨t.val, lt_of_lt_of_eq t.isLt (show cfg0.N = 2 from N_0)⟩

/-- What a grid point reads of the queries: its batch row. -/
theorem blk0 (c : Dev nD) (t : Fin cfg0.N) (y : S1x256x256.Idx) :
    iblk m c 0 t y = m ((c : Thread nD τ).loc main_arg0) (ix3 (row t) (y 1) ⟨0 + (y 2).val, by have : (y 2).val < 256 := (y 2).isLt; omega⟩) := by
  have hi := (by decide +kernel : ∀ t : Fin grid0.N, win0_0.index t 0 = t.val ∧ win0_0.index t 1 = 0 ∧ win0_0.index t 2 = 0) t
  have hy0 : (y 0).val < 1 := (y 0).isLt
  unfold iblk
  rw [View.read_apply]
  show V m c main_arg0 _ = _
  rw [V_main_arg0]
  congr 1
  funext a
  apply Fin.ext
  match a with
  | ⟨0, _⟩ => show win0_0.index t 0 * 1 + 1 * (y 0).val = t.val; rw [hi.1]; omega
  | ⟨1, _⟩ => show win0_0.index t 1 * 256 + 1 * (y 1).val = (y 1).val; rw [hi.2.1]; omega
  | ⟨2, _⟩ => show win0_0.index t 2 * 256 + 1 * (y 2).val = 0 + (y 2).val; rw [hi.2.2]; omega

/-- What a grid point reads of the keys: its batch row. -/
theorem blk1 (c : Dev nD) (t : Fin cfg0.N) (y : S1x256x256.Idx) :
    iblk m c 1 t y = m ((c : Thread nD τ).loc main_arg0) (ix3 (row t) (y 1) ⟨256 + (y 2).val, by have : (y 2).val < 256 := (y 2).isLt; omega⟩) := by
  have hi := (by decide +kernel : ∀ t : Fin grid0.N, win0_1.index t 0 = t.val ∧ win0_1.index t 1 = 0 ∧ win0_1.index t 2 = 1) t
  have hy0 : (y 0).val < 1 := (y 0).isLt
  unfold iblk
  rw [View.read_apply]
  show V m c main_arg0 _ = _
  rw [V_main_arg0]
  congr 1
  funext a
  apply Fin.ext
  match a with
  | ⟨0, _⟩ => show win0_1.index t 0 * 1 + 1 * (y 0).val = t.val; rw [hi.1]; omega
  | ⟨1, _⟩ => show win0_1.index t 1 * 256 + 1 * (y 1).val = (y 1).val; rw [hi.2.1]; omega
  | ⟨2, _⟩ => show win0_1.index t 2 * 256 + 1 * (y 2).val = 256 + (y 2).val; rw [hi.2.2]; omega

/-- What a grid point reads of the values: its batch row. -/
theorem blk2 (c : Dev nD) (t : Fin cfg0.N) (y : S1x256x256.Idx) :
    iblk m c 2 t y = m ((c : Thread nD τ).loc main_arg0) (ix3 (row t) (y 1) ⟨512 + (y 2).val, by have : (y 2).val < 256 := (y 2).isLt; omega⟩) := by
  have hi := (by decide +kernel : ∀ t : Fin grid0.N, win0_2.index t 0 = t.val ∧ win0_2.index t 1 = 0 ∧ win0_2.index t 2 = 2) t
  have hy0 : (y 0).val < 1 := (y 0).isLt
  unfold iblk
  rw [View.read_apply]
  show V m c main_arg0 _ = _
  rw [V_main_arg0]
  congr 1
  funext a
  apply Fin.ext
  match a with
  | ⟨0, _⟩ => show win0_2.index t 0 * 1 + 1 * (y 0).val = t.val; rw [hi.1]; omega
  | ⟨1, _⟩ => show win0_2.index t 1 * 256 + 1 * (y 1).val = (y 1).val; rw [hi.2.1]; omega
  | ⟨2, _⟩ => show win0_2.index t 2 * 256 + 1 * (y 2).val = 512 + (y 2).val; rw [hi.2.2]; omega

/-- The attention as the kernel forms it from the joint array of queries, keys and values. -/
def kat (z : Vec Ideal S2x256x768 .bf16) (s : Fin 2) (r l : Fin 256) : EReal :=
  krow (fun j => ksc (fun p => z (ix3 s r ⟨0 + p.val, by omega⟩)) (fun p => z (ix3 s j ⟨256 + p.val, by omega⟩)) (l.val / 64)) (fun j => z (ix3 s j ⟨512 + l.val, by omega⟩))

/-- The array the call ends with. -/
theorem final3 (c : Dev nD) (i : S2x256x256.Idx) :
    (dats m 0 c).arrAt 3 cfg0.N i = kat (m ((c : Thread nD τ).loc main_arg0)) (i 0) (i 1) (i 2) := by
  have h0 : (i 0).val < 2 := (i 0).isLt
  have h1 : (i 1).val < 256 := (i 1).isLt
  have h2 : (i 2).val < 256 := (i 2).isLt
  have hN : cfg0.N = 2 := N_0
  obtain ⟨t, ht⟩ : ∃ t : Fin cfg0.N, t.val = (i 0).val := ⟨⟨_, lt_of_lt_of_eq h0 hN.symm⟩, rfl⟩
  obtain ⟨y, hy⟩ : ∃ y : S1x256x256.Idx, y = ix3 0 (i 1) (i 2) := ⟨_, rfl⟩
  have hi := (by decide +kernel : ∀ t : Fin grid0.N, win0_3.index t 0 = t.val ∧ win0_3.index t 1 = 0 ∧ win0_3.index t 2 = 0) t
  have hfl := (by decide +kernel : ∀ t : Fin grid0.N, (cfg0.win 3).flush t = true) t
  have he : ((cfg0.win 3).blk t).view.emb y = i := by
    subst hy
    funext a
    apply Fin.ext
    match a with
    | ⟨0, _⟩ => show win0_3.index t 0 * 1 + 1 * 0 = (i 0).val; rw [hi.1]; omega
    | ⟨1, _⟩ => show win0_3.index t 1 * 256 + 1 * (i 1).val = (i 1).val; rw [hi.2.1]; omega
    | ⟨2, _⟩ => show win0_3.index t 2 * 256 + 1 * (i 2).val = (i 2).val; rw [hi.2.2]; omega
  have hb := congrFun (Value.blocks3 m c t hfl) y
  rw [View.read_apply, Value.flushed3] at hb
  have hr : row t = i 0 := Fin.ext ht
  have e : (dats m 0 c).arrAt 3 cfg0.N i = (dats m 0 c).arrAt 3 cfg0.N (((cfg0.win 3).blk t).view.emb y) := congrArg _ he.symm
  refine e.trans (hb.trans ?_)
  subst hy
  refine (out_3 _ _ _ _).trans ?_
  unfold blk kat
  simp only [blk0, blk1, blk2, hr]
  rfl

end Cert.Proof.Ctx
-- ==== Proof.CtxPlain.lean ====
/-
  The context's attention: the plain layer's array, read at an index.
-/
module

public import proofs.«01_k».proof.Proof.Gen.Reference6Ideal.Run
public import proofs.«01_k».proof.Proof.Scalar
public import Idealize.ShloMosaic.Lib.Pointwise
public import Idealize.ShloMosaic.Lib.IdealHost

@[expose] public section

set_option maxRecDepth 16384

noncomputable section

namespace Cert.Proof.CtxPlain

open Idealize.ShloMosaic Idealize.ShloMosaic.Tactic Cert.Reference6Ideal Cert.Reference6Ideal.Gen Idealize.ShloMosaic.TcCoe

/-- The plain layer's scores of queries `q` and keys `k`, the queries scaled. -/
def scT (q k : FVec Ideal S2x256x4x64 .f32) : FVec Ideal S2x4x256x256 .f32 :=
  Host.dotGeneral dot_S2x256x4x64_S2x256x4x64_S2x4x256x256_3_3_1_1_02_02 none (mulf q (broadcastInDim S2x256x4x64 ![] bcast_S_S2x256x4x64 (constant S_ .f32 0x3E000000#32))) k

/-- The exponentials of scores less the greatest of their row. -/
def exT (s : FVec Ideal S2x4x256x256 .f32) : FVec Ideal S2x4x256x256 .f32 :=
  Host.exp (subf s (broadcastInDim S2x4x256x256 ![0, 1, 2, 3] bcast_S2x4x256x1_S2x4x256x256_0_1_2_3 (broadcastInDim S2x4x256x1 ![0, 1, 2] bcast_S2x4x256_S2x4x256x1_0_1_2 (maximumf (broadcastInDim S2x4x256 ![] bcast_S_S2x4x256 (constant S_ .f32 0xFF800000#32)) (Host.reduce FloatOps.maximumf s (constant S_ .f32 0xFF800000#32) reducesTo_S2x4x256x256_S2x4x256_d3 h_S_)))))

/-- The attention's weights of exponentials `e`. -/
def wT (e : FVec Ideal S2x4x256x256 .f32) : FVec Ideal S2x4x256x256 .f32 :=
  Host.divf e (broadcastInDim S2x4x256x256 ![0, 1, 2, 3] bcast_S2x4x256x1_S2x4x256x256_0_1_2_3 (broadcastInDim S2x4x256x1 ![0, 1, 2] bcast_S2x4x256_S2x4x256x1_0_1_2 (Host.reduceAdd e (constant S_ .f32 0x00000000#32) reducesTo_S2x4x256x256_S2x4x256_d3 h_S_)))

/-- The weighted values, heads side by side. -/
def oT (w : FVec Ideal S2x4x256x256 .f32) (v : FVec Ideal S2x256x4x64 .f32) : FVec Ideal S2x256x256 .bf16 :=
  truncf .bf16 (shapeCast _ (transpose S2x256x4x64 [0, 3, 1, 2] (Host.dotGeneral dot_S2x256x4x64_S2x4x256x256_S2x4x64x256_1_3_3_2_02_01 none v w) transposes_S2x4x64x256_S2x256x4x64_0_3_1_2) shapeCasts_S2x256x4x64_S2x256x256) bitsLt_bf16_f32

/-- The queries, by head. -/
def qT (z : FVec Ideal S2x256x768 .bf16) : FVec Ideal S2x256x4x64 .f32 :=
  shapeCast _ (extf .f32 (extractStridedSlice S2x256x256 ![0, 0, 0] z slices_S2x256x768_S2x256x256_0_0_0) bitsLt_bf16_f32) shapeCasts_S2x256x256_S2x256x4x64

/-- The keys, by head. -/
def kT (z : FVec Ideal S2x256x768 .bf16) : FVec Ideal S2x256x4x64 .f32 :=
  shapeCast _ (extf .f32 (extractStridedSlice S2x256x256 ![0, 0, 256] z slices_S2x256x768_S2x256x256_0_0_256) bitsLt_bf16_f32) shapeCasts_S2x256x256_S2x256x4x64

/-- The values, by head. -/
def vT (z : FVec Ideal S2x256x768 .bf16) : FVec Ideal S2x256x4x64 .f32 :=
  shapeCast _ (extf .f32 (extractStridedSlice S2x256x256 ![0, 0, 512] z slices_S2x256x768_S2x256x256_0_0_512) bitsLt_bf16_f32) shapeCasts_S2x256x256_S2x256x4x64

/-- The feature of head `h` at lane `d`, of the part that starts at `o`. -/
def feat (o : ℕ) (ho : o + 256 ≤ 768) (h : Fin 4) (d : Fin 64) : Fin 768 := ⟨o + (h.val * 64 + d.val), by omega⟩

/-- The queries, by head, at an index. -/
theorem qT_apply (z : FVec Ideal S2x256x768 .bf16) (i : S2x256x4x64.Idx) : qT z i = z (ix3 (i 0) (i 1) (feat 0 (by omega) (i 2) (i 3))) := by
  pointwise [qT, feat]

/-- The keys, by head, at an index. -/
theorem kT_apply (z : FVec Ideal S2x256x768 .bf16) (i : S2x256x4x64.Idx) : kT z i = z (ix3 (i 0) (i 1) (feat 256 (by omega) (i 2) (i 3))) := by
  pointwise [kT, feat]

/-- The values, by head, at an index. -/
theorem vT_apply (z : FVec Ideal S2x256x768 .bf16) (i : S2x256x4x64.Idx) : vT z i = z (ix3 (i 0) (i 1) (feat 512 (by omega) (i 2) (i 3))) := by
  pointwise [vT, feat]

/-- The scores at an index. -/
theorem scT_apply (q k : FVec Ideal S2x256x4x64 .f32) (i : S2x4x256x256.Idx) :
    scT q k i = ∑ d : Fin 64, q (ix4 (i 0) (i 2) (i 1) d) * Ideal.ofBits .f32 0x3E000000#32 * k (ix4 (i 0) (i 3) (i 1) d) := by
  pointwise [scT]

/-- The exponentials at an index. -/
theorem exT_apply (s : FVec Ideal S2x4x256x256 .f32) (i : S2x4x256x256.Idx) :
    exT s i = Ideal.exp (s i - Finset.fold max (Ideal.ofBits .f32 0xFF800000#32) (fun j : Fin 256 => s (ix4 (i 0) (i 1) (i 2) j)) Finset.univ) := by
  pointwise [exT]
  rw [max_eq_right ((Finset.le_fold_max _).2 (Or.inl le_rfl))]

/-- The weights at an index. -/
theorem wT_apply (e : FVec Ideal S2x4x256x256 .f32) (i : S2x4x256x256.Idx) :
    wT e i = Ideal.div (e i) (∑ j : Fin 256, e (ix4 (i 0) (i 1) (i 2) j)) := by
  pointwise [wT]

/-- The weighted values at an index. -/
theorem oT_apply (w : FVec Ideal S2x4x256x256 .f32) (v : FVec Ideal S2x256x4x64 .f32) (i : S2x256x256.Idx) :
    oT w v i = ∑ j : Fin 256, v (ix4 (i 0) j ⟨(i 2).val / 64, by have : (i 2).val < 256 := (i 2).isLt; omega⟩ ⟨(i 2).val % 64, by omega⟩) * w (ix4 (i 0) ⟨(i 2).val / 64, by have : (i 2).val < 256 := (i 2).isLt; omega⟩ (i 1) j) := by
  pointwise [oT]

end Cert.Proof.CtxPlain
-- ==== Proof.CtxTie.lean ====
/-
  The context's attention: at real queries and keys the array the call ends with is the plain layer's.
-/
module

public import proofs.«01_k».proof.Proof.Ctx
public import proofs.«01_k».proof.Proof.CtxPlain

@[expose] public section

set_option maxRecDepth 16384

noncomputable section

namespace Cert.Proof.CtxTie

open Idealize.ShloMosaic Cert.Kernel6Ideal Cert.Kernel6Ideal.Gen Idealize.ShloMosaic.TcCoe
open Cert.Proof.Scalar Cert.Proof.Ctx Cert.Proof.CtxPlain

/-- A row of the attention as the plain layer forms it: each weight over the weights' sum, then the weighted sum. -/
def prow (s v : Fin 256 → EReal) : EReal := ∑ j : Fin 256, Ideal.div (ex s j) (∑ j : Fin 256, ex s j) * v j

/-- A score of head `h` as the plain layer forms it: a product over the head's own lanes. -/
def psc (q k : Fin 4 → Fin 64 → EReal) (h : Fin 4) : EReal := ∑ d : Fin 64, q h d * eighth * k h d

/-- The greatest of finitely many reals is real. -/
theorem isReal_greatest (s : Fin 256 → EReal) (hs : ∀ j, IsReal (s j)) : IsReal (Finset.fold max (Ideal.ofBits .f32 0xFF800000#32) s Finset.univ) := by
  have hb : Ideal.ofBits .f32 0xFF800000#32 = (⊥ : EReal) := by simp [Ideal.ofBits, Ideal.ieee]
  rw [hb]
  have h1 : Finset.fold max (⊥ : EReal) s Finset.univ < ⊤ := (Finset.fold_max_lt _).2 ⟨bot_lt_top, fun j _ => by
    obtain ⟨r, hr⟩ := hs j; rw [hr]; exact EReal.coe_lt_top r⟩
  have h2 : s 0 ≤ Finset.fold max (⊥ : EReal) s Finset.univ := (Finset.le_fold_max _).2 (Or.inr ⟨0, Finset.mem_univ _, le_rfl⟩)
  obtain ⟨r, hr⟩ := hs 0
  rw [hr] at h2
  generalize Finset.fold max (⊥ : EReal) s Finset.univ = M at h1 h2
  induction M using EReal.rec with
  | bot => exact absurd (le_bot_iff.1 h2) (EReal.coe_ne_bot r)
  | top => exact absurd h1 (lt_irrefl _)
  | coe x => exact ⟨x, rfl⟩

/-- An exponential of real scores is a positive real. -/
theorem ex_pos (s : Fin 256 → EReal) (hs : ∀ j, IsReal (s j)) (j : Fin 256) : ∃ r : ℝ, 0 < r ∧ ex s j = (r : EReal) := by
  obtain ⟨M, hM⟩ := isReal_greatest s hs
  obtain ⟨x, hx⟩ := hs j
  refine ⟨Real.exp (x - M), Real.exp_pos _, ?_⟩
  unfold ex
  rw [hM, hx, ← EReal.coe_sub, Ideal.exp_coe]

/-- A real that is not negative goes into a sum. -/
theorem real_sum {ι : Type} [Fintype ι] (c : ℝ) (hc : 0 ≤ c) (f : ι → EReal) : (c : EReal) * ∑ q, f q = ∑ q, (c : EReal) * f q := by
  classical
  have h0 : (0 : EReal) ≤ (c : EReal) := by exact_mod_cast hc
  have key : ∀ s : Finset ι, (c : EReal) * ∑ q ∈ s, f q = ∑ q ∈ s, (c : EReal) * f q := by
    intro s
    induction s using Finset.induction_on with
    | empty => simp
    | insert a s ha ih => rw [Finset.sum_insert ha, Finset.sum_insert ha, EReal.left_distrib_of_nonneg_of_ne_top h0 (EReal.coe_ne_top _), ih]
  exact key _

/-- The two rows agree where the scores are real, whatever the values. -/
theorem row_eq (s v : Fin 256 → EReal) (hs : ∀ j, IsReal (s j)) : krow s v = prow s v := by
  choose e hp he using ex_pos s hs
  have hD : ∑ j : Fin 256, ex s j = ((∑ j : Fin 256, e j : ℝ) : EReal) := by
    rw [← sum_coe]; exact Finset.sum_congr rfl fun j _ => he j
  have hpos : 0 < ∑ j : Fin 256, e j := Finset.sum_pos (fun j _ => hp j) ⟨0, Finset.mem_univ _⟩
  unfold krow prow
  rw [hD]
  simp only [Ideal.div_coe hpos.ne', one_mul]
  rw [mul_comm, real_sum _ (by positivity)]
  refine Finset.sum_congr rfl fun j _ => ?_
  rw [← mul_assoc, mul_comm (ex s j)]

/-- A score over all lanes, the other heads' lanes set to zero, is the score over the head's own lanes. -/
theorem score_eq (q k : Fin 256 → EReal) (h : Fin 4) :
    ksc q k h.val = psc (fun h d => q ⟨h.val * 64 + d.val, by omega⟩) (fun h d => k ⟨h.val * 64 + d.val, by omega⟩) h := by
  unfold ksc psc
  have e : ∀ f : Fin 256 → EReal, ∑ l : Fin 256, f l = ∑ a : Fin 4, ∑ d : Fin 64, f ⟨a.val * 64 + d.val, by omega⟩ := by
    intro f
    rw [← Fintype.sum_prod_type' (fun (a : Fin 4) (d : Fin 64) => f ⟨a.val * 64 + d.val, by omega⟩)]
    refine (Equiv.sum_comp (finProdFinEquiv (m := 4) (n := 64)) f).symm.trans (Finset.sum_congr rfl fun x _ => congrArg f (Fin.ext ?_))
    show x.2.val + 64 * x.1.val = x.1.val * 64 + x.2.val
    omega
  rw [e, Finset.sum_eq_single h]
  · refine Finset.sum_congr rfl fun d _ => ?_
    rw [if_pos (by show (h.val * 64 + d.val) / 64 = h.val; omega)]
  · intro a _ ha
    refine Finset.sum_eq_zero fun d _ => ?_
    rw [if_neg (by show ¬ (a.val * 64 + d.val) / 64 = h.val; exact fun hh => ha (Fin.ext (by omega))), zero_mul]
  · intro hh
    exact absurd (Finset.mem_univ _) hh

/-- The scale of the scores is real. -/
theorem isReal_eighth : IsReal eighth := ⟨1 / 8, by unfold eighth; simp [Ideal.ofBits, Ideal.ieee, -EReal.coe_mul]; norm_num⟩

/-- The attention as the plain layer forms it from the joint array of queries, keys and values. -/
def pat (z : Vec Ideal S2x256x768 .bf16) (s : Fin 2) (r l : Fin 256) : EReal :=
  prow (fun j => psc (fun h d => z (ix3 s r (feat 0 (by omega) h d))) (fun h d => z (ix3 s j (feat 256 (by omega) h d))) ⟨l.val / 64, by omega⟩)
    (fun j => z (ix3 s j ⟨512 + l.val, by omega⟩))

/-- The two attentions agree where the queries and the keys are real. -/
theorem kat_eq (z : Vec Ideal S2x256x768 .bf16) (hz : ∀ s r (n : Fin 768), n.val < 512 → IsReal (z (ix3 s r n))) (s : Fin 2) (r l : Fin 256) :
    kat z s r l = pat z s r l := by
  have hs : ∀ j, ksc (fun p => z (ix3 s r ⟨0 + p.val, by omega⟩)) (fun p => z (ix3 s j ⟨256 + p.val, by omega⟩)) (l.val / 64)
      = psc (fun h d => z (ix3 s r (feat 0 (by omega) h d))) (fun h d => z (ix3 s j (feat 256 (by omega) h d))) ⟨l.val / 64, by omega⟩ :=
    fun j => score_eq _ _ ⟨l.val / 64, by omega⟩
  unfold kat pat
  simp only [hs]
  refine row_eq _ _ fun j => IsReal.sum fun d => ?_
  exact ((hz _ _ _ (by show 0 + _ < 512; omega)).mul isReal_eighth).mul (hz _ _ _ (by show 256 + (_ * 64 + _) < 512; omega))

/-- The plain layer's array at an index. -/
theorem plain_apply (z : Vec Ideal S2x256x768 .bf16) (i : S2x256x256.Idx) : oT (wT (exT (scT (qT z) (kT z)))) (vT z) i = pat z (i 0) (i 1) (i 2) := by
  have hl : (i 2).val < 256 := (i 2).isLt
  have hsc : ∀ (s : Fin 2) (h : Fin 4) (r j : Fin 256), scT (qT z) (kT z) (ix4 s h r j)
      = psc (fun h d => z (ix3 s r (feat 0 (by omega) h d))) (fun h d => z (ix3 s j (feat 256 (by omega) h d))) h := by
    intro s h r j
    refine (scT_apply _ _ _).trans (Finset.sum_congr rfl fun d _ => ?_)
    exact congrArg₂ (fun u w : EReal => u * eighth * w) (qT_apply z _) (kT_apply z _)
  have hex : ∀ (s : Fin 2) (h : Fin 4) (r j : Fin 256), exT (scT (qT z) (kT z)) (ix4 s h r j)
      = ex (fun j => psc (fun h d => z (ix3 s r (feat 0 (by omega) h d))) (fun h d => z (ix3 s j (feat 256 (by omega) h d))) h) j := by
    intro s h r j
    refine (exT_apply _ _).trans ?_
    exact congrArg (fun f : Fin 256 → EReal => ex f j) (funext (hsc s h r))
  refine (oT_apply _ _ _).trans ?_
  unfold pat prow
  refine Finset.sum_congr rfl fun j _ => ?_
  rw [mul_comm]
  refine congrArg₂ (fun u w : EReal => u * w) ?_ ?_
  · refine (wT_apply _ _).trans ?_
    exact congrArg (fun f : Fin 256 → EReal => Ideal.div (f j) (∑ j : Fin 256, f j)) (funext (hex (i 0) ⟨(i 2).val / 64, by omega⟩ (i 1)))
  · refine (vT_apply z _).trans ?_
    refine congrArg (fun n : Fin 768 => z (ix3 (i 0) j n)) (Fin.ext ?_)
    show 512 + ((i 2).val / 64 * 64 + (i 2).val % 64) = 512 + (i 2).val
    omega

/-- At real queries and keys the plain layer's array is the call's. -/
theorem tie (m : (ℓ : Loc nD τ sig) → Buf (Elt Ideal) ℓ) (c : Dev nD)
    (hz : ∀ s r (n : Fin 768), n.val < 512 → IsReal (m ((c : Thread nD τ).loc main_arg0) (ix3 s r n))) (i : S2x256x256.Idx) :
    oT (wT (exT (scT (qT (m ((c : Thread nD τ).loc main_arg0))) (kT (m ((c : Thread nD τ).loc main_arg0)))))) (vT (m ((c : Thread nD τ).loc main_arg0))) i
      = (dats m 0 c).arrAt 3 cfg0.N i :=
  (plain_apply _ i).trans ((kat_eq _ hz _ _ _).symm.trans (final3 m c i).symm)

end Cert.Proof.CtxTie
-- ==== Proof.Gmlp.lean ====
/-
  The gated MLP over chunks: what its body leaves at each grid point, and the array it ends with, as functions of the whole arrays.
-/
module

public import proofs.«01_k».proof.Proof.Gen.Kernel7Ideal.Value
public import proofs.«01_k».proof.Proof.Ctx
public import Idealize.ShloMosaic.Lib.Pointwise
public import Idealize.ShloMosaic.Lib.IdealHost

@[expose] public section

set_option maxRecDepth 16384

noncomputable section

namespace Cert.Proof.Gmlp

open Idealize.ShloMosaic Idealize.ShloMosaic.Tactic Idealize.SL.Sem Cert.Kernel7Ideal Cert.Kernel7Ideal.Gen Idealize.ShloMosaic.TcCoe
open Cert.Proof.Ctx (mask mask_apply)

/-- A chunk with the lanes of the other heads set to zero. -/
def only (h : BitVec 32) (x : FVec Ideal S128x256 .f32) : FVec Ideal S128x256 .f32 :=
  select (broadcastTo S128x256 (shapeCast S1x256 (mask h) shapeCasts_S1x256_S1x256) broadcasts_S1x256_S128x256) x
    (broadcast S128x256 (Scalar.ofBits (F := Ideal) .f32 0x00000000#32))

/-- The heads' copies of a chunk, one below the other. -/
def stack (x : FVec Ideal S128x256 .f32) : FVec Ideal S512x256 .f32 :=
  concatenate S512x256 0 [⟨S128x256, only 0#32 x⟩, ⟨S128x256, only 1#32 x⟩, ⟨S128x256, only 2#32 x⟩, ⟨S128x256, only 3#32 x⟩] concatenates_S128x256_S128x256_S128x256_S128x256_S512x256_d0

/-- A chunk of the result: the gate times the mixed rows and their bias. -/
def chunk (u x : FVec Ideal S128x256 .f32) (w : FVec Ideal S128x512 .bf16) (b : FVec Ideal S128x256 .f32) : FVec Ideal S1x128x256 .bf16 :=
  shapeCast S1x128x256 (truncf .bf16 (mulf u (addf (matmul dot_S128x512_S512x256_S128x256_1_0_0_1_n_n none w (truncf .bf16 (stack x) bitsLt_bf16_f32) (constant S128x256 .f32 0x00000000#32)) b)) bitsLt_bf16_f32) shapeCasts_S128x256_S1x128x256

/-- The normalised half of a block. -/
def nrm (z : Vec Ideal S1x256x512 .f32) (g b : Vec Ideal S1x256 .f32) : FVec Ideal S256x256 .f32 := k0_pay6 (k0_pay4 z g) (k0_pay5 b)

/-- The rectangle of a whole block leaves every index in place. -/
theorem emb_0 (x : S1x256x512.Idx) : r0_0.emb x = x := by
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

/-- The rectangle of a whole block leaves every index in place. -/
theorem emb_1 (x : S1x256.Idx) : r0_1.emb x = x := by
  funext a
  apply Fin.ext
  match a with
  | ⟨0, _⟩ => show 0 + 1 * (x 0).val = (x 0).val; omega
  | ⟨1, _⟩ => show 0 + 1 * (x 1).val = (x 1).val; omega

/-- The rectangle of a whole block leaves every index in place. -/
theorem emb_2 (x : S128x512.Idx) : r0_2.emb x = x := by
  funext a
  apply Fin.ext
  match a with
  | ⟨0, _⟩ => show 0 + 1 * (x 0).val = (x 0).val; omega
  | ⟨1, _⟩ => show 0 + 1 * (x 1).val = (x 1).val; omega

/-- The rectangle of a whole block leaves every index in place. -/
theorem emb_3 (x : S128x256.Idx) : r0_3.emb x = x := by
  funext a
  apply Fin.ext
  match a with
  | ⟨0, _⟩ => show 0 + 1 * (x 0).val = (x 0).val; omega
  | ⟨1, _⟩ => show 0 + 1 * (x 1).val = (x 1).val; omega

/-- A load of a whole block is the block. -/
theorem ld_0 {d : EltTy} (x : Vec Ideal S1x256x512 d) : View.ld x r0_0 = x := funext fun y => congrArg x (emb_0 y)

/-- A load of a whole block is the block. -/
theorem ld_1 {d : EltTy} (x : Vec Ideal S1x256 d) : View.ld x r0_1 = x := funext fun y => congrArg x (emb_1 y)

/-- A load of a whole block is the block. -/
theorem ld_2 {d : EltTy} (x : Vec Ideal S128x512 d) : View.ld x r0_2 = x := funext fun y => congrArg x (emb_2 y)

/-- A load of a whole block is the block. -/
theorem ld_3 {d : EltTy} (x : Vec Ideal S128x256 d) : View.ld x r0_3 = x := funext fun y => congrArg x (emb_3 y)

/-- The rectangle of the first chunk. -/
theorem emb_4 (x : S1x128x256.Idx) : r0_4.emb x = (ix3 0 ⟨0 + (x 1).val, by have : (x 1).val < 128 := (x 1).isLt; omega⟩ (x 2) : S1x256x256.Idx) := by
  funext a
  apply Fin.ext
  match a with
  | ⟨0, _⟩ => show 0 + 1 * (x 0).val = 0; have : (x 0).val < 1 := (x 0).isLt; omega
  | ⟨1, _⟩ => show 0 + 1 * (x 1).val = 0 + (x 1).val; omega
  | ⟨2, _⟩ => show 0 + 1 * (x 2).val = (x 2).val; omega

/-- The rectangle of the second chunk. -/
theorem emb_5 (x : S1x128x256.Idx) : r0_5.emb x = (ix3 0 ⟨128 + (x 1).val, by have : (x 1).val < 128 := (x 1).isLt; omega⟩ (x 2) : S1x256x256.Idx) := by
  funext a
  apply Fin.ext
  match a with
  | ⟨0, _⟩ => show 0 + 1 * (x 0).val = 0; have : (x 0).val < 1 := (x 0).isLt; omega
  | ⟨1, _⟩ => show 128 + 1 * (x 1).val = 128 + (x 1).val; omega
  | ⟨2, _⟩ => show 0 + 1 * (x 2).val = (x 2).val; omega

/-- The body's block: its two chunks. -/
theorem body_eq (x0 : Vec Ideal S1x256x512 .f32) (x1 x2 : Vec Ideal S1x256 .f32) (x3 : Vec Ideal S128x512 .bf16) (x4 : Vec Ideal S128x256 .f32) :
    out0_5 x0 x1 x2 x3 x4 = View.canon [⟨r0_5, chunk (extractStridedSlice S128x256 ![128, 0] (k0_pay3 (View.ld x0 r0_0)) slices_S256x256_o128_0_S128x256)
          (extractStridedSlice S128x256 ![128, 0] (nrm (View.ld x0 r0_0) (View.ld x1 r0_1) (View.ld x2 r0_1)) slices_S256x256_o128_0_S128x256)
          (shapeCast S128x512 (View.ld x3 r0_2) shapeCasts_S128x512_S128x512) (shapeCast S128x256 (View.ld x4 r0_3) shapeCasts_S128x256_S128x256)⟩,
      ⟨r0_4, chunk (extractStridedSlice S128x256 ![0, 0] (k0_pay3 (View.ld x0 r0_0)) slices_S256x256_o0_0_S128x256)
          (extractStridedSlice S128x256 ![0, 0] (nrm (View.ld x0 r0_0) (View.ld x1 r0_1) (View.ld x2 r0_1)) slices_S256x256_o0_0_S128x256)
          (shapeCast S128x512 (View.ld x3 r0_2) shapeCasts_S128x512_S128x512) (shapeCast S128x256 (View.ld x4 r0_3) shapeCasts_S128x256_S128x256)⟩] := rfl

/-- A chunk kept on one head's lanes, at an index. -/
theorem only_apply (h : Fin 4) (x : FVec Ideal S128x256 .f32) (i : S128x256.Idx) :
    only (BitVec.ofNat 32 h.val) x i = if (i 1).val / 64 = h.val then x i else 0 := by
  have e : only (BitVec.ofNat 32 h.val) x i = Scalar.select (mask (BitVec.ofNat 32 h.val) (ix2 0 (i 1))) (x i) 0 := by
    pointwise [only]
  rw [e, mask_apply]
  show Scalar.select (BitVec.ofBool (decide ((i 1).val / 64 = h.val))) (x i) 0 = _
  by_cases hh : (i 1).val / 64 = h.val
  · rw [if_pos hh, decide_eq_true hh]; rfl
  · rw [if_neg hh, decide_eq_false hh]; rfl

/-- The stacked copies at a row of head `a`'s copy. -/
theorem stack_apply (x : FVec Ideal S128x256 .f32) (a : Fin 4) (q : Fin 128) (l : Fin 256) :
    stack x (ix2 ⟨a.val * 128 + q.val, by omega⟩ l) = if l.val / 64 = a.val then x (ix2 q l) else 0 := by
  have e : stack x (ix2 ⟨a.val * 128 + q.val, by omega⟩ l) = only (BitVec.ofNat 32 a.val) x (ix2 q l) := by
    unfold stack
    fin_cases a <;> pointwise
    · rw [dif_neg (by omega), dif_neg (by omega), dif_pos (by omega)]
      exact congrArg (fun r : Fin 128 => only 2#32 x (ix2 r l)) (Fin.ext (by show 256 + q.val - 128 - 128 = q.val; omega))
    · rw [dif_neg (by omega), dif_neg (by omega), dif_neg (by omega)]
      exact congrArg (fun r : Fin 128 => only 3#32 x (ix2 r l)) (Fin.ext (by show 384 + q.val - 128 - 128 - 128 = q.val; omega))
  exact e.trans (only_apply a x _)

/-- A product with the stacked copies takes, on each lane, its own head's weights alone. -/
theorem mix_sum (f : Fin 512 → EReal) (x : FVec Ideal S128x256 .f32) (l : Fin 256) :
    ∑ k : Fin 512, f k * stack x (ix2 k l) = ∑ q : Fin 128, f ⟨l.val / 64 * 128 + q.val, by omega⟩ * x (ix2 q l) := by
  have e : ∀ f : Fin 512 → EReal, ∑ k : Fin 512, f k = ∑ a : Fin 4, ∑ q : Fin 128, f ⟨a.val * 128 + q.val, by omega⟩ := by
    intro f
    rw [← Fintype.sum_prod_type' (fun (a : Fin 4) (q : Fin 128) => f ⟨a.val * 128 + q.val, by omega⟩)]
    refine (Equiv.sum_comp (finProdFinEquiv (m := 4) (n := 128)) f).symm.trans (Finset.sum_congr rfl fun x _ => congrArg f (Fin.ext ?_))
    show x.2.val + 128 * x.1.val = x.1.val * 128 + x.2.val
    omega
  rw [e, Finset.sum_eq_single ⟨l.val / 64, by omega⟩]
  · refine Finset.sum_congr rfl fun q _ => ?_
    refine congrArg (_ * ·) ((stack_apply x ⟨l.val / 64, by omega⟩ q l).trans ?_)
    exact if_pos rfl
  · intro a _ ha
    refine Finset.sum_eq_zero fun q _ => ?_
    refine (congrArg (_ * ·) ((stack_apply x a q l).trans (if_neg fun hh => ha (Fin.ext hh.symm)))).trans (mul_zero _)
  · intro hh
    exact absurd (Finset.mem_univ _) hh

/-- The Gaussian unit in its tanh form. -/
def gl (x : EReal) : EReal :=
  x * (Ideal.ofBits .f32 0x3F000000#32 * (Ideal.ofBits .f32 0x3F800000#32 + Ideal.tanh (Ideal.ofBits .f32 0x3F4C422A#32 * (x + Ideal.ofBits .f32 0x3D372713#32 * (x * x * x)))))

/-- A row's mean. -/
def mean (v : Fin 256 → EReal) : EReal := Ideal.div (∑ q : Fin 256, v q) (Ideal.ofBits .f32 0x43800000#32)

/-- A row normalised to mean zero and variance one, times the gain, plus the shift. -/
def ln (v : Fin 256 → EReal) (g b : EReal) (l : Fin 256) : EReal :=
  (v l - mean v) * Ideal.rsqrt (mean (fun q => (v q - mean v) * (v q - mean v)) + Ideal.ofBits .f32 0x358637BD#32) * g + b

/-- The block after the Gaussian unit. -/
theorem pay2_apply (z : Vec Ideal S1x256x512 .f32) (i : S256x512.Idx) : k0_pay2 z i = gl (z (ix3 0 (i 0) (i 1))) := by
  pointwise [k0_pay2, gl]
  simp only [mul_assoc]

/-- The gating half of the block. -/
theorem pay3_apply (z : Vec Ideal S1x256x512 .f32) (i : S256x256.Idx) : k0_pay3 z i = gl (z (ix3 0 (i 0) ⟨0 + (i 1).val, by have : (i 1).val < 256 := (i 1).isLt; omega⟩)) := by
  have e : k0_pay3 z i = k0_pay2 z (ix2 (i 0) ⟨0 + (i 1).val, by have : (i 1).val < 256 := (i 1).isLt; omega⟩) := by
    pointwise [k0_pay3]
  exact e.trans (pay2_apply z _)

/-- The normalised half of the block. -/
theorem nrm_apply (z : Vec Ideal S1x256x512 .f32) (g b : Vec Ideal S1x256 .f32) (i : S256x256.Idx) :
    nrm z g b i = ln (fun q => gl (z (ix3 0 (i 0) ⟨256 + q.val, by omega⟩))) (g (ix2 0 (i 1))) (b (ix2 0 (i 1))) (i 1) := by
  have e : nrm z g b i = ln (fun q => k0_pay2 z (ix2 (i 0) ⟨256 + q.val, by omega⟩)) (g (ix2 0 (i 1))) (b (ix2 0 (i 1))) (i 1) := by
    pointwise [nrm, k0_pay6, k0_pay4, k0_pay5, ln, mean]
  refine e.trans (congrArg (fun v : Fin 256 → EReal => ln v _ _ _) (funext fun q => ?_))
  exact pay2_apply z _

/-- A chunk of the result at an index. -/
theorem chunk_apply (u x : FVec Ideal S128x256 .f32) (w : FVec Ideal S128x512 .bf16) (b : FVec Ideal S128x256 .f32) (i : S1x128x256.Idx) :
    chunk u x w b i = u (ix2 (i 1) (i 2)) * (∑ k : Fin 512, w (ix2 (i 1) k) * stack x (ix2 k (i 2)) + b (ix2 (i 1) (i 2))) := by
  pointwise [chunk]

/-- The block's value at row `r` of the chunk that starts at row `o`, lane `l`. -/
def blk (x0 : Vec Ideal S1x256x512 .f32) (x1 x2 : Vec Ideal S1x256 .f32) (x3 : Vec Ideal S128x512 .bf16) (x4 : Vec Ideal S128x256 .f32) (o : ℕ) (ho : o + 128 ≤ 256) (r : Fin 128) (l : Fin 256) : EReal :=
  gl (x0 (ix3 0 ⟨o + r.val, by omega⟩ ⟨0 + l.val, by omega⟩))
    * (∑ q : Fin 128, x3 (ix2 r ⟨l.val / 64 * 128 + q.val, by omega⟩) * ln (fun n => gl (x0 (ix3 0 ⟨o + q.val, by omega⟩ ⟨256 + n.val, by omega⟩))) (x1 (ix2 0 l)) (x2 (ix2 0 l)) l + x4 (ix2 r l))

/-- The chunk that starts at row `o`. -/
theorem chunk_blk (x0 : Vec Ideal S1x256x512 .f32) (x1 x2 : Vec Ideal S1x256 .f32) (x3 : Vec Ideal S128x512 .bf16) (x4 : Vec Ideal S128x256 .f32) (o : ℕ) (ho : o + 128 ≤ 256)
    (u x : FVec Ideal S128x256 .f32) (hu : ∀ r l, u (ix2 r l) = k0_pay3 x0 (ix2 ⟨o + r.val, by omega⟩ l)) (hx : ∀ r l, x (ix2 r l) = nrm x0 x1 x2 (ix2 ⟨o + r.val, by omega⟩ l))
    (r : Fin 128) (l : Fin 256) :
    chunk u x (shapeCast S128x512 x3 shapeCasts_S128x512_S128x512) (shapeCast S128x256 x4 shapeCasts_S128x256_S128x256) (ix3 0 r l) = blk x0 x1 x2 x3 x4 o ho r l := by
  refine (chunk_apply _ _ _ _ _).trans ?_
  unfold blk
  refine congrArg₂ (· * ·) ((hu r l).trans (pay3_apply x0 _)) (congrArg₂ (· + ·) ?_ (by pointwise))
  refine (mix_sum _ x l).trans (Finset.sum_congr rfl fun q _ => congrArg₂ (· * ·) (by pointwise) ?_)
  exact (hx q l).trans (nrm_apply x0 x1 x2 _)

/-- What a grid point leaves in its block. -/
theorem out_5 (x0 : Vec Ideal S1x256x512 .f32) (x1 x2 : Vec Ideal S1x256 .f32) (x3 : Vec Ideal S128x512 .bf16) (x4 : Vec Ideal S128x256 .f32) (y : S1x256x256.Idx) :
    out0_5 x0 x1 x2 x3 x4 y = blk x0 x1 x2 x3 x4 ((y 1).val / 128 * 128) (by have : (y 1).val < 256 := (y 1).isLt; omega) ⟨(y 1).val % 128, by omega⟩ (y 2) := by
  have hy : ∀ y : S1x256x256.Idx, (y 1).val / 128 * 128 + 128 ≤ 256 := fun y => by have : (y 1).val < 256 := (y 1).isLt; omega
  rw [body_eq, ld_0, ld_1, ld_1, ld_2, ld_3]
  refine View.canon_apply_of_pieces (Val := Elt Ideal) (fun y : S1x256x256.Idx => blk x0 x1 x2 x3 x4 ((y 1).val / 128 * 128) (hy y) ⟨(y 1).val % 128, by omega⟩ (y 2)) _ ?_ y (cover0_5 _ _ y)
  have key : ∀ (o o' : ℕ) (ho : o + 128 ≤ 256) (ho' : o' + 128 ≤ 256) (r r' : Fin 128) (l : Fin 256), o = o' → r = r' → blk x0 x1 x2 x3 x4 o ho r l = blk x0 x1 x2 x3 x4 o' ho' r' l := by
    intro o o' ho ho' r r' l h1 h2
    subst h1 h2
    rfl
  intro pc hpc
  rcases List.mem_cons.mp hpc with rfl | hpc
  · intro (x : S1x128x256.Idx)
    have hx : (x 1).val < 128 := (x 1).isLt
    have hx0 : x = ix3 0 (x 1) (x 2) := by
      funext a
      match a with
      | ⟨0, _⟩ => exact Fin.ext (by have : (x 0).val < 1 := (x 0).isLt; show (x 0).val = 0; omega)
      | ⟨1, _⟩ => rfl
      | ⟨2, _⟩ => rfl
    refine Eq.trans ?_ (congrArg (fun y : S1x256x256.Idx => blk x0 x1 x2 x3 x4 ((y 1).val / 128 * 128) (hy y) ⟨(y 1).val % 128, by omega⟩ (y 2)) (emb_5 x)).symm
    refine (congrArg _ hx0).trans ((chunk_blk x0 x1 x2 x3 x4 128 (by omega) _ _ (fun r l => by pointwise) (fun r l => by pointwise) (x 1) (x 2)).trans ?_)
    exact key _ _ _ _ _ _ _ (by show 128 = (128 + (x 1).val) / 128 * 128; omega) (Fin.ext (by show (x 1).val = (128 + (x 1).val) % 128; omega))
  rcases List.mem_cons.mp hpc with rfl | hpc
  · intro (x : S1x128x256.Idx)
    have hx : (x 1).val < 128 := (x 1).isLt
    have hx0 : x = ix3 0 (x 1) (x 2) := by
      funext a
      match a with
      | ⟨0, _⟩ => exact Fin.ext (by have : (x 0).val < 1 := (x 0).isLt; show (x 0).val = 0; omega)
      | ⟨1, _⟩ => rfl
      | ⟨2, _⟩ => rfl
    refine Eq.trans ?_ (congrArg (fun y : S1x256x256.Idx => blk x0 x1 x2 x3 x4 ((y 1).val / 128 * 128) (hy y) ⟨(y 1).val % 128, by omega⟩ (y 2)) (emb_4 x)).symm
    refine (congrArg _ hx0).trans ((chunk_blk x0 x1 x2 x3 x4 0 (by omega) _ _ (fun r l => by pointwise) (fun r l => by pointwise) (x 1) (x 2)).trans ?_)
    exact key _ _ _ _ _ _ _ (by show 0 = (0 + (x 1).val) / 128 * 128; omega) (Fin.ext (by show (x 1).val = (0 + (x 1).val) % 128; omega))
  nomatch hpc

variable (m : (ℓ : Loc nD τ sig) → Buf (Elt Ideal) ℓ)

/-- The batch row of a grid point. -/
def row (t : Fin cfg0.N) : Fin 2 := ⟨t.val, lt_of_lt_of_eq t.isLt (show cfg0.N = 2 from N_0)⟩

/-- The host's row of gains or shifts at an index. -/
theorem rows (g : FVec Ideal S256 .f32) (i : S1x256.Idx) : (broadcastInDim S1x256 ![1] bcast_S256_S1x256_1 g) i = g (ix1 (i 1)) := by
  pointwise

/-- The host's mixing weights, the heads' side by side, at an index. -/
theorem mixes (w : FVec Ideal S4x128x128 .f32) (i : S128x512.Idx) :
    (truncf (F := Ideal) .bf16 (shapeCast S128x512 (transpose S128x4x128 [1, 0, 2] w transposes_S4x128x128_S128x4x128_1_0_2) shapeCasts_S128x4x128_S128x512) bitsLt_bf16_f32) i
      = w (ix3 ⟨(i 1).val / 128, by have : (i 1).val < 512 := (i 1).isLt; omega⟩ (i 0) ⟨(i 1).val % 128, by omega⟩) := by
  pointwise

/-- The host's bias, each head's repeated over its lanes, at an index. -/
theorem biases (b : FVec Ideal S4x128 .f32) (i : S128x256.Idx) :
    (shapeCast S128x256 (broadcastInDim S128x4x64 ![0, 1] bcast_S128x4_S128x4x64_0_1 (transpose S128x4 [1, 0] b transposes_S4x128_S128x4_1_0)) shapeCasts_S128x4x64_S128x256) i
      = b (ix2 ⟨(i 1).val / 64, by have : (i 1).val < 256 := (i 1).isLt; omega⟩ (i 0)) := by
  pointwise

/-- What a grid point reads of the inputs: its batch row. -/
theorem blk0 (c : Dev nD) (t : Fin cfg0.N) (y : S1x256x512.Idx) :
    iblk m c 0 t y = m ((c : Thread nD τ).loc main_arg0) (ix3 (row t) (y 1) (y 2)) := by
  have hi := (by decide +kernel : ∀ t : Fin grid0.N, win0_0.index t 0 = t.val ∧ win0_0.index t 1 = 0 ∧ win0_0.index t 2 = 0) t
  have hy0 : (y 0).val < 1 := (y 0).isLt
  unfold iblk
  rw [View.read_apply]
  show V m c main_arg0 _ = _
  rw [V_main_arg0]
  congr 1
  funext a
  apply Fin.ext
  match a with
  | ⟨0, _⟩ => show win0_0.index t 0 * 1 + 1 * (y 0).val = t.val; rw [hi.1]; omega
  | ⟨1, _⟩ => show win0_0.index t 1 * 256 + 1 * (y 1).val = (y 1).val; rw [hi.2.1]; omega
  | ⟨2, _⟩ => show win0_0.index t 2 * 512 + 1 * (y 2).val = (y 2).val; rw [hi.2.2]; omega

/-- What a grid point reads of the gain: its row. -/
theorem blk1 (c : Dev nD) (t : Fin cfg0.N) (y : S1x256.Idx) :
    iblk m c 1 t y = m ((c : Thread nD τ).loc main_arg1) (ix1 (y 1)) := by
  have hi := (by decide +kernel : ∀ t : Fin grid0.N, win0_1.index t 0 = 0 ∧ win0_1.index t 1 = 0) t
  have e : V m c main_v6 = (broadcastInDim S1x256 ![1] bcast_S256_S1x256_1 (m ((c : Thread nD τ).loc main_arg1)) : Vec Ideal S1x256 .f32) := by
    show StableHlo.after hostOps0 (fun b => m (c, b)) (Proc.devRef .tc main_v6) = _
    after_results_simp <;> rfl
  unfold iblk
  rw [View.read_apply]
  show V m c main_v6 _ = _
  rw [e]
  have hx : ((cfg0.win 1).blk t).view.emb y = (y : S1x256.Idx) := by
    funext a
    apply Fin.ext
    match a with
    | ⟨0, _⟩ => show win0_1.index t 0 * 1 + 1 * (y 0).val = (y 0).val; rw [hi.1]; omega
    | ⟨1, _⟩ => show win0_1.index t 1 * 256 + 1 * (y 1).val = (y 1).val; rw [hi.2]; omega
  exact (congrArg _ hx).trans (rows _ _)

/-- What a grid point reads of the shift: its row. -/
theorem blk2 (c : Dev nD) (t : Fin cfg0.N) (y : S1x256.Idx) :
    iblk m c 2 t y = m ((c : Thread nD τ).loc main_arg2) (ix1 (y 1)) := by
  have hi := (by decide +kernel : ∀ t : Fin grid0.N, win0_2.index t 0 = 0 ∧ win0_2.index t 1 = 0) t
  have e : V m c main_v7 = (broadcastInDim S1x256 ![1] bcast_S256_S1x256_1 (m ((c : Thread nD τ).loc main_arg2)) : Vec Ideal S1x256 .f32) := by
    show StableHlo.after hostOps0 (fun b => m (c, b)) (Proc.devRef .tc main_v7) = _
    after_results_simp <;> rfl
  unfold iblk
  rw [View.read_apply]
  show V m c main_v7 _ = _
  rw [e]
  have hx : ((cfg0.win 2).blk t).view.emb y = (y : S1x256.Idx) := by
    funext a
    apply Fin.ext
    match a with
    | ⟨0, _⟩ => show win0_2.index t 0 * 1 + 1 * (y 0).val = (y 0).val; rw [hi.1]; omega
    | ⟨1, _⟩ => show win0_2.index t 1 * 256 + 1 * (y 1).val = (y 1).val; rw [hi.2]; omega
  exact (congrArg _ hx).trans (rows _ _)

/-- What a grid point reads of the mixing weights: all, the heads' side by side. -/
theorem blk3 (c : Dev nD) (t : Fin cfg0.N) (y : S128x512.Idx) :
    iblk m c 3 t y = m ((c : Thread nD τ).loc main_arg3) (ix3 ⟨(y 1).val / 128, by have : (y 1).val < 512 := (y 1).isLt; omega⟩ (y 0) ⟨(y 1).val % 128, by omega⟩) := by
  have hi := (by decide +kernel : ∀ t : Fin grid0.N, win0_3.index t 0 = 0 ∧ win0_3.index t 1 = 0) t
  have e : V m c main_v2 = (truncf (F := Ideal) .bf16 (shapeCast S128x512 (transpose S128x4x128 [1, 0, 2] (m ((c : Thread nD τ).loc main_arg3) : FVec Ideal S4x128x128 .f32) transposes_S4x128x128_S128x4x128_1_0_2) shapeCasts_S128x4x128_S128x512) bitsLt_bf16_f32 : Vec Ideal S128x512 .bf16) := by
    show StableHlo.after hostOps0 (fun b => m (c, b)) (Proc.devRef .tc main_v2) = _
    after_results_simp <;> rfl
  unfold iblk
  rw [View.read_apply]
  show V m c main_v2 _ = _
  rw [e]
  have hx : ((cfg0.win 3).blk t).view.emb y = (y : S128x512.Idx) := by
    funext a
    apply Fin.ext
    match a with
    | ⟨0, _⟩ => show win0_3.index t 0 * 128 + 1 * (y 0).val = (y 0).val; rw [hi.1]; omega
    | ⟨1, _⟩ => show win0_3.index t 1 * 512 + 1 * (y 1).val = (y 1).val; rw [hi.2]; omega
  exact (congrArg _ hx).trans (mixes _ _)

/-- What a grid point reads of the bias: all, each head's repeated over its lanes. -/
theorem blk4 (c : Dev nD) (t : Fin cfg0.N) (y : S128x256.Idx) :
    iblk m c 4 t y = m ((c : Thread nD τ).loc main_arg4) (ix2 ⟨(y 1).val / 64, by have : (y 1).val < 256 := (y 1).isLt; omega⟩ (y 0)) := by
  have hi := (by decide +kernel : ∀ t : Fin grid0.N, win0_4.index t 0 = 0 ∧ win0_4.index t 1 = 0) t
  have e : V m c main_v5 = (shapeCast S128x256 (broadcastInDim S128x4x64 ![0, 1] bcast_S128x4_S128x4x64_0_1 (transpose S128x4 [1, 0] (m ((c : Thread nD τ).loc main_arg4) : FVec Ideal S4x128 .f32) transposes_S4x128_S128x4_1_0)) shapeCasts_S128x4x64_S128x256 : Vec Ideal S128x256 .f32) := by
    show StableHlo.after hostOps0 (fun b => m (c, b)) (Proc.devRef .tc main_v5) = _
    after_results_simp <;> rfl
  unfold iblk
  rw [View.read_apply]
  show V m c main_v5 _ = _
  rw [e]
  have hx : ((cfg0.win 4).blk t).view.emb y = (y : S128x256.Idx) := by
    funext a
    apply Fin.ext
    match a with
    | ⟨0, _⟩ => show win0_4.index t 0 * 128 + 1 * (y 0).val = (y 0).val; rw [hi.1]; omega
    | ⟨1, _⟩ => show win0_4.index t 1 * 256 + 1 * (y 1).val = (y 1).val; rw [hi.2]; omega
  exact (congrArg _ hx).trans (biases _ _)

/-- The gated MLP of batch row `s`, token `p`, lane `l`, from the whole arrays. -/
def val (z : Vec Ideal S2x256x512 .f32) (g b : Vec Ideal S256 .f32) (w : Vec Ideal S4x128x128 .f32) (bs : Vec Ideal S4x128 .f32) (s : Fin 2) (p l : Fin 256) : EReal :=
  gl (z (ix3 s p ⟨0 + l.val, by omega⟩))
    * (∑ q : Fin 128, w (ix3 ⟨l.val / 64, by omega⟩ ⟨p.val % 128, by omega⟩ q) * ln (fun n => gl (z (ix3 s ⟨p.val / 128 * 128 + q.val, by omega⟩ ⟨256 + n.val, by omega⟩))) (g (ix1 l)) (b (ix1 l)) l
      + bs (ix2 ⟨l.val / 64, by omega⟩ ⟨p.val % 128, by omega⟩))

/-- The array the call ends with. -/
theorem final5 (c : Dev nD) (i : S2x256x256.Idx) :
    (dats m 0 c).arrAt 5 cfg0.N i = val (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2) := by
  have h0 : (i 0).val < 2 := (i 0).isLt
  have h1 : (i 1).val < 256 := (i 1).isLt
  have h2 : (i 2).val < 256 := (i 2).isLt
  have hN : cfg0.N = 2 := N_0
  obtain ⟨t, ht⟩ : ∃ t : Fin cfg0.N, t.val = (i 0).val := ⟨⟨_, lt_of_lt_of_eq h0 hN.symm⟩, rfl⟩
  obtain ⟨y, hy⟩ : ∃ y : S1x256x256.Idx, y = ix3 0 (i 1) (i 2) := ⟨_, rfl⟩
  have hi := (by decide +kernel : ∀ t : Fin grid0.N, win0_5.index t 0 = t.val ∧ win0_5.index t 1 = 0 ∧ win0_5.index t 2 = 0) t
  have hfl := (by decide +kernel : ∀ t : Fin grid0.N, (cfg0.win 5).flush t = true) t
  have he : ((cfg0.win 5).blk t).view.emb y = i := by
    subst hy
    funext a
    apply Fin.ext
    match a with
    | ⟨0, _⟩ => show win0_5.index t 0 * 1 + 1 * 0 = (i 0).val; rw [hi.1]; omega
    | ⟨1, _⟩ => show win0_5.index t 1 * 256 + 1 * (i 1).val = (i 1).val; rw [hi.2.1]; omega
    | ⟨2, _⟩ => show win0_5.index t 2 * 256 + 1 * (i 2).val = (i 2).val; rw [hi.2.2]; omega
  have hb := congrFun (Value.blocks5 m c t hfl) y
  rw [View.read_apply, Value.flushed5] at hb
  have hr : row t = i 0 := Fin.ext ht
  have e : (dats m 0 c).arrAt 5 cfg0.N i = (dats m 0 c).arrAt 5 cfg0.N (((cfg0.win 5).blk t).view.emb y) := congrArg _ he.symm
  refine e.trans (hb.trans ?_)
  subst hy
  refine (out_5 _ _ _ _ _ _).trans ?_
  unfold blk val
  simp only [blk0, blk1, blk2, blk3, blk4, hr]
  refine congrArg₂ (· * ·) (congrArg gl (congrArg _ ?_)) (congrArg₂ (· + ·) (Finset.sum_congr rfl fun q _ => congrArg₂ (· * ·) (congrArg _ ?_) ?_) ?_)
  · exact congrArg (fun p : Fin 256 => (ix3 (i 0) p ⟨0 + (i 2).val, by omega⟩ : S2x256x512.Idx)) (Fin.ext (by show (i 1).val / 128 * 128 + (i 1).val % 128 = (i 1).val; omega))
  · have e1 : ((i 2).val / 64 * 128 + q.val) / 128 = (i 2).val / 64 := by omega
    have e2 : ((i 2).val / 64 * 128 + q.val) % 128 = q.val := by omega
    exact (congrArg (fun p : Fin 4 => (ix3 p ⟨(i 1).val % 128, by omega⟩ ⟨((i 2).val / 64 * 128 + q.val) % 128, by omega⟩ : S4x128x128.Idx)) (Fin.ext e1)).trans
      (congrArg (fun p : Fin 128 => (ix3 ⟨(i 2).val / 64, by omega⟩ ⟨(i 1).val % 128, by omega⟩ p : S4x128x128.Idx)) (Fin.ext e2))
  · rfl
  · rfl

end Cert.Proof.Gmlp
-- ==== Proof.GmlpPlain.lean ====
/-
  The gated MLP over chunks: the plain layer's array, read at an index, is the call's.
-/
module

public import proofs.«01_k».proof.Proof.Gen.Reference7Ideal.Run
public import proofs.«01_k».proof.Proof.Gmlp

@[expose] public section

set_option maxRecDepth 16384

noncomputable section

namespace Cert.Proof.GmlpPlain

open Idealize.ShloMosaic Idealize.ShloMosaic.Tactic Cert.Reference7Ideal Cert.Reference7Ideal.Gen Cert.Reference7Ideal.Value Idealize.ShloMosaic.TcCoe
open Cert.Proof.Gmlp (gl ln mean val)

/-- The plain layer's Gaussian unit. -/
def glT (z : FVec Ideal S2x256x512 .f32) : FVec Ideal S2x256x512 .f32 :=
  mulf z (mulf (broadcastInDim S2x256x512 ![] bcast_S_S2x256x512 (constant S_ .f32 0x3F000000#32)) (addf (broadcastInDim S2x256x512 ![] bcast_S_S2x256x512 (constant S_ .f32 0x3F800000#32)) (Host.tanh (mulf (broadcastInDim S2x256x512 ![] bcast_S_S2x256x512 (constant S_ .f32 0x3F4C422A#32)) (addf z (mulf (broadcastInDim S2x256x512 ![] bcast_S_S2x256x512 (constant S_ .f32 0x3D372713#32)) (mulf (mulf z z) z)))))))

/-- The plain layer's row means. -/
def meT (v : FVec Ideal S2x256x256 .f32) : FVec Ideal S2x256x1 .f32 :=
  Host.divf (broadcastInDim S2x256x1 ![0, 1] bcast_S2x256_S2x256x1_0_1 (Host.reduceAdd v (constant S_ .f32 0x00000000#32) reducesTo_S2x256x256_S2x256_d2 h_S_)) (broadcastInDim S2x256x1 ![] bcast_S_S2x256x1 (constant S_ .f32 0x43800000#32))

/-- Rows less their means. -/
def ceT (v : FVec Ideal S2x256x256 .f32) : FVec Ideal S2x256x256 .f32 :=
  subf v (broadcastInDim S2x256x256 ![0, 1, 2] bcast_S2x256x1_S2x256x256_0_1_2 (meT v))

/-- The plain layer's normalised rows. -/
def lnT (v : FVec Ideal S2x256x256 .f32) (g b : FVec Ideal S256 .f32) : FVec Ideal S2x256x256 .f32 :=
  addf (mulf (mulf (ceT v) (broadcastInDim S2x256x256 ![0, 1, 2] bcast_S2x256x1_S2x256x256_0_1_2 (Host.rsqrt (addf (meT (mulf (ceT v) (ceT v))) (broadcastInDim S2x256x1 ![] bcast_S_S2x256x1 (constant S_ .f32 0x358637BD#32))))))
    (broadcastInDim S2x256x256 ![0, 1, 2] bcast_S1x1x256_S2x256x256_0_1_2 (broadcastInDim S1x1x256 ![2] bcast_S256_S1x1x256_2 g)))
    (broadcastInDim S2x256x256 ![0, 1, 2] bcast_S1x1x256_S2x256x256_0_1_2 (broadcastInDim S1x1x256 ![2] bcast_S256_S1x1x256_2 b))

/-- The plain layer's mixed rows with their bias. -/
def mxT (w : FVec Ideal S4x128x128 .f32) (v : FVec Ideal S2x256x256 .f32) (bs : FVec Ideal S4x128 .f32) : FVec Ideal S2x256x256 .f32 :=
  shapeCast _ (addf (transpose S2x2x128x4x64 [2, 3, 1, 0, 4] (Host.dotGeneral dot_S4x128x128_S2x2x128x4x64_S4x128x2x2x64_2_2_1_014_0_3 none w (shapeCast _ v shapeCasts_S2x256x256_S2x2x128x4x64)) transposes_S4x128x2x2x64_S2x2x128x4x64_2_3_1_0_4)
    (broadcastInDim S2x2x128x4x64 ![0, 1, 2, 3, 4] bcast_S1x1x128x4x1_S2x2x128x4x64_0_1_2_3_4 (broadcastInDim S1x1x128x4x1 ![2, 3] bcast_S128x4_S1x1x128x4x1_2_3 (transpose S128x4 [1, 0] bs transposes_S4x128_S128x4_1_0)))) shapeCasts_S2x2x128x4x64_S2x256x256

/-- The plain layer's result. -/
def resT (z : FVec Ideal S2x256x512 .f32) (g b : FVec Ideal S256 .f32) (w : FVec Ideal S4x128x128 .f32) (bs : FVec Ideal S4x128 .f32) : FVec Ideal S2x256x256 .bf16 :=
  truncf .bf16 (mulf (extractStridedSlice S2x256x256 ![0, 0, 0] (glT z) slices_S2x256x512_S2x256x256_0_0_0)
    (mxT w (lnT (extractStridedSlice S2x256x256 ![0, 0, 256] (glT z) slices_S2x256x512_S2x256x256_0_0_256) g b) bs)) bitsLt_bf16_f32

/-- The program's result is that term. -/
theorem res_eq (m : (ℓ : Loc nD τ sig) → Buf (Elt Ideal) ℓ) (c : Dev nD) :
    res_main_v48 m c = resT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- The Gaussian unit at an index. -/
theorem glT_apply (z : FVec Ideal S2x256x512 .f32) (i : S2x256x512.Idx) : glT z i = gl (z i) := by
  pointwise [glT, gl]

/-- The row means at an index. -/
theorem meT_apply (v : FVec Ideal S2x256x256 .f32) (i : S2x256x1.Idx) : meT v i = mean (fun q => v (ix3 (i 0) (i 1) q)) := by
  pointwise [meT, mean]

/-- The centred rows at an index. -/
theorem ceT_apply (v : FVec Ideal S2x256x256 .f32) (i : S2x256x256.Idx) : ceT v i = v i - mean (fun q => v (ix3 (i 0) (i 1) q)) := by
  pointwise [ceT, meT, mean]

/-- The normalised rows at an index. -/
theorem lnT_apply (v : FVec Ideal S2x256x256 .f32) (g b : FVec Ideal S256 .f32) (i : S2x256x256.Idx) :
    lnT v g b i = ln (fun q => v (ix3 (i 0) (i 1) q)) (g (ix1 (i 2))) (b (ix1 (i 2))) (i 2) := by
  pointwise [lnT, ceT, meT, ln, mean]

/-- The mixed rows at an index. -/
theorem mxT_apply (w : FVec Ideal S4x128x128 .f32) (v : FVec Ideal S2x256x256 .f32) (bs : FVec Ideal S4x128 .f32) (i : S2x256x256.Idx) :
    mxT w v bs i = ∑ q : Fin 128, w (ix3 ⟨(i 2).val / 64, by have : (i 2).val < 256 := (i 2).isLt; omega⟩ ⟨(i 1).val % 128, by omega⟩ q)
        * v (ix3 (i 0) ⟨(i 1).val / 128 * 128 + q.val, by have : (i 1).val < 256 := (i 1).isLt; omega⟩ (i 2))
      + bs (ix2 ⟨(i 2).val / 64, by have : (i 2).val < 256 := (i 2).isLt; omega⟩ ⟨(i 1).val % 128, by omega⟩) := by
  pointwise [mxT]

/-- The plain layer's array at an index. -/
theorem plain (z : FVec Ideal S2x256x512 .f32) (g b : FVec Ideal S256 .f32) (w : FVec Ideal S4x128x128 .f32) (bs : FVec Ideal S4x128 .f32) (i : S2x256x256.Idx) :
    resT z g b w bs i = val z g b w bs (i 0) (i 1) (i 2) := by
  have e : resT z g b w bs i = glT z (ix3 (i 0) (i 1) ⟨0 + (i 2).val, by have : (i 2).val < 256 := (i 2).isLt; omega⟩)
      * mxT w (lnT (extractStridedSlice S2x256x256 ![0, 0, 256] (glT z) slices_S2x256x512_S2x256x256_0_0_256) g b) bs i := by
    pointwise [resT]
  refine e.trans ?_
  unfold val
  refine congrArg₂ (· * ·) (glT_apply z _) ((mxT_apply _ _ _ i).trans (congrArg₂ (· + ·) (Finset.sum_congr rfl fun q _ => congrArg (_ * ·) ?_) rfl))
  refine (lnT_apply _ _ _ _).trans (congrArg (fun v : Fin 256 → EReal => ln v _ _ _) (funext fun n => ?_))
  refine Eq.trans (by pointwise) (glT_apply z (ix3 (i 0) ⟨(i 1).val / 128 * 128 + q.val, by have : (i 1).val < 256 := (i 1).isLt; omega⟩ ⟨256 + n.val, by omega⟩))

end Cert.Proof.GmlpPlain
-- ==== Proof.ModPre.lean ====
module

public import proofs.«01_k».proof.Pre_finite8
public import proofs.«01_k».proof.Proof.MergePre

/-! # What the precondition of the modulation says

The precondition bounds the magnitude of the conditions and of the weights below the infinity. Read at the extended reals
this makes each of them an array of reals. -/

@[expose] public section

set_option maxRecDepth 16384

noncomputable section

namespace Cert.Proof.ModPre

open Idealize.ShloMosaic Cert.Pre_finite8 Cert.Proof.Scalar
open Cert.Proof.MergePre (and_one all_real)

/-- The shape relations the precondition states. -/
theorem facts : Cert.Pre_finite8.Facts := by constructor <;> decide

/-- The precondition says that the conditions and the weights hold reals. -/
theorem reals [Cert.Pre_finite8.Facts] (x : FVec Ideal S2x1024 .f32) (z : FVec Ideal S1024 .f32) (w : FVec Ideal S2x1024x6144 .f32) (b : FVec Ideal S2x6144 .f32)
    (h : Cert.Pre_finite8.fn (F := Ideal) x z w b = fun _ => 1#1) : (∀ i, IsReal (x i)) ∧ (∀ i, IsReal (z i)) ∧ (∀ i, IsReal (w i)) := by
  have e := congrFun h (fun k : Fin 0 => k.elim0)
  unfold Cert.Pre_finite8.fn at e
  dsimp only at e
  simp only [andi, and_one, and_assoc] at e
  obtain ⟨-, h0, h1, h2⟩ := e
  exact ⟨all_real _ _ _ _ _ h0, all_real _ _ _ _ _ h1, all_real _ _ _ _ _ h2⟩

end Cert.Proof.ModPre
-- ==== Proof.Mod.lean ====
/-
  The modulation of a layer by the condition: what its body leaves at each grid point, and the array it ends with, as functions of the whole arrays.
-/
module

public import proofs.«01_k».proof.Proof.Gen.Kernel8Ideal.Value
public import proofs.«01_k».proof.Proof.Scalar
public import Idealize.ShloMosaic.Lib.Pointwise
public import Idealize.ShloMosaic.Lib.IdealHost

@[expose] public section

set_option maxRecDepth 16384

noncomputable section

namespace Cert.Proof.Mod

open Idealize.ShloMosaic Idealize.ShloMosaic.Tactic Idealize.SL.Sem Cert.Kernel8Ideal Cert.Kernel8Ideal.Gen Idealize.ShloMosaic.TcCoe
open Cert.Proof.Scalar

/-- The silu with its sigmoid through the hyperbolic tangent. -/
def silu (x : EReal) : EReal := x * (half * Ideal.tanh (half * x) + half)

/-- A product of a row and a column as the kernel adds it up: the product and the products with both remainders. -/
def dot3 (s w : Fin 1024 → EReal) : EReal :=
  ∑ q : Fin 1024, s q * w q + ∑ q : Fin 1024, s q * (w q - w q) + ∑ q : Fin 1024, (s q - s q) * w q

/-- The rectangle of a whole block leaves every index in place. -/
theorem emb_0 (x : S8x1024.Idx) : r0_0.emb x = x := by
  funext a
  apply Fin.ext
  match a with
  | ⟨0, _⟩ => show 0 + 1 * (x 0).val = (x 0).val; omega
  | ⟨1, _⟩ => show 0 + 1 * (x 1).val = (x 1).val; omega

/-- The rectangle of a whole block leaves every index in place. -/
theorem emb_1 (x : S1x1024x1536.Idx) : r0_1.emb x = x := by
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

/-- The rectangle of a whole block leaves every index in place. -/
theorem emb_2 (x : S1x1x1536.Idx) : r0_2.emb x = x := by
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

/-- The rectangle of a whole block leaves every index in place. -/
theorem emb_3 (x : S1x8x1536.Idx) : r0_3.emb x = x := by
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

/-- A load of a whole block is the block. -/
theorem ld_0 {d : EltTy} (x : Vec Ideal S8x1024 d) : View.ld x r0_0 = x := funext fun y => congrArg x (emb_0 y)

/-- A load of a whole block is the block. -/
theorem ld_1 {d : EltTy} (x : Vec Ideal S1x1024x1536 d) : View.ld x r0_1 = x := funext fun y => congrArg x (emb_1 y)

/-- A load of a whole block is the block. -/
theorem ld_2 {d : EltTy} (x : Vec Ideal S1x1x1536 d) : View.ld x r0_2 = x := funext fun y => congrArg x (emb_2 y)

/-- The body's value at a row and a column. -/
theorem pay_apply (x0 : Vec Ideal S8x1024 .f32) (x1 : Vec Ideal S1x1024x1536 .f32) (x2 : Vec Ideal S1x1x1536 .f32) (y : S1x8x1536.Idx) :
    k0_pay1 x0 x1 x2 y = dot3 (fun q => silu (x0 (ix2 (y 1) q))) (fun q => x1 (ix3 0 q (y 2))) + x2 (ix3 0 0 (y 2)) := by
  pointwise [k0_pay1, dot3, silu, half]

/-- What a grid point leaves in its block. -/
theorem out_3 (x0 : Vec Ideal S8x1024 .f32) (x1 : Vec Ideal S1x1024x1536 .f32) (x2 : Vec Ideal S1x1x1536 .f32) (y : S1x8x1536.Idx) :
    out0_3 x0 x1 x2 y = dot3 (fun q => silu (x0 (ix2 (y 1) q))) (fun q => x1 (ix3 0 q (y 2))) + x2 (ix3 0 0 (y 2)) := by
  unfold out0_3
  rw [ld_0, ld_1, ld_2]
  refine View.canon_apply_of_pieces (Val := Elt Ideal) (fun y : S1x8x1536.Idx => dot3 (fun q => silu (x0 (ix2 (y 1) q))) (fun q => x1 (ix3 0 q (y 2))) + x2 (ix3 0 0 (y 2))) _ ?_ y (cover0_3 _ y)
  intro pc hpc
  rcases List.mem_cons.mp hpc with rfl | hpc
  · intro (x : S1x8x1536.Idx)
    exact (pay_apply x0 x1 x2 x).trans (congrArg (fun y : S1x8x1536.Idx => dot3 (fun q => silu (x0 (ix2 (y 1) q))) (fun q => x1 (ix3 0 q (y 2))) + x2 (ix3 0 0 (y 2))) (emb_3 x)).symm
  nomatch hpc

variable (m : (ℓ : Loc nD τ sig) → Buf (Elt Ideal) ℓ)

/-- The layer of a grid point. -/
def lay (t : Fin cfg0.N) : Fin 2 := ⟨t.val / 4, by have : t.val < 8 := lt_of_lt_of_eq t.isLt (show cfg0.N = 8 from N_0); omega⟩

/-- The column of a grid point's column. -/
def col (t : Fin cfg0.N) (n : Fin 1536) : Fin 6144 := ⟨1536 * (t.val % 4) + n.val, by omega⟩

/-- The conditions' rows: the batch's, the context's, and rows of zeros. -/
def cond (x : FVec Ideal S2x1024 .f32) (z : FVec Ideal S1024 .f32) : FVec Ideal S8x1024 .f32 :=
  concatenate S8x1024 0 [⟨S2x1024, x⟩, ⟨S1x1024, broadcastInDim S1x1024 ![1] bcast_S1024_S1x1024_1 z⟩, ⟨S5x1024, broadcastInDim S5x1024 ![] bcast_S_S5x1024 (constant S_ .f32 0x00000000#32)⟩] concatenates_S2x1024_S1x1024_S5x1024_S8x1024_d0

/-- The conditions' rows are real where the conditions are. -/
theorem isReal_cond (x : FVec Ideal S2x1024 .f32) (z : FVec Ideal S1024 .f32) (hx : ∀ i, IsReal (x i)) (hz : ∀ i, IsReal (z i)) (i : S8x1024.Idx) : IsReal (cond x z i) := by
  have h0 : (i 0).val < 8 := (i 0).isLt
  have e : cond x z i = if h : (i 0).val < 2 then x (ix2 ⟨(i 0).val, h⟩ (i 1)) else if h : (i 0).val - 2 < 1 then z (ix1 (i 1)) else 0 := by
    pointwise [cond]
  rw [e]
  split_ifs
  · exact hx _
  · exact hz _
  · exact ⟨0, rfl⟩

/-- The host's bias with its row at an index. -/
theorem biasrow (b : FVec Ideal S2x6144 .f32) (i : S2x1x6144.Idx) : (broadcastInDim S2x1x6144 ![0, 2] bcast_S2x6144_S2x1x6144_0_2 b) i = b (ix2 (i 0) (i 2)) := by
  pointwise

/-- What a grid point reads of the conditions: all rows. -/
theorem blk0 (c : Dev nD) (t : Fin cfg0.N) (y : S8x1024.Idx) :
    iblk m c 0 t y = cond (m ((c : Thread nD τ).loc main_arg0)) (m ((c : Thread nD τ).loc main_arg1)) y := by
  have hi := (by decide +kernel : ∀ t : Fin grid0.N, win0_0.index t 0 = 0 ∧ win0_0.index t 1 = 0) t
  have e : V m c main_v2 = (cond (m ((c : Thread nD τ).loc main_arg0)) (m ((c : Thread nD τ).loc main_arg1)) : Vec Ideal S8x1024 .f32) := by
    show StableHlo.after hostOps0 (fun b => m (c, b)) (Proc.devRef .tc main_v2) = _
    after_results_simp <;> (try dsimp only [Matrix.cons_val]) <;> (try after_results_simp) <;> rfl
  unfold iblk
  rw [View.read_apply]
  show V m c main_v2 _ = _
  rw [e]
  have hx : ((cfg0.win 0).blk t).view.emb y = (y : S8x1024.Idx) := by
    funext a
    apply Fin.ext
    match a with
    | ⟨0, _⟩ => show win0_0.index t 0 * 8 + 1 * (y 0).val = (y 0).val; rw [hi.1]; omega
    | ⟨1, _⟩ => show win0_0.index t 1 * 1024 + 1 * (y 1).val = (y 1).val; rw [hi.2]; omega
  exact congrArg _ hx

/-- What a grid point reads of the weights: its layer's, its columns. -/
theorem blk1 (c : Dev nD) (t : Fin cfg0.N) (y : S1x1024x1536.Idx) :
    iblk m c 1 t y = m ((c : Thread nD τ).loc main_arg2) (ix3 (lay t) (y 1) (col t (y 2))) := by
  have hi := (by decide +kernel : ∀ t : Fin grid0.N, win0_1.index t 0 = t.val / 4 ∧ win0_1.index t 1 = 0 ∧ win0_1.index t 2 = t.val % 4) t
  have hy0 : (y 0).val < 1 := (y 0).isLt
  unfold iblk
  rw [View.read_apply]
  show V m c main_arg2 _ = _
  rw [V_main_arg2]
  congr 1
  funext a
  apply Fin.ext
  match a with
  | ⟨0, _⟩ => show win0_1.index t 0 * 1 + 1 * (y 0).val = t.val / 4; rw [hi.1]; omega
  | ⟨1, _⟩ => show win0_1.index t 1 * 1024 + 1 * (y 1).val = (y 1).val; rw [hi.2.1]; omega
  | ⟨2, _⟩ => show win0_1.index t 2 * 1536 + 1 * (y 2).val = 1536 * (t.val % 4) + (y 2).val; rw [hi.2.2]; omega

/-- What a grid point reads of the bias: its layer's, its columns. -/
theorem blk2 (c : Dev nD) (t : Fin cfg0.N) (y : S1x1x1536.Idx) :
    iblk m c 2 t y = m ((c : Thread nD τ).loc main_arg3) (ix2 (lay t) (col t (y 2))) := by
  have hi := (by decide +kernel : ∀ t : Fin grid0.N, win0_2.index t 0 = t.val / 4 ∧ win0_2.index t 1 = 0 ∧ win0_2.index t 2 = t.val % 4) t
  have hy0 : (y 0).val < 1 := (y 0).isLt
  have hy1 : (y 1).val < 1 := (y 1).isLt
  have e : V m c main_v3 = (broadcastInDim S2x1x6144 ![0, 2] bcast_S2x6144_S2x1x6144_0_2 (m ((c : Thread nD τ).loc main_arg3) : Vec Ideal S2x6144 .f32) : Vec Ideal S2x1x6144 .f32) := by
    show StableHlo.after hostOps0 (fun b => m (c, b)) (Proc.devRef .tc main_v3) = _
    after_results_simp <;> rfl
  unfold iblk
  rw [View.read_apply]
  show V m c main_v3 _ = _
  rw [e]
  have hx : ((cfg0.win 2).blk t).view.emb y = (ix3 (lay t) 0 (col t (y 2)) : S2x1x6144.Idx) := by
    funext a
    apply Fin.ext
    match a with
    | ⟨0, _⟩ => show win0_2.index t 0 * 1 + 1 * (y 0).val = t.val / 4; rw [hi.1]; omega
    | ⟨1, _⟩ => show win0_2.index t 1 * 1 + 1 * (y 1).val = 0; rw [hi.2.1]; omega
    | ⟨2, _⟩ => show win0_2.index t 2 * 1536 + 1 * (y 2).val = 1536 * (t.val % 4) + (y 2).val; rw [hi.2.2]; omega
  exact (congrArg _ hx).trans (biasrow _ _)

/-- The array the call ends with. -/
theorem final3 (c : Dev nD) (i : S2x8x6144.Idx) :
    (dats m 0 c).arrAt 3 cfg0.N i = dot3 (fun q => silu (cond (m ((c : Thread nD τ).loc main_arg0)) (m ((c : Thread nD τ).loc main_arg1)) (ix2 (i 1) q))) (fun q => m ((c : Thread nD τ).loc main_arg2) (ix3 (i 0) q (i 2)))
      + m ((c : Thread nD τ).loc main_arg3) (ix2 (i 0) (i 2)) := by
  have h0 : (i 0).val < 2 := (i 0).isLt
  have h1 : (i 1).val < 8 := (i 1).isLt
  have h2 : (i 2).val < 6144 := (i 2).isLt
  have hN : cfg0.N = 8 := N_0
  obtain ⟨t, ht⟩ : ∃ t : Fin cfg0.N, t.val = 4 * (i 0).val + (i 2).val / 1536 := ⟨⟨_, by rw [hN]; omega⟩, rfl⟩
  obtain ⟨y, hy⟩ : ∃ y : S1x8x1536.Idx, y = ix3 0 (i 1) ⟨(i 2).val % 1536, by omega⟩ := ⟨_, rfl⟩
  have hi := (by decide +kernel : ∀ t : Fin grid0.N, win0_3.index t 0 = t.val / 4 ∧ win0_3.index t 1 = 0 ∧ win0_3.index t 2 = t.val % 4) t
  have hfl := (by decide +kernel : ∀ t : Fin grid0.N, (cfg0.win 3).flush t = true) t
  have he : ((cfg0.win 3).blk t).view.emb y = i := by
    subst hy
    funext a
    apply Fin.ext
    match a with
    | ⟨0, _⟩ => show win0_3.index t 0 * 1 + 1 * 0 = (i 0).val; rw [hi.1]; omega
    | ⟨1, _⟩ => show win0_3.index t 1 * 8 + 1 * (i 1).val = (i 1).val; rw [hi.2.1]; omega
    | ⟨2, _⟩ => show win0_3.index t 2 * 1536 + 1 * ((i 2).val % 1536) = (i 2).val; rw [hi.2.2]; omega
  have hb := congrFun (Value.blocks3 m c t hfl) y
  rw [View.read_apply, Value.flushed3] at hb
  have hr : lay t = i 0 := Fin.ext (by show t.val / 4 = _; omega)
  have hk : col t ⟨(i 2).val % 1536, by omega⟩ = i 2 := Fin.ext (by show 1536 * (t.val % 4) + (i 2).val % 1536 = _; omega)
  have e : (dats m 0 c).arrAt 3 cfg0.N i = (dats m 0 c).arrAt 3 cfg0.N (((cfg0.win 3).blk t).view.emb y) := congrArg _ he.symm
  refine e.trans (hb.trans ?_)
  subst hy
  refine (out_3 _ _ _ _).trans ?_
  simp only [blk0, blk1, blk2]
  exact congrArg₂ (fun (l : Fin 2) (n : Fin 6144) => dot3 (fun q => silu (cond (m ((c : Thread nD τ).loc main_arg0)) (m ((c : Thread nD τ).loc main_arg1)) (ix2 (i 1) q))) (fun q => m ((c : Thread nD τ).loc main_arg2) (ix3 l q n))
      + m ((c : Thread nD τ).loc main_arg3) (ix2 l n)) hr hk

/-- A silu of a real is real. -/
theorem isReal_silu {x : EReal} (h : IsReal x) : IsReal (silu x) := h.mul ((isReal_half.mul (isReal_tanh _)).add isReal_half)

/-- The kernel's product is the plain one where the row and the column are real: both remainders are zero. -/
theorem dot3_eq (s w : Fin 1024 → EReal) (hs : ∀ q, IsReal (s q)) (hw : ∀ q, IsReal (w q)) : dot3 s w = ∑ q : Fin 1024, s q * w q := by
  unfold dot3
  simp only [(hs _).sub_self, (hw _).sub_self, zero_mul, mul_zero, Finset.sum_const_zero, add_zero]

end Cert.Proof.Mod
-- ==== Proof.ModTie.lean ====
/-
  The modulation: at real conditions and weights the array the call ends with is the plain layer's.
-/
module

public import proofs.«01_k».proof.Proof.Gen.Reference8Ideal.Run
public import proofs.«01_k».proof.Proof.Mod

@[expose] public section

set_option maxRecDepth 16384

noncomputable section

namespace Cert.Proof.ModTie

open Idealize.ShloMosaic Idealize.ShloMosaic.Tactic Cert.Reference8Ideal Cert.Reference8Ideal.Gen Idealize.ShloMosaic.TcCoe
open Cert.Proof.Scalar
open Cert.Proof.Mod (cond dot3)

/-- The plain layer's silu. -/
def siT (x : FVec Ideal S8x1024 .f32) : FVec Ideal S8x1024 .f32 :=
  mulf x (Host.divf (broadcastInDim S8x1024 ![] bcast_S_S8x1024 (constant S_ .f32 0x3F800000#32)) (addf (broadcastInDim S8x1024 ![] bcast_S_S8x1024 (constant S_ .f32 0x3F800000#32)) (Host.exp (Host.negf x))))

/-- The plain layer's modulation of the first layer, from the silu's rows. -/
def moT0 (s : FVec Ideal S8x1024 .f32) (w : FVec Ideal S2x1024x6144 .f32) (b : FVec Ideal S2x6144 .f32) : FVec Ideal S8x6144 .f32 :=
  addf (Host.dotGeneral dot_S8x1024_S1024x6144_S8x6144_1_0_0_1_n_n none s (shapeCast _ (extractStridedSlice S1x1024x6144 ![0, 0, 0] w slices_S2x1024x6144_S1x1024x6144_0_0_0) shapeCasts_S1x1024x6144_S1024x6144))
    (broadcastInDim S8x6144 ![0, 1] bcast_S1x6144_S8x6144_0_1 (broadcastInDim S1x6144 ![1] bcast_S6144_S1x6144_1 (shapeCast _ (extractStridedSlice S1x6144 ![0, 0] b slices_S2x6144_S1x6144_0_0) shapeCasts_S1x6144_S6144)))

/-- The plain layer's modulation of the second layer, from the silu's rows. -/
def moT1 (s : FVec Ideal S8x1024 .f32) (w : FVec Ideal S2x1024x6144 .f32) (b : FVec Ideal S2x6144 .f32) : FVec Ideal S8x6144 .f32 :=
  addf (Host.dotGeneral dot_S8x1024_S1024x6144_S8x6144_1_0_0_1_n_n none s (shapeCast _ (extractStridedSlice S1x1024x6144 ![1, 0, 0] w slices_S2x1024x6144_S1x1024x6144_1_0_0) shapeCasts_S1x1024x6144_S1024x6144))
    (broadcastInDim S8x6144 ![0, 1] bcast_S1x6144_S8x6144_0_1 (broadcastInDim S1x6144 ![1] bcast_S6144_S1x6144_1 (shapeCast _ (extractStridedSlice S1x6144 ![1, 0] b slices_S2x6144_S1x6144_1_0) shapeCasts_S1x6144_S6144)))

/-- The plain layer's result: both layers'. -/
def resT (c : FVec Ideal S8x1024 .f32) (w : FVec Ideal S2x1024x6144 .f32) (b : FVec Ideal S2x6144 .f32) : FVec Ideal S2x8x6144 .f32 :=
  concatenate S2x8x6144 0 [⟨S1x8x6144, broadcastInDim S1x8x6144 ![1, 2] bcast_S8x6144_S1x8x6144_1_2 (moT0 (siT c) w b)⟩, ⟨S1x8x6144, broadcastInDim S1x8x6144 ![1, 2] bcast_S8x6144_S1x8x6144_1_2 (moT1 (siT c) w b)⟩] concatenates_S1x8x6144_S1x8x6144_S2x8x6144_d0

/-- The silu at an index. -/
theorem siT_apply (x : FVec Ideal S8x1024 .f32) (i : S8x1024.Idx) : siT x i = Mod.silu (x i) := by
  have e : siT x i = x i * Ideal.div 1 (1 + Ideal.exp (-(x i))) := by
    pointwise [siT]
  rw [e, ← sigmoid_eq]
  rfl

/-- The first layer's modulation at an index. -/
theorem moT0_apply (s : FVec Ideal S8x1024 .f32) (w : FVec Ideal S2x1024x6144 .f32) (b : FVec Ideal S2x6144 .f32) (i : S8x6144.Idx) :
    moT0 s w b i = ∑ q : Fin 1024, s (ix2 (i 0) q) * w (ix3 0 q (i 1)) + b (ix2 0 (i 1)) := by
  pointwise [moT0]

/-- The second layer's modulation at an index. -/
theorem moT1_apply (s : FVec Ideal S8x1024 .f32) (w : FVec Ideal S2x1024x6144 .f32) (b : FVec Ideal S2x6144 .f32) (i : S8x6144.Idx) :
    moT1 s w b i = ∑ q : Fin 1024, s (ix2 (i 0) q) * w (ix3 1 q (i 1)) + b (ix2 1 (i 1)) := by
  pointwise [moT1]

/-- The plain layer's array at an index. -/
theorem plain (c : FVec Ideal S8x1024 .f32) (w : FVec Ideal S2x1024x6144 .f32) (b : FVec Ideal S2x6144 .f32) (i : S2x8x6144.Idx) :
    resT c w b i = ∑ q : Fin 1024, Mod.silu (c (ix2 (i 1) q)) * w (ix3 (i 0) q (i 2)) + b (ix2 (i 0) (i 2)) := by
  have h0 : (i 0).val < 2 := (i 0).isLt
  have e : resT c w b i = if h : (i 0).val < 1 then moT0 (siT c) w b (ix2 (i 1) (i 2)) else moT1 (siT c) w b (ix2 (i 1) (i 2)) := by
    pointwise [resT]
  rw [e]
  split_ifs with h
  · have hi : i 0 = (0 : Fin 2) := Fin.ext (by show (i 0).val = 0; omega)
    refine (moT0_apply _ w b _).trans ?_
    rw [hi]
    exact congrArg (· + _) (Finset.sum_congr rfl fun q _ => congrArg (· * _) (siT_apply c _))
  · have hi : i 0 = (1 : Fin 2) := Fin.ext (by show (i 0).val = 1; omega)
    refine (moT1_apply _ w b _).trans ?_
    rw [hi]
    exact congrArg (· + _) (Finset.sum_congr rfl fun q _ => congrArg (· * _) (siT_apply c _))

/-- The plain layer's run leaves `resT` of its arguments in its result's buffer. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = resT (Mod.cond (m ((c.tc : Thread nD τ).loc main_arg0)) (m ((c.tc : Thread nD τ).loc main_arg1))) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Cert.Reference8Ideal.Value.run (F := Ideal) m ρ)
  rfl

/-- Equal arguments have equal results. -/
theorem resT_congr {x x' : FVec Ideal S2x1024 .f32} {z z' : FVec Ideal S1024 .f32} {w w' : FVec Ideal S2x1024x6144 .f32} {b b' : FVec Ideal S2x6144 .f32}
    (hx : x = x') (hz : z = z') (hw : w = w') (hb : b = b') : resT (Mod.cond x z) w b = resT (Mod.cond x' z') w' b' := by
  subst hx hz hw hb
  rfl

/-- The plain layer's array is the call's where the conditions and the weights are real. -/
theorem tie (m : (ℓ : Loc Cert.Kernel8Ideal.nD Cert.Kernel8Ideal.τ Cert.Kernel8Ideal.sig) → Buf (Elt Ideal) ℓ) (c : Dev Cert.Kernel8Ideal.nD)
    (hx : ∀ i, IsReal (m ((c : Thread Cert.Kernel8Ideal.nD Cert.Kernel8Ideal.τ).loc Cert.Kernel8Ideal.main_arg0) i)) (hz : ∀ i, IsReal (m ((c : Thread Cert.Kernel8Ideal.nD Cert.Kernel8Ideal.τ).loc Cert.Kernel8Ideal.main_arg1) i))
    (hw : ∀ i, IsReal (m ((c : Thread Cert.Kernel8Ideal.nD Cert.Kernel8Ideal.τ).loc Cert.Kernel8Ideal.main_arg2) i)) (i : S2x8x6144.Idx) :
    resT (cond (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)))
        (m ((c : Thread Cert.Kernel8Ideal.nD Cert.Kernel8Ideal.τ).loc Cert.Kernel8Ideal.main_arg2)) (m ((c : Thread Cert.Kernel8Ideal.nD Cert.Kernel8Ideal.τ).loc Cert.Kernel8Ideal.main_arg3)) i
      = (Cert.Kernel8Ideal.Gen.dats m 0 c).arrAt 3 Cert.Kernel8Ideal.cfg0.N i := by
  refine (plain _ _ _ i).trans (Eq.trans ?_ (Mod.final3 m c i).symm)
  exact congrArg (· + _) (Mod.dot3_eq _ _ (fun q => Mod.isReal_silu (Mod.isReal_cond _ _ hx hz _)) (fun q => hw _)).symm

end Cert.Proof.ModTie
-- ==== Proof.ConvTaps.lean ====
/-
  The context's convolution: the sum over the taps as the kernel's body writes it, read at an index.
-/
module

public import proofs.«01_k».proof.Proof.Gen.Kernel9Ideal.Skeleton
public import proofs.«01_k».proof.Proof.Scalar
public import Idealize.ShloMosaic.Lib.Pointwise
public import Idealize.ShloMosaic.Lib.IdealHost
public import Idealize.ShloMosaic.Lib.KernelVsHost

@[expose] public section

set_option maxRecDepth 16384

noncomputable section

namespace Cert.Proof.Conv

open Idealize.ShloMosaic Idealize.ShloMosaic.Tactic Idealize.SL.Sem Cert.Kernel9Ideal Cert.Kernel9Ideal.Gen Idealize.ShloMosaic.TcCoe

/-- Rows 0 to 127 of a rotated block times a tap's weights. -/
def T0 (r : FVec Ideal S160x256 .f32) (w : Vec Ideal S1x256 .f32) : FVec Ideal S128x256 .f32 :=
  mulf (extractStridedSlice S128x256 ![0, 0] r slices_S160x256_o0_0_S128x256) (broadcastTo S128x256 w broadcasts_S1x256_S128x256)

/-- Rows 8 to 135 of a rotated block times a tap's weights. -/
def T8 (r : FVec Ideal S160x256 .f32) (w : Vec Ideal S1x256 .f32) : FVec Ideal S128x256 .f32 :=
  mulf (extractStridedSlice S128x256 ![8, 0] r slices_S160x256_o8_0_S128x256) (broadcastTo S128x256 w broadcasts_S1x256_S128x256)

/-- Rows 16 to 143 of a rotated block times a tap's weights. -/
def T16 (r : FVec Ideal S160x256 .f32) (w : Vec Ideal S1x256 .f32) : FVec Ideal S128x256 .f32 :=
  mulf (extractStridedSlice S128x256 ![16, 0] r slices_S160x256_o16_0_S128x256) (broadcastTo S128x256 w broadcasts_S1x256_S128x256)

/-- Rows 24 to 151 of a rotated block times a tap's weights. -/
def T24 (r : FVec Ideal S160x256 .f32) (w : Vec Ideal S1x256 .f32) : FVec Ideal S128x256 .f32 :=
  mulf (extractStridedSlice S128x256 ![24, 0] r slices_S160x256_o24_0_S128x256) (broadcastTo S128x256 w broadcasts_S1x256_S128x256)

/-- A block rotated along its rows. -/
def R (n : BitVec 32) (b : FVec Ideal S160x256 .f32) : FVec Ideal S160x256 .f32 := dynamicRotate 0 n none b rotates_S160x256_d0

/-- Four taps, eight rows apart, added to what was there. -/
def quad (a : FVec Ideal S128x256 .f32) (r : FVec Ideal S160x256 .f32) (w0 w8 w16 w24 : Vec Ideal S1x256 .f32) : FVec Ideal S128x256 .f32 :=
  addf (addf (addf (addf a (T0 r w0)) (T8 r w8)) (T16 r w16)) (T24 r w24)

/-- The sum over the taps, in the kernel's order. -/
def acc (b : FVec Ideal S160x256 .f32) (w : Fin 31 → Vec Ideal S1x256 .f32) : FVec Ideal S128x256 .f32 :=
  quad (quad (quad (quad (quad (quad (quad (addf (addf (T8 b (w 7)) (T16 b (w 15))) (T24 b (w 23)))
    (R 159#32 b) (w 0) (w 8) (w 16) (w 24)) (R 158#32 b) (w 1) (w 9) (w 17) (w 25)) (R 157#32 b) (w 2) (w 10) (w 18) (w 26))
    (R 156#32 b) (w 3) (w 11) (w 19) (w 27)) (R 155#32 b) (w 4) (w 12) (w 20) (w 28)) (R 154#32 b) (w 5) (w 13) (w 21) (w 29))
    (R 153#32 b) (w 6) (w 14) (w 22) (w 30)

/-- The convolved rows with their bias. -/
def cv (b : FVec Ideal S160x256 .f32) (w : Fin 31 → Vec Ideal S1x256 .f32) (cb : Vec Ideal S1x256 .f32) : FVec Ideal S128x256 .f32 :=
  addf (acc b w) (broadcastTo S128x256 (shapeCast S1x256 cb shapeCasts_S1x256_S1x256) broadcasts_S1x256_S128x256)

/-- The rows' means. -/
def meK (v : FVec Ideal S128x256 .f32) : FVec Ideal S128x1 .f32 :=
  divf (shapeCast S128x1 (multiReduction .add [1] S128 v 0x00000000#32 reduces_S128x256_S128 (.inl rfl) rfl) shapeCasts_S128_S128x1) (broadcast S128x1 (Scalar.ofBits (F := Ideal) .f32 0x43800000#32))

/-- The rows less their means. -/
def ceK (v : FVec Ideal S128x256 .f32) : FVec Ideal S128x256 .f32 := subf v (broadcastTo S128x256 (meK v) broadcasts_S128x1_S128x256)

/-- The normalised rows. -/
def lnK (v : FVec Ideal S128x256 .f32) (g b : Vec Ideal S1x256 .f32) : FVec Ideal S128x256 .f32 :=
  addf (mulf (mulf (ceK v) (broadcastTo S128x256 (rsqrt (addf (meK (mulf (ceK v) (ceK v))) (broadcast S128x1 (Scalar.ofBits (F := Ideal) .f32 0x358637BD#32)))) broadcasts_S128x1_S128x256))
    (broadcastTo S128x256 (shapeCast S1x256 g shapeCasts_S1x256_S1x256) broadcasts_S1x256_S128x256))
    (broadcastTo S128x256 (shapeCast S1x256 b shapeCasts_S1x256_S1x256) broadcasts_S1x256_S128x256)

/-- Half of the rows of a result block. -/
def rowsK (b : FVec Ideal S160x256 .f32) (w : Fin 31 → Vec Ideal S1x256 .f32) (cb g s : Vec Ideal S1x256 .f32) : FVec Ideal S1x128x256 .bf16 :=
  k0_pay1 (lnK (cv b w cb) g s)

/-- The first half's payload is those rows. -/
theorem first_eq (b : FVec Ideal S160x256 .f32) (w : Fin 31 → Vec Ideal S1x256 .f32) (cb g s : Vec Ideal S1x256 .f32) :
    k0_pay23 (k0_pay18 g) (k0_pay19 s)
      (k0_pay21 (k0_pay14 b (k0_pay11 b (k0_pay8 b (k0_pay5 b (w 7) (w 15) (w 23)) (k0_pay6 b) (k0_pay7 b) (w 0) (w 8) (w 16) (w 24) (w 1) (w 9) (w 17) (w 25))
          (k0_pay9 b) (k0_pay10 b) (w 2) (w 10) (w 18) (w 26) (w 3) (w 11) (w 19) (w 27)) (k0_pay12 b) (k0_pay13 b) (w 4) (w 12) (w 20) (w 28) (w 5) (w 13) (w 21) (w 29))
        (k0_pay15 b) (k0_pay16 b) (w 6) (w 14) (w 22) (w 30) cb)
      (k0_pay22 (k0_pay14 b (k0_pay11 b (k0_pay8 b (k0_pay5 b (w 7) (w 15) (w 23)) (k0_pay6 b) (k0_pay7 b) (w 0) (w 8) (w 16) (w 24) (w 1) (w 9) (w 17) (w 25))
          (k0_pay9 b) (k0_pay10 b) (w 2) (w 10) (w 18) (w 26) (w 3) (w 11) (w 19) (w 27)) (k0_pay12 b) (k0_pay13 b) (w 4) (w 12) (w 20) (w 28) (w 5) (w 13) (w 21) (w 29))
        (k0_pay15 b) (k0_pay16 b) (w 6) (w 14) (w 22) (w 30) cb)
      = rowsK b w cb g s := rfl

/-- The second half's payload is those rows. -/
theorem second_eq (b : FVec Ideal S160x256 .f32) (w : Fin 31 → Vec Ideal S1x256 .f32) (cb g s : Vec Ideal S1x256 .f32) :
    k0_pay1 (k0_pay36 (k0_pay33 b)
      (k0_pay34 b (k0_pay30 b) (k0_pay31 b (k0_pay27 b) (k0_pay28 b (k0_pay24 b) (k0_pay25 b (w 7) (w 15) (w 23) (w 0)) (k0_pay26 b) (w 8) (w 16) (w 24) (w 1) (w 9) (w 17) (w 25) (w 2))
          (k0_pay29 b) (w 10) (w 18) (w 26) (w 3) (w 11) (w 19) (w 27) (w 4)) (k0_pay32 b) (w 12) (w 20) (w 28) (w 5) (w 13) (w 21) (w 29) (w 6))
      (k0_pay35 b) (w 14) (w 22) (w 30) cb g s)
      = rowsK b w cb g s := rfl

/-- Rows 0 to 127 times a tap's weights, at an index. -/
theorem T0_apply (r : FVec Ideal S160x256 .f32) (w : Vec Ideal S1x256 .f32) (p : Fin 128) (l : Fin 256) : T0 r w (ix2 p l) = r (ix2 ⟨0 + p.val, by omega⟩ l) * w (ix2 0 l) := by
  pointwise [T0]
/-- Rows 8 to 135 times a tap's weights, at an index. -/
theorem T8_apply (r : FVec Ideal S160x256 .f32) (w : Vec Ideal S1x256 .f32) (p : Fin 128) (l : Fin 256) : T8 r w (ix2 p l) = r (ix2 ⟨8 + p.val, by omega⟩ l) * w (ix2 0 l) := by
  pointwise [T8]
/-- Rows 16 to 143 times a tap's weights, at an index. -/
theorem T16_apply (r : FVec Ideal S160x256 .f32) (w : Vec Ideal S1x256 .f32) (p : Fin 128) (l : Fin 256) : T16 r w (ix2 p l) = r (ix2 ⟨16 + p.val, by omega⟩ l) * w (ix2 0 l) := by
  pointwise [T16]
/-- Rows 24 to 151 times a tap's weights, at an index. -/
theorem T24_apply (r : FVec Ideal S160x256 .f32) (w : Vec Ideal S1x256 .f32) (p : Fin 128) (l : Fin 256) : T24 r w (ix2 p l) = r (ix2 ⟨24 + p.val, by omega⟩ l) * w (ix2 0 l) := by
  pointwise [T24]

/-- A rotated block at an index that does not wrap around. -/
theorem R_apply (n : BitVec 32) (b : FVec Ideal S160x256 .f32) (q : Fin 160) (l : Fin 256) (s : ℕ) (hn : n.toNat + s = 160) (hs : 0 < s) (hq : q.val + s < 160) :
    R n b (ix2 q l) = b (ix2 ⟨q.val + s, hq⟩ l) := by
  unfold R
  refine dynamicRotate_apply (0 : Fin 2) n b rotates_S160x256_d0 (ix2 q l) (ix2 ⟨q.val + s, hq⟩ l) fun a => ?_
  match a with
  | ⟨0, _⟩ =>
    show q.val + s = (q.val + 160 - n.toNat % 160) % 160
    have hq' : q.val < 160 := q.isLt
    omega
  | ⟨1, _⟩ => rfl

/-- A tap's term: an entry of the block, `j + 1` rows on, times the tap's weight. -/
def tap (b : FVec Ideal S160x256 .f32) (w : Fin 31 → Vec Ideal S1x256 .f32) (p : Fin 128) (l : Fin 256) (j : Fin 31) : EReal :=
  b (ix2 ⟨p.val + (j.val + 1), by omega⟩ l) * w j (ix2 0 l)

/-- Four taps of a rotated block, at an index. -/
theorem quad_apply (a : FVec Ideal S128x256 .f32) (b : FVec Ideal S160x256 .f32) (n : BitVec 32) (s : ℕ) (hn : n.toNat + s = 160) (hs : 0 < s) (hs8 : s < 8)
    (w : Fin 31 → Vec Ideal S1x256 .f32) (p : Fin 128) (l : Fin 256) (A : EReal) (ha : a (ix2 p l) = A) :
    quad a (R n b) (w ⟨s - 1, by omega⟩) (w ⟨s - 1 + 8, by omega⟩) (w ⟨s - 1 + 16, by omega⟩) (w ⟨s - 1 + 24, by omega⟩) (ix2 p l)
      = A + tap b w p l ⟨s - 1, by omega⟩ + tap b w p l ⟨s - 1 + 8, by omega⟩ + tap b w p l ⟨s - 1 + 16, by omega⟩ + tap b w p l ⟨s - 1 + 24, by omega⟩ := by
  have hp : p.val < 128 := p.isLt
  show a (ix2 p l) + T0 _ _ (ix2 p l) + T8 _ _ (ix2 p l) + T16 _ _ (ix2 p l) + T24 _ _ (ix2 p l) = _
  rw [T0_apply, T8_apply, T16_apply, T24_apply]
  have e0 := R_apply n b ⟨0 + p.val, by omega⟩ l s hn hs (by show 0 + p.val + s < 160; omega)
  have e8 := R_apply n b ⟨8 + p.val, by omega⟩ l s hn hs (by show 8 + p.val + s < 160; omega)
  have e16 := R_apply n b ⟨16 + p.val, by omega⟩ l s hn hs (by show 16 + p.val + s < 160; omega)
  have e24 := R_apply n b ⟨24 + p.val, by omega⟩ l s hn hs (by show 24 + p.val + s < 160; omega)
  rw [e0, e8, e16, e24, ha]
  have hb : ∀ (u v : ℕ) (hu : u < 160) (hv : v < 160), u = v → b (ix2 ⟨u, hu⟩ l) = b (ix2 ⟨v, hv⟩ l) := by
    intro u v hu hv h
    subst h
    rfl
  unfold tap
  refine congrArg₂ (· + ·) (congrArg₂ (· + ·) (congrArg₂ (· + ·) (congrArg₂ (· + ·) rfl ?_) ?_) ?_) ?_
  all_goals exact congrArg (· * _) (hb _ _ _ _ (by dsimp only; omega))

/-- The sum over the taps at an index. -/
theorem acc_apply (b : FVec Ideal S160x256 .f32) (w : Fin 31 → Vec Ideal S1x256 .f32) (p : Fin 128) (l : Fin 256) :
    acc b w (ix2 p l) = ∑ j : Fin 31, tap b w p l j := by
  have hb : ∀ (u v : ℕ) (hu : u < 160) (hv : v < 160), u = v → b (ix2 ⟨u, hu⟩ l) = b (ix2 ⟨v, hv⟩ l) := by
    intro u v hu hv h
    subst h
    rfl
  have hp : p.val < 128 := p.isLt
  have e0 : addf (addf (T8 b (w 7)) (T16 b (w 15))) (T24 b (w 23)) (ix2 p l) = tap b w p l 7 + tap b w p l 15 + tap b w p l 23 := by
    show T8 _ _ (ix2 p l) + T16 _ _ (ix2 p l) + T24 _ _ (ix2 p l) = _
    rw [T8_apply, T16_apply, T24_apply]
    unfold tap
    refine congrArg₂ (· + ·) (congrArg₂ (· + ·) ?_ ?_) ?_
    · exact congrArg (· * _) (hb _ _ _ _ (by show 8 + p.val = p.val + (7 + 1); omega))
    · exact congrArg (· * _) (hb _ _ _ _ (by show 16 + p.val = p.val + (15 + 1); omega))
    · exact congrArg (· * _) (hb _ _ _ _ (by show 24 + p.val = p.val + (23 + 1); omega))
  unfold acc
  refine (quad_apply _ b 153#32 7 (by decide) (by decide) (by decide) w p l _ (quad_apply _ b 154#32 6 (by decide) (by decide) (by decide) w p l _ (quad_apply _ b 155#32 5 (by decide) (by decide) (by decide) w p l _ (quad_apply _ b 156#32 4 (by decide) (by decide) (by decide) w p l _ (quad_apply _ b 157#32 3 (by decide) (by decide) (by decide) w p l _ (quad_apply _ b 158#32 2 (by decide) (by decide) (by decide) w p l _ (quad_apply _ b 159#32 1 (by decide) (by decide) (by decide) w p l _ e0))))))).trans ?_
  generalize tap b w p l = X
  have hs : ∑ j : Fin 31, X j = X 0 + (X 1 + (X 2 + (X 3 + (X 4 + (X 5 + (X 6 + (X 7 + (X 8 + (X 9 + (X 10 + (X 11 + (X 12 + (X 13 + (X 14 + (X 15 + (X 16 + (X 17 + (X 18 + (X 19 + (X 20 + (X 21 + (X 22 + (X 23 + (X 24 + (X 25 + (X 26 + (X 27 + (X 28 + (X 29 + (X 30 + 0)))))))))))))))))))))))))))))) := rfl
  rw [hs, add_zero]
  show X 7 + X 15 + X 23 + X 0 + X 8 + X 16 + X 24 + X 1 + X 9 + X 17 + X 25 + X 2 + X 10 + X 18 + X 26 + X 3 + X 11 + X 19 + X 27 + X 4 + X 12 + X 20 + X 28 + X 5 + X 13 + X 21 + X 29 + X 6 + X 14 + X 22 + X 30 = _
  ac_rfl

end Cert.Proof.Conv
-- ==== Proof.ConvRow.lean ====
/-
  The context's convolution: half of a result block, read at an index.
-/
module

public import proofs.«01_k».proof.Proof.ConvTaps

@[expose] public section

set_option maxRecDepth 16384

noncomputable section

namespace Cert.Proof.Conv

open Idealize.ShloMosaic Idealize.ShloMosaic.Tactic Idealize.SL.Sem Cert.Kernel9Ideal Cert.Kernel9Ideal.Gen Idealize.ShloMosaic.TcCoe
open Cert.Proof.Scalar (half)

/-- A value gated by another's sigmoid. -/
def glu (a g : EReal) : EReal := a * (half * Ideal.tanh (half * g) + half)

/-- A value gated by its own sigmoid. -/
def silu (v : EReal) : EReal := v * (half * Ideal.tanh (half * v) + half)

/-- A row's mean. -/
def mean (v : Fin 256 → EReal) : EReal := Ideal.div (∑ q : Fin 256, v q) (Ideal.ofBits .f32 0x43800000#32)

/-- A row normalised to mean zero and variance one, times the gain, plus the shift. -/
def ln (v : Fin 256 → EReal) (g b : EReal) (l : Fin 256) : EReal :=
  (v l - mean v) * Ideal.rsqrt (mean (fun q => (v q - mean v) * (v q - mean v)) + Ideal.ofBits .f32 0x358637BD#32) * g + b

/-- The gated tokens with sixteen rows of zeros before and after them. -/
def pad (u : Fin 256 → Fin 256 → EReal) (k : ℕ) (l : Fin 256) : EReal :=
  if h : 16 ≤ k ∧ k < 272 then u ⟨k - 16, by omega⟩ l else 0

/-- The convolved row of token `p`. -/
def conv (u : Fin 256 → Fin 256 → EReal) (w : Fin 31 → Fin 256 → EReal) (cb : Fin 256 → EReal) (p : ℕ) (l : Fin 256) : EReal :=
  ∑ j : Fin 31, pad u (p + (j.val + 1)) l * w j l + cb l

/-- The result of token `p`, lane `l`. -/
def row (u : Fin 256 → Fin 256 → EReal) (w : Fin 31 → Fin 256 → EReal) (cb g s : Fin 256 → EReal) (p : ℕ) (l : Fin 256) : EReal :=
  silu (ln (conv u w cb p) (g l) (s l) l)

/-- The block's gated tokens. -/
theorem pay3_apply (a g : Vec Ideal S1x256x256 .f32) (i : S256x256.Idx) : k0_pay3 a g i = glu (a (ix3 0 (i 0) (i 1))) (g (ix3 0 (i 0) (i 1))) := by
  pointwise [k0_pay3, glu, half]

/-- No tokens stand before the block. -/
theorem pay2_apply (i : grid0.Coords) (a g : Vec Ideal S1x16x256 .f32) (y : S16x256.Idx) : k0_pay2 i a g y = 0 := by
  have hi : (i 1).val = 0 := by have : (i 1).val < 1 := (i 1).isLt; omega
  unfold k0_pay2
  dsimp only
  rw [hi]
  pointwise
  rfl

/-- No tokens stand after the block. -/
theorem pay4_apply (i : grid0.Coords) (a g : Vec Ideal S1x16x256 .f32) (y : S16x256.Idx) : k0_pay4 (BitVec.ofNat 32 (i 1).val) a g y = 0 := by
  have hi : (i 1).val = 0 := by have : (i 1).val < 1 := (i 1).isLt; omega
  unfold k0_pay4
  dsimp only
  rw [hi]
  pointwise
  rfl

/-- The convolved rows at an index. -/
theorem cv_apply (b : FVec Ideal S160x256 .f32) (w : Fin 31 → Vec Ideal S1x256 .f32) (cb : Vec Ideal S1x256 .f32) (p : Fin 128) (l : Fin 256) :
    cv b w cb (ix2 p l) = ∑ j : Fin 31, tap b w p l j + cb (ix2 0 l) := by
  have e : cv b w cb (ix2 p l) = acc b w (ix2 p l) + cb (ix2 0 l) := by pointwise [cv]
  rw [e, acc_apply]

/-- The normalised rows at an index. -/
theorem lnK_apply (v : FVec Ideal S128x256 .f32) (g s : Vec Ideal S1x256 .f32) (p : Fin 128) (l : Fin 256) :
    lnK v g s (ix2 p l) = ln (fun q => v (ix2 p q)) (g (ix2 0 l)) (s (ix2 0 l)) l := by
  pointwise [lnK, ceK, meK, ln, mean]

/-- The rows gated by their own sigmoid, at an index. -/
theorem pay1_apply (v : FVec Ideal S128x256 .f32) (p : Fin 128) (l : Fin 256) : k0_pay1 v (ix3 0 p l) = silu (v (ix2 p l)) := by
  pointwise [k0_pay1, silu, half]

/-- Half of the rows at an index, from the block of gated tokens that starts at row `r`. -/
theorem rowsK_apply (u : Fin 256 → Fin 256 → EReal) (r : ℕ) (b : FVec Ideal S160x256 .f32) (hb : ∀ (q : Fin 160) (l : Fin 256), b (ix2 q l) = pad u (r + q.val) l)
    (w : Fin 31 → Vec Ideal S1x256 .f32) (cb g s : Vec Ideal S1x256 .f32) (p : Fin 128) (l : Fin 256) :
    rowsK b w cb g s (ix3 0 p l) = row u (fun j l => w j (ix2 0 l)) (fun l => cb (ix2 0 l)) (fun l => g (ix2 0 l)) (fun l => s (ix2 0 l)) (r + p.val) l := by
  unfold rowsK row
  refine (pay1_apply _ p l).trans (congrArg silu ((lnK_apply _ g s p l).trans ?_))
  refine congrArg (fun v : Fin 256 → EReal => ln v _ _ l) (funext fun q => (cv_apply b w cb p q).trans ?_)
  unfold conv
  refine congrArg (· + _) (Finset.sum_congr rfl fun j _ => ?_)
  unfold tap
  refine congrArg (· * _) ((hb _ _).trans ?_)
  show pad u (r + (p.val + (j.val + 1))) q = _
  rw [Nat.add_assoc]

end Cert.Proof.Conv
-- ==== Proof.ConvOut.lean ====
/-
  The context's convolution: what its body leaves at each grid point.
-/
module

public import proofs.«01_k».proof.Proof.Gen.Kernel9Ideal.Value
public import proofs.«01_k».proof.Proof.ConvRow

@[expose] public section

set_option maxRecDepth 16384

noncomputable section

namespace Cert.Proof.Conv

open Idealize.ShloMosaic Idealize.ShloMosaic.Tactic Idealize.SL.Sem Cert.Kernel9Ideal Cert.Kernel9Ideal.Gen Idealize.ShloMosaic.TcCoe

/-- A member of a list with some property: the first, or one of the rest. -/
theorem ex_cons {α : Type} {P : α → Prop} {a : α} {l : List α} (h : P a ∨ ∃ x ∈ l, P x) : ∃ x ∈ a :: l, P x := by
  rcases h with h | ⟨x, hx, h⟩
  · exact ⟨a, List.mem_cons_self, h⟩
  · exact ⟨x, List.mem_cons_of_mem _ hx, h⟩

/-- A load of a whole block is the block. -/
theorem ld_whole3 (x : Vec Ideal S1x256x256 .f32) (h) : View.ld x (Rect.unit (s := S1x256x256) ![0, 0, 0] S1x256x256.size h) = x := by
  funext y
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A load of a whole row is the row. -/
theorem ld_whole2 (x : Vec Ideal S1x256 .f32) (h) : View.ld x (Rect.unit (s := S1x256) ![0, 0] S1x256.size h) = x := by
  funext y
  refine congrArg x (funext fun a => Fin.ext ?_)
  match a with
  | ⟨0, _⟩ => show 0 + 1 * (y 0).val = (y 0).val; omega
  | ⟨1, _⟩ => show 0 + 1 * (y 1).val = (y 1).val; omega

/-- A load of a whole block from its staging buffer. -/
theorem load_block (a : Memref sig .tc .vmem S1x256x256 .f32) (ha : a.IsWhole) (x : Vec Ideal S1x256x256 .f32) (h) :
    View.readAt (Elt Ideal) a.view (Rect.unit (s := S1x256x256) ![0, 0, 0] S1x256x256.size h).toLoadRect (ha.unread x) = x := by
  rw [View.readAt_eq_ld, ha.read_unread]
  exact ld_whole3 x h

/-- A load of a whole row from its staging buffer. -/
theorem load_row (a : Memref sig .tc .vmem S1x256 .f32) (ha : a.IsWhole) (x : Vec Ideal S1x256 .f32) (h) :
    View.readAt (Elt Ideal) a.view (Rect.unit (s := S1x256) ![0, 0] S1x256.size h).toLoadRect (ha.unread x) = x := by
  rw [View.readAt_eq_ld, ha.read_unread]
  exact ld_whole2 x h

/-- A tap's rectangle lies inside the weights. -/
theorem tapIn (j : Fin 31) : ∀ a, (![j.val, 0] : Fin S31x256.rank → ℕ) a + S1x256.size a ≤ S31x256.size a := by
  intro a
  match a with
  | ⟨0, _⟩ => show j.val + 1 ≤ 31; omega
  | ⟨1, _⟩ => show 0 + 256 ≤ 256; omega

/-- The block's gated tokens. -/
def toks (x0 x1 : Vec Ideal S1x256x256 .f32) : Fin 256 → Fin 256 → EReal := fun p l => glu (x0 (ix3 0 p l)) (x1 (ix3 0 p l))

section body

variable (c : Dev nD) (i : grid0.Coords) (arg2 : Memref sig .tc .vmem S1x256x256 .f32) (harg2 : arg2.IsWhole) (arg3 : Memref sig .tc .vmem S1x256x256 .f32) (harg3 : arg3.IsWhole) (arg4 : Memref sig .tc .vmem S1x16x256 .f32) (harg4 : arg4.IsWhole) (arg5 : Memref sig .tc .vmem S1x16x256 .f32) (harg5 : arg5.IsWhole) (arg6 : Memref sig .tc .vmem S1x16x256 .f32) (harg6 : arg6.IsWhole) (arg7 : Memref sig .tc .vmem S1x16x256 .f32) (harg7 : arg7.IsWhole) (arg8 : Memref sig .tc .vmem S31x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256x256 .bf16) (harg12 : arg12.IsWhole) (arg13 : Memref sig .tc .vmem S288x256 .f32) (harg13 : arg13.IsWhole)
    (x0 : Vec Ideal S1x256x256 .f32) (x1 : Vec Ideal S1x256x256 .f32) (x2 : Vec Ideal S1x16x256 .f32) (x3 : Vec Ideal S1x16x256 .f32) (x4 : Vec Ideal S1x16x256 .f32) (x5 : Vec Ideal S1x16x256 .f32) (x6 : Vec Ideal S31x256 .f32) (x7 : Vec Ideal S1x256 .f32) (x8 : Vec Ideal S1x256 .f32) (x9 : Vec Ideal S1x256 .f32)

/-- The row of a tap's weights, as the body loads it. -/
def wts (j : Fin 31) : Vec Ideal S1x256 .f32 :=
  View.readAt (Elt Ideal) arg8.view (Rect.unit (s := S31x256) ![j.val, 0] S1x256.size (tapIn j)).toLoadRect (harg8.unread x6)

/-- It is the weights' row. -/
theorem wts_apply (j : Fin 31) (l : Fin 256) : wts arg8 harg8 x6 j (ix2 0 l) = x6 (ix2 j l) := by
  unfold wts
  rw [View.readAt_eq_ld, harg8.read_unread]
  refine congrArg x6 (funext fun a => Fin.ext ?_)
  match a with
  | ⟨0, _⟩ => show j.val + 1 * 0 = j.val; omega
  | ⟨1, _⟩ => show 0 + 1 * l.val = l.val; omega

/-- What the body's stores leave in the scratch rows. -/
theorem scratch_apply (y : S288x256.Idx) :
    View.read (Elt Ideal) arg13.view (arg13.view.writes (Elt Ideal) arg13.view.junk (kernelRun0_A.sl.HS0_3 c i arg2 harg2 arg3 harg3 arg4 harg4 arg5 harg5 arg6 harg6 arg7 harg7 x0 x1 x2 x3 x4 x5)) y = pad (toks x0 x1) (y 0).val (y 1) := by
  refine View.read_writes_apply_of_pieces (Val := Elt Ideal) (e := .f32) _ _ (fun y : S288x256.Idx => pad (toks x0 x1) (y 0).val (y 1)) _ ?_ y ?_
  · unfold kernelRun0_A.sl.HS0_3
    sl_unfold_words
    intro p hp
    simp only [List.mem_cons, List.not_mem_nil, or_false] at hp
    rcases hp with rfl | rfl | rfl
    · intro (x : S16x256.Idx)
      have hx : (x 0).val < 16 := (x 0).isLt
      refine (pay4_apply i _ _ x).trans (Eq.symm (dif_neg ?_))
      show ¬(16 ≤ 272 + 1 * (x 0).val ∧ 272 + 1 * (x 0).val < 272)
      omega
    · intro (x : S256x256.Idx)
      have hx : (x 0).val < 256 := (x 0).isLt
      refine (pay3_apply _ _ x).trans ?_
      rw [load_block arg2 harg2, load_block arg3 harg3]
      refine Eq.trans ?_ (dif_pos (show 16 ≤ 16 + 1 * (x 0).val ∧ 16 + 1 * (x 0).val < 272 by omega)).symm
      have e0 : x 0 = (⟨16 + 1 * (x 0).val - 16, by omega⟩ : Fin 256) := Fin.ext (by show (x 0).val = 16 + 1 * (x 0).val - 16; omega)
      have e1 : x 1 = (⟨0 + 1 * (x 1).val, by have : (x 1).val < 256 := (x 1).isLt; omega⟩ : Fin 256) := Fin.ext (by show (x 1).val = 0 + 1 * (x 1).val; omega)
      exact congrArg₂ (toks x0 x1) e0 e1
    · intro (x : S16x256.Idx)
      have hx : (x 0).val < 16 := (x 0).isLt
      refine (pay2_apply i _ _ x).trans (Eq.symm (dif_neg ?_))
      show ¬(16 ≤ 0 + 1 * (x 0).val ∧ 0 + 1 * (x 0).val < 272)
      omega
  · have h0 : (y 0).val < 288 := (y 0).isLt
    have h1 : (y 1).val < 256 := (y 1).isLt
    unfold kernelRun0_A.sl.HS0_3
    sl_unfold_words
    by_cases hA : 272 ≤ (y 0).val
    · refine ex_cons (.inl ?_)
      refine (Rect.mem_set_unit (s := S288x256) (off := ![272, 0]) (size := S16x256.size) (inb := inb_S288x256_S16x256_272_0)).mpr ?_
      intro a
      match a with
      | ⟨0, _⟩ => show 272 ≤ (y 0).val ∧ (y 0).val < 272 + 16; omega
      | ⟨1, _⟩ => show 0 ≤ (y 1).val ∧ (y 1).val < 0 + 256; omega
    by_cases hB : 16 ≤ (y 0).val
    · refine ex_cons (.inr (ex_cons (.inl ?_)))
      refine (Rect.mem_set_unit (s := S288x256) (off := ![16, 0]) (size := S256x256.size) (inb := inb_S288x256_S256x256_16_0)).mpr ?_
      intro a
      match a with
      | ⟨0, _⟩ => show 16 ≤ (y 0).val ∧ (y 0).val < 16 + 256; omega
      | ⟨1, _⟩ => show 0 ≤ (y 1).val ∧ (y 1).val < 0 + 256; omega
    · refine ex_cons (.inr (ex_cons (.inr (ex_cons (.inl ?_)))))
      refine (Rect.mem_set_unit (s := S288x256) (off := ![0, 0]) (size := S16x256.size) (inb := inb_S288x256_S16x256_0_0)).mpr ?_
      intro a
      match a with
      | ⟨0, _⟩ => show 0 ≤ (y 0).val ∧ (y 0).val < 0 + 16; omega
      | ⟨1, _⟩ => show 0 ≤ (y 1).val ∧ (y 1).val < 0 + 256; omega

/-- The rows the first half reads. -/
theorem first_rows (q : Fin 160) (l : Fin 256) : kernelRun0_A.sl.v51 c i arg2 harg2 arg3 harg3 arg4 harg4 arg5 harg5 arg6 harg6 arg7 harg7 arg13 x0 x1 x2 x3 x4 x5 (ix2 q l) = pad (toks x0 x1) (0 + q.val) l := by
  unfold kernelRun0_A.sl.v51
  refine (scratch_apply c i arg2 harg2 arg3 harg3 arg4 harg4 arg5 harg5 arg6 harg6 arg7 harg7 arg13 x0 x1 x2 x3 x4 x5 _).trans ?_
  refine congrArg₂ (pad (toks x0 x1)) ?_ (Fin.ext ?_)
  · show 0 + 1 * q.val = 0 + q.val; omega
  · show 0 + 1 * l.val = l.val; omega

/-- The rows the second half reads. -/
theorem second_rows (q : Fin 160) (l : Fin 256) : kernelRun0_A.sl.v255 c i arg2 harg2 arg3 harg3 arg4 harg4 arg5 harg5 arg6 harg6 arg7 harg7 arg13 x0 x1 x2 x3 x4 x5 (ix2 q l) = pad (toks x0 x1) (128 + q.val) l := by
  unfold kernelRun0_A.sl.v255
  refine (scratch_apply c i arg2 harg2 arg3 harg3 arg4 harg4 arg5 harg5 arg6 harg6 arg7 harg7 arg13 x0 x1 x2 x3 x4 x5 _).trans ?_
  refine congrArg₂ (pad (toks x0 x1)) ?_ (Fin.ext ?_)
  · show 128 + 1 * q.val = 128 + q.val; omega
  · show 0 + 1 * l.val = l.val; omega

/-- Half of the block, as the body computes it from its loads. -/
def half1 (b : FVec Ideal S160x256 .f32) : FVec Ideal S1x128x256 .bf16 :=
  rowsK b (wts arg8 harg8 x6)
    (View.readAt (Elt Ideal) arg9.view (Rect.unit (s := S1x256) ![0, 0] S1x256.size inb_S1x256_S1x256_0_0).toLoadRect (harg9.unread x7))
    (View.readAt (Elt Ideal) arg10.view (Rect.unit (s := S1x256) ![0, 0] S1x256.size inb_S1x256_S1x256_0_0).toLoadRect (harg10.unread x8))
    (View.readAt (Elt Ideal) arg11.view (Rect.unit (s := S1x256) ![0, 0] S1x256.size inb_S1x256_S1x256_0_0).toLoadRect (harg11.unread x9))

/-- The block's value at row `p`, lane `l`. -/
def blk (x0 x1 : Vec Ideal S1x256x256 .f32) (x6 : Vec Ideal S31x256 .f32) (x7 x8 x9 : Vec Ideal S1x256 .f32) (p : ℕ) (l : Fin 256) : EReal :=
  row (toks x0 x1) (fun j l => x6 (ix2 j l)) (fun l => x7 (ix2 0 l)) (fun l => x8 (ix2 0 l)) (fun l => x9 (ix2 0 l)) p l

/-- Half of the block at an index. -/
theorem half1_apply (r : ℕ) (b : FVec Ideal S160x256 .f32) (hb : ∀ (q : Fin 160) (l : Fin 256), b (ix2 q l) = pad (toks x0 x1) (r + q.val) l) (x : S1x128x256.Idx) :
    half1 arg8 harg8 arg9 harg9 arg10 harg10 arg11 harg11 x6 x7 x8 x9 b x = blk x0 x1 x6 x7 x8 x9 (r + (x 1).val) (x 2) := by
  have hx0 : x = ix3 0 (x 1) (x 2) := by
    funext a
    match a with
    | ⟨0, _⟩ => exact Fin.ext (by have : (x 0).val < 1 := (x 0).isLt; show (x 0).val = 0; omega)
    | ⟨1, _⟩ => rfl
    | ⟨2, _⟩ => rfl
  unfold half1
  rw [load_row arg9 harg9, load_row arg10 harg10, load_row arg11 harg11]
  have e := congrArg (rowsK b (wts arg8 harg8 x6) x7 x8 x9) hx0
  refine e.trans ((rowsK_apply (toks x0 x1) r b hb (wts arg8 harg8 x6) x7 x8 x9 (x 1) (x 2)).trans ?_)
  unfold blk
  exact congrArg (fun w : Fin 31 → Fin 256 → EReal => row (toks x0 x1) w (fun l => x7 (ix2 0 l)) (fun l => x8 (ix2 0 l)) (fun l => x9 (ix2 0 l)) (r + (x 1).val) (x 2))
    (funext fun j => funext fun l => wts_apply arg8 harg8 x6 j l)

/-- What a grid point leaves in its block. -/
theorem out_10 (y : S1x256x256.Idx) : out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 y = blk x0 x1 x6 x7 x8 x9 (y 1).val (y 2) := by
  unfold out0_A_10
  refine View.read_writes_apply_of_pieces (Val := Elt Ideal) _ _ (fun y : S1x256x256.Idx => blk x0 x1 x6 x7 x8 x9 (y 1).val (y 2)) _ ?_ y (cover0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 y)
  unfold kernelRun0_A
  dsimp only
  intro p hp
  simp only [List.mem_cons, List.not_mem_nil, or_false] at hp
  rcases hp with rfl | rfl
  · intro (x : S1x128x256.Idx)
    refine Eq.trans (congrFun ?_ x) ((half1_apply arg8 harg8 arg9 harg9 arg10 harg10 arg11 harg11 x0 x1 x6 x7 x8 x9 128 (kernelRun0_A.sl.v255 c i arg2 harg2 arg3 harg3 arg4 harg4 arg5 harg5 arg6 harg6 arg7 harg7 arg13 x0 x1 x2 x3 x4 x5) (second_rows c i arg2 harg2 arg3 harg3 arg4 harg4 arg5 harg5 arg6 harg6 arg7 harg7 arg13 x0 x1 x2 x3 x4 x5) x).trans ?_)
    · unfold half1
      refine Eq.trans ?_ (second_eq (kernelRun0_A.sl.v255 c i arg2 harg2 arg3 harg3 arg4 harg4 arg5 harg5 arg6 harg6 arg7 harg7 arg13 x0 x1 x2 x3 x4 x5) (wts arg8 harg8 x6) _ _ _)
      sl_unfold_words
      rfl
    · exact congrArg₂ (blk x0 x1 x6 x7 x8 x9) (by show 128 + (x 1).val = 128 + 1 * (x 1).val; omega) (Fin.ext (by show (x 2).val = 0 + 1 * (x 2).val; omega))
  · intro (x : S1x128x256.Idx)
    refine Eq.trans (congrFun ?_ x) ((half1_apply arg8 harg8 arg9 harg9 arg10 harg10 arg11 harg11 x0 x1 x6 x7 x8 x9 0 (kernelRun0_A.sl.v51 c i arg2 harg2 arg3 harg3 arg4 harg4 arg5 harg5 arg6 harg6 arg7 harg7 arg13 x0 x1 x2 x3 x4 x5) (first_rows c i arg2 harg2 arg3 harg3 arg4 harg4 arg5 harg5 arg6 harg6 arg7 harg7 arg13 x0 x1 x2 x3 x4 x5) x).trans ?_)
    · unfold half1
      refine Eq.trans ?_ (first_eq (kernelRun0_A.sl.v51 c i arg2 harg2 arg3 harg3 arg4 harg4 arg5 harg5 arg6 harg6 arg7 harg7 arg13 x0 x1 x2 x3 x4 x5) (wts arg8 harg8 x6) _ _ _)
      sl_unfold_words
      rfl
    · exact congrArg₂ (blk x0 x1 x6 x7 x8 x9) (by show 0 + (x 1).val = 0 + 1 * (x 1).val; omega) (Fin.ext (by show (x 2).val = 0 + 1 * (x 2).val; omega))

end body

end Cert.Proof.Conv
-- ==== Proof.ConvEnd.lean ====
/-
  The context's convolution: the array the call ends with, as a function of the whole arrays.
-/
module

public import proofs.«01_k».proof.Proof.ConvOut

@[expose] public section

set_option maxRecDepth 16384

noncomputable section

namespace Cert.Proof.Conv

open Idealize.ShloMosaic Idealize.ShloMosaic.Tactic Idealize.SL.Sem Cert.Kernel9Ideal Cert.Kernel9Ideal.Gen Idealize.ShloMosaic.TcCoe

variable (m : (ℓ : Loc nD τ sig) → Buf (Elt Ideal) ℓ)

/-- The batch row of a grid point. -/
def row2 (t : Fin cfg0.N) : Fin 2 := ⟨t.val, lt_of_lt_of_eq t.isLt (show cfg0.N = 2 from N_0)⟩

/-- The host's row of biases, gains or shifts at an index. -/
theorem rows (g : FVec Ideal S256 .f32) (i : S1x256.Idx) : (broadcastInDim S1x256 ![1] bcast_S256_S1x256_1 g) i = g (ix1 (i 1)) := by
  pointwise

/-- What a grid point reads of the values: its batch row's. -/
theorem blk0 (c : Dev nD) (t : Fin cfg0.N) (y : S1x256x256.Idx) :
    iblk m c 0 t y = m ((c : Thread nD τ).loc main_arg0) (ix3 (row2 t) (y 1) ⟨0 + (y 2).val, by have : (y 2).val < 256 := (y 2).isLt; omega⟩) := by
  have hi := (by decide +kernel : ∀ t : Fin grid0.N, win0_0.index t 0 = t.val ∧ win0_0.index t 1 = 0 ∧ win0_0.index t 2 = 0) t
  have hy0 : (y 0).val < 1 := (y 0).isLt
  unfold iblk
  rw [View.read_apply]
  show V m c main_arg0 _ = _
  rw [V_main_arg0]
  congr 1
  funext a
  apply Fin.ext
  match a with
  | ⟨0, _⟩ => show win0_0.index t 0 * 1 + 1 * (y 0).val = t.val; rw [hi.1]; omega
  | ⟨1, _⟩ => show win0_0.index t 1 * 256 + 1 * (y 1).val = (y 1).val; rw [hi.2.1]; omega
  | ⟨2, _⟩ => show win0_0.index t 2 * 256 + 1 * (y 2).val = 0 + (y 2).val; rw [hi.2.2]; omega

/-- What a grid point reads of the gates: its batch row's. -/
theorem blk1 (c : Dev nD) (t : Fin cfg0.N) (y : S1x256x256.Idx) :
    iblk m c 1 t y = m ((c : Thread nD τ).loc main_arg0) (ix3 (row2 t) (y 1) ⟨256 + (y 2).val, by have : (y 2).val < 256 := (y 2).isLt; omega⟩) := by
  have hi := (by decide +kernel : ∀ t : Fin grid0.N, win0_1.index t 0 = t.val ∧ win0_1.index t 1 = 0 ∧ win0_1.index t 2 = 1) t
  have hy0 : (y 0).val < 1 := (y 0).isLt
  unfold iblk
  rw [View.read_apply]
  show V m c main_arg0 _ = _
  rw [V_main_arg0]
  congr 1
  funext a
  apply Fin.ext
  match a with
  | ⟨0, _⟩ => show win0_1.index t 0 * 1 + 1 * (y 0).val = t.val; rw [hi.1]; omega
  | ⟨1, _⟩ => show win0_1.index t 1 * 256 + 1 * (y 1).val = (y 1).val; rw [hi.2.1]; omega
  | ⟨2, _⟩ => show win0_1.index t 2 * 256 + 1 * (y 2).val = 256 + (y 2).val; rw [hi.2.2]; omega

/-- What a grid point reads of the taps' weights: all. -/
theorem blk6 (c : Dev nD) (t : Fin cfg0.N) (y : S31x256.Idx) :
    iblk m c 6 t y = m ((c : Thread nD τ).loc main_arg1) (ix2 (y 0) (y 1)) := by
  have hi := (by decide +kernel : ∀ t : Fin grid0.N, win0_6.index t 0 = 0 ∧ win0_6.index t 1 = 0) t
  unfold iblk
  rw [View.read_apply]
  show V m c main_arg1 _ = _
  rw [V_main_arg1]
  congr 1
  funext a
  apply Fin.ext
  match a with
  | ⟨0, _⟩ => show win0_6.index t 0 * 31 + 1 * (y 0).val = (y 0).val; rw [hi.1]; omega
  | ⟨1, _⟩ => show win0_6.index t 1 * 256 + 1 * (y 1).val = (y 1).val; rw [hi.2]; omega

/-- What a grid point reads of the bias: its row. -/
theorem blk7 (c : Dev nD) (t : Fin cfg0.N) (y : S1x256.Idx) :
    iblk m c 7 t y = m ((c : Thread nD τ).loc main_arg2) (ix1 (y 1)) := by
  have hi := (by decide +kernel : ∀ t : Fin grid0.N, win0_7.index t 0 = 0 ∧ win0_7.index t 1 = 0) t
  have e : V m c main_v0 = (broadcastInDim S1x256 ![1] bcast_S256_S1x256_1 (m ((c : Thread nD τ).loc main_arg2)) : Vec Ideal S1x256 .f32) := by
    show StableHlo.after hostOps0 (fun b => m (c, b)) (Proc.devRef .tc main_v0) = _
    after_results_simp <;> rfl
  unfold iblk
  rw [View.read_apply]
  show V m c main_v0 _ = _
  rw [e]
  have hx : ((cfg0.win 7).blk t).view.emb y = (y : S1x256.Idx) := by
    funext a
    apply Fin.ext
    match a with
    | ⟨0, _⟩ => show win0_7.index t 0 * 1 + 1 * (y 0).val = (y 0).val; rw [hi.1]; omega
    | ⟨1, _⟩ => show win0_7.index t 1 * 256 + 1 * (y 1).val = (y 1).val; rw [hi.2]; omega
  exact (congrArg _ hx).trans (rows _ _)

/-- What a grid point reads of the gain: its row. -/
theorem blk8 (c : Dev nD) (t : Fin cfg0.N) (y : S1x256.Idx) :
    iblk m c 8 t y = m ((c : Thread nD τ).loc main_arg3) (ix1 (y 1)) := by
  have hi := (by decide +kernel : ∀ t : Fin grid0.N, win0_8.index t 0 = 0 ∧ win0_8.index t 1 = 0) t
  have e : V m c main_v1 = (broadcastInDim S1x256 ![1] bcast_S256_S1x256_1 (m ((c : Thread nD τ).loc main_arg3)) : Vec Ideal S1x256 .f32) := by
    show StableHlo.after hostOps0 (fun b => m (c, b)) (Proc.devRef .tc main_v1) = _
    after_results_simp <;> rfl
  unfold iblk
  rw [View.read_apply]
  show V m c main_v1 _ = _
  rw [e]
  have hx : ((cfg0.win 8).blk t).view.emb y = (y : S1x256.Idx) := by
    funext a
    apply Fin.ext
    match a with
    | ⟨0, _⟩ => show win0_8.index t 0 * 1 + 1 * (y 0).val = (y 0).val; rw [hi.1]; omega
    | ⟨1, _⟩ => show win0_8.index t 1 * 256 + 1 * (y 1).val = (y 1).val; rw [hi.2]; omega
  exact (congrArg _ hx).trans (rows _ _)

/-- What a grid point reads of the shift: its row. -/
theorem blk9 (c : Dev nD) (t : Fin cfg0.N) (y : S1x256.Idx) :
    iblk m c 9 t y = m ((c : Thread nD τ).loc main_arg4) (ix1 (y 1)) := by
  have hi := (by decide +kernel : ∀ t : Fin grid0.N, win0_9.index t 0 = 0 ∧ win0_9.index t 1 = 0) t
  have e : V m c main_v2 = (broadcastInDim S1x256 ![1] bcast_S256_S1x256_1 (m ((c : Thread nD τ).loc main_arg4)) : Vec Ideal S1x256 .f32) := by
    show StableHlo.after hostOps0 (fun b => m (c, b)) (Proc.devRef .tc main_v2) = _
    after_results_simp <;> rfl
  unfold iblk
  rw [View.read_apply]
  show V m c main_v2 _ = _
  rw [e]
  have hx : ((cfg0.win 9).blk t).view.emb y = (y : S1x256.Idx) := by
    funext a
    apply Fin.ext
    match a with
    | ⟨0, _⟩ => show win0_9.index t 0 * 1 + 1 * (y 0).val = (y 0).val; rw [hi.1]; omega
    | ⟨1, _⟩ => show win0_9.index t 1 * 256 + 1 * (y 1).val = (y 1).val; rw [hi.2]; omega
  exact (congrArg _ hx).trans (rows _ _)

/-- The gated tokens of a batch row. -/
def gated (z : Vec Ideal S2x256x512 .f32) (s : Fin 2) (p l : Fin 256) : EReal := glu (z (ix3 s p ⟨0 + l.val, by omega⟩)) (z (ix3 s p ⟨256 + l.val, by omega⟩))

/-- The array the call ends with. -/
theorem final10 (c : Dev nD) (i : S2x256x256.Idx) :
    (dats m 0 c).arrAt 10 cfg0.N i = row (gated (m ((c : Thread nD τ).loc main_arg0)) (i 0)) (fun j l => (m ((c : Thread nD τ).loc main_arg1) : Vec Ideal S31x256 .f32) (ix2 j l))
      (fun l => (m ((c : Thread nD τ).loc main_arg2) : Vec Ideal S256 .f32) (ix1 l)) (fun l => (m ((c : Thread nD τ).loc main_arg3) : Vec Ideal S256 .f32) (ix1 l)) (fun l => (m ((c : Thread nD τ).loc main_arg4) : Vec Ideal S256 .f32) (ix1 l)) (i 1).val (i 2) := by
  have h0 : (i 0).val < 2 := (i 0).isLt
  have h1 : (i 1).val < 256 := (i 1).isLt
  have h2 : (i 2).val < 256 := (i 2).isLt
  have hN : cfg0.N = 2 := N_0
  obtain ⟨t, ht⟩ : ∃ t : Fin cfg0.N, t.val = (i 0).val := ⟨⟨_, lt_of_lt_of_eq h0 hN.symm⟩, rfl⟩
  obtain ⟨y, hy⟩ : ∃ y : S1x256x256.Idx, y = ix3 0 (i 1) (i 2) := ⟨_, rfl⟩
  have hi := (by decide +kernel : ∀ t : Fin grid0.N, win0_10.index t 0 = t.val ∧ win0_10.index t 1 = 0 ∧ win0_10.index t 2 = 0) t
  have hfl := (by decide +kernel : ∀ t : Fin grid0.N, (cfg0.win 10).flush t = true) t
  have he : ((cfg0.win 10).blk t).view.emb y = i := by
    subst hy
    funext a
    apply Fin.ext
    match a with
    | ⟨0, _⟩ => show win0_10.index t 0 * 1 + 1 * 0 = (i 0).val; rw [hi.1]; omega
    | ⟨1, _⟩ => show win0_10.index t 1 * 256 + 1 * (i 1).val = (i 1).val; rw [hi.2.1]; omega
    | ⟨2, _⟩ => show win0_10.index t 2 * 256 + 1 * (i 2).val = (i 2).val; rw [hi.2.2]; omega
  have hb := congrFun (Value.blocks10 m c t hfl) y
  rw [View.read_apply, Value.flushed10_A] at hb
  have hr : row2 t = i 0 := Fin.ext ht
  have e : (dats m 0 c).arrAt 10 cfg0.N i = (dats m 0 c).arrAt 10 cfg0.N (((cfg0.win 10).blk t).view.emb y) := congrArg _ he.symm
  refine e.trans (hb.trans ?_)
  subst hy
  refine (out_10 _ _ _ _ _ _ _ _ _ _ _ _ _ _ _ _ _ _ _ _ _ _ _ _ _ _ _ _ _ _ _ _ _ _ _ _ _).trans ?_
  unfold blk toks gated
  simp only [blk0, blk1, blk6, blk7, blk8, blk9, hr]
  rfl

end Cert.Proof.Conv
-- ==== Proof.LatRow.lean ====
/-
  The latent tokens' gated MLP and convolution: their values as functions of the whole arrays, and the rows of the convolution read at an index.
-/
module

public import proofs.«01_k».proof.Kernel10Ideal
public import proofs.«01_k».proof.Proof.Gmlp
public import proofs.«01_k».proof.Proof.ConvRow

@[expose] public section

set_option maxRecDepth 16384

noncomputable section

namespace Cert.Proof.Lat

open Idealize.ShloMosaic Idealize.ShloMosaic.Tactic Idealize.SL.Sem Cert.Kernel10Ideal Idealize.ShloMosaic.TcCoe
open Cert.Proof.Conv (glu silu rowsK lnK cv tap pay1_apply lnK_apply cv_apply)
open Cert.Proof.Gmlp (gl)

/-- The gated MLP of batch row `s`, token `p`, lane `l`, from the whole arrays. -/
def val (z : Vec Ideal S2x8192x512 .f32) (g b : Vec Ideal S256 .f32) (w : Vec Ideal S4x128x128 .f32) (bs : Vec Ideal S4x128 .f32) (s : Fin 2) (p : Fin 8192) (l : Fin 256) : EReal :=
  gl (z (ix3 s p ⟨0 + l.val, by omega⟩))
    * (∑ q : Fin 128, w (ix3 ⟨l.val / 64, by omega⟩ ⟨p.val % 128, by omega⟩ q) * Gmlp.ln (fun n => gl (z (ix3 s ⟨p.val / 128 * 128 + q.val, by omega⟩ ⟨256 + n.val, by omega⟩))) (g (ix1 l)) (b (ix1 l)) l
      + bs (ix2 ⟨l.val / 64, by omega⟩ ⟨p.val % 128, by omega⟩))

/-- The gated tokens of a batch row, with sixteen rows of zeros before and after them. -/
def padded (z : Vec Ideal S2x8192x512 .f32) (s : Fin 2) (k : ℕ) (l : Fin 256) : EReal :=
  if h : 16 ≤ k ∧ k < 8208 then glu (z (ix3 s ⟨k - 16, by omega⟩ ⟨0 + l.val, by omega⟩)) (z (ix3 s ⟨k - 16, by omega⟩ ⟨256 + l.val, by omega⟩)) else 0

/-- The convolved row at row `p` of the padded tokens. -/
def conv (u : ℕ → Fin 256 → EReal) (w : Fin 31 → Fin 256 → EReal) (cb : Fin 256 → EReal) (p : ℕ) (l : Fin 256) : EReal :=
  ∑ j : Fin 31, u (p + (j.val + 1)) l * w j l + cb l

/-- The result at row `p` of the padded tokens, lane `l`. -/
def row (u : ℕ → Fin 256 → EReal) (w : Fin 31 → Fin 256 → EReal) (cb g s : Fin 256 → EReal) (p : ℕ) (l : Fin 256) : EReal :=
  silu (Conv.ln (conv u w cb p) (g l) (s l) l)

/-- A row of the result depends on the rows under its taps alone. -/
theorem row_congr {u u' : ℕ → Fin 256 → EReal} {p p' : ℕ} (w : Fin 31 → Fin 256 → EReal) (cb g s : Fin 256 → EReal) (l : Fin 256)
    (h : ∀ (j : Fin 31) (q : Fin 256), u (p + (j.val + 1)) q = u' (p' + (j.val + 1)) q) : row u w cb g s p l = row u' w cb g s p' l := by
  unfold row conv
  simp only [h]

/-- A block of 128 rows at an index, from the block of gated tokens that starts at row `r`. -/
theorem rowsK_apply (u : ℕ → Fin 256 → EReal) (r : ℕ) (b : FVec Ideal S160x256 .f32) (hb : ∀ (q : Fin 160) (l : Fin 256), b (ix2 q l) = u (r + q.val) l)
    (w : Fin 31 → Vec Ideal S1x256 .f32) (cb g s : Vec Ideal S1x256 .f32) (p : Fin 128) (l : Fin 256) :
    rowsK b w cb g s (ix3 0 p l) = row u (fun j l => w j (ix2 0 l)) (fun l => cb (ix2 0 l)) (fun l => g (ix2 0 l)) (fun l => s (ix2 0 l)) (r + p.val) l := by
  unfold rowsK row
  refine (pay1_apply _ p l).trans (congrArg silu ((lnK_apply _ g s p l).trans ?_))
  refine congrArg (fun v : Fin 256 → EReal => Conv.ln v _ _ l) (funext fun q => (cv_apply b w cb p q).trans ?_)
  unfold conv
  refine congrArg (· + _) (Finset.sum_congr rfl fun j _ => ?_)
  unfold tap
  refine congrArg (· * _) ((hb _ _).trans ?_)
  show u (r + (p.val + (j.val + 1))) q = _
  rw [Nat.add_assoc]

end Cert.Proof.Lat
-- ==== Proof.LatOutA.lean ====
/-
  The latent tokens' gated MLP: what its body leaves at each grid point.
-/
module

public import proofs.«01_k».proof.Proof.Gen.Kernel10Ideal.Value
public import proofs.«01_k».proof.Proof.LatRow

@[expose] public section

set_option maxRecDepth 16384

noncomputable section

namespace Cert.Proof.Lat

open Idealize.ShloMosaic Idealize.ShloMosaic.Tactic Idealize.SL.Sem Cert.Kernel10Ideal Cert.Kernel10Ideal.Gen Idealize.ShloMosaic.TcCoe
open Cert.Proof.Gmlp (gl ln mean chunk chunk_apply mix_sum)

/-- The normalised half of a block. -/
def nrm (z : Vec Ideal S1x1024x512 .f32) (g b : Vec Ideal S1x256 .f32) : FVec Ideal S1024x256 .f32 := k0_pay6 (k0_pay4 z g) (k0_pay5 b)

/-- A load of a whole z from its staging buffer. -/
theorem load_z {d : EltTy} (a : Memref sig .tc .vmem S1x1024x512 d) (ha : a.IsWhole) (x : Vec Ideal S1x1024x512 d) (h) :
    View.readAt (Elt Ideal) a.view (Rect.unit (s := S1x1024x512) ![0, 0, 0] S1x1024x512.size h).toLoadRect (ha.unread x) = x := by
  rw [View.readAt_eq_ld, ha.read_unread]
  funext y
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A load of a whole gain from its staging buffer. -/
theorem load_gain {d : EltTy} (a : Memref sig .tc .vmem S1x256 d) (ha : a.IsWhole) (x : Vec Ideal S1x256 d) (h) :
    View.readAt (Elt Ideal) a.view (Rect.unit (s := S1x256) ![0, 0] S1x256.size h).toLoadRect (ha.unread x) = x := by
  rw [View.readAt_eq_ld, ha.read_unread]
  funext y
  refine congrArg x (funext fun a => Fin.ext ?_)
  match a with
  | ⟨0, _⟩ => show 0 + 1 * (y 0).val = (y 0).val; omega
  | ⟨1, _⟩ => show 0 + 1 * (y 1).val = (y 1).val; omega

/-- A load of a whole mix from its staging buffer. -/
theorem load_mix {d : EltTy} (a : Memref sig .tc .vmem S128x512 d) (ha : a.IsWhole) (x : Vec Ideal S128x512 d) (h) :
    View.readAt (Elt Ideal) a.view (Rect.unit (s := S128x512) ![0, 0] S128x512.size h).toLoadRect (ha.unread x) = x := by
  rw [View.readAt_eq_ld, ha.read_unread]
  funext y
  refine congrArg x (funext fun a => Fin.ext ?_)
  match a with
  | ⟨0, _⟩ => show 0 + 1 * (y 0).val = (y 0).val; omega
  | ⟨1, _⟩ => show 0 + 1 * (y 1).val = (y 1).val; omega

/-- A load of a whole bias from its staging buffer. -/
theorem load_bias {d : EltTy} (a : Memref sig .tc .vmem S128x256 d) (ha : a.IsWhole) (x : Vec Ideal S128x256 d) (h) :
    View.readAt (Elt Ideal) a.view (Rect.unit (s := S128x256) ![0, 0] S128x256.size h).toLoadRect (ha.unread x) = x := by
  rw [View.readAt_eq_ld, ha.read_unread]
  funext y
  refine congrArg x (funext fun a => Fin.ext ?_)
  match a with
  | ⟨0, _⟩ => show 0 + 1 * (y 0).val = (y 0).val; omega
  | ⟨1, _⟩ => show 0 + 1 * (y 1).val = (y 1).val; omega

/-- The block after the Gaussian unit. -/
theorem pay2_apply (z : Vec Ideal S1x1024x512 .f32) (i : S1024x512.Idx) : k0_pay2 z i = gl (z (ix3 0 (i 0) (i 1))) := by
  pointwise [k0_pay2, gl]
  simp only [mul_assoc]

/-- The gating half of the block. -/
theorem pay3_apply (z : Vec Ideal S1x1024x512 .f32) (i : S1024x256.Idx) : k0_pay3 z i = gl (z (ix3 0 (i 0) ⟨0 + (i 1).val, by have : (i 1).val < 256 := (i 1).isLt; omega⟩)) := by
  have e : k0_pay3 z i = k0_pay2 z (ix2 (i 0) ⟨0 + (i 1).val, by have : (i 1).val < 256 := (i 1).isLt; omega⟩) := by
    pointwise [k0_pay3]
  exact e.trans (pay2_apply z _)

/-- The normalised half of the block, at an index. -/
theorem nrm_apply (z : Vec Ideal S1x1024x512 .f32) (g b : Vec Ideal S1x256 .f32) (i : S1024x256.Idx) :
    nrm z g b i = ln (fun q => gl (z (ix3 0 (i 0) ⟨256 + q.val, by omega⟩))) (g (ix2 0 (i 1))) (b (ix2 0 (i 1))) (i 1) := by
  have e : nrm z g b i = ln (fun q => k0_pay2 z (ix2 (i 0) ⟨256 + q.val, by omega⟩)) (g (ix2 0 (i 1))) (b (ix2 0 (i 1))) (i 1) := by
    pointwise [nrm, k0_pay6, k0_pay4, k0_pay5, ln, mean]
  refine e.trans (congrArg (fun v : Fin 256 → EReal => ln v _ _ _) (funext fun q => ?_))
  exact pay2_apply z _

/-- The block's value at row `r` of the chunk that starts at row `o`, lane `l`. -/
def blkA (x0 : Vec Ideal S1x1024x512 .f32) (x1 x2 : Vec Ideal S1x256 .f32) (x3 : Vec Ideal S128x512 .bf16) (x4 : Vec Ideal S128x256 .f32) (o : ℕ) (ho : o + 128 ≤ 1024) (r : Fin 128) (l : Fin 256) : EReal :=
  gl (x0 (ix3 0 ⟨o + r.val, by omega⟩ ⟨0 + l.val, by omega⟩))
    * (∑ q : Fin 128, x3 (ix2 r ⟨l.val / 64 * 128 + q.val, by omega⟩) * ln (fun n => gl (x0 (ix3 0 ⟨o + q.val, by omega⟩ ⟨256 + n.val, by omega⟩))) (x1 (ix2 0 l)) (x2 (ix2 0 l)) l + x4 (ix2 r l))

/-- The chunk that starts at row `o`, as the body computes it. -/
def chunkA (x0 : Vec Ideal S1x1024x512 .f32) (x1 x2 : Vec Ideal S1x256 .f32) (x3 : Vec Ideal S128x512 .bf16) (x4 : Vec Ideal S128x256 .f32) (o : ℕ) (h : S1024x256.Slices ![o, 0] S128x256) : FVec Ideal S1x128x256 .bf16 :=
  chunk (extractStridedSlice S128x256 ![o, 0] (k0_pay3 x0) h) (extractStridedSlice S128x256 ![o, 0] (nrm x0 x1 x2) h)
    (shapeCast S128x512 x3 shapeCasts_S128x512_S128x512) (shapeCast S128x256 x4 shapeCasts_S128x256_S128x256)

/-- The chunk at an index. -/
theorem chunkA_apply (x0 : Vec Ideal S1x1024x512 .f32) (x1 x2 : Vec Ideal S1x256 .f32) (x3 : Vec Ideal S128x512 .bf16) (x4 : Vec Ideal S128x256 .f32) (o : ℕ) (ho : o + 128 ≤ 1024) (h) (x : S1x128x256.Idx) :
    chunkA x0 x1 x2 x3 x4 o h x = blkA x0 x1 x2 x3 x4 o ho (x 1) (x 2) := by
  unfold chunkA
  refine (chunk_apply _ _ _ _ _).trans ?_
  unfold blkA
  refine congrArg₂ (· * ·) ?_ (congrArg₂ (· + ·) ?_ (by pointwise))
  · refine Eq.trans ?_ (pay3_apply x0 (ix2 ⟨o + (x 1).val, by have : (x 1).val < 128 := (x 1).isLt; omega⟩ (x 2)))
    pointwise
  · refine (mix_sum _ _ (x 2)).trans (Finset.sum_congr rfl fun q _ => congrArg₂ (· * ·) (by pointwise) ?_)
    refine Eq.trans ?_ (nrm_apply x0 x1 x2 (ix2 ⟨o + q.val, by omega⟩ (x 2)))
    pointwise

section body

variable (c : Dev nD) (i : grid0.Coords) (arg2 : Memref sig .tc .vmem S1x1024x512 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S128x512 .bf16) (harg5 : arg5.IsWhole) (arg6 : Memref sig .tc .vmem S128x256 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1x16x256 .f32) (harg9 : arg9.IsWhole) (arg10 : Memref sig .tc .vmem S1x16x256 .f32) (harg10 : arg10.IsWhole) (arg11 : Memref sig .tc .vmem S1x16x256 .f32) (harg11 : arg11.IsWhole) (arg12 : Memref sig .tc .vmem S1x16x256 .f32) (harg12 : arg12.IsWhole) (arg13 : Memref sig .tc .vmem S31x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1056x256 .f32) (harg19 : arg19.IsWhole)
    (x0 : Vec Ideal S1x1024x512 .f32) (x1 : Vec Ideal S1x256 .f32) (x2 : Vec Ideal S1x256 .f32) (x3 : Vec Ideal S128x512 .bf16) (x4 : Vec Ideal S128x256 .f32) (x5 : Vec Ideal S1x1024x256 .f32) (x6 : Vec Ideal S1x1024x256 .f32) (x7 : Vec Ideal S1x16x256 .f32) (x8 : Vec Ideal S1x16x256 .f32) (x9 : Vec Ideal S1x16x256 .f32) (x10 : Vec Ideal S1x16x256 .f32) (x11 : Vec Ideal S31x256 .f32) (x12 : Vec Ideal S1x256 .f32) (x13 : Vec Ideal S1x256 .f32) (x14 : Vec Ideal S1x256 .f32)

/-- What a grid point leaves in its block of the gated MLP. -/
theorem out_15 (y : S1x1024x256.Idx) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y
    = blkA x0 x1 x2 x3 x4 ((y 1).val / 128 * 128) (by have : (y 1).val < 1024 := (y 1).isLt; omega) ⟨(y 1).val % 128, by omega⟩ (y 2) := by
  have hy : ∀ y : S1x1024x256.Idx, (y 1).val / 128 * 128 + 128 ≤ 1024 := fun y => by have : (y 1).val < 1024 := (y 1).isLt; omega
  have key : ∀ (o o' : ℕ) (ho : o + 128 ≤ 1024) (ho' : o' + 128 ≤ 1024) (r r' : Fin 128) (l l' : Fin 256), o = o' → r = r' → l = l' → blkA x0 x1 x2 x3 x4 o ho r l = blkA x0 x1 x2 x3 x4 o' ho' r' l' := by
    intro o o' ho ho' r r' l l' h1 h2 h3
    subst h1 h2 h3
    rfl
  unfold out0_A_15
  refine View.read_writes_apply_of_pieces (Val := Elt Ideal) _ _ (fun y : S1x1024x256.Idx => blkA x0 x1 x2 x3 x4 ((y 1).val / 128 * 128) (hy y) ⟨(y 1).val % 128, by omega⟩ (y 2)) _ ?_ y (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y)
  unfold kernelRun0_A
  dsimp only
  intro p hp
  simp only [List.mem_cons, List.not_mem_nil, or_false] at hp
  rcases hp with rfl | rfl | rfl | rfl | rfl | rfl | rfl | rfl
  · intro (x : S1x128x256.Idx)
    have hx : (x 1).val < 128 := (x 1).isLt
    refine Eq.trans (congrFun (?_ : _ = chunkA x0 x1 x2 x3 x4 896 slices_S1024x256_o896_0_S128x256) x) ((chunkA_apply x0 x1 x2 x3 x4 896 (by omega) _ x).trans ?_)
    · refine Eq.trans (?_ : _ = chunkA (View.readAt (Elt Ideal) arg2.view (Rect.unit (s := S1x1024x512) ![0, 0, 0] S1x1024x512.size inb_S1x1024x512_S1x1024x512_0_0_0).toLoadRect (harg2.unread x0))
          (View.readAt (Elt Ideal) arg3.view (Rect.unit (s := S1x256) ![0, 0] S1x256.size inb_S1x256_S1x256_0_0).toLoadRect (harg3.unread x1))
          (View.readAt (Elt Ideal) arg4.view (Rect.unit (s := S1x256) ![0, 0] S1x256.size inb_S1x256_S1x256_0_0).toLoadRect (harg4.unread x2))
          (View.readAt (Elt Ideal) arg5.view (Rect.unit (s := S128x512) ![0, 0] S128x512.size inb_S128x512_S128x512_0_0).toLoadRect (harg5.unread x3))
          (View.readAt (Elt Ideal) arg6.view (Rect.unit (s := S128x256) ![0, 0] S128x256.size inb_S128x256_S128x256_0_0).toLoadRect (harg6.unread x4)) 896 slices_S1024x256_o896_0_S128x256)
        (by rw [load_z arg2 harg2, load_gain arg3 harg3, load_gain arg4 harg4, load_mix arg5 harg5, load_bias arg6 harg6])
      unfold chunkA
      sl_unfold_words
      rfl
    · exact key _ _ _ _ _ _ _ _ (by show 896 = (896 + 1 * (x 1).val) / 128 * 128; omega) (Fin.ext (by show (x 1).val = (896 + 1 * (x 1).val) % 128; omega)) (Fin.ext (by show (x 2).val = 0 + 1 * (x 2).val; omega))
  · intro (x : S1x128x256.Idx)
    have hx : (x 1).val < 128 := (x 1).isLt
    refine Eq.trans (congrFun (?_ : _ = chunkA x0 x1 x2 x3 x4 768 slices_S1024x256_o768_0_S128x256) x) ((chunkA_apply x0 x1 x2 x3 x4 768 (by omega) _ x).trans ?_)
    · refine Eq.trans (?_ : _ = chunkA (View.readAt (Elt Ideal) arg2.view (Rect.unit (s := S1x1024x512) ![0, 0, 0] S1x1024x512.size inb_S1x1024x512_S1x1024x512_0_0_0).toLoadRect (harg2.unread x0))
          (View.readAt (Elt Ideal) arg3.view (Rect.unit (s := S1x256) ![0, 0] S1x256.size inb_S1x256_S1x256_0_0).toLoadRect (harg3.unread x1))
          (View.readAt (Elt Ideal) arg4.view (Rect.unit (s := S1x256) ![0, 0] S1x256.size inb_S1x256_S1x256_0_0).toLoadRect (harg4.unread x2))
          (View.readAt (Elt Ideal) arg5.view (Rect.unit (s := S128x512) ![0, 0] S128x512.size inb_S128x512_S128x512_0_0).toLoadRect (harg5.unread x3))
          (View.readAt (Elt Ideal) arg6.view (Rect.unit (s := S128x256) ![0, 0] S128x256.size inb_S128x256_S128x256_0_0).toLoadRect (harg6.unread x4)) 768 slices_S1024x256_o768_0_S128x256)
        (by rw [load_z arg2 harg2, load_gain arg3 harg3, load_gain arg4 harg4, load_mix arg5 harg5, load_bias arg6 harg6])
      unfold chunkA
      sl_unfold_words
      rfl
    · exact key _ _ _ _ _ _ _ _ (by show 768 = (768 + 1 * (x 1).val) / 128 * 128; omega) (Fin.ext (by show (x 1).val = (768 + 1 * (x 1).val) % 128; omega)) (Fin.ext (by show (x 2).val = 0 + 1 * (x 2).val; omega))
  · intro (x : S1x128x256.Idx)
    have hx : (x 1).val < 128 := (x 1).isLt
    refine Eq.trans (congrFun (?_ : _ = chunkA x0 x1 x2 x3 x4 640 slices_S1024x256_o640_0_S128x256) x) ((chunkA_apply x0 x1 x2 x3 x4 640 (by omega) _ x).trans ?_)
    · refine Eq.trans (?_ : _ = chunkA (View.readAt (Elt Ideal) arg2.view (Rect.unit (s := S1x1024x512) ![0, 0, 0] S1x1024x512.size inb_S1x1024x512_S1x1024x512_0_0_0).toLoadRect (harg2.unread x0))
          (View.readAt (Elt Ideal) arg3.view (Rect.unit (s := S1x256) ![0, 0] S1x256.size inb_S1x256_S1x256_0_0).toLoadRect (harg3.unread x1))
          (View.readAt (Elt Ideal) arg4.view (Rect.unit (s := S1x256) ![0, 0] S1x256.size inb_S1x256_S1x256_0_0).toLoadRect (harg4.unread x2))
          (View.readAt (Elt Ideal) arg5.view (Rect.unit (s := S128x512) ![0, 0] S128x512.size inb_S128x512_S128x512_0_0).toLoadRect (harg5.unread x3))
          (View.readAt (Elt Ideal) arg6.view (Rect.unit (s := S128x256) ![0, 0] S128x256.size inb_S128x256_S128x256_0_0).toLoadRect (harg6.unread x4)) 640 slices_S1024x256_o640_0_S128x256)
        (by rw [load_z arg2 harg2, load_gain arg3 harg3, load_gain arg4 harg4, load_mix arg5 harg5, load_bias arg6 harg6])
      unfold chunkA
      sl_unfold_words
      rfl
    · exact key _ _ _ _ _ _ _ _ (by show 640 = (640 + 1 * (x 1).val) / 128 * 128; omega) (Fin.ext (by show (x 1).val = (640 + 1 * (x 1).val) % 128; omega)) (Fin.ext (by show (x 2).val = 0 + 1 * (x 2).val; omega))
  · intro (x : S1x128x256.Idx)
    have hx : (x 1).val < 128 := (x 1).isLt
    refine Eq.trans (congrFun (?_ : _ = chunkA x0 x1 x2 x3 x4 512 slices_S1024x256_o512_0_S128x256) x) ((chunkA_apply x0 x1 x2 x3 x4 512 (by omega) _ x).trans ?_)
    · refine Eq.trans (?_ : _ = chunkA (View.readAt (Elt Ideal) arg2.view (Rect.unit (s := S1x1024x512) ![0, 0, 0] S1x1024x512.size inb_S1x1024x512_S1x1024x512_0_0_0).toLoadRect (harg2.unread x0))
          (View.readAt (Elt Ideal) arg3.view (Rect.unit (s := S1x256) ![0, 0] S1x256.size inb_S1x256_S1x256_0_0).toLoadRect (harg3.unread x1))
          (View.readAt (Elt Ideal) arg4.view (Rect.unit (s := S1x256) ![0, 0] S1x256.size inb_S1x256_S1x256_0_0).toLoadRect (harg4.unread x2))
          (View.readAt (Elt Ideal) arg5.view (Rect.unit (s := S128x512) ![0, 0] S128x512.size inb_S128x512_S128x512_0_0).toLoadRect (harg5.unread x3))
          (View.readAt (Elt Ideal) arg6.view (Rect.unit (s := S128x256) ![0, 0] S128x256.size inb_S128x256_S128x256_0_0).toLoadRect (harg6.unread x4)) 512 slices_S1024x256_o512_0_S128x256)
        (by rw [load_z arg2 harg2, load_gain arg3 harg3, load_gain arg4 harg4, load_mix arg5 harg5, load_bias arg6 harg6])
      unfold chunkA
      sl_unfold_words
      rfl
    · exact key _ _ _ _ _ _ _ _ (by show 512 = (512 + 1 * (x 1).val) / 128 * 128; omega) (Fin.ext (by show (x 1).val = (512 + 1 * (x 1).val) % 128; omega)) (Fin.ext (by show (x 2).val = 0 + 1 * (x 2).val; omega))
  · intro (x : S1x128x256.Idx)
    have hx : (x 1).val < 128 := (x 1).isLt
    refine Eq.trans (congrFun (?_ : _ = chunkA x0 x1 x2 x3 x4 384 slices_S1024x256_o384_0_S128x256) x) ((chunkA_apply x0 x1 x2 x3 x4 384 (by omega) _ x).trans ?_)
    · refine Eq.trans (?_ : _ = chunkA (View.readAt (Elt Ideal) arg2.view (Rect.unit (s := S1x1024x512) ![0, 0, 0] S1x1024x512.size inb_S1x1024x512_S1x1024x512_0_0_0).toLoadRect (harg2.unread x0))
          (View.readAt (Elt Ideal) arg3.view (Rect.unit (s := S1x256) ![0, 0] S1x256.size inb_S1x256_S1x256_0_0).toLoadRect (harg3.unread x1))
          (View.readAt (Elt Ideal) arg4.view (Rect.unit (s := S1x256) ![0, 0] S1x256.size inb_S1x256_S1x256_0_0).toLoadRect (harg4.unread x2))
          (View.readAt (Elt Ideal) arg5.view (Rect.unit (s := S128x512) ![0, 0] S128x512.size inb_S128x512_S128x512_0_0).toLoadRect (harg5.unread x3))
          (View.readAt (Elt Ideal) arg6.view (Rect.unit (s := S128x256) ![0, 0] S128x256.size inb_S128x256_S128x256_0_0).toLoadRect (harg6.unread x4)) 384 slices_S1024x256_o384_0_S128x256)
        (by rw [load_z arg2 harg2, load_gain arg3 harg3, load_gain arg4 harg4, load_mix arg5 harg5, load_bias arg6 harg6])
      unfold chunkA
      sl_unfold_words
      rfl
    · exact key _ _ _ _ _ _ _ _ (by show 384 = (384 + 1 * (x 1).val) / 128 * 128; omega) (Fin.ext (by show (x 1).val = (384 + 1 * (x 1).val) % 128; omega)) (Fin.ext (by show (x 2).val = 0 + 1 * (x 2).val; omega))
  · intro (x : S1x128x256.Idx)
    have hx : (x 1).val < 128 := (x 1).isLt
    refine Eq.trans (congrFun (?_ : _ = chunkA x0 x1 x2 x3 x4 256 slices_S1024x256_o256_0_S128x256) x) ((chunkA_apply x0 x1 x2 x3 x4 256 (by omega) _ x).trans ?_)
    · refine Eq.trans (?_ : _ = chunkA (View.readAt (Elt Ideal) arg2.view (Rect.unit (s := S1x1024x512) ![0, 0, 0] S1x1024x512.size inb_S1x1024x512_S1x1024x512_0_0_0).toLoadRect (harg2.unread x0))
          (View.readAt (Elt Ideal) arg3.view (Rect.unit (s := S1x256) ![0, 0] S1x256.size inb_S1x256_S1x256_0_0).toLoadRect (harg3.unread x1))
          (View.readAt (Elt Ideal) arg4.view (Rect.unit (s := S1x256) ![0, 0] S1x256.size inb_S1x256_S1x256_0_0).toLoadRect (harg4.unread x2))
          (View.readAt (Elt Ideal) arg5.view (Rect.unit (s := S128x512) ![0, 0] S128x512.size inb_S128x512_S128x512_0_0).toLoadRect (harg5.unread x3))
          (View.readAt (Elt Ideal) arg6.view (Rect.unit (s := S128x256) ![0, 0] S128x256.size inb_S128x256_S128x256_0_0).toLoadRect (harg6.unread x4)) 256 slices_S1024x256_o256_0_S128x256)
        (by rw [load_z arg2 harg2, load_gain arg3 harg3, load_gain arg4 harg4, load_mix arg5 harg5, load_bias arg6 harg6])
      unfold chunkA
      sl_unfold_words
      rfl
    · exact key _ _ _ _ _ _ _ _ (by show 256 = (256 + 1 * (x 1).val) / 128 * 128; omega) (Fin.ext (by show (x 1).val = (256 + 1 * (x 1).val) % 128; omega)) (Fin.ext (by show (x 2).val = 0 + 1 * (x 2).val; omega))
  · intro (x : S1x128x256.Idx)
    have hx : (x 1).val < 128 := (x 1).isLt
    refine Eq.trans (congrFun (?_ : _ = chunkA x0 x1 x2 x3 x4 128 slices_S1024x256_o128_0_S128x256) x) ((chunkA_apply x0 x1 x2 x3 x4 128 (by omega) _ x).trans ?_)
    · refine Eq.trans (?_ : _ = chunkA (View.readAt (Elt Ideal) arg2.view (Rect.unit (s := S1x1024x512) ![0, 0, 0] S1x1024x512.size inb_S1x1024x512_S1x1024x512_0_0_0).toLoadRect (harg2.unread x0))
          (View.readAt (Elt Ideal) arg3.view (Rect.unit (s := S1x256) ![0, 0] S1x256.size inb_S1x256_S1x256_0_0).toLoadRect (harg3.unread x1))
          (View.readAt (Elt Ideal) arg4.view (Rect.unit (s := S1x256) ![0, 0] S1x256.size inb_S1x256_S1x256_0_0).toLoadRect (harg4.unread x2))
          (View.readAt (Elt Ideal) arg5.view (Rect.unit (s := S128x512) ![0, 0] S128x512.size inb_S128x512_S128x512_0_0).toLoadRect (harg5.unread x3))
          (View.readAt (Elt Ideal) arg6.view (Rect.unit (s := S128x256) ![0, 0] S128x256.size inb_S128x256_S128x256_0_0).toLoadRect (harg6.unread x4)) 128 slices_S1024x256_o128_0_S128x256)
        (by rw [load_z arg2 harg2, load_gain arg3 harg3, load_gain arg4 harg4, load_mix arg5 harg5, load_bias arg6 harg6])
      unfold chunkA
      sl_unfold_words
      rfl
    · exact key _ _ _ _ _ _ _ _ (by show 128 = (128 + 1 * (x 1).val) / 128 * 128; omega) (Fin.ext (by show (x 1).val = (128 + 1 * (x 1).val) % 128; omega)) (Fin.ext (by show (x 2).val = 0 + 1 * (x 2).val; omega))
  · intro (x : S1x128x256.Idx)
    have hx : (x 1).val < 128 := (x 1).isLt
    refine Eq.trans (congrFun (?_ : _ = chunkA x0 x1 x2 x3 x4 0 slices_S1024x256_o0_0_S128x256) x) ((chunkA_apply x0 x1 x2 x3 x4 0 (by omega) _ x).trans ?_)
    · refine Eq.trans (?_ : _ = chunkA (View.readAt (Elt Ideal) arg2.view (Rect.unit (s := S1x1024x512) ![0, 0, 0] S1x1024x512.size inb_S1x1024x512_S1x1024x512_0_0_0).toLoadRect (harg2.unread x0))
          (View.readAt (Elt Ideal) arg3.view (Rect.unit (s := S1x256) ![0, 0] S1x256.size inb_S1x256_S1x256_0_0).toLoadRect (harg3.unread x1))
          (View.readAt (Elt Ideal) arg4.view (Rect.unit (s := S1x256) ![0, 0] S1x256.size inb_S1x256_S1x256_0_0).toLoadRect (harg4.unread x2))
          (View.readAt (Elt Ideal) arg5.view (Rect.unit (s := S128x512) ![0, 0] S128x512.size inb_S128x512_S128x512_0_0).toLoadRect (harg5.unread x3))
          (View.readAt (Elt Ideal) arg6.view (Rect.unit (s := S128x256) ![0, 0] S128x256.size inb_S128x256_S128x256_0_0).toLoadRect (harg6.unread x4)) 0 slices_S1024x256_o0_0_S128x256)
        (by rw [load_z arg2 harg2, load_gain arg3 harg3, load_gain arg4 harg4, load_mix arg5 harg5, load_bias arg6 harg6])
      unfold chunkA
      sl_unfold_words
      rfl
    · exact key _ _ _ _ _ _ _ _ (by show 0 = (0 + 1 * (x 1).val) / 128 * 128; omega) (Fin.ext (by show (x 1).val = (0 + 1 * (x 1).val) % 128; omega)) (Fin.ext (by show (x 2).val = 0 + 1 * (x 2).val; omega))

end body

end Cert.Proof.Lat
-- ==== Proof.LatOutC.lean ====
/-
  The latent tokens' convolution: what its body leaves at each grid point.
-/
module

public import proofs.«01_k».proof.Proof.Gen.Kernel10Ideal.Value
public import proofs.«01_k».proof.Proof.LatRow
public import proofs.«01_k».proof.Proof.ConvOut

@[expose] public section

set_option maxRecDepth 16384

noncomputable section

namespace Cert.Proof.Lat

open Idealize.ShloMosaic Idealize.ShloMosaic.Tactic Idealize.SL.Sem Cert.Kernel10Ideal Cert.Kernel10Ideal.Gen Idealize.ShloMosaic.TcCoe
open Cert.Proof.Conv (glu ex_cons rowsK)
open Cert.Proof.Scalar (half)

/-- A choice made by a set bit. -/
theorem sel1 {α : Type} (x y : α) : Scalar.select 1#1 x y = x := rfl

/-- A choice made by a clear bit. -/
theorem sel0 {α : Type} (x y : α) : Scalar.select 0#1 x y = y := rfl

/-- The first block has no tokens before it. -/
theorem pay37_apply (n : ℕ) (hn : n < 8) (a g : Vec Ideal S1x16x256 .f32) (y : S16x256.Idx) :
    k0_pay37 (BitVec.ofNat 32 n) a g y = if 0 < n then glu (a (ix3 0 (y 0) (y 1))) (g (ix3 0 (y 0) (y 1))) else 0 := by
  have hc : Scalar.cmpi .sgt (BitVec.ofNat 32 n) 0#32 = if 0 < n then 1#1 else 0#1 := by interval_cases n <;> rfl
  unfold k0_pay37
  rw [hc]
  by_cases h : 0 < n
  · rw [if_pos h, if_pos h, sel1]
    pointwise [glu, half]
  · rw [if_neg h, if_neg h, sel0]
    pointwise

/-- The last block has no tokens after it. -/
theorem pay40_apply (n : ℕ) (hn : n < 8) (a g : Vec Ideal S1x16x256 .f32) (y : S16x256.Idx) :
    k0_pay40 (BitVec.ofNat 32 n) a g y = if n < 7 then glu (a (ix3 0 (y 0) (y 1))) (g (ix3 0 (y 0) (y 1))) else 0 := by
  have hc : Scalar.cmpi .slt (BitVec.ofNat 32 n) 7#32 = if n < 7 then 1#1 else 0#1 := by interval_cases n <;> rfl
  unfold k0_pay40
  rw [hc]
  by_cases h : n < 7
  · rw [if_pos h, if_pos h, sel1]
    pointwise [glu, half]
  · rw [if_neg h, if_neg h, sel0]
    pointwise

/-- The tokens before the block, as they are stored. -/
theorem pay38_apply (v : FVec Ideal S16x256 .f32) (y : S16x256.Idx) : k0_pay38 v y = v (ix2 (y 0) (y 1)) := by
  pointwise [k0_pay38]

/-- The tokens after the block, as they are stored. -/
theorem pay41_apply (v : FVec Ideal S16x256 .f32) (y : S16x256.Idx) : k0_pay41 v y = v (ix2 (y 0) (y 1)) := by
  pointwise [k0_pay41]

/-- The block's gated tokens. -/
theorem pay39_apply (a g : Vec Ideal S1x1024x256 .f32) (y : S1024x256.Idx) : k0_pay39 a g y = glu (a (ix3 0 (y 0) (y 1))) (g (ix3 0 (y 0) (y 1))) := by
  pointwise [k0_pay39, glu, half]

/-- A load of a whole toks from its staging buffer. -/
theorem load_toks {d : EltTy} (a : Memref sig .tc .vmem S1x1024x256 d) (ha : a.IsWhole) (x : Vec Ideal S1x1024x256 d) (h) :
    View.readAt (Elt Ideal) a.view (Rect.unit (s := S1x1024x256) ![0, 0, 0] S1x1024x256.size h).toLoadRect (ha.unread x) = x := by
  rw [View.readAt_eq_ld, ha.read_unread]
  funext y
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A load of a whole halo from its staging buffer. -/
theorem load_halo {d : EltTy} (a : Memref sig .tc .vmem S1x16x256 d) (ha : a.IsWhole) (x : Vec Ideal S1x16x256 d) (h) :
    View.readAt (Elt Ideal) a.view (Rect.unit (s := S1x16x256) ![0, 0, 0] S1x16x256.size h).toLoadRect (ha.unread x) = x := by
  rw [View.readAt_eq_ld, ha.read_unread]
  funext y
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A load of a whole row from its staging buffer. -/
theorem load_row {d : EltTy} (a : Memref sig .tc .vmem S1x256 d) (ha : a.IsWhole) (x : Vec Ideal S1x256 d) (h) :
    View.readAt (Elt Ideal) a.view (Rect.unit (s := S1x256) ![0, 0] S1x256.size h).toLoadRect (ha.unread x) = x := by
  rw [View.readAt_eq_ld, ha.read_unread]
  funext y
  refine congrArg x (funext fun a => Fin.ext ?_)
  match a with
  | ⟨0, _⟩ => show 0 + 1 * (y 0).val = (y 0).val; omega
  | ⟨1, _⟩ => show 0 + 1 * (y 1).val = (y 1).val; omega

/-- A tap's rectangle lies inside the weights. -/
theorem tapIn (j : Fin 31) : ∀ a, (![j.val, 0] : Fin S31x256.rank → ℕ) a + S1x256.size a ≤ S31x256.size a := by
  intro a
  match a with
  | ⟨0, _⟩ => show j.val + 1 ≤ 31; omega
  | ⟨1, _⟩ => show 0 + 256 ≤ 256; omega

/-- The scratch rows of block `n`: the tokens before the block, its own and those after it, gated. -/
def scr (n : ℕ) (x5 x6 : Vec Ideal S1x1024x256 .f32) (x7 x8 x9 x10 : Vec Ideal S1x16x256 .f32) (k : ℕ) (l : Fin 256) : EReal :=
  if h : k < 16 then (if 0 < n then glu (x7 (ix3 0 ⟨k, h⟩ l)) (x8 (ix3 0 ⟨k, h⟩ l)) else 0)
  else if h1 : k < 1040 then glu (x5 (ix3 0 ⟨k - 16, by omega⟩ l)) (x6 (ix3 0 ⟨k - 16, by omega⟩ l))
  else if h2 : k < 1056 then (if n < 7 then glu (x9 (ix3 0 ⟨k - 1040, by omega⟩ l)) (x10 (ix3 0 ⟨k - 1040, by omega⟩ l)) else 0)
  else 0

section body

variable (c : Dev nD) (i : grid0.Coords) (arg2 : Memref sig .tc .vmem S1x1024x512 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S128x512 .bf16) (harg5 : arg5.IsWhole) (arg6 : Memref sig .tc .vmem S128x256 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1x16x256 .f32) (harg9 : arg9.IsWhole) (arg10 : Memref sig .tc .vmem S1x16x256 .f32) (harg10 : arg10.IsWhole) (arg11 : Memref sig .tc .vmem S1x16x256 .f32) (harg11 : arg11.IsWhole) (arg12 : Memref sig .tc .vmem S1x16x256 .f32) (harg12 : arg12.IsWhole) (arg13 : Memref sig .tc .vmem S31x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1056x256 .f32) (harg19 : arg19.IsWhole)
    (x0 : Vec Ideal S1x1024x512 .f32) (x1 : Vec Ideal S1x256 .f32) (x2 : Vec Ideal S1x256 .f32) (x3 : Vec Ideal S128x512 .bf16) (x4 : Vec Ideal S128x256 .f32) (x5 : Vec Ideal S1x1024x256 .f32) (x6 : Vec Ideal S1x1024x256 .f32) (x7 : Vec Ideal S1x16x256 .f32) (x8 : Vec Ideal S1x16x256 .f32) (x9 : Vec Ideal S1x16x256 .f32) (x10 : Vec Ideal S1x16x256 .f32) (x11 : Vec Ideal S31x256 .f32) (x12 : Vec Ideal S1x256 .f32) (x13 : Vec Ideal S1x256 .f32) (x14 : Vec Ideal S1x256 .f32)

/-- The row of a tap's weights, as the body loads it. -/
def wts (j : Fin 31) : Vec Ideal S1x256 .f32 :=
  View.readAt (Elt Ideal) arg13.view (Rect.unit (s := S31x256) ![j.val, 0] S1x256.size (tapIn j)).toLoadRect (harg13.unread x11)

/-- It is the weights' row. -/
theorem wts_apply (j : Fin 31) (l : Fin 256) : wts arg13 harg13 x11 j (ix2 0 l) = x11 (ix2 j l) := by
  unfold wts
  rw [View.readAt_eq_ld, harg13.read_unread]
  refine congrArg x11 (funext fun a => Fin.ext ?_)
  match a with
  | ⟨0, _⟩ => show j.val + 1 * 0 = j.val; omega
  | ⟨1, _⟩ => show 0 + 1 * l.val = l.val; omega

/-- What the body's stores leave in the scratch rows. -/
theorem scratch_apply (y : S1056x256.Idx) :
    View.read (Elt Ideal) arg19.view (arg19.view.writes (Elt Ideal) arg19.view.junk (kernelRun0_A.sl.HS0_3 c i arg7 harg7 arg8 harg8 arg9 harg9 arg10 harg10 arg11 harg11 arg12 harg12 x5 x6 x7 x8 x9 x10)) y = scr (i 1).val x5 x6 x7 x8 x9 x10 (y 0).val (y 1) := by
  have hn : (i 1).val < 8 := (i 1).isLt
  refine View.read_writes_apply_of_pieces (Val := Elt Ideal) (e := .f32) _ _ (fun y : S1056x256.Idx => scr (i 1).val x5 x6 x7 x8 x9 x10 (y 0).val (y 1)) _ ?_ y ?_
  · unfold kernelRun0_A.sl.HS0_3
    sl_unfold_words
    intro p hp
    simp only [List.mem_cons, List.not_mem_nil, or_false] at hp
    rcases hp with rfl | rfl | rfl
    · intro (x : S16x256.Idx)
      have hx : (x 0).val < 16 := (x 0).isLt
      have hx1 : (x 1).val < 256 := (x 1).isLt
      refine (pay41_apply _ x).trans ((pay40_apply _ hn _ _ _).trans ?_)
      rw [load_halo arg11 harg11, load_halo arg12 harg12]
      show _ = scr (i 1).val x5 x6 x7 x8 x9 x10 (1040 + 1 * (x 0).val) ⟨0 + 1 * (x 1).val, by omega⟩
      have e1 : (⟨0 + 1 * (x 1).val, by omega⟩ : Fin 256) = x 1 := Fin.ext (by show 0 + 1 * (x 1).val = (x 1).val; omega)
      have e0 : (⟨1040 + 1 * (x 0).val - 1040, by omega⟩ : Fin 16) = x 0 := Fin.ext (by show 1040 + 1 * (x 0).val - 1040 = (x 0).val; omega)
      unfold scr
      rw [dif_neg (by omega), dif_neg (by omega), dif_pos (by omega), e0, e1]
      rfl
    · intro (x : S1024x256.Idx)
      have hx : (x 0).val < 1024 := (x 0).isLt
      have hx1 : (x 1).val < 256 := (x 1).isLt
      refine (pay39_apply _ _ x).trans ?_
      rw [load_toks arg7 harg7, load_toks arg8 harg8]
      show _ = scr (i 1).val x5 x6 x7 x8 x9 x10 (16 + 1 * (x 0).val) ⟨0 + 1 * (x 1).val, by omega⟩
      have e1 : (⟨0 + 1 * (x 1).val, by omega⟩ : Fin 256) = x 1 := Fin.ext (by show 0 + 1 * (x 1).val = (x 1).val; omega)
      have e0 : (⟨16 + 1 * (x 0).val - 16, by omega⟩ : Fin 1024) = x 0 := Fin.ext (by show 16 + 1 * (x 0).val - 16 = (x 0).val; omega)
      unfold scr
      rw [dif_neg (by omega), dif_pos (by omega), e0, e1]
    · intro (x : S16x256.Idx)
      have hx : (x 0).val < 16 := (x 0).isLt
      have hx1 : (x 1).val < 256 := (x 1).isLt
      refine (pay38_apply _ x).trans ((pay37_apply _ hn _ _ _).trans ?_)
      rw [load_halo arg9 harg9, load_halo arg10 harg10]
      show _ = scr (i 1).val x5 x6 x7 x8 x9 x10 (0 + 1 * (x 0).val) ⟨0 + 1 * (x 1).val, by omega⟩
      have e1 : (⟨0 + 1 * (x 1).val, by omega⟩ : Fin 256) = x 1 := Fin.ext (by show 0 + 1 * (x 1).val = (x 1).val; omega)
      have e0 : (⟨0 + 1 * (x 0).val, by omega⟩ : Fin 16) = x 0 := Fin.ext (by show 0 + 1 * (x 0).val = (x 0).val; omega)
      unfold scr
      rw [dif_pos (by omega), e0, e1]
      rfl
  · have h0 : (y 0).val < 1056 := (y 0).isLt
    have h1 : (y 1).val < 256 := (y 1).isLt
    unfold kernelRun0_A.sl.HS0_3
    by_cases hA : 1040 ≤ (y 0).val
    · refine ex_cons (.inl ?_)
      refine (Rect.mem_set_unit (s := S1056x256) (off := ![1040, 0]) (size := S16x256.size) (inb := inb_S1056x256_S16x256_1040_0)).mpr ?_
      intro a
      match a with
      | ⟨0, _⟩ => show 1040 ≤ (y 0).val ∧ (y 0).val < 1040 + 16; omega
      | ⟨1, _⟩ => show 0 ≤ (y 1).val ∧ (y 1).val < 0 + 256; omega
    by_cases hB : 16 ≤ (y 0).val
    · refine ex_cons (.inr (ex_cons (.inl ?_)))
      refine (Rect.mem_set_unit (s := S1056x256) (off := ![16, 0]) (size := S1024x256.size) (inb := inb_S1056x256_S1024x256_16_0)).mpr ?_
      intro a
      match a with
      | ⟨0, _⟩ => show 16 ≤ (y 0).val ∧ (y 0).val < 16 + 1024; omega
      | ⟨1, _⟩ => show 0 ≤ (y 1).val ∧ (y 1).val < 0 + 256; omega
    · refine ex_cons (.inr (ex_cons (.inr (ex_cons (.inl ?_)))))
      refine (Rect.mem_set_unit (s := S1056x256) (off := ![0, 0]) (size := S16x256.size) (inb := inb_S1056x256_S16x256_0_0)).mpr ?_
      intro a
      match a with
      | ⟨0, _⟩ => show 0 ≤ (y 0).val ∧ (y 0).val < 0 + 16; omega
      | ⟨1, _⟩ => show 0 ≤ (y 1).val ∧ (y 1).val < 0 + 256; omega

/-- The scratch rows a part of the block reads. -/
def rows160 (r : ℕ) (h : ∀ a, (![r, 0] : Fin S1056x256.rank → ℕ) a + S160x256.size a ≤ S1056x256.size a) : FVec Ideal S160x256 .f32 :=
  arg19.view.readCov (kernelRun0_A.sl.HS0_3 c i arg7 harg7 arg8 harg8 arg9 harg9 arg10 harg10 arg11 harg11 arg12 harg12 x5 x6 x7 x8 x9 x10) (Rect.unit (s := S1056x256) ![r, 0] S160x256.size h).toLoadRect

/-- Those rows at an index. -/
theorem rows160_apply (r : ℕ) (h) (q : Fin 160) (l : Fin 256) : rows160 c i arg7 harg7 arg8 harg8 arg9 harg9 arg10 harg10 arg11 harg11 arg12 harg12 arg19 x5 x6 x7 x8 x9 x10 r h (ix2 q l) = scr (i 1).val x5 x6 x7 x8 x9 x10 (r + q.val) l := by
  unfold rows160
  refine (scratch_apply c i arg7 harg7 arg8 harg8 arg9 harg9 arg10 harg10 arg11 harg11 arg12 harg12 arg19 x5 x6 x7 x8 x9 x10 _).trans ?_
  refine congrArg₂ (scr (i 1).val x5 x6 x7 x8 x9 x10) ?_ (Fin.ext ?_)
  · show r + 1 * q.val = r + q.val; omega
  · show 0 + 1 * l.val = l.val; omega

/-- A part of the block, as the body computes it from its loads. -/
def part (b : FVec Ideal S160x256 .f32) : FVec Ideal S1x128x256 .bf16 :=
  rowsK b (wts arg13 harg13 x11)
    (View.readAt (Elt Ideal) arg14.view (Rect.unit (s := S1x256) ![0, 0] S1x256.size inb_S1x256_S1x256_0_0).toLoadRect (harg14.unread x12))
    (View.readAt (Elt Ideal) arg15.view (Rect.unit (s := S1x256) ![0, 0] S1x256.size inb_S1x256_S1x256_0_0).toLoadRect (harg15.unread x13))
    (View.readAt (Elt Ideal) arg16.view (Rect.unit (s := S1x256) ![0, 0] S1x256.size inb_S1x256_S1x256_0_0).toLoadRect (harg16.unread x14))

/-- The block's value at row `p`, lane `l`. -/
def blkC (n : ℕ) (x5 x6 : Vec Ideal S1x1024x256 .f32) (x7 x8 x9 x10 : Vec Ideal S1x16x256 .f32) (x11 : Vec Ideal S31x256 .f32) (x12 x13 x14 : Vec Ideal S1x256 .f32) (p : ℕ) (l : Fin 256) : EReal :=
  row (scr n x5 x6 x7 x8 x9 x10) (fun j l => x11 (ix2 j l)) (fun l => x12 (ix2 0 l)) (fun l => x13 (ix2 0 l)) (fun l => x14 (ix2 0 l)) p l

/-- A part of the block at an index. -/
theorem part_apply (r : ℕ) (b : FVec Ideal S160x256 .f32) (hb : ∀ (q : Fin 160) (l : Fin 256), b (ix2 q l) = scr (i 1).val x5 x6 x7 x8 x9 x10 (r + q.val) l) (x : S1x128x256.Idx) :
    part arg13 harg13 arg14 harg14 arg15 harg15 arg16 harg16 x11 x12 x13 x14 b x = blkC (i 1).val x5 x6 x7 x8 x9 x10 x11 x12 x13 x14 (r + (x 1).val) (x 2) := by
  have hx0 : x = ix3 0 (x 1) (x 2) := by
    funext a
    match a with
    | ⟨0, _⟩ => exact Fin.ext (by have : (x 0).val < 1 := (x 0).isLt; show (x 0).val = 0; omega)
    | ⟨1, _⟩ => rfl
    | ⟨2, _⟩ => rfl
  unfold part
  rw [load_row arg14 harg14, load_row arg15 harg15, load_row arg16 harg16]
  have e := congrArg (rowsK b (wts arg13 harg13 x11) x12 x13 x14) hx0
  refine e.trans ((rowsK_apply (scr (i 1).val x5 x6 x7 x8 x9 x10) r b hb (wts arg13 harg13 x11) x12 x13 x14 (x 1) (x 2)).trans ?_)
  unfold blkC
  exact congrArg (fun w : Fin 31 → Fin 256 → EReal => row (scr (i 1).val x5 x6 x7 x8 x9 x10) w (fun l => x12 (ix2 0 l)) (fun l => x13 (ix2 0 l)) (fun l => x14 (ix2 0 l)) (r + (x 1).val) (x 2))
    (funext fun j => funext fun l => wts_apply arg13 harg13 x11 j l)

/-- What a grid point leaves in its block of the convolution. -/
theorem out_16 (y : S1x1024x256.Idx) : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y = blkC (i 1).val x5 x6 x7 x8 x9 x10 x11 x12 x13 x14 (y 1).val (y 2) := by
  unfold out0_A_16
  refine View.read_writes_apply_of_pieces (Val := Elt Ideal) _ _ (fun y : S1x1024x256.Idx => blkC (i 1).val x5 x6 x7 x8 x9 x10 x11 x12 x13 x14 (y 1).val (y 2)) _ ?_ y (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y)
  unfold kernelRun0_A
  dsimp only
  intro p hp
  simp only [List.mem_cons, List.not_mem_nil, or_false] at hp
  rcases hp with rfl | rfl | rfl | rfl | rfl | rfl | rfl | rfl
  · intro (x : S1x128x256.Idx)
    refine Eq.trans (congrFun ?_ x) ((part_apply i arg13 harg13 arg14 harg14 arg15 harg15 arg16 harg16 x5 x6 x7 x8 x9 x10 x11 x12 x13 x14 896 (rows160 c i arg7 harg7 arg8 harg8 arg9 harg9 arg10 harg10 arg11 harg11 arg12 harg12 arg19 x5 x6 x7 x8 x9 x10 896 inb_S1056x256_S160x256_896_0) (rows160_apply c i arg7 harg7 arg8 harg8 arg9 harg9 arg10 harg10 arg11 harg11 arg12 harg12 arg19 x5 x6 x7 x8 x9 x10 896 _) x).trans ?_)
    · unfold part rows160
      sl_unfold_words
      rfl
    · exact congrArg₂ (blkC (i 1).val x5 x6 x7 x8 x9 x10 x11 x12 x13 x14) (by show 896 + (x 1).val = 896 + 1 * (x 1).val; omega) (Fin.ext (by show (x 2).val = 0 + 1 * (x 2).val; omega))
  · intro (x : S1x128x256.Idx)
    refine Eq.trans (congrFun ?_ x) ((part_apply i arg13 harg13 arg14 harg14 arg15 harg15 arg16 harg16 x5 x6 x7 x8 x9 x10 x11 x12 x13 x14 768 (rows160 c i arg7 harg7 arg8 harg8 arg9 harg9 arg10 harg10 arg11 harg11 arg12 harg12 arg19 x5 x6 x7 x8 x9 x10 768 inb_S1056x256_S160x256_768_0) (rows160_apply c i arg7 harg7 arg8 harg8 arg9 harg9 arg10 harg10 arg11 harg11 arg12 harg12 arg19 x5 x6 x7 x8 x9 x10 768 _) x).trans ?_)
    · unfold part rows160
      sl_unfold_words
      rfl
    · exact congrArg₂ (blkC (i 1).val x5 x6 x7 x8 x9 x10 x11 x12 x13 x14) (by show 768 + (x 1).val = 768 + 1 * (x 1).val; omega) (Fin.ext (by show (x 2).val = 0 + 1 * (x 2).val; omega))
  · intro (x : S1x128x256.Idx)
    refine Eq.trans (congrFun ?_ x) ((part_apply i arg13 harg13 arg14 harg14 arg15 harg15 arg16 harg16 x5 x6 x7 x8 x9 x10 x11 x12 x13 x14 640 (rows160 c i arg7 harg7 arg8 harg8 arg9 harg9 arg10 harg10 arg11 harg11 arg12 harg12 arg19 x5 x6 x7 x8 x9 x10 640 inb_S1056x256_S160x256_640_0) (rows160_apply c i arg7 harg7 arg8 harg8 arg9 harg9 arg10 harg10 arg11 harg11 arg12 harg12 arg19 x5 x6 x7 x8 x9 x10 640 _) x).trans ?_)
    · unfold part rows160
      sl_unfold_words
      rfl
    · exact congrArg₂ (blkC (i 1).val x5 x6 x7 x8 x9 x10 x11 x12 x13 x14) (by show 640 + (x 1).val = 640 + 1 * (x 1).val; omega) (Fin.ext (by show (x 2).val = 0 + 1 * (x 2).val; omega))
  · intro (x : S1x128x256.Idx)
    refine Eq.trans (congrFun ?_ x) ((part_apply i arg13 harg13 arg14 harg14 arg15 harg15 arg16 harg16 x5 x6 x7 x8 x9 x10 x11 x12 x13 x14 512 (rows160 c i arg7 harg7 arg8 harg8 arg9 harg9 arg10 harg10 arg11 harg11 arg12 harg12 arg19 x5 x6 x7 x8 x9 x10 512 inb_S1056x256_S160x256_512_0) (rows160_apply c i arg7 harg7 arg8 harg8 arg9 harg9 arg10 harg10 arg11 harg11 arg12 harg12 arg19 x5 x6 x7 x8 x9 x10 512 _) x).trans ?_)
    · unfold part rows160
      sl_unfold_words
      rfl
    · exact congrArg₂ (blkC (i 1).val x5 x6 x7 x8 x9 x10 x11 x12 x13 x14) (by show 512 + (x 1).val = 512 + 1 * (x 1).val; omega) (Fin.ext (by show (x 2).val = 0 + 1 * (x 2).val; omega))
  · intro (x : S1x128x256.Idx)
    refine Eq.trans (congrFun ?_ x) ((part_apply i arg13 harg13 arg14 harg14 arg15 harg15 arg16 harg16 x5 x6 x7 x8 x9 x10 x11 x12 x13 x14 384 (rows160 c i arg7 harg7 arg8 harg8 arg9 harg9 arg10 harg10 arg11 harg11 arg12 harg12 arg19 x5 x6 x7 x8 x9 x10 384 inb_S1056x256_S160x256_384_0) (rows160_apply c i arg7 harg7 arg8 harg8 arg9 harg9 arg10 harg10 arg11 harg11 arg12 harg12 arg19 x5 x6 x7 x8 x9 x10 384 _) x).trans ?_)
    · unfold part rows160
      sl_unfold_words
      rfl
    · exact congrArg₂ (blkC (i 1).val x5 x6 x7 x8 x9 x10 x11 x12 x13 x14) (by show 384 + (x 1).val = 384 + 1 * (x 1).val; omega) (Fin.ext (by show (x 2).val = 0 + 1 * (x 2).val; omega))
  · intro (x : S1x128x256.Idx)
    refine Eq.trans (congrFun ?_ x) ((part_apply i arg13 harg13 arg14 harg14 arg15 harg15 arg16 harg16 x5 x6 x7 x8 x9 x10 x11 x12 x13 x14 256 (rows160 c i arg7 harg7 arg8 harg8 arg9 harg9 arg10 harg10 arg11 harg11 arg12 harg12 arg19 x5 x6 x7 x8 x9 x10 256 inb_S1056x256_S160x256_256_0) (rows160_apply c i arg7 harg7 arg8 harg8 arg9 harg9 arg10 harg10 arg11 harg11 arg12 harg12 arg19 x5 x6 x7 x8 x9 x10 256 _) x).trans ?_)
    · unfold part rows160
      sl_unfold_words
      rfl
    · exact congrArg₂ (blkC (i 1).val x5 x6 x7 x8 x9 x10 x11 x12 x13 x14) (by show 256 + (x 1).val = 256 + 1 * (x 1).val; omega) (Fin.ext (by show (x 2).val = 0 + 1 * (x 2).val; omega))
  · intro (x : S1x128x256.Idx)
    refine Eq.trans (congrFun ?_ x) ((part_apply i arg13 harg13 arg14 harg14 arg15 harg15 arg16 harg16 x5 x6 x7 x8 x9 x10 x11 x12 x13 x14 128 (rows160 c i arg7 harg7 arg8 harg8 arg9 harg9 arg10 harg10 arg11 harg11 arg12 harg12 arg19 x5 x6 x7 x8 x9 x10 128 inb_S1056x256_S160x256_128_0) (rows160_apply c i arg7 harg7 arg8 harg8 arg9 harg9 arg10 harg10 arg11 harg11 arg12 harg12 arg19 x5 x6 x7 x8 x9 x10 128 _) x).trans ?_)
    · unfold part rows160
      sl_unfold_words
      rfl
    · exact congrArg₂ (blkC (i 1).val x5 x6 x7 x8 x9 x10 x11 x12 x13 x14) (by show 128 + (x 1).val = 128 + 1 * (x 1).val; omega) (Fin.ext (by show (x 2).val = 0 + 1 * (x 2).val; omega))
  · intro (x : S1x128x256.Idx)
    refine Eq.trans (congrFun ?_ x) ((part_apply i arg13 harg13 arg14 harg14 arg15 harg15 arg16 harg16 x5 x6 x7 x8 x9 x10 x11 x12 x13 x14 0 (rows160 c i arg7 harg7 arg8 harg8 arg9 harg9 arg10 harg10 arg11 harg11 arg12 harg12 arg19 x5 x6 x7 x8 x9 x10 0 inb_S1056x256_S160x256_0_0) (rows160_apply c i arg7 harg7 arg8 harg8 arg9 harg9 arg10 harg10 arg11 harg11 arg12 harg12 arg19 x5 x6 x7 x8 x9 x10 0 _) x).trans ?_)
    · unfold part rows160
      sl_unfold_words
      rfl
    · exact congrArg₂ (blkC (i 1).val x5 x6 x7 x8 x9 x10 x11 x12 x13 x14) (by show 0 + (x 1).val = 0 + 1 * (x 1).val; omega) (Fin.ext (by show (x 2).val = 0 + 1 * (x 2).val; omega))

end body

end Cert.Proof.Lat
-- ==== Proof.LatEnd.lean ====
/-
  The latent tokens' gated MLP and convolution: the arrays the call ends with, as functions of the whole arrays.
-/
module

public import proofs.«01_k».proof.Proof.LatOutA
public import proofs.«01_k».proof.Proof.LatOutC

@[expose] public section

set_option maxRecDepth 16384

noncomputable section

namespace Cert.Proof.Lat

open Idealize.ShloMosaic Idealize.ShloMosaic.Tactic Idealize.SL.Sem Cert.Kernel10Ideal Cert.Kernel10Ideal.Gen Idealize.ShloMosaic.TcCoe
open Cert.Proof.Conv (glu)
open Cert.Proof.Gmlp (gl ln)

variable (m : (ℓ : Loc nD τ sig) → Buf (Elt Ideal) ℓ)

/-- The batch row of a grid point. -/
def brow (t : Fin cfg0.N) : Fin 2 := ⟨t.val / 8, by have h := t.isLt; have : cfg0.N = 16 := N_0; omega⟩

/-- The block of a grid point within its batch row. -/
theorem coord (t : Fin cfg0.N) : (grid0.coords t 1).val = t.val % 8 := (by decide +kernel : ∀ t : Fin grid0.N, (grid0.coords t 1).val = t.val % 8) t

/-- What a grid point reads of the gated MLP's inputs: its rows. -/
theorem blk0 (c : Dev nD) (t : Fin cfg0.N) (y : S1x1024x512.Idx) :
    iblk m c 0 t y = m ((c : Thread nD τ).loc main_arg0) (ix3 (brow t) ⟨(t.val % 8) * 1024 + (y 1).val, by have : (y 1).val < 1024 := (y 1).isLt; omega⟩ ⟨0 + (y 2).val, by have : (y 2).val < 512 := (y 2).isLt; omega⟩) := by
  have hi := (by decide +kernel : ∀ t : Fin grid0.N, win0_0.index t 0 = t.val / 8 ∧ win0_0.index t 1 = (t.val % 8) ∧ win0_0.index t 2 = 0) t
  have hy0 : (y 0).val < 1 := (y 0).isLt
  unfold iblk
  rw [View.read_apply]
  show V m c main_arg0 _ = _
  rw [V_main_arg0]
  congr 1
  funext a
  apply Fin.ext
  match a with
  | ⟨0, _⟩ => show win0_0.index t 0 * 1 + 1 * (y 0).val = t.val / 8; rw [hi.1]; omega
  | ⟨1, _⟩ => show win0_0.index t 1 * 1024 + 1 * (y 1).val = (t.val % 8) * 1024 + (y 1).val; rw [hi.2.1]; omega
  | ⟨2, _⟩ => show win0_0.index t 2 * 512 + 1 * (y 2).val = 0 + (y 2).val; rw [hi.2.2]; omega

/-- What a grid point reads of the gain: its row. -/
theorem blk1 (c : Dev nD) (t : Fin cfg0.N) (y : S1x256.Idx) :
    iblk m c 1 t y = m ((c : Thread nD τ).loc main_arg1) (ix1 (y 1)) := by
  have hi := (by decide +kernel : ∀ t : Fin grid0.N, win0_1.index t 0 = 0 ∧ win0_1.index t 1 = 0) t
  have e : V m c main_v6 = (broadcastInDim S1x256 ![1] bcast_S256_S1x256_1 (m ((c : Thread nD τ).loc main_arg1)) : Vec Ideal S1x256 .f32) := by
    show StableHlo.after hostOps0 (fun b => m (c, b)) (Proc.devRef .tc main_v6) = _
    after_results_simp <;> rfl
  unfold iblk
  rw [View.read_apply]
  show V m c main_v6 _ = _
  rw [e]
  have hx : ((cfg0.win 1).blk t).view.emb y = (y : S1x256.Idx) := by
    funext a
    apply Fin.ext
    match a with
    | ⟨0, _⟩ => show win0_1.index t 0 * 1 + 1 * (y 0).val = (y 0).val; rw [hi.1]; omega
    | ⟨1, _⟩ => show win0_1.index t 1 * 256 + 1 * (y 1).val = (y 1).val; rw [hi.2]; omega
  exact (congrArg _ hx).trans (Gmlp.rows _ _)

/-- What a grid point reads of the shift: its row. -/
theorem blk2 (c : Dev nD) (t : Fin cfg0.N) (y : S1x256.Idx) :
    iblk m c 2 t y = m ((c : Thread nD τ).loc main_arg2) (ix1 (y 1)) := by
  have hi := (by decide +kernel : ∀ t : Fin grid0.N, win0_2.index t 0 = 0 ∧ win0_2.index t 1 = 0) t
  have e : V m c main_v7 = (broadcastInDim S1x256 ![1] bcast_S256_S1x256_1 (m ((c : Thread nD τ).loc main_arg2)) : Vec Ideal S1x256 .f32) := by
    show StableHlo.after hostOps0 (fun b => m (c, b)) (Proc.devRef .tc main_v7) = _
    after_results_simp <;> rfl
  unfold iblk
  rw [View.read_apply]
  show V m c main_v7 _ = _
  rw [e]
  have hx : ((cfg0.win 2).blk t).view.emb y = (y : S1x256.Idx) := by
    funext a
    apply Fin.ext
    match a with
    | ⟨0, _⟩ => show win0_2.index t 0 * 1 + 1 * (y 0).val = (y 0).val; rw [hi.1]; omega
    | ⟨1, _⟩ => show win0_2.index t 1 * 256 + 1 * (y 1).val = (y 1).val; rw [hi.2]; omega
  exact (congrArg _ hx).trans (Gmlp.rows _ _)

/-- What a grid point reads of the mixing weights: all, the heads' side by side. -/
theorem blk3 (c : Dev nD) (t : Fin cfg0.N) (y : S128x512.Idx) :
    iblk m c 3 t y = m ((c : Thread nD τ).loc main_arg3) (ix3 ⟨(y 1).val / 128, by have : (y 1).val < 512 := (y 1).isLt; omega⟩ (y 0) ⟨(y 1).val % 128, by omega⟩) := by
  have hi := (by decide +kernel : ∀ t : Fin grid0.N, win0_3.index t 0 = 0 ∧ win0_3.index t 1 = 0) t
  have e : V m c main_v2 = (truncf (F := Ideal) .bf16 (shapeCast S128x512 (transpose S128x4x128 [1, 0, 2] (m ((c : Thread nD τ).loc main_arg3) : FVec Ideal S4x128x128 .f32) transposes_S4x128x128_S128x4x128_1_0_2) shapeCasts_S128x4x128_S128x512) bitsLt_bf16_f32 : Vec Ideal S128x512 .bf16) := by
    show StableHlo.after hostOps0 (fun b => m (c, b)) (Proc.devRef .tc main_v2) = _
    after_results_simp <;> rfl
  unfold iblk
  rw [View.read_apply]
  show V m c main_v2 _ = _
  rw [e]
  have hx : ((cfg0.win 3).blk t).view.emb y = (y : S128x512.Idx) := by
    funext a
    apply Fin.ext
    match a with
    | ⟨0, _⟩ => show win0_3.index t 0 * 128 + 1 * (y 0).val = (y 0).val; rw [hi.1]; omega
    | ⟨1, _⟩ => show win0_3.index t 1 * 512 + 1 * (y 1).val = (y 1).val; rw [hi.2]; omega
  exact (congrArg _ hx).trans (Gmlp.mixes _ _)

/-- What a grid point reads of the bias: all, each head's repeated over its lanes. -/
theorem blk4 (c : Dev nD) (t : Fin cfg0.N) (y : S128x256.Idx) :
    iblk m c 4 t y = m ((c : Thread nD τ).loc main_arg4) (ix2 ⟨(y 1).val / 64, by have : (y 1).val < 256 := (y 1).isLt; omega⟩ (y 0)) := by
  have hi := (by decide +kernel : ∀ t : Fin grid0.N, win0_4.index t 0 = 0 ∧ win0_4.index t 1 = 0) t
  have e : V m c main_v5 = (shapeCast S128x256 (broadcastInDim S128x4x64 ![0, 1] bcast_S128x4_S128x4x64_0_1 (transpose S128x4 [1, 0] (m ((c : Thread nD τ).loc main_arg4) : FVec Ideal S4x128 .f32) transposes_S4x128_S128x4_1_0)) shapeCasts_S128x4x64_S128x256 : Vec Ideal S128x256 .f32) := by
    show StableHlo.after hostOps0 (fun b => m (c, b)) (Proc.devRef .tc main_v5) = _
    after_results_simp <;> rfl
  unfold iblk
  rw [View.read_apply]
  show V m c main_v5 _ = _
  rw [e]
  have hx : ((cfg0.win 4).blk t).view.emb y = (y : S128x256.Idx) := by
    funext a
    apply Fin.ext
    match a with
    | ⟨0, _⟩ => show win0_4.index t 0 * 128 + 1 * (y 0).val = (y 0).val; rw [hi.1]; omega
    | ⟨1, _⟩ => show win0_4.index t 1 * 256 + 1 * (y 1).val = (y 1).val; rw [hi.2]; omega
  exact (congrArg _ hx).trans (Gmlp.biases _ _)

/-- What a grid point reads of the values: its rows. -/
theorem blk5 (c : Dev nD) (t : Fin cfg0.N) (y : S1x1024x256.Idx) :
    iblk m c 5 t y = m ((c : Thread nD τ).loc main_arg5) (ix3 (brow t) ⟨(t.val % 8) * 1024 + (y 1).val, by have : (y 1).val < 1024 := (y 1).isLt; omega⟩ ⟨0 + (y 2).val, by have : (y 2).val < 256 := (y 2).isLt; omega⟩) := by
  have hi := (by decide +kernel : ∀ t : Fin grid0.N, win0_5.index t 0 = t.val / 8 ∧ win0_5.index t 1 = (t.val % 8) ∧ win0_5.index t 2 = 0) t
  have hy0 : (y 0).val < 1 := (y 0).isLt
  unfold iblk
  rw [View.read_apply]
  show V m c main_arg5 _ = _
  rw [V_main_arg5]
  congr 1
  funext a
  apply Fin.ext
  match a with
  | ⟨0, _⟩ => show win0_5.index t 0 * 1 + 1 * (y 0).val = t.val / 8; rw [hi.1]; omega
  | ⟨1, _⟩ => show win0_5.index t 1 * 1024 + 1 * (y 1).val = (t.val % 8) * 1024 + (y 1).val; rw [hi.2.1]; omega
  | ⟨2, _⟩ => show win0_5.index t 2 * 256 + 1 * (y 2).val = 0 + (y 2).val; rw [hi.2.2]; omega

/-- What a grid point reads of the gates: its rows. -/
theorem blk6 (c : Dev nD) (t : Fin cfg0.N) (y : S1x1024x256.Idx) :
    iblk m c 6 t y = m ((c : Thread nD τ).loc main_arg5) (ix3 (brow t) ⟨(t.val % 8) * 1024 + (y 1).val, by have : (y 1).val < 1024 := (y 1).isLt; omega⟩ ⟨256 + (y 2).val, by have : (y 2).val < 256 := (y 2).isLt; omega⟩) := by
  have hi := (by decide +kernel : ∀ t : Fin grid0.N, win0_6.index t 0 = t.val / 8 ∧ win0_6.index t 1 = (t.val % 8) ∧ win0_6.index t 2 = 1) t
  have hy0 : (y 0).val < 1 := (y 0).isLt
  unfold iblk
  rw [View.read_apply]
  show V m c main_arg5 _ = _
  rw [V_main_arg5]
  congr 1
  funext a
  apply Fin.ext
  match a with
  | ⟨0, _⟩ => show win0_6.index t 0 * 1 + 1 * (y 0).val = t.val / 8; rw [hi.1]; omega
  | ⟨1, _⟩ => show win0_6.index t 1 * 1024 + 1 * (y 1).val = (t.val % 8) * 1024 + (y 1).val; rw [hi.2.1]; omega
  | ⟨2, _⟩ => show win0_6.index t 2 * 256 + 1 * (y 2).val = 256 + (y 2).val; rw [hi.2.2]; omega

/-- What a grid point reads of the values before its rows. -/
theorem blk7 (c : Dev nD) (t : Fin cfg0.N) (y : S1x16x256.Idx) :
    iblk m c 7 t y = m ((c : Thread nD τ).loc main_arg5) (ix3 (brow t) ⟨(t.val % 8 * 64 - 1) * 16 + (y 1).val, by have : (y 1).val < 16 := (y 1).isLt; omega⟩ ⟨0 + (y 2).val, by have : (y 2).val < 256 := (y 2).isLt; omega⟩) := by
  have hi := (by decide +kernel : ∀ t : Fin grid0.N, win0_7.index t 0 = t.val / 8 ∧ win0_7.index t 1 = (t.val % 8 * 64 - 1) ∧ win0_7.index t 2 = 0) t
  have hy0 : (y 0).val < 1 := (y 0).isLt
  unfold iblk
  rw [View.read_apply]
  show V m c main_arg5 _ = _
  rw [V_main_arg5]
  congr 1
  funext a
  apply Fin.ext
  match a with
  | ⟨0, _⟩ => show win0_7.index t 0 * 1 + 1 * (y 0).val = t.val / 8; rw [hi.1]; omega
  | ⟨1, _⟩ => show win0_7.index t 1 * 16 + 1 * (y 1).val = (t.val % 8 * 64 - 1) * 16 + (y 1).val; rw [hi.2.1]; omega
  | ⟨2, _⟩ => show win0_7.index t 2 * 256 + 1 * (y 2).val = 0 + (y 2).val; rw [hi.2.2]; omega

/-- What a grid point reads of the gates before its rows. -/
theorem blk8 (c : Dev nD) (t : Fin cfg0.N) (y : S1x16x256.Idx) :
    iblk m c 8 t y = m ((c : Thread nD τ).loc main_arg5) (ix3 (brow t) ⟨(t.val % 8 * 64 - 1) * 16 + (y 1).val, by have : (y 1).val < 16 := (y 1).isLt; omega⟩ ⟨256 + (y 2).val, by have : (y 2).val < 256 := (y 2).isLt; omega⟩) := by
  have hi := (by decide +kernel : ∀ t : Fin grid0.N, win0_8.index t 0 = t.val / 8 ∧ win0_8.index t 1 = (t.val % 8 * 64 - 1) ∧ win0_8.index t 2 = 1) t
  have hy0 : (y 0).val < 1 := (y 0).isLt
  unfold iblk
  rw [View.read_apply]
  show V m c main_arg5 _ = _
  rw [V_main_arg5]
  congr 1
  funext a
  apply Fin.ext
  match a with
  | ⟨0, _⟩ => show win0_8.index t 0 * 1 + 1 * (y 0).val = t.val / 8; rw [hi.1]; omega
  | ⟨1, _⟩ => show win0_8.index t 1 * 16 + 1 * (y 1).val = (t.val % 8 * 64 - 1) * 16 + (y 1).val; rw [hi.2.1]; omega
  | ⟨2, _⟩ => show win0_8.index t 2 * 256 + 1 * (y 2).val = 256 + (y 2).val; rw [hi.2.2]; omega

/-- What a grid point reads of the values after its rows. -/
theorem blk9 (c : Dev nD) (t : Fin cfg0.N) (y : S1x16x256.Idx) :
    iblk m c 9 t y = m ((c : Thread nD τ).loc main_arg5) (ix3 (brow t) ⟨(min ((t.val % 8 + 1) * 64) 511) * 16 + (y 1).val, by have : (y 1).val < 16 := (y 1).isLt; omega⟩ ⟨0 + (y 2).val, by have : (y 2).val < 256 := (y 2).isLt; omega⟩) := by
  have hi := (by decide +kernel : ∀ t : Fin grid0.N, win0_9.index t 0 = t.val / 8 ∧ win0_9.index t 1 = (min ((t.val % 8 + 1) * 64) 511) ∧ win0_9.index t 2 = 0) t
  have hy0 : (y 0).val < 1 := (y 0).isLt
  unfold iblk
  rw [View.read_apply]
  show V m c main_arg5 _ = _
  rw [V_main_arg5]
  congr 1
  funext a
  apply Fin.ext
  match a with
  | ⟨0, _⟩ => show win0_9.index t 0 * 1 + 1 * (y 0).val = t.val / 8; rw [hi.1]; omega
  | ⟨1, _⟩ => show win0_9.index t 1 * 16 + 1 * (y 1).val = (min ((t.val % 8 + 1) * 64) 511) * 16 + (y 1).val; rw [hi.2.1]; omega
  | ⟨2, _⟩ => show win0_9.index t 2 * 256 + 1 * (y 2).val = 0 + (y 2).val; rw [hi.2.2]; omega

/-- What a grid point reads of the gates after its rows. -/
theorem blk10 (c : Dev nD) (t : Fin cfg0.N) (y : S1x16x256.Idx) :
    iblk m c 10 t y = m ((c : Thread nD τ).loc main_arg5) (ix3 (brow t) ⟨(min ((t.val % 8 + 1) * 64) 511) * 16 + (y 1).val, by have : (y 1).val < 16 := (y 1).isLt; omega⟩ ⟨256 + (y 2).val, by have : (y 2).val < 256 := (y 2).isLt; omega⟩) := by
  have hi := (by decide +kernel : ∀ t : Fin grid0.N, win0_10.index t 0 = t.val / 8 ∧ win0_10.index t 1 = (min ((t.val % 8 + 1) * 64) 511) ∧ win0_10.index t 2 = 1) t
  have hy0 : (y 0).val < 1 := (y 0).isLt
  unfold iblk
  rw [View.read_apply]
  show V m c main_arg5 _ = _
  rw [V_main_arg5]
  congr 1
  funext a
  apply Fin.ext
  match a with
  | ⟨0, _⟩ => show win0_10.index t 0 * 1 + 1 * (y 0).val = t.val / 8; rw [hi.1]; omega
  | ⟨1, _⟩ => show win0_10.index t 1 * 16 + 1 * (y 1).val = (min ((t.val % 8 + 1) * 64) 511) * 16 + (y 1).val; rw [hi.2.1]; omega
  | ⟨2, _⟩ => show win0_10.index t 2 * 256 + 1 * (y 2).val = 256 + (y 2).val; rw [hi.2.2]; omega

/-- What a grid point reads of the taps' weights: all. -/
theorem blk11 (c : Dev nD) (t : Fin cfg0.N) (y : S31x256.Idx) :
    iblk m c 11 t y = m ((c : Thread nD τ).loc main_arg6) (ix2 (y 0) (y 1)) := by
  have hi := (by decide +kernel : ∀ t : Fin grid0.N, win0_11.index t 0 = 0 ∧ win0_11.index t 1 = 0) t
  unfold iblk
  rw [View.read_apply]
  show V m c main_arg6 _ = _
  rw [V_main_arg6]
  congr 1
  funext a
  apply Fin.ext
  match a with
  | ⟨0, _⟩ => show win0_11.index t 0 * 31 + 1 * (y 0).val = (y 0).val; rw [hi.1]; omega
  | ⟨1, _⟩ => show win0_11.index t 1 * 256 + 1 * (y 1).val = (y 1).val; rw [hi.2]; omega

/-- What a grid point reads of the convolution's bias: its row. -/
theorem blk12 (c : Dev nD) (t : Fin cfg0.N) (y : S1x256.Idx) :
    iblk m c 12 t y = m ((c : Thread nD τ).loc main_arg7) (ix1 (y 1)) := by
  have hi := (by decide +kernel : ∀ t : Fin grid0.N, win0_12.index t 0 = 0 ∧ win0_12.index t 1 = 0) t
  have e : V m c main_v8 = (broadcastInDim S1x256 ![1] bcast_S256_S1x256_1 (m ((c : Thread nD τ).loc main_arg7)) : Vec Ideal S1x256 .f32) := by
    show StableHlo.after hostOps0 (fun b => m (c, b)) (Proc.devRef .tc main_v8) = _
    after_results_simp <;> rfl
  unfold iblk
  rw [View.read_apply]
  show V m c main_v8 _ = _
  rw [e]
  have hx : ((cfg0.win 12).blk t).view.emb y = (y : S1x256.Idx) := by
    funext a
    apply Fin.ext
    match a with
    | ⟨0, _⟩ => show win0_12.index t 0 * 1 + 1 * (y 0).val = (y 0).val; rw [hi.1]; omega
    | ⟨1, _⟩ => show win0_12.index t 1 * 256 + 1 * (y 1).val = (y 1).val; rw [hi.2]; omega
  exact (congrArg _ hx).trans (Gmlp.rows _ _)

/-- What a grid point reads of the convolution's gain: its row. -/
theorem blk13 (c : Dev nD) (t : Fin cfg0.N) (y : S1x256.Idx) :
    iblk m c 13 t y = m ((c : Thread nD τ).loc main_arg8) (ix1 (y 1)) := by
  have hi := (by decide +kernel : ∀ t : Fin grid0.N, win0_13.index t 0 = 0 ∧ win0_13.index t 1 = 0) t
  have e : V m c main_v9 = (broadcastInDim S1x256 ![1] bcast_S256_S1x256_1 (m ((c : Thread nD τ).loc main_arg8)) : Vec Ideal S1x256 .f32) := by
    show StableHlo.after hostOps0 (fun b => m (c, b)) (Proc.devRef .tc main_v9) = _
    after_results_simp <;> rfl
  unfold iblk
  rw [View.read_apply]
  show V m c main_v9 _ = _
  rw [e]
  have hx : ((cfg0.win 13).blk t).view.emb y = (y : S1x256.Idx) := by
    funext a
    apply Fin.ext
    match a with
    | ⟨0, _⟩ => show win0_13.index t 0 * 1 + 1 * (y 0).val = (y 0).val; rw [hi.1]; omega
    | ⟨1, _⟩ => show win0_13.index t 1 * 256 + 1 * (y 1).val = (y 1).val; rw [hi.2]; omega
  exact (congrArg _ hx).trans (Gmlp.rows _ _)

/-- What a grid point reads of the convolution's shift: its row. -/
theorem blk14 (c : Dev nD) (t : Fin cfg0.N) (y : S1x256.Idx) :
    iblk m c 14 t y = m ((c : Thread nD τ).loc main_arg9) (ix1 (y 1)) := by
  have hi := (by decide +kernel : ∀ t : Fin grid0.N, win0_14.index t 0 = 0 ∧ win0_14.index t 1 = 0) t
  have e : V m c main_v10 = (broadcastInDim S1x256 ![1] bcast_S256_S1x256_1 (m ((c : Thread nD τ).loc main_arg9)) : Vec Ideal S1x256 .f32) := by
    show StableHlo.after hostOps0 (fun b => m (c, b)) (Proc.devRef .tc main_v10) = _
    after_results_simp <;> rfl
  unfold iblk
  rw [View.read_apply]
  show V m c main_v10 _ = _
  rw [e]
  have hx : ((cfg0.win 14).blk t).view.emb y = (y : S1x256.Idx) := by
    funext a
    apply Fin.ext
    match a with
    | ⟨0, _⟩ => show win0_14.index t 0 * 1 + 1 * (y 0).val = (y 0).val; rw [hi.1]; omega
    | ⟨1, _⟩ => show win0_14.index t 1 * 256 + 1 * (y 1).val = (y 1).val; rw [hi.2]; omega
  exact (congrArg _ hx).trans (Gmlp.rows _ _)

/-- A grid point's scratch rows are rows of the padded tokens. -/
theorem scr_padded (c : Dev nD) (t : Fin cfg0.N) (k : ℕ) (hk : k < 1056) (l : Fin 256) :
    scr (t.val % 8) (iblk m c 5 t) (iblk m c 6 t) (iblk m c 7 t) (iblk m c 8 t) (iblk m c 9 t) (iblk m c 10 t) k l
      = padded (m ((c : Thread nD τ).loc main_arg5)) (brow t) (t.val % 8 * 1024 + k) l := by
  have key : ∀ (p p' : ℕ) (hp : p < 8192) (hp' : p' < 8192) (z : Vec Ideal S2x8192x512 .f32) (s : Fin 2), p = p' →
      glu (z (ix3 s ⟨p, hp⟩ ⟨0 + l.val, by omega⟩)) (z (ix3 s ⟨p, hp⟩ ⟨256 + l.val, by omega⟩))
        = glu (z (ix3 s ⟨p', hp'⟩ ⟨0 + l.val, by omega⟩)) (z (ix3 s ⟨p', hp'⟩ ⟨256 + l.val, by omega⟩)) := by
    intro p p' hp hp' z s e
    subst e
    rfl
  unfold scr padded
  by_cases h0 : k < 16
  · rw [dif_pos h0]
    by_cases hn : 0 < t.val % 8
    · rw [if_pos hn, dif_pos (by omega), blk7, blk8]
      exact key _ _ _ _ _ _ (by show (t.val % 8 * 64 - 1) * 16 + k = t.val % 8 * 1024 + k - 16; omega)
    · rw [if_neg hn, dif_neg (by omega)]
  rw [dif_neg h0]
  by_cases h1 : k < 1040
  · rw [dif_pos h1, dif_pos (by omega), blk5, blk6]
    exact key _ _ _ _ _ _ (by show t.val % 8 * 1024 + (k - 16) = t.val % 8 * 1024 + k - 16; omega)
  rw [dif_neg h1, dif_pos hk]
  by_cases hn : t.val % 8 < 7
  · rw [if_pos hn, dif_pos (by omega), blk9, blk10]
    exact key _ _ _ _ _ _ (by show (min ((t.val % 8 + 1) * 64) 511) * 16 + (k - 1040) = t.val % 8 * 1024 + k - 16; omega)
  · rw [if_neg hn, dif_neg (by omega)]

/-- The array the call ends with: the gated MLP. -/
theorem final15 (c : Dev nD) (i : S2x8192x256.Idx) :
    (dats m 0 c).arrAt 15 cfg0.N i = val (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2) := by
  have h0 : (i 0).val < 2 := (i 0).isLt
  have h1 : (i 1).val < 8192 := (i 1).isLt
  have h2 : (i 2).val < 256 := (i 2).isLt
  have hN : cfg0.N = 16 := N_0
  obtain ⟨t, ht⟩ : ∃ t : Fin cfg0.N, t.val = (i 0).val * 8 + (i 1).val / 1024 := ⟨⟨_, by rw [hN]; omega⟩, rfl⟩
  obtain ⟨y, hy⟩ : ∃ y : S1x1024x256.Idx, y = ix3 0 ⟨(i 1).val % 1024, by omega⟩ (i 2) := ⟨_, rfl⟩
  have hi := (by decide +kernel : ∀ t : Fin grid0.N, win0_15.index t 0 = t.val / 8 ∧ win0_15.index t 1 = t.val % 8 ∧ win0_15.index t 2 = 0) t
  have hfl := (by decide +kernel : ∀ t : Fin grid0.N, (cfg0.win 15).flush t = true) t
  have he : ((cfg0.win 15).blk t).view.emb y = i := by
    subst hy
    funext a
    apply Fin.ext
    match a with
    | ⟨0, _⟩ => show win0_15.index t 0 * 1 + 1 * 0 = (i 0).val; rw [hi.1]; omega
    | ⟨1, _⟩ => show win0_15.index t 1 * 1024 + 1 * ((i 1).val % 1024) = (i 1).val; rw [hi.2.1]; omega
    | ⟨2, _⟩ => show win0_15.index t 2 * 256 + 1 * (i 2).val = (i 2).val; rw [hi.2.2]; omega
  have hb := congrFun (Value.blocks15 m c t hfl) y
  rw [View.read_apply, Value.flushed15_A] at hb
  have hr : brow t = i 0 := Fin.ext (by show t.val / 8 = (i 0).val; omega)
  have e : (dats m 0 c).arrAt 15 cfg0.N i = (dats m 0 c).arrAt 15 cfg0.N (((cfg0.win 15).blk t).view.emb y) := congrArg _ he.symm
  refine e.trans (hb.trans ?_)
  subst hy
  refine (out_15 _ _ _ _ _ _ _ _ _ _ _ _ _ _ _ _ _ _ _ _ _ _ _ _ _ _ _ _ _ _ _ _ _ _ _ _ _ _ _ _ _ _ _ _ _ _ _ _ _ _ _ _ _ _).trans ?_
  unfold blkA val
  simp only [blk0, blk1, blk2, blk3, blk4, hr]
  have hz : ∀ (p p' : ℕ) (hp : p < 8192) (hp' : p' < 8192) (q q' : ℕ) (hq : q < 512) (hq' : q' < 512) (z : Vec Ideal S2x8192x512 .f32), p = p' → q = q' → gl (z (ix3 (i 0) ⟨p, hp⟩ ⟨q, hq⟩)) = gl (z (ix3 (i 0) ⟨p', hp'⟩ ⟨q', hq'⟩)) := by
    intro p p' hp hp' q q' hq hq' z e1 e2
    subst e1 e2
    rfl
  have er : ((i 1).val % 1024) % 128 = (i 1).val % 128 := by omega
  refine congrArg₂ (· * ·) (hz _ _ _ _ _ _ _ _ _ ?_ ?_) (congrArg₂ (· + ·) (Finset.sum_congr rfl fun q _ => congrArg₂ (· * ·) (congrArg _ ?_) ?_) (congrArg _ ?_))
  · show t.val % 8 * 1024 + ((i 1).val % 1024 / 128 * 128 + (i 1).val % 1024 % 128) = (i 1).val
    omega
  · show 0 + (0 + (i 2).val) = 0 + (i 2).val
    omega
  · have e1 : ((i 2).val / 64 * 128 + q.val) / 128 = (i 2).val / 64 := by omega
    have e2 : ((i 2).val / 64 * 128 + q.val) % 128 = q.val := by omega
    funext a
    match a with
    | ⟨0, _⟩ => exact Fin.ext e1
    | ⟨1, _⟩ => exact Fin.ext er
    | ⟨2, _⟩ => exact Fin.ext e2
  · refine congrArg (fun v : Fin 256 → EReal => ln v _ _ _) (funext fun n => hz _ _ _ _ _ _ _ _ _ ?_ ?_)
    · show t.val % 8 * 1024 + ((i 1).val % 1024 / 128 * 128 + q.val) = (i 1).val / 128 * 128 + q.val
      omega
    · show 0 + (256 + n.val) = 256 + n.val
      omega
  · funext a
    match a with
    | ⟨0, _⟩ => rfl
    | ⟨1, _⟩ => exact Fin.ext er

/-- The array the call ends with: the convolution. -/
theorem final16 (c : Dev nD) (i : S2x8192x256.Idx) :
    (dats m 0 c).arrAt 16 cfg0.N i = row (padded (m ((c : Thread nD τ).loc main_arg5)) (i 0)) (fun j l => (m ((c : Thread nD τ).loc main_arg6) : Vec Ideal S31x256 .f32) (ix2 j l))
      (fun l => (m ((c : Thread nD τ).loc main_arg7) : Vec Ideal S256 .f32) (ix1 l)) (fun l => (m ((c : Thread nD τ).loc main_arg8) : Vec Ideal S256 .f32) (ix1 l)) (fun l => (m ((c : Thread nD τ).loc main_arg9) : Vec Ideal S256 .f32) (ix1 l)) (i 1).val (i 2) := by
  have h0 : (i 0).val < 2 := (i 0).isLt
  have h1 : (i 1).val < 8192 := (i 1).isLt
  have h2 : (i 2).val < 256 := (i 2).isLt
  have hN : cfg0.N = 16 := N_0
  obtain ⟨t, ht⟩ : ∃ t : Fin cfg0.N, t.val = (i 0).val * 8 + (i 1).val / 1024 := ⟨⟨_, by rw [hN]; omega⟩, rfl⟩
  obtain ⟨y, hy⟩ : ∃ y : S1x1024x256.Idx, y = ix3 0 ⟨(i 1).val % 1024, by omega⟩ (i 2) := ⟨_, rfl⟩
  have hi := (by decide +kernel : ∀ t : Fin grid0.N, win0_16.index t 0 = t.val / 8 ∧ win0_16.index t 1 = t.val % 8 ∧ win0_16.index t 2 = 0) t
  have hfl := (by decide +kernel : ∀ t : Fin grid0.N, (cfg0.win 16).flush t = true) t
  have he : ((cfg0.win 16).blk t).view.emb y = i := by
    subst hy
    funext a
    apply Fin.ext
    match a with
    | ⟨0, _⟩ => show win0_16.index t 0 * 1 + 1 * 0 = (i 0).val; rw [hi.1]; omega
    | ⟨1, _⟩ => show win0_16.index t 1 * 1024 + 1 * ((i 1).val % 1024) = (i 1).val; rw [hi.2.1]; omega
    | ⟨2, _⟩ => show win0_16.index t 2 * 256 + 1 * (i 2).val = (i 2).val; rw [hi.2.2]; omega
  have hb := congrFun (Value.blocks16 m c t hfl) y
  rw [View.read_apply, Value.flushed16_A] at hb
  have hr : brow t = i 0 := Fin.ext (by show t.val / 8 = (i 0).val; omega)
  have e : (dats m 0 c).arrAt 16 cfg0.N i = (dats m 0 c).arrAt 16 cfg0.N (((cfg0.win 16).blk t).view.emb y) := congrArg _ he.symm
  refine e.trans (hb.trans ?_)
  subst hy
  refine (out_16 _ _ _ _ _ _ _ _ _ _ _ _ _ _ _ _ _ _ _ _ _ _ _ _ _ _ _ _ _ _ _ _ _ _ _ _ _ _ _ _ _ _ _ _ _ _ _ _ _ _ _ _ _ _).trans ?_
  unfold blkC
  rw [coord t]
  simp only [blk11, blk12, blk13, blk14]
  refine row_congr _ _ _ _ _ fun j q => ?_
  have hj : j.val < 31 := j.isLt
  refine (scr_padded m c t _ (by show (i 1).val % 1024 + (j.val + 1) < 1056; omega) q).trans ?_
  rw [hr]
  refine congrArg (fun k : ℕ => padded _ (i 0) k q) ?_
  show t.val % 8 * 1024 + ((i 1).val % 1024 + (j.val + 1)) = (i 1).val + (j.val + 1)
  omega

end Cert.Proof.Lat
-- ==== Proof.LatPlainA.lean ====
/-
  The latent tokens' gated MLP: the plain layer's array, read at an index, is the call's.
-/
module

public import proofs.«01_k».proof.Proof.Gen.Reference10Ideal.Run
public import proofs.«01_k».proof.Proof.LatRow

@[expose] public section

set_option maxRecDepth 16384

noncomputable section

namespace Cert.Proof.LatPlainA

open Idealize.ShloMosaic Idealize.ShloMosaic.Tactic Cert.Reference10Ideal Cert.Reference10Ideal.Gen Cert.Reference10Ideal.Value Idealize.ShloMosaic.TcCoe
open Cert.Proof.Gmlp (gl ln mean)
open Cert.Proof.Lat (val)

/-- The plain layer's Gaussian unit. -/
def glT (z : FVec Ideal S2x8192x512 .f32) : FVec Ideal S2x8192x512 .f32 :=
  mulf z (mulf (broadcastInDim S2x8192x512 ![] bcast_S_S2x8192x512 (constant S_ .f32 0x3F000000#32)) (addf (broadcastInDim S2x8192x512 ![] bcast_S_S2x8192x512 (constant S_ .f32 0x3F800000#32)) (Host.tanh (mulf (broadcastInDim S2x8192x512 ![] bcast_S_S2x8192x512 (constant S_ .f32 0x3F4C422A#32)) (addf z (mulf (broadcastInDim S2x8192x512 ![] bcast_S_S2x8192x512 (constant S_ .f32 0x3D372713#32)) (mulf (mulf z z) z)))))))

/-- The plain layer's row means. -/
def meT (v : FVec Ideal S2x8192x256 .f32) : FVec Ideal S2x8192x1 .f32 :=
  Host.divf (broadcastInDim S2x8192x1 ![0, 1] bcast_S2x8192_S2x8192x1_0_1 (Host.reduceAdd v (constant S_ .f32 0x00000000#32) reducesTo_S2x8192x256_S2x8192_d2 h_S_)) (broadcastInDim S2x8192x1 ![] bcast_S_S2x8192x1 (constant S_ .f32 0x43800000#32))

/-- Rows less their means. -/
def ceT (v : FVec Ideal S2x8192x256 .f32) : FVec Ideal S2x8192x256 .f32 :=
  subf v (broadcastInDim S2x8192x256 ![0, 1, 2] bcast_S2x8192x1_S2x8192x256_0_1_2 (meT v))

/-- The plain layer's normalised rows. -/
def lnT (v : FVec Ideal S2x8192x256 .f32) (g b : FVec Ideal S256 .f32) : FVec Ideal S2x8192x256 .f32 :=
  addf (mulf (mulf (ceT v) (broadcastInDim S2x8192x256 ![0, 1, 2] bcast_S2x8192x1_S2x8192x256_0_1_2 (Host.rsqrt (addf (meT (mulf (ceT v) (ceT v))) (broadcastInDim S2x8192x1 ![] bcast_S_S2x8192x1 (constant S_ .f32 0x358637BD#32))))))
    (broadcastInDim S2x8192x256 ![0, 1, 2] bcast_S1x1x256_S2x8192x256_0_1_2 (broadcastInDim S1x1x256 ![2] bcast_S256_S1x1x256_2 g)))
    (broadcastInDim S2x8192x256 ![0, 1, 2] bcast_S1x1x256_S2x8192x256_0_1_2 (broadcastInDim S1x1x256 ![2] bcast_S256_S1x1x256_2 b))

/-- The plain layer's mixed rows with their bias. -/
def mxT (w : FVec Ideal S4x128x128 .f32) (v : FVec Ideal S2x8192x256 .f32) (bs : FVec Ideal S4x128 .f32) : FVec Ideal S2x8192x256 .f32 :=
  shapeCast _ (addf (transpose S2x64x128x4x64 [2, 3, 1, 0, 4] (Host.dotGeneral dot_S4x128x128_S2x64x128x4x64_S4x128x2x64x64_2_2_1_014_0_3 none w (shapeCast _ v shapeCasts_S2x8192x256_S2x64x128x4x64)) transposes_S4x128x2x64x64_S2x64x128x4x64_2_3_1_0_4)
    (broadcastInDim S2x64x128x4x64 ![0, 1, 2, 3, 4] bcast_S1x1x128x4x1_S2x64x128x4x64_0_1_2_3_4 (broadcastInDim S1x1x128x4x1 ![2, 3] bcast_S128x4_S1x1x128x4x1_2_3 (transpose S128x4 [1, 0] bs transposes_S4x128_S128x4_1_0)))) shapeCasts_S2x64x128x4x64_S2x8192x256

/-- The plain layer's result. -/
def resT (z : FVec Ideal S2x8192x512 .f32) (g b : FVec Ideal S256 .f32) (w : FVec Ideal S4x128x128 .f32) (bs : FVec Ideal S4x128 .f32) : FVec Ideal S2x8192x256 .bf16 :=
  truncf .bf16 (mulf (extractStridedSlice S2x8192x256 ![0, 0, 0] (glT z) slices_S2x8192x512_S2x8192x256_0_0_0)
    (mxT w (lnT (extractStridedSlice S2x8192x256 ![0, 0, 256] (glT z) slices_S2x8192x512_S2x8192x256_0_0_256) g b) bs)) bitsLt_bf16_f32

/-- The Gaussian unit at an index. -/
theorem glT_apply (z : FVec Ideal S2x8192x512 .f32) (i : S2x8192x512.Idx) : glT z i = gl (z i) := by
  pointwise [glT, gl]

/-- The row means at an index. -/
theorem meT_apply (v : FVec Ideal S2x8192x256 .f32) (i : S2x8192x1.Idx) : meT v i = mean (fun q => v (ix3 (i 0) (i 1) q)) := by
  pointwise [meT, mean]

/-- The centred rows at an index. -/
theorem ceT_apply (v : FVec Ideal S2x8192x256 .f32) (i : S2x8192x256.Idx) : ceT v i = v i - mean (fun q => v (ix3 (i 0) (i 1) q)) := by
  pointwise [ceT, meT, mean]

/-- The normalised rows at an index. -/
theorem lnT_apply (v : FVec Ideal S2x8192x256 .f32) (g b : FVec Ideal S256 .f32) (i : S2x8192x256.Idx) :
    lnT v g b i = ln (fun q => v (ix3 (i 0) (i 1) q)) (g (ix1 (i 2))) (b (ix1 (i 2))) (i 2) := by
  pointwise [lnT, ceT, meT, ln, mean]

/-- The mixed rows at an index. -/
theorem mxT_apply (w : FVec Ideal S4x128x128 .f32) (v : FVec Ideal S2x8192x256 .f32) (bs : FVec Ideal S4x128 .f32) (i : S2x8192x256.Idx) :
    mxT w v bs i = ∑ q : Fin 128, w (ix3 ⟨(i 2).val / 64, by have : (i 2).val < 256 := (i 2).isLt; omega⟩ ⟨(i 1).val % 128, by omega⟩ q)
        * v (ix3 (i 0) ⟨(i 1).val / 128 * 128 + q.val, by have : (i 1).val < 8192 := (i 1).isLt; omega⟩ (i 2))
      + bs (ix2 ⟨(i 2).val / 64, by have : (i 2).val < 256 := (i 2).isLt; omega⟩ ⟨(i 1).val % 128, by omega⟩) := by
  pointwise [mxT]

/-- The plain layer's array at an index. -/
theorem plain (z : FVec Ideal S2x8192x512 .f32) (g b : FVec Ideal S256 .f32) (w : FVec Ideal S4x128x128 .f32) (bs : FVec Ideal S4x128 .f32) (i : S2x8192x256.Idx) :
    resT z g b w bs i = val z g b w bs (i 0) (i 1) (i 2) := by
  have e : resT z g b w bs i = glT z (ix3 (i 0) (i 1) ⟨0 + (i 2).val, by have : (i 2).val < 256 := (i 2).isLt; omega⟩)
      * mxT w (lnT (extractStridedSlice S2x8192x256 ![0, 0, 256] (glT z) slices_S2x8192x512_S2x8192x256_0_0_256) g b) bs i := by
    pointwise [resT]
  refine e.trans ?_
  unfold val
  refine congrArg₂ (· * ·) (glT_apply z _) ((mxT_apply _ _ _ i).trans (congrArg₂ (· + ·) (Finset.sum_congr rfl fun q _ => congrArg (_ * ·) ?_) rfl))
  refine (lnT_apply _ _ _ _).trans (congrArg (fun v : Fin 256 → EReal => ln v _ _ _) (funext fun n => ?_))
  refine Eq.trans (by pointwise) (glT_apply z (ix3 (i 0) ⟨(i 1).val / 128 * 128 + q.val, by have : (i 1).val < 8192 := (i 1).isLt; omega⟩ ⟨256 + n.val, by omega⟩))

/-- Equal arrays give equal results. -/
theorem resT_congr {z z' : FVec Ideal S2x8192x512 .f32} {g g' b b' : FVec Ideal S256 .f32} {w w' : FVec Ideal S4x128x128 .f32} {bs bs' : FVec Ideal S4x128 .f32}
    (h0 : z = z') (h1 : g = g') (h2 : b = b') (h3 : w = w') (h4 : bs = bs') : resT z g b w bs = resT z' g' b' w' bs' := by
  rw [h0, h1, h2, h3, h4]

/-- The program's result is that term. -/
theorem res_eq (V : Valuation τ sig (Elt Ideal)) :
    truncf .bf16 (mulf (extractStridedSlice S2x8192x256 ![0, 0, 0] (res_main_v12 V) slices_S2x8192x512_S2x8192x256_0_0_0) (shapeCast _ (addf (transpose S2x64x128x4x64 [2, 3, 1, 0, 4] (Host.dotGeneral (φ₁ := .f32) (φ₂ := .f32) dot_S4x128x128_S2x64x128x4x64_S4x128x2x64x64_2_2_1_014_0_3 none (V (Proc.devRef .tc main_arg3) : FVec Ideal S4x128x128 .f32) (shapeCast _ (addf (mulf (mulf (subf (res_main_v14 V) (broadcastInDim S2x8192x256 ![0, 1, 2] bcast_S2x8192x1_S2x8192x256_0_1_2 (res_main_v18 V))) (broadcastInDim S2x8192x256 ![0, 1, 2] bcast_S2x8192x1_S2x8192x256_0_1_2 (Host.rsqrt (addf (Host.divf (broadcastInDim S2x8192x1 ![0, 1] bcast_S2x8192_S2x8192x1_0_1 (Host.reduceAdd (mulf (res_main_v20 V) (res_main_v20 V)) (constant S_ .f32 0x00000000#32) reducesTo_S2x8192x256_S2x8192_d2 h_S_)) (broadcastInDim S2x8192x1 ![] bcast_S_S2x8192x1 (constant S_ .f32 0x43800000#32))) (broadcastInDim S2x8192x1 ![] bcast_S_S2x8192x1 (constant S_ .f32 0x358637BD#32)))))) (broadcastInDim S2x8192x256 ![0, 1, 2] bcast_S1x1x256_S2x8192x256_0_1_2 (broadcastInDim S1x1x256 ![2] bcast_S256_S1x1x256_2 (V (Proc.devRef .tc main_arg1))))) (broadcastInDim S2x8192x256 ![0, 1, 2] bcast_S1x1x256_S2x8192x256_0_1_2 (broadcastInDim S1x1x256 ![2] bcast_S256_S1x1x256_2 (V (Proc.devRef .tc main_arg2))))) shapeCasts_S2x8192x256_S2x64x128x4x64)) transposes_S4x128x2x64x64_S2x64x128x4x64_2_3_1_0_4) (broadcastInDim S2x64x128x4x64 ![0, 1, 2, 3, 4] bcast_S1x1x128x4x1_S2x64x128x4x64_0_1_2_3_4 (broadcastInDim S1x1x128x4x1 ![2, 3] bcast_S128x4_S1x1x128x4x1_2_3 (transpose S128x4 [1, 0] (V (Proc.devRef .tc main_arg4)) transposes_S4x128_S128x4_1_0)))) shapeCasts_S2x64x128x4x64_S2x8192x256)) bitsLt_bf16_f32
      = resT (V (Proc.devRef .tc main_arg0)) (V (Proc.devRef .tc main_arg1)) (V (Proc.devRef .tc main_arg2)) (V (Proc.devRef .tc main_arg3)) (V (Proc.devRef .tc main_arg4)) := rfl

end Cert.Proof.LatPlainA
-- ==== Proof.LatPlainC.lean ====
/-
  The latent tokens' convolution: the plain layer's array, read at an index, is the call's.
-/
module

public import proofs.«01_k».proof.Proof.Gen.Reference10Ideal.Run
public import proofs.«01_k».proof.Proof.LatRow

@[expose] public section

set_option maxRecDepth 16384

noncomputable section

namespace Cert.Proof.LatPlainC

open Idealize.ShloMosaic Idealize.ShloMosaic.Tactic Cert.Reference10Ideal Cert.Reference10Ideal.Gen Cert.Reference10Ideal.Value Idealize.ShloMosaic.TcCoe
open Cert.Proof.Conv (glu silu ln mean)
open Cert.Proof.Lat (conv row padded)
open Cert.Proof.Scalar (half)

/-- The gated tokens, padded. -/
def ypT (z : FVec Ideal S2x8192x512 .f32) : FVec Ideal S2x8222x256 .f32 :=
  pad S2x8222x256 ![0, 15, 0] ![0, 15, 0] ![0, 0, 0] (mulf (extractStridedSlice S2x8192x256 ![0, 0, 0] z slices_S2x8192x512_S2x8192x256_0_0_0) (Host.divf (broadcastInDim S2x8192x256 ![] bcast_S_S2x8192x256 (constant S_ .f32 0x3F800000#32)) (addf (broadcastInDim S2x8192x256 ![] bcast_S_S2x8192x256 (constant S_ .f32 0x3F800000#32)) (Host.exp (Host.negf (extractStridedSlice S2x8192x256 ![0, 0, 256] z slices_S2x8192x512_S2x8192x256_0_0_256)))))) (sitofp .f32 (constantI S_ 32 0#32)) pads_S2x8192x256_S2x8222x256_000_15150_000 h_S_

/-- A tap's rows lie inside the padded tokens. -/
theorem slY : ∀ j : Fin 31, S2x8222x256.Slices ![0, j.val, 0] S2x8192x256 := by decide

/-- A tap's weights lie inside the weights. -/
theorem slW : ∀ j : Fin 31, S31x256.Slices ![j.val, 0] S1x256 := by decide

/-- A tap's term. -/
def tp (y : FVec Ideal S2x8222x256 .f32) (w : FVec Ideal S31x256 .f32) (j : Fin 31) : FVec Ideal S2x8192x256 .f32 :=
  mulf (extractStridedSlice S2x8192x256 ![0, j.val, 0] y (slY j)) (broadcastInDim S2x8192x256 ![0, 1, 2] bcast_S1x1x256_S2x8192x256_0_1_2 (broadcastInDim S1x1x256 ![2] bcast_S256_S1x1x256_2 (shapeCast _ (extractStridedSlice S1x256 ![j.val, 0] w (slW j)) shapeCasts_S1x256_S256)))

/-- A tap's term at an index. -/
theorem tp_apply (y : FVec Ideal S2x8222x256 .f32) (w : FVec Ideal S31x256 .f32) (j : Fin 31) (i : S2x8192x256.Idx) :
    tp y w j i = y (ix3 (i 0) ⟨j.val + (i 1).val, by have : (i 1).val < 8192 := (i 1).isLt; omega⟩ (i 2)) * w (ix2 j (i 2)) := by
  pointwise [tp]

/-- The padded tokens at an index. -/
theorem ypT_apply (z : FVec Ideal S2x8192x512 .f32) (i : S2x8222x256.Idx) :
    ypT z i = if h : 15 ≤ (i 1).val ∧ (i 1).val - 15 < 8192 then
        glu (z (ix3 (i 0) ⟨(i 1).val - 15, h.2⟩ ⟨0 + (i 2).val, by have : (i 2).val < 256 := (i 2).isLt; omega⟩)) (z (ix3 (i 0) ⟨(i 1).val - 15, h.2⟩ ⟨256 + (i 2).val, by have : (i 2).val < 256 := (i 2).isLt; omega⟩))
      else 0 := by
  have h0 : FloatOps.sitofp (F := Ideal) FTy.f32 0#32 = 0 := by
    show ((((0#32 : BitVec 32).toInt : ℝ)) : EReal) = 0
    simp
  unfold glu
  simp only [Cert.Proof.Scalar.sigmoid_eq]
  rw [← h0]
  pointwise [ypT]

/-- The convolved tokens. -/
def cvT (y : FVec Ideal S2x8222x256 .f32) (w : FVec Ideal S31x256 .f32) (cb : FVec Ideal S256 .f32) : FVec Ideal S2x8192x256 .f32 :=
  addf (addf (addf (addf (addf (addf (addf (addf (addf (addf (addf (addf (addf (addf (addf (addf (addf (addf (addf (addf (addf (addf (addf (addf (addf (addf (addf (addf (addf (addf (addf (addf (broadcastInDim S2x8192x256 ![] bcast_S_S2x8192x256 (constant S_ .f32 0x00000000#32)) (tp y w 0)) (tp y w 1)) (tp y w 2)) (tp y w 3)) (tp y w 4)) (tp y w 5)) (tp y w 6)) (tp y w 7)) (tp y w 8)) (tp y w 9)) (tp y w 10)) (tp y w 11)) (tp y w 12)) (tp y w 13)) (tp y w 14)) (tp y w 15)) (tp y w 16)) (tp y w 17)) (tp y w 18)) (tp y w 19)) (tp y w 20)) (tp y w 21)) (tp y w 22)) (tp y w 23)) (tp y w 24)) (tp y w 25)) (tp y w 26)) (tp y w 27)) (tp y w 28)) (tp y w 29)) (tp y w 30)) (broadcastInDim S2x8192x256 ![0, 1, 2] bcast_S1x1x256_S2x8192x256_0_1_2 (broadcastInDim S1x1x256 ![2] bcast_S256_S1x1x256_2 cb))

/-- The convolved tokens at an index. -/
theorem cvT_apply (y : FVec Ideal S2x8222x256 .f32) (w : FVec Ideal S31x256 .f32) (cb : FVec Ideal S256 .f32) (i : S2x8192x256.Idx) :
    cvT y w cb i = ∑ j : Fin 31, tp y w j i + cb (ix1 (i 2)) := by
  have ec : (broadcastInDim S2x8192x256 ![0, 1, 2] bcast_S1x1x256_S2x8192x256_0_1_2 (broadcastInDim S1x1x256 ![2] bcast_S256_S1x1x256_2 cb)) i = cb (ix1 (i 2)) := by pointwise
  have ez : (broadcastInDim S2x8192x256 ![] bcast_S_S2x8192x256 (constant (F := Ideal) S_ .f32 0x00000000#32)) i = 0 := by pointwise
  refine congrArg₂ (· + ·) ?_ ec
  have key : ∀ (z0 : EReal) (X : Fin 31 → EReal), z0 = 0 → z0 + X 0 + X 1 + X 2 + X 3 + X 4 + X 5 + X 6 + X 7 + X 8 + X 9 + X 10 + X 11 + X 12 + X 13 + X 14 + X 15 + X 16 + X 17 + X 18 + X 19 + X 20 + X 21 + X 22 + X 23 + X 24 + X 25 + X 26 + X 27 + X 28 + X 29 + X 30 = ∑ j : Fin 31, X j := by
    intro z0 X hz
    have hs : ∑ j : Fin 31, X j = X 0 + (X 1 + (X 2 + (X 3 + (X 4 + (X 5 + (X 6 + (X 7 + (X 8 + (X 9 + (X 10 + (X 11 + (X 12 + (X 13 + (X 14 + (X 15 + (X 16 + (X 17 + (X 18 + (X 19 + (X 20 + (X 21 + (X 22 + (X 23 + (X 24 + (X 25 + (X 26 + (X 27 + (X 28 + (X 29 + (X 30 + 0)))))))))))))))))))))))))))))) := rfl
    rw [hz, zero_add, hs, add_zero]
    simp only [add_assoc]
  exact key _ (fun j => tp y w j i) ez

/-- The plain layer's row means. -/
def meT (v : FVec Ideal S2x8192x256 .f32) : FVec Ideal S2x8192x1 .f32 :=
  Host.divf (broadcastInDim S2x8192x1 ![0, 1] bcast_S2x8192_S2x8192x1_0_1 (Host.reduceAdd v (constant S_ .f32 0x00000000#32) reducesTo_S2x8192x256_S2x8192_d2 h_S_)) (broadcastInDim S2x8192x1 ![] bcast_S_S2x8192x1 (constant S_ .f32 0x43800000#32))

/-- Rows less their means. -/
def ceT (v : FVec Ideal S2x8192x256 .f32) : FVec Ideal S2x8192x256 .f32 :=
  subf v (broadcastInDim S2x8192x256 ![0, 1, 2] bcast_S2x8192x1_S2x8192x256_0_1_2 (meT v))

/-- The plain layer's normalised rows. -/
def lnT (v : FVec Ideal S2x8192x256 .f32) (g b : FVec Ideal S256 .f32) : FVec Ideal S2x8192x256 .f32 :=
  addf (mulf (mulf (ceT v) (broadcastInDim S2x8192x256 ![0, 1, 2] bcast_S2x8192x1_S2x8192x256_0_1_2 (Host.rsqrt (addf (meT (mulf (ceT v) (ceT v))) (broadcastInDim S2x8192x1 ![] bcast_S_S2x8192x1 (constant S_ .f32 0x358637BD#32))))))
    (broadcastInDim S2x8192x256 ![0, 1, 2] bcast_S1x1x256_S2x8192x256_0_1_2 (broadcastInDim S1x1x256 ![2] bcast_S256_S1x1x256_2 g)))
    (broadcastInDim S2x8192x256 ![0, 1, 2] bcast_S1x1x256_S2x8192x256_0_1_2 (broadcastInDim S1x1x256 ![2] bcast_S256_S1x1x256_2 b))

/-- Rows gated by their own sigmoid. -/
def siT (v : FVec Ideal S2x8192x256 .f32) : FVec Ideal S2x8192x256 .bf16 :=
  truncf .bf16 (mulf v (Host.divf (broadcastInDim S2x8192x256 ![] bcast_S_S2x8192x256 (constant S_ .f32 0x3F800000#32)) (addf (broadcastInDim S2x8192x256 ![] bcast_S_S2x8192x256 (constant S_ .f32 0x3F800000#32)) (Host.exp (Host.negf v))))) bitsLt_bf16_f32

/-- The plain layer's result. -/
def resT (z : FVec Ideal S2x8192x512 .f32) (w : FVec Ideal S31x256 .f32) (cb g b : FVec Ideal S256 .f32) : FVec Ideal S2x8192x256 .bf16 :=
  siT (lnT (cvT (ypT z) w cb) g b)

/-- The normalised rows at an index. -/
theorem lnT_apply (v : FVec Ideal S2x8192x256 .f32) (g b : FVec Ideal S256 .f32) (i : S2x8192x256.Idx) :
    lnT v g b i = ln (fun q => v (ix3 (i 0) (i 1) q)) (g (ix1 (i 2))) (b (ix1 (i 2))) (i 2) := by
  pointwise [lnT, ceT, meT, ln, mean]

/-- The gated rows at an index. -/
theorem siT_apply (v : FVec Ideal S2x8192x256 .f32) (i : S2x8192x256.Idx) : siT v i = silu (v i) := by
  unfold silu
  simp only [Cert.Proof.Scalar.sigmoid_eq]
  pointwise [siT]

/-- The plain layer's array at an index. -/
theorem plain (z : FVec Ideal S2x8192x512 .f32) (w : FVec Ideal S31x256 .f32) (cb g b : FVec Ideal S256 .f32) (i : S2x8192x256.Idx) :
    resT z w cb g b i = row (padded z (i 0)) (fun j l => w (ix2 j l)) (fun l => cb (ix1 l)) (fun l => g (ix1 l)) (fun l => b (ix1 l)) (i 1).val (i 2) := by
  unfold resT row
  refine (siT_apply _ i).trans (congrArg silu ((lnT_apply _ g b i).trans ?_))
  refine congrArg (fun v : Fin 256 → EReal => ln v _ _ (i 2)) (funext fun q => (cvT_apply _ w cb _).trans ?_)
  unfold conv
  refine congrArg (· + _) (Finset.sum_congr rfl fun j _ => (tp_apply _ w j _).trans (congrArg (· * _) ((ypT_apply z _).trans ?_)))
  have h1 : (i 1).val < 8192 := (i 1).isLt
  have hj : j.val < 31 := j.isLt
  unfold padded
  show (if h : 15 ≤ j.val + (i 1).val ∧ j.val + (i 1).val - 15 < 8192 then
        glu (z (ix3 (i 0) ⟨j.val + (i 1).val - 15, h.2⟩ ⟨0 + q.val, by omega⟩)) (z (ix3 (i 0) ⟨j.val + (i 1).val - 15, h.2⟩ ⟨256 + q.val, by omega⟩)) else 0) = _
  by_cases h : 15 ≤ j.val + (i 1).val ∧ j.val + (i 1).val - 15 < 8192
  · rw [dif_pos h, dif_pos (show 16 ≤ (i 1).val + (j.val + 1) ∧ (i 1).val + (j.val + 1) < 8208 by omega)]
    have e : (⟨j.val + (i 1).val - 15, h.2⟩ : Fin 8192) = ⟨(i 1).val + (j.val + 1) - 16, by omega⟩ := Fin.ext (by show j.val + (i 1).val - 15 = (i 1).val + (j.val + 1) - 16; omega)
    exact congrArg (fun p : Fin 8192 => glu (z (ix3 (i 0) p ⟨0 + q.val, by omega⟩)) (z (ix3 (i 0) p ⟨256 + q.val, by omega⟩))) e
  · rw [dif_neg h, dif_neg (by omega)]

/-- Equal arrays give equal results. -/
theorem resT_congr {z z' : FVec Ideal S2x8192x512 .f32} {w w' : FVec Ideal S31x256 .f32} {cb cb' g g' b b' : FVec Ideal S256 .f32}
    (h0 : z = z') (h1 : w = w') (h2 : cb = cb') (h3 : g = g') (h4 : b = b') : resT z w cb g b = resT z' w' cb' g' b' := by
  rw [h0, h1, h2, h3, h4]

/-- The program's result is that term. -/
theorem res_eq (V : Valuation τ sig (Elt Ideal)) :
    truncf .bf16 (mulf (res_main_v303 V) (Host.divf (broadcastInDim S2x8192x256 ![] bcast_S_S2x8192x256 (constant S_ .f32 0x3F800000#32)) (addf (broadcastInDim S2x8192x256 ![] bcast_S_S2x8192x256 (constant S_ .f32 0x3F800000#32)) (Host.exp (Host.negf (res_main_v303 V)))))) bitsLt_bf16_f32
      = resT (V (Proc.devRef .tc main_arg5)) (V (Proc.devRef .tc main_arg6)) (V (Proc.devRef .tc main_arg7)) (V (Proc.devRef .tc main_arg8)) (V (Proc.devRef .tc main_arg9)) := rfl

end Cert.Proof.LatPlainC
-- ==== Proof.ConvPlain.lean ====
/-
  The context's convolution: the plain layer's array, read at an index, is the call's.
-/
module

public import proofs.«01_k».proof.Proof.Gen.Reference9Ideal.Run
public import proofs.«01_k».proof.Proof.ConvRow

@[expose] public section

set_option maxRecDepth 16384

noncomputable section

namespace Cert.Proof.ConvPlain

open Idealize.ShloMosaic Idealize.ShloMosaic.Tactic Cert.Reference9Ideal Cert.Reference9Ideal.Gen Cert.Reference9Ideal.Value Idealize.ShloMosaic.TcCoe
open Cert.Proof.Conv (glu silu ln mean conv row)
open Cert.Proof.Scalar (half)

/-- The gated tokens, padded. -/
def ypT (z : FVec Ideal S2x256x512 .f32) : FVec Ideal S2x286x256 .f32 :=
  pad S2x286x256 ![0, 15, 0] ![0, 15, 0] ![0, 0, 0] (mulf (extractStridedSlice S2x256x256 ![0, 0, 0] z slices_S2x256x512_S2x256x256_0_0_0) (Host.divf (broadcastInDim S2x256x256 ![] bcast_S_S2x256x256 (constant S_ .f32 0x3F800000#32)) (addf (broadcastInDim S2x256x256 ![] bcast_S_S2x256x256 (constant S_ .f32 0x3F800000#32)) (Host.exp (Host.negf (extractStridedSlice S2x256x256 ![0, 0, 256] z slices_S2x256x512_S2x256x256_0_0_256)))))) (sitofp .f32 (constantI S_ 32 0#32)) pads_S2x256x256_S2x286x256_000_15150_000 h_S_

/-- A tap's rows lie inside the padded tokens. -/
theorem slY : ∀ j : Fin 31, S2x286x256.Slices ![0, j.val, 0] S2x256x256 := by decide

/-- A tap's weights lie inside the weights. -/
theorem slW : ∀ j : Fin 31, S31x256.Slices ![j.val, 0] S1x256 := by decide

/-- A tap's term. -/
def tp (y : FVec Ideal S2x286x256 .f32) (w : FVec Ideal S31x256 .f32) (j : Fin 31) : FVec Ideal S2x256x256 .f32 :=
  mulf (extractStridedSlice S2x256x256 ![0, j.val, 0] y (slY j)) (broadcastInDim S2x256x256 ![0, 1, 2] bcast_S1x1x256_S2x256x256_0_1_2 (broadcastInDim S1x1x256 ![2] bcast_S256_S1x1x256_2 (shapeCast _ (extractStridedSlice S1x256 ![j.val, 0] w (slW j)) shapeCasts_S1x256_S256)))

/-- A tap's term at an index. -/
theorem tp_apply (y : FVec Ideal S2x286x256 .f32) (w : FVec Ideal S31x256 .f32) (j : Fin 31) (i : S2x256x256.Idx) :
    tp y w j i = y (ix3 (i 0) ⟨j.val + (i 1).val, by have : (i 1).val < 256 := (i 1).isLt; omega⟩ (i 2)) * w (ix2 j (i 2)) := by
  pointwise [tp]

/-- The padded tokens at an index. -/
theorem ypT_apply (z : FVec Ideal S2x256x512 .f32) (i : S2x286x256.Idx) :
    ypT z i = if h : 15 ≤ (i 1).val ∧ (i 1).val - 15 < 256 then
        glu (z (ix3 (i 0) ⟨(i 1).val - 15, h.2⟩ ⟨0 + (i 2).val, by have : (i 2).val < 256 := (i 2).isLt; omega⟩)) (z (ix3 (i 0) ⟨(i 1).val - 15, h.2⟩ ⟨256 + (i 2).val, by have : (i 2).val < 256 := (i 2).isLt; omega⟩))
      else 0 := by
  have h0 : FloatOps.sitofp (F := Ideal) FTy.f32 0#32 = 0 := by
    show ((((0#32 : BitVec 32).toInt : ℝ)) : EReal) = 0
    simp
  unfold glu
  simp only [Cert.Proof.Scalar.sigmoid_eq]
  rw [← h0]
  pointwise [ypT]

/-- The convolved tokens. -/
def cvT (y : FVec Ideal S2x286x256 .f32) (w : FVec Ideal S31x256 .f32) (cb : FVec Ideal S256 .f32) : FVec Ideal S2x256x256 .f32 :=
  addf (addf (addf (addf (addf (addf (addf (addf (addf (addf (addf (addf (addf (addf (addf (addf (addf (addf (addf (addf (addf (addf (addf (addf (addf (addf (addf (addf (addf (addf (addf (addf (broadcastInDim S2x256x256 ![] bcast_S_S2x256x256 (constant S_ .f32 0x00000000#32)) (tp y w 0)) (tp y w 1)) (tp y w 2)) (tp y w 3)) (tp y w 4)) (tp y w 5)) (tp y w 6)) (tp y w 7)) (tp y w 8)) (tp y w 9)) (tp y w 10)) (tp y w 11)) (tp y w 12)) (tp y w 13)) (tp y w 14)) (tp y w 15)) (tp y w 16)) (tp y w 17)) (tp y w 18)) (tp y w 19)) (tp y w 20)) (tp y w 21)) (tp y w 22)) (tp y w 23)) (tp y w 24)) (tp y w 25)) (tp y w 26)) (tp y w 27)) (tp y w 28)) (tp y w 29)) (tp y w 30)) (broadcastInDim S2x256x256 ![0, 1, 2] bcast_S1x1x256_S2x256x256_0_1_2 (broadcastInDim S1x1x256 ![2] bcast_S256_S1x1x256_2 cb))

/-- The convolved tokens at an index. -/
theorem cvT_apply (y : FVec Ideal S2x286x256 .f32) (w : FVec Ideal S31x256 .f32) (cb : FVec Ideal S256 .f32) (i : S2x256x256.Idx) :
    cvT y w cb i = ∑ j : Fin 31, tp y w j i + cb (ix1 (i 2)) := by
  have ec : (broadcastInDim S2x256x256 ![0, 1, 2] bcast_S1x1x256_S2x256x256_0_1_2 (broadcastInDim S1x1x256 ![2] bcast_S256_S1x1x256_2 cb)) i = cb (ix1 (i 2)) := by pointwise
  have ez : (broadcastInDim S2x256x256 ![] bcast_S_S2x256x256 (constant (F := Ideal) S_ .f32 0x00000000#32)) i = 0 := by pointwise
  refine congrArg₂ (· + ·) ?_ ec
  have key : ∀ (z0 : EReal) (X : Fin 31 → EReal), z0 = 0 → z0 + X 0 + X 1 + X 2 + X 3 + X 4 + X 5 + X 6 + X 7 + X 8 + X 9 + X 10 + X 11 + X 12 + X 13 + X 14 + X 15 + X 16 + X 17 + X 18 + X 19 + X 20 + X 21 + X 22 + X 23 + X 24 + X 25 + X 26 + X 27 + X 28 + X 29 + X 30 = ∑ j : Fin 31, X j := by
    intro z0 X hz
    have hs : ∑ j : Fin 31, X j = X 0 + (X 1 + (X 2 + (X 3 + (X 4 + (X 5 + (X 6 + (X 7 + (X 8 + (X 9 + (X 10 + (X 11 + (X 12 + (X 13 + (X 14 + (X 15 + (X 16 + (X 17 + (X 18 + (X 19 + (X 20 + (X 21 + (X 22 + (X 23 + (X 24 + (X 25 + (X 26 + (X 27 + (X 28 + (X 29 + (X 30 + 0)))))))))))))))))))))))))))))) := rfl
    rw [hz, zero_add, hs, add_zero]
    simp only [add_assoc]
  exact key _ (fun j => tp y w j i) ez

/-- The plain layer's row means. -/
def meT (v : FVec Ideal S2x256x256 .f32) : FVec Ideal S2x256x1 .f32 :=
  Host.divf (broadcastInDim S2x256x1 ![0, 1] bcast_S2x256_S2x256x1_0_1 (Host.reduceAdd v (constant S_ .f32 0x00000000#32) reducesTo_S2x256x256_S2x256_d2 h_S_)) (broadcastInDim S2x256x1 ![] bcast_S_S2x256x1 (constant S_ .f32 0x43800000#32))

/-- Rows less their means. -/
def ceT (v : FVec Ideal S2x256x256 .f32) : FVec Ideal S2x256x256 .f32 :=
  subf v (broadcastInDim S2x256x256 ![0, 1, 2] bcast_S2x256x1_S2x256x256_0_1_2 (meT v))

/-- The plain layer's normalised rows. -/
def lnT (v : FVec Ideal S2x256x256 .f32) (g b : FVec Ideal S256 .f32) : FVec Ideal S2x256x256 .f32 :=
  addf (mulf (mulf (ceT v) (broadcastInDim S2x256x256 ![0, 1, 2] bcast_S2x256x1_S2x256x256_0_1_2 (Host.rsqrt (addf (meT (mulf (ceT v) (ceT v))) (broadcastInDim S2x256x1 ![] bcast_S_S2x256x1 (constant S_ .f32 0x358637BD#32))))))
    (broadcastInDim S2x256x256 ![0, 1, 2] bcast_S1x1x256_S2x256x256_0_1_2 (broadcastInDim S1x1x256 ![2] bcast_S256_S1x1x256_2 g)))
    (broadcastInDim S2x256x256 ![0, 1, 2] bcast_S1x1x256_S2x256x256_0_1_2 (broadcastInDim S1x1x256 ![2] bcast_S256_S1x1x256_2 b))

/-- Rows gated by their own sigmoid. -/
def siT (v : FVec Ideal S2x256x256 .f32) : FVec Ideal S2x256x256 .bf16 :=
  truncf .bf16 (mulf v (Host.divf (broadcastInDim S2x256x256 ![] bcast_S_S2x256x256 (constant S_ .f32 0x3F800000#32)) (addf (broadcastInDim S2x256x256 ![] bcast_S_S2x256x256 (constant S_ .f32 0x3F800000#32)) (Host.exp (Host.negf v))))) bitsLt_bf16_f32

/-- The plain layer's result. -/
def resT (z : FVec Ideal S2x256x512 .f32) (w : FVec Ideal S31x256 .f32) (cb g b : FVec Ideal S256 .f32) : FVec Ideal S2x256x256 .bf16 :=
  siT (lnT (cvT (ypT z) w cb) g b)

/-- The normalised rows at an index. -/
theorem lnT_apply (v : FVec Ideal S2x256x256 .f32) (g b : FVec Ideal S256 .f32) (i : S2x256x256.Idx) :
    lnT v g b i = ln (fun q => v (ix3 (i 0) (i 1) q)) (g (ix1 (i 2))) (b (ix1 (i 2))) (i 2) := by
  pointwise [lnT, ceT, meT, ln, mean]

/-- The gated rows at an index. -/
theorem siT_apply (v : FVec Ideal S2x256x256 .f32) (i : S2x256x256.Idx) : siT v i = silu (v i) := by
  unfold silu
  simp only [Cert.Proof.Scalar.sigmoid_eq]
  pointwise [siT]

/-- The gated tokens of a batch row. -/
def gated (z : FVec Ideal S2x256x512 .f32) (s : Fin 2) (p l : Fin 256) : EReal := glu (z (ix3 s p ⟨0 + l.val, by omega⟩)) (z (ix3 s p ⟨256 + l.val, by omega⟩))

/-- The plain layer's array at an index. -/
theorem plain (z : FVec Ideal S2x256x512 .f32) (w : FVec Ideal S31x256 .f32) (cb g b : FVec Ideal S256 .f32) (i : S2x256x256.Idx) :
    resT z w cb g b i = row (gated z (i 0)) (fun j l => w (ix2 j l)) (fun l => cb (ix1 l)) (fun l => g (ix1 l)) (fun l => b (ix1 l)) (i 1).val (i 2) := by
  unfold resT row
  refine (siT_apply _ i).trans (congrArg silu ((lnT_apply _ g b i).trans ?_))
  refine congrArg (fun v : Fin 256 → EReal => ln v _ _ (i 2)) (funext fun q => (cvT_apply _ w cb _).trans ?_)
  unfold conv
  refine congrArg (· + _) (Finset.sum_congr rfl fun j _ => (tp_apply _ w j _).trans (congrArg (· * _) ((ypT_apply z _).trans ?_)))
  have h1 : (i 1).val < 256 := (i 1).isLt
  have hj : j.val < 31 := j.isLt
  unfold Cert.Proof.Conv.pad gated
  show (if h : 15 ≤ j.val + (i 1).val ∧ j.val + (i 1).val - 15 < 256 then
        glu (z (ix3 (i 0) ⟨j.val + (i 1).val - 15, h.2⟩ ⟨0 + q.val, by omega⟩)) (z (ix3 (i 0) ⟨j.val + (i 1).val - 15, h.2⟩ ⟨256 + q.val, by omega⟩)) else 0) = _
  by_cases h : 15 ≤ j.val + (i 1).val ∧ j.val + (i 1).val - 15 < 256
  · rw [dif_pos h, dif_pos (show 16 ≤ (i 1).val + (j.val + 1) ∧ (i 1).val + (j.val + 1) < 272 by omega)]
    have e : (⟨j.val + (i 1).val - 15, h.2⟩ : Fin 256) = ⟨(i 1).val + (j.val + 1) - 16, by omega⟩ := Fin.ext (by show j.val + (i 1).val - 15 = (i 1).val + (j.val + 1) - 16; omega)
    exact congrArg (fun p : Fin 256 => glu (z (ix3 (i 0) p ⟨0 + q.val, by omega⟩)) (z (ix3 (i 0) p ⟨256 + q.val, by omega⟩))) e
  · rw [dif_neg h, dif_neg (by omega)]

/-- Equal arrays give equal results. -/
theorem resT_congr {z z' : FVec Ideal S2x256x512 .f32} {w w' : FVec Ideal S31x256 .f32} {cb cb' g g' b b' : FVec Ideal S256 .f32}
    (h0 : z = z') (h1 : w = w') (h2 : cb = cb') (h3 : g = g') (h4 : b = b') : resT z w cb g b = resT z' w' cb' g' b' := by
  rw [h0, h1, h2, h3, h4]

/-- The program's result is that term. -/
theorem res_eq (V : Valuation τ sig (Elt Ideal)) :
    truncf .bf16 (mulf (res_main_v254 V) (Host.divf (broadcastInDim S2x256x256 ![] bcast_S_S2x256x256 (constant S_ .f32 0x3F800000#32)) (addf (broadcastInDim S2x256x256 ![] bcast_S_S2x256x256 (constant S_ .f32 0x3F800000#32)) (Host.exp (Host.negf (res_main_v254 V)))))) bitsLt_bf16_f32
      = resT (V (Proc.devRef .tc main_arg0)) (V (Proc.devRef .tc main_arg1)) (V (Proc.devRef .tc main_arg2)) (V (Proc.devRef .tc main_arg3)) (V (Proc.devRef .tc main_arg4)) := rfl

end Cert.Proof.ConvPlain
-- ==== Proof.lean ====
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.FfnPlain
public import proofs.«01_k».proof.Proof.Gen.Kernel4.Frame
public import proofs.«01_k».proof.Proof.Gen.Kernel4Ideal.Value
public import proofs.«01_k».proof.Proof.Gen.Reference4Ideal.Run
public import proofs.«01_k».proof.Proof.InprojPlain
public import proofs.«01_k».proof.Proof.Gen.Kernel5.Frame
public import proofs.«01_k».proof.Proof.Gen.Kernel5Ideal.Value
public import proofs.«01_k».proof.Proof.Gen.Reference5Ideal.Run
public import proofs.«01_k».proof.Proof.MergePre
public import proofs.«01_k».proof.Proof.MergeTie
public import proofs.«01_k».proof.Proof.Gen.Kernel6.Frame
public import proofs.«01_k».proof.Proof.Gen.Kernel6Ideal.Value
public import proofs.«01_k».proof.Proof.Gen.Reference6Ideal.Run
public import proofs.«01_k».proof.Proof.CtxPre
public import proofs.«01_k».proof.Proof.CtxTie
public import proofs.«01_k».proof.Proof.Gen.Kernel7.Frame
public import proofs.«01_k».proof.Proof.Gen.Kernel7Ideal.Value
public import proofs.«01_k».proof.Proof.Gen.Reference7Ideal.Run
public import proofs.«01_k».proof.Proof.GmlpPlain
public import proofs.«01_k».proof.Proof.Gen.Kernel8.Frame
public import proofs.«01_k».proof.Proof.Gen.Kernel8Ideal.Value
public import proofs.«01_k».proof.Proof.Gen.Reference8Ideal.Run
public import proofs.«01_k».proof.Proof.ModPre
public import proofs.«01_k».proof.Proof.ModTie
public import proofs.«01_k».proof.Proof.Gen.Kernel9.Frame
public import proofs.«01_k».proof.Proof.Gen.Kernel9Ideal.Value
public import proofs.«01_k».proof.Proof.Gen.Reference9Ideal.Run
public import proofs.«01_k».proof.Proof.ConvEnd
public import proofs.«01_k».proof.Proof.LatEnd
public import proofs.«01_k».proof.Proof.LatPlainA
public import proofs.«01_k».proof.Proof.LatPlainC
public import proofs.«01_k».proof.Proof.ConvPlain
public import proofs.«01_k».proof.Proof.Gen.Kernel10.Frame
public import proofs.«01_k».proof.Proof.Gen.Kernel10Ideal.Value
public import proofs.«01_k».proof.Proof.Gen.Reference10Ideal.Run
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_Kernel3Ideal_Reference3Ideal : algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨?_, (h c).2⟩) (Cert.Reference3Ideal.Value.run (F := Ideal) m' ρ')
  rw [(h c).1]
  simp only [hagree c]
  funext i
  exact (Cert.Proof.FfnPlain.plain _ _ _ _ _ i).trans (Cert.Proof.Ffn.final m c i).symm

theorem quiescent_Reference4Ideal : quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

theorem algebraic_Kernel4Ideal_Reference4Ideal : algebraic_Kernel4Ideal_Reference4Ideal := by
  intro m ρ m' ρ' _ hagree
  refine ⟨_, _, _, _, _, Cert.Kernel4Ideal.Value.run_blocks (F := Ideal) m ρ, ?_⟩
  refine (θ_run Cert.Reference4Ideal.defs _ _).mono (fun _ h c => ⟨?_, ?_, ?_, ?_, ?_, (h c).2.2.2.2.2⟩) (Cert.Reference4Ideal.Value.run (F := Ideal) m' ρ')
  · rw [(h c).1]
    simp only [hagree c]
    funext i
    exact (Cert.Proof.InprojPlain.plain5 _ _ _ _ _ i).trans (Cert.Proof.Inproj.final5 m c i).symm
  · rw [(h c).2.1]
    simp only [hagree c]
    funext i
    exact (Cert.Proof.InprojPlain.plain6 _ _ _ _ _ i).trans (Cert.Proof.Inproj.final6 m c i).symm
  · rw [(h c).2.2.1]
    simp only [hagree c]
    funext i
    exact (Cert.Proof.InprojPlain.plain7 _ _ _ _ _ i).trans (Cert.Proof.Inproj.final7 m c i).symm
  · rw [(h c).2.2.2.1]
    simp only [hagree c]
    funext i
    exact (Cert.Proof.InprojPlain.plain8 _ _ _ _ _ i).trans (Cert.Proof.Inproj.final8 m c i).symm
  · rw [(h c).2.2.2.2.1]
    simp only [hagree c]
    funext i
    exact (Cert.Proof.InprojPlain.plain9 _ _ _ _ _ i).trans (Cert.Proof.Inproj.final9 m c i).symm

theorem quiescent_Reference5Ideal : quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem quiescent_Reference5Ideal_pre_finite5 [Cert.Pre_finite5.Facts] : quiescent_Reference5Ideal_pre_finite5 := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem algebraic_Kernel5Ideal_Reference5Ideal_pre_finite5 [Cert.Pre_finite5.Facts] : algebraic_Kernel5Ideal_Reference5Ideal_pre_finite5 := by
  intro m ρ m' ρ' hpre hagree
  refine ⟨_, _, _, Cert.Kernel5Ideal.Value.run_blocks (F := Ideal) m ρ, ?_⟩
  refine (θ_run Cert.Reference5Ideal.defs _ _).mono (fun _ h c => ⟨?_, ?_, ?_, (h c).2.2.2⟩) (Cert.Reference5Ideal.Value.run (F := Ideal) m' ρ')
  · have hr : Cert.Proof.MergeTie.Real m c := Cert.Proof.MergePre.reals _ _ _ _ _ _ _ _ _ _ _ _ _ _ _ _ (hpre c)
    rw [(h c).1]
    simp only [hagree c]
    funext i
    exact Cert.Proof.MergeTie.tie19 m c hr i
  · have hr : Cert.Proof.MergeTie.Real m c := Cert.Proof.MergePre.reals _ _ _ _ _ _ _ _ _ _ _ _ _ _ _ _ (hpre c)
    rw [(h c).2.1, Cert.Proof.MergePlain.res20]
    simp only [hagree c]
    funext i
    exact Cert.Proof.MergeTie.tie20 m c hr i
  · have hr : Cert.Proof.MergeTie.Real m c := Cert.Proof.MergePre.reals _ _ _ _ _ _ _ _ _ _ _ _ _ _ _ _ (hpre c)
    rw [(h c).2.2.1, Cert.Proof.MergePlain.res21]
    simp only [hagree c]
    funext i
    exact Cert.Proof.MergeTie.tie21 m c hr i

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem quiescent_Reference6Ideal_pre_finite6 [Cert.Pre_finite6.Facts] : quiescent_Reference6Ideal_pre_finite6 := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic_Kernel6Ideal_Reference6Ideal_pre_finite6 [Cert.Pre_finite6.Facts] : algebraic_Kernel6Ideal_Reference6Ideal_pre_finite6 := by
  intro m ρ m' ρ' hpre hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  rw [(h c).1]
  simp only [hagree c]
  funext i
  exact Cert.Proof.CtxTie.tie m c (Cert.Proof.CtxPre.reals _ (hpre c)) i

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic_Kernel7Ideal_Reference7Ideal : algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ⟨?_, (h c).2⟩) (Cert.Reference7Ideal.Value.run (F := Ideal) m' ρ')
  rw [(h c).1, Cert.Proof.GmlpPlain.res_eq]
  simp only [hagree c]
  funext i
  exact (Cert.Proof.GmlpPlain.plain _ _ _ _ _ i).trans (Cert.Proof.Gmlp.final5 m c i).symm

theorem quiescent_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem quiescent_Reference8Ideal_pre_finite8 [Cert.Pre_finite8.Facts] : quiescent_Reference8Ideal_pre_finite8 := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic_Kernel8Ideal_Reference8Ideal_pre_finite8 [Cert.Pre_finite8.Facts] : algebraic_Kernel8Ideal_Reference8Ideal_pre_finite8 := by
  intro m ρ m' ρ' hpre hagree
  refine ⟨_, Cert.Kernel8Ideal.Value.run_blocks (F := Ideal) m ρ, ?_⟩
  refine (θ_run Cert.Reference8Ideal.defs _ _).mono (fun _ h c => ⟨(h c).1.trans ?_, (h c).2⟩) (Cert.Proof.ModTie.run m' ρ')
  obtain ⟨hx, hz, hw⟩ := Cert.Proof.ModPre.reals _ _ _ _ (hpre c)
  obtain ⟨h0, h1, h2, h3⟩ := hagree c
  refine (Cert.Proof.ModTie.resT_congr h0 h1 h2 h3).trans ?_
  exact funext (Cert.Proof.ModTie.tie m c hx hz hw)

theorem quiescent_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic_Kernel9Ideal_Reference9Ideal : algebraic_Kernel9Ideal_Reference9Ideal := by
  intro m ρ m' ρ' _ hagree
  refine ⟨_, Cert.Kernel9Ideal.Value.run_blocks (F := Ideal) m ρ, ?_⟩
  refine (θ_run Cert.Reference9Ideal.defs _ _).mono (fun _ h c => ⟨(h c).1.trans ?_, (h c).2⟩) (Cert.Reference9Ideal.Value.run (F := Ideal) m' ρ')
  obtain ⟨h0, h1, h2, h3, h4⟩ := hagree c
  refine (Cert.Proof.ConvPlain.res_eq _).trans ((Cert.Proof.ConvPlain.resT_congr h0 h1 h2 h3 h4).trans ?_)
  exact funext fun i => (Cert.Proof.ConvPlain.plain _ _ _ _ _ i).trans (Cert.Proof.Conv.final10 m c i).symm

theorem quiescent_Reference10Ideal : quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem algebraic_Kernel10Ideal_Reference10Ideal : algebraic_Kernel10Ideal_Reference10Ideal := by
  intro m ρ m' ρ' _ hagree
  refine ⟨_, _, Cert.Kernel10Ideal.Value.run_blocks (F := Ideal) m ρ, ?_⟩
  refine (θ_run Cert.Reference10Ideal.defs _ _).mono (fun _ h c => ⟨(h c).1.trans ?_, (h c).2.1.trans ?_, (h c).2.2⟩) (Cert.Reference10Ideal.Value.run (F := Ideal) m' ρ')
  · obtain ⟨h0, h1, h2, h3, h4, h5, h6, h7, h8, h9⟩ := hagree c
    refine (Cert.Proof.LatPlainA.res_eq _).trans ((Cert.Proof.LatPlainA.resT_congr h0 h1 h2 h3 h4).trans ?_)
    exact funext fun i => (Cert.Proof.LatPlainA.plain _ _ _ _ _ i).trans (Cert.Proof.Lat.final15 m c i).symm
  · obtain ⟨h0, h1, h2, h3, h4, h5, h6, h7, h8, h9⟩ := hagree c
    refine (Cert.Proof.LatPlainC.res_eq _).trans ((Cert.Proof.LatPlainC.resT_congr h5 h6 h7 h8 h9).trans ?_)
    exact funext fun i => (Cert.Proof.LatPlainC.plain _ _ _ _ _ i).trans (Cert.Proof.Lat.final16 m c i).symm

theorem claim : Cert.Claim :=
  haveI : Cert.Pre_finite5.Facts := Cert.Proof.MergePre.facts
  haveI : Cert.Pre_finite6.Facts := Cert.Proof.CtxPre.facts
  haveI : Cert.Pre_finite8.Facts := Cert.Proof.ModPre.facts
  ⟨Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Proof.MergePre.facts, Cert.Proof.CtxPre.facts, Cert.Proof.ModPre.facts,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, fun m ρ _ => Cert.Kernel5Ideal.Gen.frame m ρ,
  quiescent_Reference5Ideal, quiescent_Reference5Ideal_pre_finite5,
  fun m ρ _ => Cert.Kernel6.Gen.frame m ρ, fun m ρ _ => Cert.Kernel6Ideal.Gen.frame m ρ, fun m ρ _ => Cert.Kernel6Ideal.Gen.frame m ρ,
  quiescent_Reference6Ideal, quiescent_Reference6Ideal_pre_finite6,
  fun m ρ _ => Cert.Kernel7.Gen.frame m ρ, fun m ρ _ => Cert.Kernel7Ideal.Gen.frame m ρ, quiescent_Reference7Ideal,
  fun m ρ _ => Cert.Kernel8.Gen.frame m ρ, fun m ρ _ => Cert.Kernel8Ideal.Gen.frame m ρ, fun m ρ _ => Cert.Kernel8Ideal.Gen.frame m ρ,
  quiescent_Reference8Ideal, quiescent_Reference8Ideal_pre_finite8,
  fun m ρ _ => Cert.Kernel9.Gen.frame m ρ, fun m ρ _ => Cert.Kernel9Ideal.Gen.frame m ρ, quiescent_Reference9Ideal,
  fun m ρ _ => Cert.Kernel10.Gen.frame m ρ, fun m ρ _ => Cert.Kernel10Ideal.Gen.frame m ρ, quiescent_Reference10Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal_pre_finite5,
  (trivial : preserves_Kernel6_Kernel6Ideal), algebraic_Kernel6Ideal_Reference6Ideal_pre_finite6,
  (trivial : preserves_Kernel7_Kernel7Ideal), algebraic_Kernel7Ideal_Reference7Ideal,
  (trivial : preserves_Kernel8_Kernel8Ideal), algebraic_Kernel8Ideal_Reference8Ideal_pre_finite8,
  (trivial : preserves_Kernel9_Kernel9Ideal), algebraic_Kernel9Ideal_Reference9Ideal,
  (trivial : preserves_Kernel10_Kernel10Ideal), algebraic_Kernel10Ideal_Reference10Ideal⟩

end Cert.Proof

end
